-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11))).2.2.2.2.2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11))).2.2.2.2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)) (v3 : (c : Dev Cert.Kernel8Ideal.nD) → Buf (Elt Ideal) ((c.tc : Thread Cert.Kernel8Ideal.nD Cert.Kernel8Ideal.τ).loc Cert.Kernel8Ideal.main_v8_3)) (v4 : (c : Dev Cert.Kernel8Ideal.nD) → Buf (Elt Ideal) ((c.tc : Thread Cert.Kernel8Ideal.nD Cert.Kernel8Ideal.τ).loc Cert.Kernel8Ideal.main_v8_4)) (v5 : (c : Dev Cert.Kernel8Ideal.nD) → Buf (Elt Ideal) ((c.tc : Thread Cert.Kernel8Ideal.nD Cert.Kernel8Ideal.τ).loc Cert.Kernel8Ideal.main_v8_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_v8_3) = v3 c
          ∧ r.2.mem ((c.tc : Thread Cert.Kernel8Ideal.nD Cert.Kernel8Ideal.τ).loc Cert.Kernel8Ideal.main_v8_4) = v4 c
          ∧ r.2.mem ((c.tc : Thread Cert.Kernel8Ideal.nD Cert.Kernel8Ideal.τ).loc Cert.Kernel8Ideal.main_v8_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_v42) = v3 c
          ∧ r.2.mem ((c.tc : Thread Cert.Reference8Ideal.nD Cert.Reference8Ideal.τ).loc Cert.Reference8Ideal.main_v43) = v4 c
          ∧ r.2.mem ((c.tc : Thread Cert.Reference8Ideal.nD Cert.Reference8Ideal.τ).loc Cert.Reference8Ideal.main_v44) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v43) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  IdealRules.named_const.Statement Cert.Kernel16Ideal.κ "mask" .f32 0xF149F2CA#32 ⊥
  ∧ IdealRules.named_const.Statement Cert.Kernel16Ideal.κ "scale_log2e" .f32 0x3E16C740#32 (((3424635 / 33554432) * (Real.log 2)⁻¹ : ℝ) : EReal)

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v9_0)) (v1 : (c : Dev Cert.Kernel16Ideal.nD) → Buf (Elt Ideal) ((c.tc : Thread Cert.Kernel16Ideal.nD Cert.Kernel16Ideal.τ).loc Cert.Kernel16Ideal.main_v9_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9_0) = v0 c
          ∧ r.2.mem ((c.tc : Thread Cert.Kernel16Ideal.nD Cert.Kernel16Ideal.τ).loc Cert.Kernel16Ideal.main_v9_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v44) = v0 c
          ∧ r.2.mem ((c.tc : Thread Cert.Reference16Ideal.nD Cert.Reference16Ideal.τ).loc Cert.Reference16Ideal.main_v48) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_v16) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts) (hPre_finite3 : Cert.Pre_finite3.Facts) (hPre_finite9 : Cert.Pre_finite9.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2048x8x64 : S_.BroadcastsInDim S2x2048x8x64 (![] : Fin 0 → Fin S2x2048x8x64.rank)

variable [Facts]

def fn {F : FTy → Type} [FloatOps F] (main_arg0 : FVec F S2x2048x8x96 .f32) (main_arg1 : FVec F S2x2048x8x96 .f32) (main_arg2 : FVec F S2x2048x8x64 .f32) (main_arg3 : FVec F S2x2048x8x64 .f32) : IVec S2x2048x8x96 1 × IVec S2x2048x8x96 1 × IVec S2x2048x8x64 1 × IVec S2x2048x8x64 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  let main_v9 : FVec F S2x2048x8x64 .f32 := Host.absf main_arg3
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  (main_v2, main_v5, main_v8, main_v11)
-- ==== Pre_finite16.lean ====
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)

variable [Facts]

def fn {F : FTy → Type} [FloatOps F] (main_arg0 : FVec F S2x2048x8x96 .f32) (main_arg1 : FVec F S2x2048x8x96 .f32) (main_arg2 : FVec F S2x2048x8x64 .f32) : IVec S2x2048x8x96 1 × IVec S2x2048x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2048x8x96 .f32 := Host.absf main_arg1
  let main_cst_0 : FVec F S_ .f32 := constant S_ .f32 0x7F800000#32
  let main_v4 : FVec F S2x2048x8x96 .f32 := broadcastInDim S2x2048x8x96 ![] bcast_S_S2x2048x8x96 main_cst_0
  let main_v5 : IVec S2x2048x8x96 1 := cmpf .olt main_v3 main_v4
  (main_v2, main_v5)
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S4096x2816 1 × IVec S2816x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite3.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S4096x2816 : S_.BroadcastsInDim S4096x2816 (![] : Fin 0 → Fin S4096x2816.rank)

variable [Facts]

def fn_part1 {F : FTy → Type} [FloatOps F] (main_arg6 : FVec F S4096x2816 .f32) (main_v2 : IVec S4096x1024 1) (main_v5 : IVec S1024 1) (main_v8 : IVec S1024x2816 1) (main_v11 : IVec S1024x2816 1) (main_v14 : IVec S4096x1024 1) (main_v17 : IVec S4096x2816 1) : IVec S4096x1024 1 × IVec S1024 1 × IVec S1024x2816 1 × IVec S1024x2816 1 × IVec S4096x1024 1 × IVec S4096x2816 1 × IVec S4096x2816 1 :=
  let main_v18 : FVec F S4096x2816 .f32 := Host.absf main_arg6
  let main_cst_5 : FVec F S_ .f32 := constant S_ .f32 0x7F800000#32
  let main_v19 : FVec F S4096x2816 .f32 := broadcastInDim S4096x2816 ![] bcast_S_S4096x2816 main_cst_5
  let main_v20 : IVec S4096x2816 1 := cmpf .olt main_v18 main_v19
  (main_v2, main_v5, main_v8, main_v11, main_v14, main_v17, main_v20)

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x1024 .f32) (main_arg5 : FVec F S4096x2816 .f32) (main_arg6 : FVec F S4096x2816 .f32) : IVec S4096x1024 1 × IVec S1024 1 × IVec S1024x2816 1 × IVec S1024x2816 1 × IVec S4096x1024 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x2816 .f32 := Host.absf main_arg5
  let main_cst_4 : FVec F S_ .f32 := constant S_ .f32 0x7F800000#32
  let main_v16 : FVec F S4096x2816 .f32 := broadcastInDim S4096x2816 ![] bcast_S_S4096x2816 main_cst_4
  let main_v17 : IVec S4096x2816 1 := cmpf .olt main_v15 main_v16
  fn_part1 (F := F) main_arg6 main_v2 main_v5 main_v8 main_v11 main_v14 main_v17
-- ==== Pre_finite9.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x256 : Shape := ⟨2, ![4096, 256]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3328 : S_.BroadcastsInDim S1024x3328 (![] : Fin 0 → Fin S1024x3328.rank)
  bcast_S_S4096x512 : S_.BroadcastsInDim S4096x512 (![] : Fin 0 → Fin S4096x512.rank)
  bcast_S_S4096x256 : S_.BroadcastsInDim S4096x256 (![] : Fin 0 → Fin S4096x256.rank)
  bcast_S_S4096x128 : S_.BroadcastsInDim S4096x128 (![] : Fin 0 → Fin S4096x128.rank)

variable [Facts]

def fn_part1 {F : FTy → Type} [FloatOps F] (main_arg6 : FVec F S4096x512 .f32) (main_arg7 : FVec F S4096x256 .f32) (main_arg8 : FVec F S4096x128 .f32) (main_arg9 : FVec F S4096x128 .f32) (main_arg10 : FVec F S4096x128 .f32) (main_arg11 : FVec F S4096x128 .f32) (main_v2 : IVec S4096x1024 1) (main_v5 : IVec S1024 1) (main_v8 : IVec S1024x3328 1) (main_v11 : IVec S4096x1024 1) (main_v14 : IVec S4096x1024 1) (main_v17 : IVec S4096x1024 1) : IVec S4096x1024 1 × IVec S1024 1 × IVec S1024x3328 1 × IVec S4096x1024 1 × IVec S4096x1024 1 × IVec S4096x1024 1 × IVec S4096x512 1 × IVec S4096x256 1 × IVec S4096x128 1 × IVec S4096x128 1 × IVec S4096x128 1 × IVec S4096x128 1 :=
  let main_v18 : FVec F S4096x512 .f32 := Host.absf main_arg6
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_v21 : FVec F S4096x256 .f32 := Host.absf main_arg7
  let main_cst_6 : FVec F S_ .f32 := constant S_ .f32 0x7F800000#32
  let main_v22 : FVec F S4096x256 .f32 := broadcastInDim S4096x256 ![] bcast_S_S4096x256 main_cst_6
  let main_v23 : IVec S4096x256 1 := cmpf .olt main_v21 main_v22
  let main_v24 : FVec F S4096x128 .f32 := Host.absf main_arg8
  let main_cst_7 : FVec F S_ .f32 := constant S_ .f32 0x7F800000#32
  let main_v25 : FVec F S4096x128 .f32 := broadcastInDim S4096x128 ![] bcast_S_S4096x128 main_cst_7
  let main_v26 : IVec S4096x128 1 := cmpf .olt main_v24 main_v25
  let main_v27 : FVec F S4096x128 .f32 := Host.absf main_arg9
  let main_cst_8 : FVec F S_ .f32 := constant S_ .f32 0x7F800000#32
  let main_v28 : FVec F S4096x128 .f32 := broadcastInDim S4096x128 ![] bcast_S_S4096x128 main_cst_8
  let main_v29 : IVec S4096x128 1 := cmpf .olt main_v27 main_v28
  let main_v30 : FVec F S4096x128 .f32 := Host.absf main_arg10
  let main_cst_9 : FVec F S_ .f32 := constant S_ .f32 0x7F800000#32
  let main_v31 : FVec F S4096x128 .f32 := broadcastInDim S4096x128 ![] bcast_S_S4096x128 main_cst_9
  let main_v32 : IVec S4096x128 1 := cmpf .olt main_v30 main_v31
  let main_v33 : FVec F S4096x128 .f32 := Host.absf main_arg11
  let main_cst_10 : FVec F S_ .f32 := constant S_ .f32 0x7F800000#32
  let main_v34 : FVec F S4096x128 .f32 := broadcastInDim S4096x128 ![] bcast_S_S4096x128 main_cst_10
  let main_v35 : IVec S4096x128 1 := cmpf .olt main_v33 main_v34
  (main_v2, main_v5, main_v8, main_v11, main_v14, main_v17, main_v20, main_v23, main_v26, main_v29, main_v32, main_v35)

def fn {F : FTy → Type} [FloatOps F] (main_arg0 : FVec F S4096x1024 .f32) (main_arg1 : FVec F S1024 .f32) (main_arg2 : FVec F S1024x3328 .f32) (main_arg3 : FVec F S4096x1024 .f32) (main_arg4 : FVec F S4096x1024 .f32) (main_arg5 : FVec F S4096x1024 .f32) (main_arg6 : FVec F S4096x512 .f32) (main_arg7 : FVec F S4096x256 .f32) (main_arg8 : FVec F S4096x128 .f32) (main_arg9 : FVec F S4096x128 .f32) (main_arg10 : FVec F S4096x128 .f32) (main_arg11 : FVec F S4096x128 .f32) : IVec S4096x1024 1 × IVec S1024 1 × IVec S1024x3328 1 × IVec S4096x1024 1 × IVec S4096x1024 1 × IVec S4096x1024 1 × IVec S4096x512 1 × IVec S4096x256 1 × IVec S4096x128 1 × IVec S4096x128 1 × IVec S4096x128 1 × IVec S4096x128 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3328 .f32 := Host.absf main_arg2
  let main_cst_1 : FVec F S_ .f32 := constant S_ .f32 0x7F800000#32
  let main_v7 : FVec F S1024x3328 .f32 := broadcastInDim S1024x3328 ![] bcast_S_S1024x3328 main_cst_1
  let main_v8 : IVec S1024x3328 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_arg8 main_arg9 main_arg10 main_arg11 main_v2 main_v5 main_v8 main_v11 main_v14 main_v17
-- ==== Kernel.lean ====
abbrev S2x2048x8x96 : Shape := ⟨4, ![2, 2048, 8, 96]⟩
abbrev S2x2048x8x64 : Shape := ⟨4, ![2, 2048, 8, 64]⟩
abbrev S2048 : Shape := ⟨1, ![2048]⟩
abbrev S2x8x2048x2048 : Shape := ⟨4, ![2, 8, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S16x2048x1 : Shape := ⟨3, ![16, 2048, 1]⟩
abbrev S2x2048x8x128 : Shape := ⟨4, ![2, 2048, 8, 128]⟩
abbrev S4096x1024 : Shape := ⟨2, ![4096, 1024]⟩
abbrev S2048x128 : Shape := ⟨2, ![2048, 128]⟩
abbrev S1x2048x1 : Shape := ⟨3, ![1, 2048, 1]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S2048x256 : Shape := ⟨2, ![2048, 256]⟩
abbrev S1792x256 : Shape := ⟨2, ![1792, 256]⟩
abbrev S1536x256 : Shape := ⟨2, ![1536, 256]⟩
abbrev S1280x256 : Shape := ⟨2, ![1280, 256]⟩
abbrev S1024x256 : Shape := ⟨2, ![1024, 256]⟩
abbrev S768x256 : Shape := ⟨2, ![768, 256]⟩
abbrev S512x256 : Shape := ⟨2, ![512, 256]⟩

abbrev nBuf : Space → Nat
  | .hbm => 94
  | .vmem => 18
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S2048, .i32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2048x1, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x1, .f32⟩
  | .hbm, ⟨29, _⟩ => ⟨S2x8x2048x1, .f32⟩
  | .hbm, ⟨30, _⟩ => ⟨S2048, .i32⟩
  | .hbm, ⟨31, _⟩ => ⟨S2x8x2048x2048, .f32⟩
  | .hbm, ⟨32, _⟩ => ⟨S_, .f32⟩
  | .hbm, ⟨33, _⟩ => ⟨S2x8x2048x2048, .f32⟩
  | .hbm, ⟨34, _⟩ => ⟨S2x8x2048x2048, .f32⟩
  | .hbm, ⟨35, _⟩ => ⟨S2048x1, .i32⟩
  | .hbm, ⟨36, _⟩ => ⟨S1x2048, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S2x8x2048x2048, .i1⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S_, .f32⟩
  | .hbm, ⟨48, _⟩ => ⟨S2x8x2048, .f32⟩
  | .hbm, ⟨49, _⟩ => ⟨S2x8x2048, .f32⟩
  | .hbm, ⟨50, _⟩ => ⟨S2x8x2048x1, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x64x2048, .f32⟩
  | .hbm, ⟨60, _⟩ => ⟨S2x2048x8x64, .f32⟩
  | .hbm, ⟨61, _⟩ => ⟨S_, .f32⟩
  | .hbm, ⟨62, _⟩ => ⟨S_, .f32⟩
  | .hbm, ⟨63, _⟩ => ⟨S2x8x2048x1, .f32⟩
  | .hbm, ⟨64, _⟩ => ⟨S2x8x2048x1, .f32⟩
  | .hbm, ⟨65, _⟩ => ⟨S16x2048x1, .f32⟩
  | .hbm, ⟨66, _⟩ => ⟨S_, .i32⟩
  | .hbm, ⟨67, _⟩ => ⟨S_, .f32⟩
  | .hbm, ⟨68, _⟩ => ⟨S2x2048x8x128, .f32⟩
  | .hbm, ⟨69, _⟩ => ⟨S4096x1024, .f32⟩
  | .hbm, ⟨70, _⟩ => ⟨S4096x1024, .bf16⟩
  | .hbm, ⟨71, _⟩ => ⟨S_, .i32⟩
  | .hbm, ⟨72, _⟩ => ⟨S_, .f32⟩
  | .hbm, ⟨73, _⟩ => ⟨S2x2048x8x128, .f32⟩
  | .hbm, ⟨74, _⟩ => ⟨S4096x1024, .f32⟩
  | .hbm, ⟨75, _⟩ => ⟨S4096x1024, .bf16⟩
  | .hbm, ⟨76, _⟩ => ⟨S_, .i32⟩
  | .hbm, ⟨77, _⟩ => ⟨S_, .f32⟩
  | .hbm, ⟨78, _⟩ => ⟨S2x2048x8x128, .f32⟩
  | .hbm, ⟨79, _⟩ => ⟨S4096x1024, .f32⟩
  | .hbm, ⟨80, _⟩ => ⟨S4096x1024, .bf16⟩
  | .hbm, ⟨81, _⟩ => ⟨S_, .i32⟩
  | .hbm, ⟨82, _⟩ => ⟨S_, .f32⟩
  | .hbm, ⟨83, _⟩ => ⟨S2x2048x8x128, .f32⟩
  | .hbm, ⟨84, _⟩ => ⟨S4096x1024, .f32⟩
  | .hbm, ⟨85, _⟩ => ⟨S4096x1024, .bf16⟩
  | .hbm, ⟨86, _⟩ => ⟨S_, .i32⟩
  | .hbm, ⟨87, _⟩ => ⟨S_, .f32⟩
  | .hbm, ⟨88, _⟩ => ⟨S2x2048x8x128, .f32⟩
  | .hbm, ⟨89, _⟩ => ⟨S4096x1024, .f32⟩
  | .hbm, ⟨90, _⟩ => ⟨S4096x1024, .bf16⟩
  | .hbm, ⟨91, _⟩ => ⟨S4096x1024, .f32⟩
  | .hbm, ⟨92, _⟩ => ⟨S4096x1024, .f32⟩
  | .hbm, ⟨93, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x1, .f32⟩
  | .local _ .vmem, ⟨11, _⟩ => ⟨S1x2048x1, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c : Ref sig .tc := ⟨.hbm, 66, rfl⟩
abbrev main_call2_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_call3_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_call4_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_call5_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_call6_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61_0 : Ref sig .tc := ⟨.hbm, 91, rfl⟩
abbrev main_v61_1 : Ref sig .tc := ⟨.hbm, 92, rfl⟩
abbrev main_v61_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale_log2e" => some (((3424635 / 33554432) * (Real.log 2)⁻¹ : ℝ) : EReal)
  | _ => none
-- ==== ReferenceIdeal.lean ====
abbrev S2x2048x8x96 : Shape := ⟨4, ![2, 2048, 8, 96]⟩
abbrev S2x2048x8x64 : Shape := ⟨4, ![2, 2048, 8, 64]⟩
abbrev S2048 : Shape := ⟨1, ![2048]⟩
abbrev S2x8x2048x2048 : Shape := ⟨4, ![2, 8, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x96 : Shape := ⟨4, ![2, 8, 2048, 96]⟩
abbrev S2x2048x8x128 : Shape := ⟨4, ![2, 2048, 8, 128]⟩
abbrev S4096x1024 : Shape := ⟨2, ![4096, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2x2048x8x64, .f32⟩
  | .hbm, ⟨4, _⟩ => ⟨S2048, .i32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2048x1, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x64x2048, .f32⟩
  | .hbm, ⟨60, _⟩ => ⟨S2x2048x8x64, .f32⟩
  | .hbm, ⟨61, _⟩ => ⟨S2x8x64x2048, .f32⟩
  | .hbm, ⟨62, _⟩ => ⟨S2x8x2048x2048, .f32⟩
  | .hbm, ⟨63, _⟩ => ⟨S2x8x64x2048, .f32⟩
  | .hbm, ⟨64, _⟩ => ⟨S2x2048x8x64, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S_, .f32⟩
  | .hbm, ⟨69, _⟩ => ⟨S2x8x2048, .f32⟩
  | .hbm, ⟨70, _⟩ => ⟨S2x8x2048x1, .f32⟩
  | .hbm, ⟨71, _⟩ => ⟨S2x8x2048x1, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048x2048, .f32⟩
  | .hbm, ⟨84, _⟩ => ⟨S2x8x2048x2048, .f32⟩
  | .hbm, ⟨85, _⟩ => ⟨S2x8x2048x96, .f32⟩
  | .hbm, ⟨86, _⟩ => ⟨S2x2048x8x96, .f32⟩
  | .hbm, ⟨87, _⟩ => ⟨S2x8x2048x96, .f32⟩
  | .hbm, ⟨88, _⟩ => ⟨S2x2048x8x96, .f32⟩
  | .hbm, ⟨89, _⟩ => ⟨S_, .i32⟩
  | .hbm, ⟨90, _⟩ => ⟨S_, .f32⟩
  | .hbm, ⟨91, _⟩ => ⟨S2x2048x8x128, .f32⟩
  | .hbm, ⟨92, _⟩ => ⟨S4096x1024, .f32⟩
  | .hbm, ⟨93, _⟩ => ⟨S_, .i32⟩
  | .hbm, ⟨94, _⟩ => ⟨S_, .f32⟩
  | .hbm, ⟨95, _⟩ => ⟨S2x2048x8x128, .f32⟩
  | .hbm, ⟨96, _⟩ => ⟨S4096x1024, .f32⟩
  | .hbm, ⟨97, _⟩ => ⟨S_, .i32⟩
  | .hbm, ⟨98, _⟩ => ⟨S_, .f32⟩
  | .hbm, ⟨99, _⟩ => ⟨S2x2048x8x128, .f32⟩
  | .hbm, ⟨100, _⟩ => ⟨S4096x1024, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_call4_v0 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S2816x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S2816x1024, .f32⟩
  | .hbm, ⟨9, _⟩ => ⟨S2816x1024, .bf16⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x1024, .f32⟩
  | .hbm, ⟨32, _⟩ => ⟨S2816x1024, .f32⟩
  | .hbm, ⟨33, _⟩ => ⟨S1024x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩
abbrev S512x512 : Shape := ⟨2, ![512, 512]⟩
abbrev S256x1024 : Shape := ⟨2, ![256, 1024]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v63 : BitVec 1 := Scalar.cmpi .eq arg0 c7_i32
  let v64 : BitVec 32 := Scalar.extui v63
  let c0_i32_48 : BitVec 32 := 0#32
  let v65 : BitVec 1 := Scalar.cmpi .ne v64 c0_i32_48
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩
abbrev S512x512 : Shape := ⟨2, ![512, 512]⟩
abbrev S256x1024 : Shape := ⟨2, ![256, 1024]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v63 : BitVec 1 := Scalar.cmpi .eq arg0 c7_i32
  let v64 : BitVec 32 := Scalar.extui v63
  let c0_i32_48 : BitVec 32 := 0#32
  let v65 : BitVec 1 := Scalar.cmpi .ne v64 c0_i32_48
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S4096x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S1024 : Shape := ⟨1, ![1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x1024, .bf16⟩
  | .hbm, ⟨23, _⟩ => ⟨S4096x2816, .bf16⟩
  | .hbm, ⟨24, _⟩ => ⟨S4096x2816, .bf16⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S4096x3328 : Shape := ⟨2, ![4096, 3328]⟩
abbrev S4096x1024 : Shape := ⟨2, ![4096, 1024]⟩
abbrev S512x1024 : Shape := ⟨2, ![512, 1024]⟩
abbrev S1024x1024 : Shape := ⟨2, ![1024, 1024]⟩
abbrev S1024x512 : Shape := ⟨2, ![1024, 512]⟩
abbrev S4096x512 : Shape := ⟨2, ![4096, 512]⟩
abbrev S512x512 : Shape := ⟨2, ![512, 512]⟩

abbrev nBuf : Space → Nat
  | .hbm => 21
  | .vmem => 25
  | .smem => 0
  | _ => 0

abbrev bufTy : (tb : Table) → Fin (tcTables nBuf tb) → BufTy
  | .hbm, ⟨0, _⟩ => ⟨S4096x3328, .f32⟩
  | .hbm, ⟨1, _⟩ => ⟨S4096x1024, .f32⟩
  | .hbm, ⟨2, _⟩ => ⟨S4096x1024, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S1024x512, .f32⟩
  | .hbm, ⟨12, _⟩ => ⟨S1024x512, .bf16⟩
  | .hbm, ⟨13, _⟩ => ⟨S1024x1024, .f32⟩
  | .hbm, ⟨14, _⟩ => ⟨S1024x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x512, .bf16⟩
  | .hbm, ⟨20, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S4096x3328 : Shape := ⟨2, ![4096, 3328]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 60
  | .vmem => 0
  | .smem => 0
  | _ => 0

abbrev bufTy : (tb : Table) → Fin (tcTables nBuf tb) → BufTy
  | .hbm, ⟨0, _⟩ => ⟨S4096x3328, .f32⟩
  | .hbm, ⟨1, _⟩ => ⟨S4096x1024, .f32⟩
  | .hbm, ⟨2, _⟩ => ⟨S4096x1024, .f32⟩
  | .hbm, ⟨3, _⟩ => ⟨S512x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S1024x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x512, .f32⟩
  | .hbm, ⟨48, _⟩ => ⟨S4096x1024, .f32⟩
  | .hbm, ⟨49, _⟩ => ⟨S4096x512, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .hbm, ⟨58, _⟩ => ⟨S4096x512, .bf16⟩
  | .hbm, ⟨59, _⟩ => ⟨S4096x1024, .bf16⟩
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x256 : Shape := ⟨2, ![4096, 256]⟩
abbrev S4096x128 : Shape := ⟨2, ![4096, 128]⟩
abbrev S3328x1024 : Shape := ⟨2, ![3328, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1024x512 : Shape := ⟨2, ![1024, 512]⟩
abbrev S256x512 : Shape := ⟨2, ![256, 512]⟩
abbrev S128x512 : Shape := ⟨2, ![128, 512]⟩
abbrev S512 : Shape := ⟨1, ![512]⟩
abbrev S512x1 : Shape := ⟨2, ![512, 1]⟩

abbrev nBuf : Space → Nat
  | .hbm => 26
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x256, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x1024, .bf16⟩
  | .hbm, ⟨13, _⟩ => ⟨S4096x1024, .bf16⟩
  | .hbm, ⟨14, _⟩ => ⟨S4096x512, .bf16⟩
  | .hbm, ⟨15, _⟩ => ⟨S4096x256, .bf16⟩
  | .hbm, ⟨16, _⟩ => ⟨S4096x128, .bf16⟩
  | .hbm, ⟨17, _⟩ => ⟨S4096x128, .bf16⟩
  | .hbm, ⟨18, _⟩ => ⟨S4096x128, .bf16⟩
  | .hbm, ⟨19, _⟩ => ⟨S4096x128, .bf16⟩
  | .hbm, ⟨20, _⟩ => ⟨S3328x1024, .f32⟩
  | .hbm, ⟨21, _⟩ => ⟨S3328x1024, .bf16⟩
  | .hbm, ⟨22, _⟩ => ⟨S1x1024, .f32⟩
  | .hbm, ⟨23, _⟩ => ⟨S4096x1024, .f32⟩
  | .hbm, ⟨24, _⟩ => ⟨S4096x1024, .bf16⟩
  | .hbm, ⟨25, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S3328x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3328x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference9Ideal.lean ====
abbrev S4096x1024 : Shape := ⟨2, ![4096, 1024]⟩
abbrev S1024 : Shape := ⟨1, ![1024]⟩
abbrev S1024x3328 : Shape := ⟨2, ![1024, 3328]⟩
abbrev S4096x512 : Shape := ⟨2, ![4096, 512]⟩
abbrev S4096x256 : Shape := ⟨2, ![4096, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3328 : Shape := ⟨2, ![4096, 3328]⟩
abbrev S3328x1024 : Shape := ⟨2, ![3328, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x256, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3328, .f32⟩
  | .hbm, ⟨33, _⟩ => ⟨S4096x3328, .f32⟩
  | .hbm, ⟨34, _⟩ => ⟨S3328x1024, .f32⟩
  | .hbm, ⟨35, _⟩ => ⟨S1024x3328, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x256 : Shape := ⟨2, ![4096, 256]⟩
abbrev S4096x128 : Shape := ⟨2, ![4096, 128]⟩
abbrev S3328x1024 : Shape := ⟨2, ![3328, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x1024 : Shape := ⟨2, ![256, 1024]⟩
abbrev S128x1024 : Shape := ⟨2, ![128, 1024]⟩

abbrev nBuf : Space → Nat
  | .hbm => 19
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x256, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x1024, .bf16⟩
  | .hbm, ⟨10, _⟩ => ⟨S4096x1024, .bf16⟩
  | .hbm, ⟨11, _⟩ => ⟨S4096x512, .bf16⟩
  | .hbm, ⟨12, _⟩ => ⟨S4096x256, .bf16⟩
  | .hbm, ⟨13, _⟩ => ⟨S4096x128, .bf16⟩
  | .hbm, ⟨14, _⟩ => ⟨S4096x128, .bf16⟩
  | .hbm, ⟨15, _⟩ => ⟨S4096x128, .bf16⟩
  | .hbm, ⟨16, _⟩ => ⟨S4096x128, .bf16⟩
  | .hbm, ⟨17, _⟩ => ⟨S4096x1024, .bf16⟩
  | .hbm, ⟨18, _⟩ => ⟨S3328x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x1024, .bf16⟩
  | .local _ .vmem, ⟨17, _⟩ => ⟨S512x1024, .bf16⟩
  | .local _ .vmem, ⟨18, _⟩ => ⟨S3328x1024, .bf16⟩
  | .local _ .vmem, ⟨19, _⟩ => ⟨S3328x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v103 : BitVec 1 := Scalar.cmpi .eq arg0 c7_i32
  let v104 : BitVec 32 := Scalar.extui v103
  let c0_i32_80 : BitVec 32 := 0#32
  let v105 : BitVec 1 := Scalar.cmpi .ne v104 c0_i32_80
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3328x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S4096x1024 : Shape := ⟨2, ![4096, 1024]⟩
abbrev S4096x512 : Shape := ⟨2, ![4096, 512]⟩
abbrev S4096x256 : Shape := ⟨2, ![4096, 256]⟩
abbrev S4096x128 : Shape := ⟨2, ![4096, 128]⟩
abbrev S_ : Shape := ⟨0, ![]⟩
abbrev S1024x3328 : Shape := ⟨2, ![1024, 3328]⟩
abbrev S4096x3328 : Shape := ⟨2, ![4096, 3328]⟩
abbrev S3328x1024 : Shape := ⟨2, ![3328, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x256, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S1024x3328, .f32⟩
  | .hbm, ⟨11, _⟩ => ⟨S4096x3328, .f32⟩
  | .hbm, ⟨12, _⟩ => ⟨S4096x3328, .f32⟩
  | .hbm, ⟨13, _⟩ => ⟨S3328x1024, .f32⟩
  | .hbm, ⟨14, _⟩ => ⟨S1024x3328, .f32⟩
  | .hbm, ⟨15, _⟩ => ⟨S3328x1024, .f32⟩
  | .hbm, ⟨16, _⟩ => ⟨S3328x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S4096x512, .bf16⟩
  | .hbm, ⟨4, _⟩ => ⟨S1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference12Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1024x3328 : Shape := ⟨2, ![1024, 3328]⟩
abbrev S1x1024 : Shape := ⟨2, ![1, 1024]⟩
abbrev S3328x1024 : Shape := ⟨2, ![3328, 1024]⟩
abbrev S4096x3328 : Shape := ⟨2, ![4096, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S1x1024, .f32⟩
  | .hbm, ⟨4, _⟩ => ⟨S3328x1024, .f32⟩
  | .hbm, ⟨5, _⟩ => ⟨S3328x1024, .bf16⟩
  | .hbm, ⟨6, _⟩ => ⟨S4096x1024, .bf16⟩
  | .hbm, ⟨7, _⟩ => ⟨S4096x3328, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3328, .f32⟩
  | .local _ .vmem, ⟨7, _⟩ => ⟨S512x3328, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S1024 : Shape := ⟨1, ![1024]⟩
abbrev S1024x3328 : Shape := ⟨2, ![1024, 3328]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3328 : Shape := ⟨2, ![4096, 3328]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3328, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x3328, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S4096x3328 : Shape := ⟨2, ![4096, 3328]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 14
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x3328, .f32⟩
  | .hbm, ⟨3, _⟩ => ⟨S512x1024, .f32⟩
  | .hbm, ⟨4, _⟩ => ⟨S1024x1024, .f32⟩
  | .hbm, ⟨5, _⟩ => ⟨S4096x512, .bf16⟩
  | .hbm, ⟨6, _⟩ => ⟨S4096x1024, .bf16⟩
  | .hbm, ⟨7, _⟩ => ⟨S1024x512, .f32⟩
  | .hbm, ⟨8, _⟩ => ⟨S1024x512, .bf16⟩
  | .hbm, ⟨9, _⟩ => ⟨S1024x1024, .f32⟩
  | .hbm, ⟨10, _⟩ => ⟨S1024x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x512, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S4096x512 : Shape := ⟨2, ![4096, 512]⟩
abbrev S4096x1024 : Shape := ⟨2, ![4096, 1024]⟩
abbrev S4096x3328 : Shape := ⟨2, ![4096, 3328]⟩
abbrev S512x1024 : Shape := ⟨2, ![512, 1024]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x3328, .f32⟩
  | .hbm, ⟨3, _⟩ => ⟨S512x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .bf16⟩
  | .hbm, ⟨30, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S2x2048x8x96 : Shape := ⟨4, ![2, 2048, 8, 96]⟩
abbrev S2x2048x8x64 : Shape := ⟨4, ![2, 2048, 8, 64]⟩
abbrev S_ : Shape := ⟨0, ![]⟩
abbrev S2x2048x8x128 : Shape := ⟨4, ![2, 2048, 8, 128]⟩
abbrev S4096x1024 : Shape := ⟨2, ![4096, 1024]⟩
abbrev S16x2048x1 : Shape := ⟨3, ![16, 2048, 1]⟩
abbrev S2048x128 : Shape := ⟨2, ![2048, 128]⟩
abbrev S1x2048x1 : Shape := ⟨3, ![1, 2048, 1]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256 : Shape := ⟨1, ![256]⟩
abbrev S256x1 : Shape := ⟨2, ![256, 1]⟩
abbrev S1x256x1 : Shape := ⟨3, ![1, 256, 1]⟩

abbrev nBuf : Space → Nat
  | .hbm => 20
  | .vmem => 10
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S_, .i32⟩
  | .hbm, ⟨4, _⟩ => ⟨S_, .f32⟩
  | .hbm, ⟨5, _⟩ => ⟨S2x2048x8x128, .f32⟩
  | .hbm, ⟨6, _⟩ => ⟨S4096x1024, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S2x2048x8x128, .f32⟩
  | .hbm, ⟨11, _⟩ => ⟨S4096x1024, .f32⟩
  | .hbm, ⟨12, _⟩ => ⟨S4096x1024, .bf16⟩
  | .hbm, ⟨13, _⟩ => ⟨S_, .i32⟩
  | .hbm, ⟨14, _⟩ => ⟨S_, .f32⟩
  | .hbm, ⟨15, _⟩ => ⟨S2x2048x8x128, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S16x2048x1, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel16Ideal.lean ====
variable {F : FTy → Type} [FloatOps F] [Named F]
def κ : String → Option EReal := fun
  | "mask" => some ⊥
  | "scale_log2e" => some (((3424635 / 33554432) * (Real.log 2)⁻¹ : ℝ) : EReal)
  | _ => none
-- ==== Reference16Ideal.lean ====
abbrev S2x2048x8x96 : Shape := ⟨4, ![2, 2048, 8, 96]⟩
abbrev S2x2048x8x64 : Shape := ⟨4, ![2, 2048, 8, 64]⟩
abbrev S2048 : Shape := ⟨1, ![2048]⟩
abbrev S2x8x2048x2048 : Shape := ⟨4, ![2, 8, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x128 : Shape := ⟨4, ![2, 2048, 8, 128]⟩
abbrev S4096x1024 : Shape := ⟨2, ![4096, 1024]⟩
abbrev S16x2048x1 : Shape := ⟨3, ![16, 2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2048x8x96, .f32⟩
  | .hbm, ⟨2, _⟩ => ⟨S2x2048x8x64, .f32⟩
  | .hbm, ⟨3, _⟩ => ⟨S2048, .i32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S2x8x2048x2048, .i1⟩
  | .hbm, ⟨16, _⟩ => ⟨S2x8x2048x2048, .f32⟩
  | .hbm, ⟨17, _⟩ => ⟨S2x8x2048x2048, .f32⟩
  | .hbm, ⟨18, _⟩ => ⟨S_, .f32⟩
  | .hbm, ⟨19, _⟩ => ⟨S2x8x2048, .f32⟩
  | .hbm, ⟨20, _⟩ => ⟨S2x8x2048x1, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S2x8x2048x1, .f32⟩
  | .hbm, ⟨27, _⟩ => ⟨S2x8x2048x1, .f32⟩
  | .hbm, ⟨28, _⟩ => ⟨S2x8x2048x1, .f32⟩
  | .hbm, ⟨29, _⟩ => ⟨S2048, .i32⟩
  | .hbm, ⟨30, _⟩ => ⟨S2x8x2048x2048, .f32⟩
  | .hbm, ⟨31, _⟩ => ⟨S_, .f32⟩
  | .hbm, ⟨32, _⟩ => ⟨S2x8x2048x2048, .f32⟩
  | .hbm, ⟨33, _⟩ => ⟨S2x8x2048x2048, .f32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S2x8x2048x2048, .i1⟩
  | .hbm, ⟨42, _⟩ => ⟨S2x8x2048x2048, .f32⟩
  | .hbm, ⟨43, _⟩ => ⟨S2x8x2048x2048, .f32⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S_, .f32⟩
  | .hbm, ⟨54, _⟩ => ⟨S2x8x2048, .f32⟩
  | .hbm, ⟨55, _⟩ => ⟨S2x8x2048x1, .f32⟩
  | .hbm, ⟨56, _⟩ => ⟨S2x8x2048x2048, .f32⟩
  | .hbm, ⟨57, _⟩ => ⟨S2x8x2048x2048, .f32⟩
  | .hbm, ⟨58, _⟩ => ⟨S2x8x64x2048, .f32⟩
  | .hbm, ⟨59, _⟩ => ⟨S2x2048x8x64, .f32⟩
  | .hbm, ⟨60, _⟩ => ⟨S_, .i32⟩
  | .hbm, ⟨61, _⟩ => ⟨S_, .f32⟩
  | .hbm, ⟨62, _⟩ => ⟨S2x2048x8x128, .f32⟩
  | .hbm, ⟨63, _⟩ => ⟨S4096x1024, .f32⟩
  | .hbm, ⟨64, _⟩ => ⟨S4096x1024, .bf16⟩
  | .hbm, ⟨65, _⟩ => ⟨S_, .f32⟩
  | .hbm, ⟨66, _⟩ => ⟨S_, .f32⟩
  | .hbm, ⟨67, _⟩ => ⟨S2x8x2048x1, .f32⟩
  | .hbm, ⟨68, _⟩ => ⟨S2x8x2048x1, .f32⟩
  | .hbm, ⟨69, _⟩ => ⟨S16x2048x1, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call2_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel17.lean ====
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4096x1024 : Shape := ⟨2, ![4096, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel19.lean ====
abbrev S64x1024 : Shape := ⟨2, ![64, 1024]⟩
abbrev S8x1024 : Shape := ⟨2, ![8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S64x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference19Ideal.lean ====
abbrev S64x1024 : Shape := ⟨2, ![64, 1024]⟩
abbrev S8x1024 : Shape := ⟨2, ![8, 1024]⟩
abbrev S8x8x1024 : Shape := ⟨3, ![8, 8, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x8x1024, .f32⟩
  | .hbm, ⟨5, _⟩ => ⟨S_, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S_, .f32⟩
  | .hbm, ⟨34, _⟩ => ⟨S8x1024, .f32⟩
  | .hbm, ⟨35, _⟩ => ⟨S8x1024, .f32⟩
  | .hbm, ⟨36, _⟩ => ⟨S8x1024, .f32⟩
  | .hbm, ⟨37, _⟩ => ⟨S_, .f32⟩
  | .hbm, ⟨38, _⟩ => ⟨S8x1024, .f32⟩
  | .hbm, ⟨39, _⟩ => ⟨S8x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.MlaBwd.Scores.lean ====
module

public import proofs.«01_k».proof.Proof.Gen.KernelIdeal.Value
public import Idealize.ShloMosaic.Lib.Pointwise
public import Idealize.ShloMosaic.Lib.ValueIdx

/-!
# The scores of one head

What the backward of the causal attention computes of one batch and head, from the six blocks its body
reads: the queries, the keys, the values, the output and its gradient (2048 rows of 128 lanes each), and a
column with every row's log-sum in base 2.
-/

@[expose] public section
noncomputable section
namespace Cert.KernelIdeal.MlaBwd
open Cert.KernelIdeal Cert.KernelIdeal.Gen Idealize.ShloMosaic Idealize.SL.Sem

/-- One head's block of 2048 rows. -/
abbrev Blk : Type := Vec Ideal S2048x128 .bf16

/-- One head's column of row log-sums. -/
abbrev Col : Type := Vec Ideal S1x2048x1 .f32

/-- The score scale. -/
def sc : EReal := Ideal.ofBits .f32 0x3DD105EC#32

/-- The score scale over the log of 2. -/
def sc2 : EReal := Named.named (F := Ideal) (φ := .f32) κ "scale_log2e" 0x3E16C740#32

/-- Row `r` of one block times row `j` of another. -/
def score (a b : Blk) (r j : Fin 2048) : EReal := ∑ x : Fin 128, a (ix2 r x) * b (ix2 j x)

/-- The probability of key `j` for query `r`, recomputed from the log-sum: 0 above the diagonal. -/
def prob (q k : Blk) (l : Col) (r j : Fin 2048) : EReal :=
  if j ≤ r then Ideal.exp2 (score q k r j * sc2 - l (ix3 0 r 0)) else 0

/-- The gradient of the score of query `r` and key `j`, before the product with a row of the other side. -/
def dscore (q k v o g : Blk) (l : Col) (r j : Fin 2048) : EReal :=
  prob q k l r j * (score g v r j - score g o r r) * sc

/-- The gradient of the queries. -/
def gq (q k v o g : Blk) (l : Col) : Vec Ideal S2048x128 .f32 :=
  fun i => ∑ j : Fin 2048, dscore q k v o g l (i 0) j * k (ix2 j (i 1))

/-- The gradient of the keys. -/
def gk (q k v o g : Blk) (l : Col) : Vec Ideal S2048x128 .f32 :=
  fun i => ∑ r : Fin 2048, dscore q k v o g l r (i 0) * q (ix2 r (i 1))

/-- The gradient of the values. -/
def gv (q k g : Blk) (l : Col) : Vec Ideal S2048x128 .f32 :=
  fun i => ∑ r : Fin 2048, prob q k l r (i 0) * g (ix2 r (i 1))

/-- The mask's constant is −∞. -/
theorem mask_val : Named.named (F := Ideal) (φ := .f32) κ "mask" 0xF149F2CA#32 = (⊥ : EReal) :=
  IdealRules.named_const.ideal_named_scalar _ _ _ _ rfl

/-- The second constant's value. -/
theorem sc2_val : sc2 = (((3424635 / 33554432) * (Real.log 2)⁻¹ : ℝ) : EReal) :=
  IdealRules.named_const.ideal_named_scalar _ _ _ _ rfl

/-- It is positive. -/
theorem sc2_pos : 0 < sc2 := by
  rw [sc2_val]
  exact_mod_cast mul_pos (by norm_num) (inv_pos.mpr (Real.log_pos one_lt_two))

/-- A masked score's exponential, on a tile that the diagonal crosses. -/
theorem exp2_masked (r l : Fin 256) (a b : EReal) :
    (FloatOps.exp2 (F := Ideal) (φ := .f32)
      (Scalar.select (IntOp.cmpi CmpIPredicate.sge (BitVec.ofNat 32 (r : ℕ)) (BitVec.ofNat 32 (l : ℕ))) a
        (Named.named (F := Ideal) (φ := .f32) κ "mask" 0xF149F2CA#32) * sc2 - b) : EReal)
      = if l ≤ r then Ideal.exp2 (a * sc2 - b) else 0 := by
  rw [WordCmp.cmpi_sge_ofNat (by omega) (by omega), mask_val]
  by_cases h : l ≤ r
  · have h' : decide ((l : ℕ) ≤ r) = true := decide_eq_true h
    rw [if_pos h, h']
    rfl
  · have h' : decide ((l : ℕ) ≤ r) = false := decide_eq_false h
    rw [if_neg h, h']
    change Ideal.exp2 (⊥ * sc2 - b) = 0
    rw [EReal.bot_mul_of_pos sc2_pos, sub_eq_add_neg, EReal.bot_add, Ideal.exp2_bot]

/-- A tile that the diagonal crosses, its rows and keys counted from the same place. -/
theorem prob_of_diag (q k v o g : Blk) (c : Col) (r l : Fin 256) (r' l' : Fin 2048) (h : l' ≤ r' ↔ l ≤ r) :
    (FloatOps.exp2 (F := Ideal) (φ := .f32)
      (Scalar.select (IntOp.cmpi CmpIPredicate.sge (BitVec.ofNat 32 (r : ℕ)) (BitVec.ofNat 32 (l : ℕ)))
        (∑ x : Fin 128, q (ix2 r' x) * k (ix2 l' x)) (Named.named (F := Ideal) (φ := .f32) κ "mask" 0xF149F2CA#32)
        * Named.named (F := Ideal) (φ := .f32) κ "scale_log2e" 0x3E16C740#32 - c (ix3 0 r' 0)) : EReal)
      = prob q k c r' l' := by
  have e := exp2_masked r l (score q k r' l') (c (ix3 0 r' 0))
  rw [prob, if_congr h rfl rfl, ← e]
  rfl

/-- The keys before the diagonal tile. -/
theorem prob_of_rest (q k v o g : Blk) (c : Col) (r j : Fin 2048) (h : j ≤ r) :
    (FloatOps.exp2 (F := Ideal) (φ := .f32)
      ((∑ x : Fin 128, q (ix2 r x) * k (ix2 j x)) * Named.named (F := Ideal) (φ := .f32) κ "scale_log2e" 0x3E16C740#32 - c (ix3 0 r 0)) : EReal) = prob q k c r j :=
  (if_pos h).symm

/-- Above the diagonal the probability is 0. -/
theorem prob_above (q k : Blk) (l : Col) {r j : Fin 2048} (h : r < j) : prob q k l r j = 0 :=
  if_neg (not_le.mpr h)

/-- Above the diagonal the score's gradient is 0. -/
theorem dscore_above (q k v o g : Blk) (l : Col) {r j : Fin 2048} (h : r < j) :
    dscore q k v o g l r j = 0 := by
  rw [dscore, prob_above q k l h, zero_mul, zero_mul]

/-- A sum over 2048 terms of which only the first `n` are not 0. -/
theorem sum_low {n : ℕ} (hn : n ≤ 2048) (f : Fin 2048 → EReal)
    (hz : ∀ j : Fin 2048, n ≤ j.val → f j = 0) : ∑ j, f j = ∑ x : Fin n, f ⟨x, by omega⟩ := by
  have h := Fin.sum_univ_two_halves n (2048 - n) (by omega) f
  rw [h, Finset.sum_eq_zero (s := (Finset.univ : Finset (Fin (2048 - n)))) (fun x _ => hz _ (by simp)), add_zero]

/-- A sum over 2048 terms of which the first `a` are 0. -/
theorem sum_high (a n : ℕ) (hn : a + n = 2048) (f : Fin 2048 → EReal)
    (hz : ∀ j : Fin 2048, j.val < a → f j = 0) : ∑ j, f j = ∑ x : Fin n, f ⟨a + x, by omega⟩ := by
  have h := Fin.sum_univ_two_halves a n hn f
  rw [h, Finset.sum_eq_zero (s := (Finset.univ : Finset (Fin a))) (fun x _ => hz _ (by simp)), zero_add]

/-- A sum over 2048 terms that are 0 from `a + 256` on: the 256 from `a`, and the ones before. -/
theorem sum_two (a : ℕ) (ha : a + 256 ≤ 2048) (f : Fin 2048 → EReal)
    (hz : ∀ j : Fin 2048, a + 256 ≤ j.val → f j = 0) :
    ∑ j, f j = ∑ x : Fin 256, f ⟨a + x, by omega⟩ + ∑ x : Fin a, f ⟨x, by omega⟩ := by
  rw [sum_low ha f hz, Fin.sum_univ_two_halves a 256 rfl, add_comm]

end Cert.KernelIdeal.MlaBwd
end
-- ==== Proof.MlaBwd.Tiles.lean ====
module

public import proofs.«01_k».proof.Proof.MlaBwd.Scores

/-!
# The probabilities and the score gradients, tile by tile

Each of the eight row groups computes its part of both matrices on two pieces: the tile on the diagonal,
and the keys before it.
-/

@[expose] public section
noncomputable section
namespace Cert.KernelIdeal.MlaBwd
open Cert.KernelIdeal Cert.KernelIdeal.Gen Idealize.ShloMosaic Idealize.SL.Sem

theorem prob_diag_0 (x0 x1 x2 x3 x4 : Blk) (x5 : Col) (r : Fin 256) (l : Fin 256) :
    ((k0_pay38 (k0_pay115 x0 x1 x2 x3 x4 x5) (k0_pay131 x0 x1 x2 x3 x4 x5) (View.ld x1 r0_0)) : FVec Ideal _ _) (ix2 r l) = prob x0 x1 x5 ⟨r, by omega⟩ ⟨l, by omega⟩ := by
  unfold k0_pay131 k0_pay115
  pointwise [k0_pay38, k0_pay37, k0_pay3, k0_pay19]
  exact prob_of_diag x0 x1 x2 x3 x4 x5 r l ⟨r, by omega⟩ ⟨l, by omega⟩ (by simp)

theorem dscore_diag_0 (x0 x1 x2 x3 x4 : Blk) (x5 : Col) (r : Fin 256) (l : Fin 256) :
    ((k0_pay146 x0 x1 x2 x3 x4 x5) : FVec Ideal _ _) (ix2 r l) = dscore x0 x1 x2 x3 x4 x5 ⟨r, by omega⟩ ⟨l, by omega⟩ := by
  unfold k0_pay146 k0_pay131 k0_pay123 k0_pay115
  pointwise [k0_pay39, k0_pay37, k0_pay3, k0_pay11, k0_pay19, k0_pay27]
  rw [prob_of_diag x0 x1 x2 x3 x4 x5 r l ⟨r, by omega⟩ ⟨l, by omega⟩ (by simp)]
  unfold dscore score sc
  rfl

theorem prob_diag_1 (x0 x1 x2 x3 x4 : Blk) (x5 : Col) (r : Fin 256) (l : Fin 256) :
    ((k0_pay42 (k0_pay147 x0 x1 x2 x3 x4 x5)) : FVec Ideal _ _) (ix2 r l) = prob x0 x1 x5 ⟨256 + r, by omega⟩ ⟨256 + l, by omega⟩ := by
  unfold k0_pay147 k0_pay132 k0_pay116
  pointwise [k0_pay42, k0_pay40, k0_pay4, k0_pay20]
  exact prob_of_diag x0 x1 x2 x3 x4 x5 r l ⟨256 + r, by omega⟩ ⟨256 + l, by omega⟩ (by simp)

theorem dscore_diag_1 (x0 x1 x2 x3 x4 : Blk) (x5 : Col) (r : Fin 256) (l : Fin 256) :
    ((k0_pay148 x0 x1 x2 x3 x4 x5) : FVec Ideal _ _) (ix2 r l) = dscore x0 x1 x2 x3 x4 x5 ⟨256 + r, by omega⟩ ⟨256 + l, by omega⟩ := by
  unfold k0_pay148 k0_pay147 k0_pay139 k0_pay132 k0_pay124 k0_pay116
  pointwise [k0_pay43, k0_pay12, k0_pay29, k0_pay28, k0_pay40, k0_pay4, k0_pay20, k0_pay41]
  rw [prob_of_diag x0 x1 x2 x3 x4 x5 r l ⟨256 + r, by omega⟩ ⟨256 + l, by omega⟩ (by simp)]
  unfold dscore score sc
  rfl

theorem prob_diag_2 (x0 x1 x2 x3 x4 : Blk) (x5 : Col) (r : Fin 256) (l : Fin 256) :
    ((k0_pay45 (k0_pay117 x0 x1 x2 x3 x4 x5) (k0_pay133 x0 x1 x2 x3 x4 x5) (View.ld x1 r0_2)) : FVec Ideal _ _) (ix2 r l) = prob x0 x1 x5 ⟨512 + r, by omega⟩ ⟨512 + l, by omega⟩ := by
  unfold k0_pay133 k0_pay117
  pointwise [k0_pay45, k0_pay44, k0_pay5, k0_pay21]
  exact prob_of_diag x0 x1 x2 x3 x4 x5 r l ⟨512 + r, by omega⟩ ⟨512 + l, by omega⟩ (by simp)

theorem dscore_diag_2 (x0 x1 x2 x3 x4 : Blk) (x5 : Col) (r : Fin 256) (l : Fin 256) :
    ((k0_pay149 x0 x1 x2 x3 x4 x5) : FVec Ideal _ _) (ix2 r l) = dscore x0 x1 x2 x3 x4 x5 ⟨512 + r, by omega⟩ ⟨512 + l, by omega⟩ := by
  unfold k0_pay149 k0_pay140 k0_pay133 k0_pay125 k0_pay117
  pointwise [k0_pay46, k0_pay44, k0_pay5, k0_pay13, k0_pay21, k0_pay30]
  rw [prob_of_diag x0 x1 x2 x3 x4 x5 r l ⟨512 + r, by omega⟩ ⟨512 + l, by omega⟩ (by simp)]
  unfold dscore score sc
  rfl

theorem prob_diag_3 (x0 x1 x2 x3 x4 : Blk) (x5 : Col) (r : Fin 256) (l : Fin 256) :
    ((k0_pay48 (k0_pay150 x0 x1 x2 x3 x4 x5)) : FVec Ideal _ _) (ix2 r l) = prob x0 x1 x5 ⟨768 + r, by omega⟩ ⟨768 + l, by omega⟩ := by
  unfold k0_pay150 k0_pay134 k0_pay118
  pointwise [k0_pay48, k0_pay47, k0_pay6, k0_pay22]
  exact prob_of_diag x0 x1 x2 x3 x4 x5 r l ⟨768 + r, by omega⟩ ⟨768 + l, by omega⟩ (by simp)

theorem dscore_diag_3 (x0 x1 x2 x3 x4 : Blk) (x5 : Col) (r : Fin 256) (l : Fin 256) :
    ((k0_pay151 x0 x1 x2 x3 x4 x5) : FVec Ideal _ _) (ix2 r l) = dscore x0 x1 x2 x3 x4 x5 ⟨768 + r, by omega⟩ ⟨768 + l, by omega⟩ := by
  unfold k0_pay151 k0_pay150 k0_pay141 k0_pay134 k0_pay126 k0_pay118
  pointwise [k0_pay49, k0_pay14, k0_pay31, k0_pay47, k0_pay6, k0_pay22]
  rw [prob_of_diag x0 x1 x2 x3 x4 x5 r l ⟨768 + r, by omega⟩ ⟨768 + l, by omega⟩ (by simp)]
  unfold dscore score sc
  rfl

theorem prob_diag_4 (x0 x1 x2 x3 x4 : Blk) (x5 : Col) (r : Fin 256) (l : Fin 256) :
    ((k0_pay51 (k0_pay119 x0 x1 x2 x3 x4 x5) (k0_pay135 x0 x1 x2 x3 x4 x5) (View.ld x1 r0_4)) : FVec Ideal _ _) (ix2 r l) = prob x0 x1 x5 ⟨1024 + r, by omega⟩ ⟨1024 + l, by omega⟩ := by
  unfold k0_pay135 k0_pay119
  pointwise [k0_pay51, k0_pay50, k0_pay7, k0_pay23]
  exact prob_of_diag x0 x1 x2 x3 x4 x5 r l ⟨1024 + r, by omega⟩ ⟨1024 + l, by omega⟩ (by simp)

theorem dscore_diag_4 (x0 x1 x2 x3 x4 : Blk) (x5 : Col) (r : Fin 256) (l : Fin 256) :
    ((k0_pay152 x0 x1 x2 x3 x4 x5) : FVec Ideal _ _) (ix2 r l) = dscore x0 x1 x2 x3 x4 x5 ⟨1024 + r, by omega⟩ ⟨1024 + l, by omega⟩ := by
  unfold k0_pay152 k0_pay142 k0_pay135 k0_pay127 k0_pay119
  pointwise [k0_pay52, k0_pay50, k0_pay7, k0_pay15, k0_pay23, k0_pay32]
  rw [prob_of_diag x0 x1 x2 x3 x4 x5 r l ⟨1024 + r, by omega⟩ ⟨1024 + l, by omega⟩ (by simp)]
  unfold dscore score sc
  rfl

theorem prob_diag_5 (x0 x1 x2 x3 x4 : Blk) (x5 : Col) (r : Fin 256) (l : Fin 256) :
    ((k0_pay56 (k0_pay136 x0 x1 x2 x3 x4 x5) (k0_pay153 x0 x1 x2 x3 x4 x5) (k0_pay154 x0 x1 x2 x3 x4 x5)) : FVec Ideal _ _) (ix2 r l) = prob x0 x1 x5 ⟨1280 + r, by omega⟩ ⟨1280 + l, by omega⟩ := by
  unfold k0_pay154 k0_pay153 k0_pay136 k0_pay120
  pointwise [k0_pay56, k0_pay55, k0_pay24, k0_pay53, k0_pay8, k0_pay54]
  exact prob_of_diag x0 x1 x2 x3 x4 x5 r l ⟨1280 + r, by omega⟩ ⟨1280 + l, by omega⟩ (by simp)

theorem dscore_diag_5 (x0 x1 x2 x3 x4 : Blk) (x5 : Col) (r : Fin 256) (l : Fin 256) :
    ((k0_pay155 x0 x1 x2 x3 x4 x5) : FVec Ideal _ _) (ix2 r l) = dscore x0 x1 x2 x3 x4 x5 ⟨1280 + r, by omega⟩ ⟨1280 + l, by omega⟩ := by
  unfold k0_pay155 k0_pay154 k0_pay153 k0_pay143 k0_pay136 k0_pay128 k0_pay120
  pointwise [k0_pay57, k0_pay55, k0_pay16, k0_pay24, k0_pay33, k0_pay53, k0_pay8, k0_pay54]
  rw [prob_of_diag x0 x1 x2 x3 x4 x5 r l ⟨1280 + r, by omega⟩ ⟨1280 + l, by omega⟩ (by simp)]
  unfold dscore score sc
  rfl

theorem prob_diag_6 (x0 x1 x2 x3 x4 : Blk) (x5 : Col) (r : Fin 256) (l : Fin 256) :
    ((k0_pay59 (k0_pay121 x0 x1 x2 x3 x4 x5) (k0_pay137 x0 x1 x2 x3 x4 x5) (View.ld x1 r0_6)) : FVec Ideal _ _) (ix2 r l) = prob x0 x1 x5 ⟨1536 + r, by omega⟩ ⟨1536 + l, by omega⟩ := by
  unfold k0_pay137 k0_pay121
  pointwise [k0_pay59, k0_pay58, k0_pay9, k0_pay25]
  exact prob_of_diag x0 x1 x2 x3 x4 x5 r l ⟨1536 + r, by omega⟩ ⟨1536 + l, by omega⟩ (by simp)

theorem dscore_diag_6 (x0 x1 x2 x3 x4 : Blk) (x5 : Col) (r : Fin 256) (l : Fin 256) :
    ((k0_pay156 x0 x1 x2 x3 x4 x5) : FVec Ideal _ _) (ix2 r l) = dscore x0 x1 x2 x3 x4 x5 ⟨1536 + r, by omega⟩ ⟨1536 + l, by omega⟩ := by
  unfold k0_pay156 k0_pay144 k0_pay137 k0_pay129 k0_pay121
  pointwise [k0_pay60, k0_pay58, k0_pay9, k0_pay17, k0_pay25, k0_pay34]
  rw [prob_of_diag x0 x1 x2 x3 x4 x5 r l ⟨1536 + r, by omega⟩ ⟨1536 + l, by omega⟩ (by simp)]
  unfold dscore score sc
  rfl

theorem prob_diag_7 (x0 x1 x2 x3 x4 : Blk) (x5 : Col) (r : Fin 256) (l : Fin 256) :
    ((k0_pay64 (k0_pay138 x0 x1 x2 x3 x4 x5) (k0_pay157 x0 x1 x2 x3 x4 x5) (k0_pay158 x0 x1 x2 x3 x4 x5) (Named.named κ "mask" 0xF149F2CA#32)) : FVec Ideal _ _) (ix2 r l) = prob x0 x1 x5 ⟨1792 + r, by omega⟩ ⟨1792 + l, by omega⟩ := by
  unfold k0_pay158 k0_pay157 k0_pay138 k0_pay122
  pointwise [k0_pay64, k0_pay63, k0_pay26, k0_pay61, k0_pay10, k0_pay62]
  exact prob_of_diag x0 x1 x2 x3 x4 x5 r l ⟨1792 + r, by omega⟩ ⟨1792 + l, by omega⟩ (by simp)

theorem dscore_diag_7 (x0 x1 x2 x3 x4 : Blk) (x5 : Col) (r : Fin 256) (l : Fin 256) :
    ((k0_pay159 x0 x1 x2 x3 x4 x5) : FVec Ideal _ _) (ix2 r l) = dscore x0 x1 x2 x3 x4 x5 ⟨1792 + r, by omega⟩ ⟨1792 + l, by omega⟩ := by
  unfold k0_pay159 k0_pay158 k0_pay157 k0_pay145 k0_pay138 k0_pay130 k0_pay122
  pointwise [k0_pay65, k0_pay63, k0_pay18, k0_pay26, k0_pay36, k0_pay35, k0_pay61, k0_pay10, k0_pay62]
  rw [prob_of_diag x0 x1 x2 x3 x4 x5 r l ⟨1792 + r, by omega⟩ ⟨1792 + l, by omega⟩ (by simp)]
  unfold dscore score sc
  rfl

theorem prob_rest_1 (x0 x1 x2 x3 x4 : Blk) (x5 : Col) (r : Fin 256) (l : Fin 256) :
    ((k0_pay67 (k0_pay116 x0 x1 x2 x3 x4 x5) (k0_pay132 x0 x1 x2 x3 x4 x5) (View.ld x1 r0_0)) : FVec Ideal _ _) (ix2 r l) = prob x0 x1 x5 ⟨256 + r, by omega⟩ ⟨l, by omega⟩ := by
  unfold k0_pay132 k0_pay116
  pointwise [k0_pay67, k0_pay66, k0_pay4, k0_pay20]
  exact prob_of_rest x0 x1 x2 x3 x4 x5 ⟨256 + r, by omega⟩ ⟨l, by omega⟩ (Fin.mk_le_mk.mpr (by omega))

theorem dscore_rest_1 (x0 x1 x2 x3 x4 : Blk) (x5 : Col) (r : Fin 256) (l : Fin 256) :
    ((k0_pay160 x0 x1 x2 x3 x4 x5) : FVec Ideal _ _) (ix2 r l) = dscore x0 x1 x2 x3 x4 x5 ⟨256 + r, by omega⟩ ⟨l, by omega⟩ := by
  unfold k0_pay160 k0_pay139 k0_pay132 k0_pay124 k0_pay116
  pointwise [k0_pay68, k0_pay66, k0_pay4, k0_pay12, k0_pay20, k0_pay29, k0_pay28]
  rw [prob_of_rest x0 x1 x2 x3 x4 x5 ⟨256 + r, by omega⟩ ⟨l, by omega⟩ (Fin.mk_le_mk.mpr (by omega))]
  unfold dscore score sc
  rfl

theorem prob_rest_2 (x0 x1 x2 x3 x4 : Blk) (x5 : Col) (r : Fin 256) (l : Fin 512) :
    ((k0_pay162 x0 x1 x2 x3 x4 x5) : FVec Ideal _ _) (ix2 r l) = prob x0 x1 x5 ⟨512 + r, by omega⟩ ⟨l, by omega⟩ := by
  unfold k0_pay162 k0_pay161 k0_pay133 k0_pay117
  pointwise [k0_pay70, k0_pay69, k0_pay5, k0_pay21]
  exact prob_of_rest x0 x1 x2 x3 x4 x5 ⟨512 + r, by omega⟩ ⟨l, by omega⟩ (Fin.mk_le_mk.mpr (by omega))

theorem dscore_rest_2 (x0 x1 x2 x3 x4 : Blk) (x5 : Col) (r : Fin 256) (l : Fin 512) :
    ((k0_pay163 x0 x1 x2 x3 x4 x5) : FVec Ideal _ _) (ix2 r l) = dscore x0 x1 x2 x3 x4 x5 ⟨512 + r, by omega⟩ ⟨l, by omega⟩ := by
  unfold k0_pay163 k0_pay161 k0_pay140 k0_pay133 k0_pay125 k0_pay117
  pointwise [k0_pay71, k0_pay13, k0_pay30, k0_pay69, k0_pay5, k0_pay21]
  rw [prob_of_rest x0 x1 x2 x3 x4 x5 ⟨512 + r, by omega⟩ ⟨l, by omega⟩ (Fin.mk_le_mk.mpr (by omega))]
  unfold dscore score sc
  rfl

theorem prob_rest_3 (x0 x1 x2 x3 x4 : Blk) (x5 : Col) (r : Fin 256) (l : Fin 768) :
    ((k0_pay164 x0 x1 x2 x3 x4 x5) : FVec Ideal _ _) (ix2 r l) = prob x0 x1 x5 ⟨768 + r, by omega⟩ ⟨l, by omega⟩ := by
  unfold k0_pay164 k0_pay134 k0_pay118
  pointwise [k0_pay73, k0_pay72, k0_pay6, k0_pay22]
  exact prob_of_rest x0 x1 x2 x3 x4 x5 ⟨768 + r, by omega⟩ ⟨l, by omega⟩ (Fin.mk_le_mk.mpr (by omega))

theorem dscore_rest_3 (x0 x1 x2 x3 x4 : Blk) (x5 : Col) (r : Fin 256) (l : Fin 768) :
    ((k0_pay165 x0 x1 x2 x3 x4 x5) : FVec Ideal _ _) (ix2 r l) = dscore x0 x1 x2 x3 x4 x5 ⟨768 + r, by omega⟩ ⟨l, by omega⟩ := by
  unfold k0_pay165 k0_pay141 k0_pay134 k0_pay126 k0_pay118
  pointwise [k0_pay74, k0_pay72, k0_pay6, k0_pay14, k0_pay22, k0_pay31]
  rw [prob_of_rest x0 x1 x2 x3 x4 x5 ⟨768 + r, by omega⟩ ⟨l, by omega⟩ (Fin.mk_le_mk.mpr (by omega))]
  unfold dscore score sc
  rfl

theorem prob_rest_4 (x0 x1 x2 x3 x4 : Blk) (x5 : Col) (r : Fin 256) (l : Fin 1024) :
    ((k0_pay166 x0 x1 x2 x3 x4 x5) : FVec Ideal _ _) (ix2 r l) = prob x0 x1 x5 ⟨1024 + r, by omega⟩ ⟨l, by omega⟩ := by
  unfold k0_pay166 k0_pay135 k0_pay119
  pointwise [k0_pay77, k0_pay75, k0_pay7, k0_pay23]
  exact prob_of_rest x0 x1 x2 x3 x4 x5 ⟨1024 + r, by omega⟩ ⟨l, by omega⟩ (Fin.mk_le_mk.mpr (by omega))

theorem dscore_rest_4 (x0 x1 x2 x3 x4 : Blk) (x5 : Col) (r : Fin 256) (l : Fin 1024) :
    ((k0_pay167 x0 x1 x2 x3 x4 x5) : FVec Ideal _ _) (ix2 r l) = dscore x0 x1 x2 x3 x4 x5 ⟨1024 + r, by omega⟩ ⟨l, by omega⟩ := by
  unfold k0_pay167 k0_pay142 k0_pay135 k0_pay127 k0_pay119
  pointwise [k0_pay79, k0_pay75, k0_pay7, k0_pay23, k0_pay76, k0_pay15, k0_pay78, k0_pay32]
  rw [prob_of_rest x0 x1 x2 x3 x4 x5 ⟨1024 + r, by omega⟩ ⟨l, by omega⟩ (Fin.mk_le_mk.mpr (by omega))]
  unfold dscore score sc
  rfl

theorem prob_rest_5 (x0 x1 x2 x3 x4 : Blk) (x5 : Col) (r : Fin 256) (l : Fin 1280) :
    ((k0_pay168 x0 x1 x2 x3 x4 x5) : FVec Ideal _ _) (ix2 r l) = prob x0 x1 x5 ⟨1280 + r, by omega⟩ ⟨l, by omega⟩ := by
  unfold k0_pay168 k0_pay136 k0_pay120
  pointwise [k0_pay81, k0_pay80, k0_pay8, k0_pay24]
  exact prob_of_rest x0 x1 x2 x3 x4 x5 ⟨1280 + r, by omega⟩ ⟨l, by omega⟩ (Fin.mk_le_mk.mpr (by omega))

theorem dscore_rest_5 (x0 x1 x2 x3 x4 : Blk) (x5 : Col) (r : Fin 256) (l : Fin 1280) :
    ((k0_pay169 x0 x1 x2 x3 x4 x5) : FVec Ideal _ _) (ix2 r l) = dscore x0 x1 x2 x3 x4 x5 ⟨1280 + r, by omega⟩ ⟨l, by omega⟩ := by
  unfold k0_pay169 k0_pay143 k0_pay136 k0_pay128 k0_pay120
  pointwise [k0_pay82, k0_pay80, k0_pay8, k0_pay16, k0_pay24, k0_pay33]
  rw [prob_of_rest x0 x1 x2 x3 x4 x5 ⟨1280 + r, by omega⟩ ⟨l, by omega⟩ (Fin.mk_le_mk.mpr (by omega))]
  unfold dscore score sc
  rfl

theorem prob_rest_6 (x0 x1 x2 x3 x4 : Blk) (x5 : Col) (r : Fin 256) (l : Fin 1536) :
    ((k0_pay170 x0 x1 x2 x3 x4 x5) : FVec Ideal _ _) (ix2 r l) = prob x0 x1 x5 ⟨1536 + r, by omega⟩ ⟨l, by omega⟩ := by
  unfold k0_pay170 k0_pay137 k0_pay121
  pointwise [k0_pay84, k0_pay83, k0_pay9, k0_pay25]
  exact prob_of_rest x0 x1 x2 x3 x4 x5 ⟨1536 + r, by omega⟩ ⟨l, by omega⟩ (Fin.mk_le_mk.mpr (by omega))

theorem dscore_rest_6 (x0 x1 x2 x3 x4 : Blk) (x5 : Col) (r : Fin 256) (l : Fin 1536) :
    ((k0_pay171 x0 x1 x2 x3 x4 x5) : FVec Ideal _ _) (ix2 r l) = dscore x0 x1 x2 x3 x4 x5 ⟨1536 + r, by omega⟩ ⟨l, by omega⟩ := by
  unfold k0_pay171 k0_pay144 k0_pay137 k0_pay129 k0_pay121
  pointwise [k0_pay85, k0_pay83, k0_pay9, k0_pay17, k0_pay25, k0_pay34]
  rw [prob_of_rest x0 x1 x2 x3 x4 x5 ⟨1536 + r, by omega⟩ ⟨l, by omega⟩ (Fin.mk_le_mk.mpr (by omega))]
  unfold dscore score sc
  rfl

theorem prob_rest_7 (x0 x1 x2 x3 x4 : Blk) (x5 : Col) (r : Fin 256) (l : Fin 1792) :
    ((k0_pay172 x0 x1 x2 x3 x4 x5) : FVec Ideal _ _) (ix2 r l) = prob x0 x1 x5 ⟨1792 + r, by omega⟩ ⟨l, by omega⟩ := by
  unfold k0_pay172 k0_pay138 k0_pay122
  pointwise [k0_pay87, k0_pay86, k0_pay10, k0_pay26]
  exact prob_of_rest x0 x1 x2 x3 x4 x5 ⟨1792 + r, by omega⟩ ⟨l, by omega⟩ (Fin.mk_le_mk.mpr (by omega))

theorem dscore_rest_7 (x0 x1 x2 x3 x4 : Blk) (x5 : Col) (r : Fin 256) (l : Fin 1792) :
    ((k0_pay173 x0 x1 x2 x3 x4 x5) : FVec Ideal _ _) (ix2 r l) = dscore x0 x1 x2 x3 x4 x5 ⟨1792 + r, by omega⟩ ⟨l, by omega⟩ := by
  unfold k0_pay173 k0_pay145 k0_pay138 k0_pay130 k0_pay122
  pointwise [k0_pay88, k0_pay86, k0_pay10, k0_pay18, k0_pay26, k0_pay36, k0_pay35]
  rw [prob_of_rest x0 x1 x2 x3 x4 x5 ⟨1792 + r, by omega⟩ ⟨l, by omega⟩ (Fin.mk_le_mk.mpr (by omega))]
  unfold dscore score sc
  rfl

end Cert.KernelIdeal.MlaBwd
end
-- ==== Proof.MlaBwd.Queries.lean ====
module

public import proofs.«01_k».proof.Proof.MlaBwd.Tiles

/-!
# The gradient of the queries, of one head

The eight pieces that the body writes, each on its rows, and the block they make.
-/

@[expose] public section
noncomputable section
namespace Cert.KernelIdeal.MlaBwd
open Cert.KernelIdeal Cert.KernelIdeal.Gen Idealize.ShloMosaic Idealize.SL.Sem

theorem piece6_7 (x0 x1 x2 x3 x4 : Blk) (x5 : Col) :
    (k0_pay97 (k0_pay159 x0 x1 x2 x3 x4 x5) (k0_pay173 x0 x1 x2 x3 x4 x5) (View.ld x1 r0_7) (View.ld x1 r0_21) : FVec Ideal _ _) = View.ld (gq x0 x1 x2 x3 x4 x5) r0_7 := by
  funext y
  obtain ⟨r, d, rfl⟩ : ∃ (r : Fin 256) (d : Fin 128), y = ix2 r d := ⟨y 0, y 1, eq_ix2 y⟩
  pointwise [k0_pay97]
  unfold gq
  show _ = ∑ j : Fin 2048, dscore x0 x1 x2 x3 x4 x5 ⟨1792 + r, by omega⟩ j * x1 (ix2 j d)
  rw [sum_two 1792 (by omega) (fun j => dscore x0 x1 x2 x3 x4 x5 ⟨1792 + r, by omega⟩ j * x1 (ix2 j d))
    (fun j hj => by rw [dscore_above _ _ _ _ _ _ (Fin.mk_lt_of_lt_val (by omega)), zero_mul])]
  simp only [dscore_diag_7, dscore_rest_7]

theorem piece6_6 (x0 x1 x2 x3 x4 : Blk) (x5 : Col) :
    (k0_pay96 (k0_pay156 x0 x1 x2 x3 x4 x5) (k0_pay171 x0 x1 x2 x3 x4 x5) (View.ld x1 r0_6) (View.ld x1 r0_20) : FVec Ideal _ _) = View.ld (gq x0 x1 x2 x3 x4 x5) r0_6 := by
  funext y
  obtain ⟨r, d, rfl⟩ : ∃ (r : Fin 256) (d : Fin 128), y = ix2 r d := ⟨y 0, y 1, eq_ix2 y⟩
  pointwise [k0_pay96]
  unfold gq
  show _ = ∑ j : Fin 2048, dscore x0 x1 x2 x3 x4 x5 ⟨1536 + r, by omega⟩ j * x1 (ix2 j d)
  rw [sum_two 1536 (by omega) (fun j => dscore x0 x1 x2 x3 x4 x5 ⟨1536 + r, by omega⟩ j * x1 (ix2 j d))
    (fun j hj => by rw [dscore_above _ _ _ _ _ _ (Fin.mk_lt_of_lt_val (by omega)), zero_mul])]
  simp only [dscore_diag_6, dscore_rest_6]

theorem piece6_5 (x0 x1 x2 x3 x4 : Blk) (x5 : Col) :
    (k0_pay95 (k0_pay155 x0 x1 x2 x3 x4 x5) (k0_pay169 x0 x1 x2 x3 x4 x5) (View.ld x1 r0_5) (View.ld x1 r0_19) : FVec Ideal _ _) = View.ld (gq x0 x1 x2 x3 x4 x5) r0_5 := by
  funext y
  obtain ⟨r, d, rfl⟩ : ∃ (r : Fin 256) (d : Fin 128), y = ix2 r d := ⟨y 0, y 1, eq_ix2 y⟩
  pointwise [k0_pay95]
  unfold gq
  show _ = ∑ j : Fin 2048, dscore x0 x1 x2 x3 x4 x5 ⟨1280 + r, by omega⟩ j * x1 (ix2 j d)
  rw [sum_two 1280 (by omega) (fun j => dscore x0 x1 x2 x3 x4 x5 ⟨1280 + r, by omega⟩ j * x1 (ix2 j d))
    (fun j hj => by rw [dscore_above _ _ _ _ _ _ (Fin.mk_lt_of_lt_val (by omega)), zero_mul])]
  simp only [dscore_diag_5, dscore_rest_5]

theorem piece6_4 (x0 x1 x2 x3 x4 : Blk) (x5 : Col) :
    (k0_pay94 (k0_pay152 x0 x1 x2 x3 x4 x5) (k0_pay167 x0 x1 x2 x3 x4 x5) (View.ld x1 r0_4) (View.ld x1 r0_18) : FVec Ideal _ _) = View.ld (gq x0 x1 x2 x3 x4 x5) r0_4 := by
  funext y
  obtain ⟨r, d, rfl⟩ : ∃ (r : Fin 256) (d : Fin 128), y = ix2 r d := ⟨y 0, y 1, eq_ix2 y⟩
  pointwise [k0_pay94]
  unfold gq
  show _ = ∑ j : Fin 2048, dscore x0 x1 x2 x3 x4 x5 ⟨1024 + r, by omega⟩ j * x1 (ix2 j d)
  rw [sum_two 1024 (by omega) (fun j => dscore x0 x1 x2 x3 x4 x5 ⟨1024 + r, by omega⟩ j * x1 (ix2 j d))
    (fun j hj => by rw [dscore_above _ _ _ _ _ _ (Fin.mk_lt_of_lt_val (by omega)), zero_mul])]
  simp only [dscore_diag_4, dscore_rest_4]

theorem piece6_3 (x0 x1 x2 x3 x4 : Blk) (x5 : Col) :
    (k0_pay93 (k0_pay151 x0 x1 x2 x3 x4 x5) (k0_pay165 x0 x1 x2 x3 x4 x5) (View.ld x1 r0_3) (View.ld x1 r0_17) : FVec Ideal _ _) = View.ld (gq x0 x1 x2 x3 x4 x5) r0_3 := by
  funext y
  obtain ⟨r, d, rfl⟩ : ∃ (r : Fin 256) (d : Fin 128), y = ix2 r d := ⟨y 0, y 1, eq_ix2 y⟩
  pointwise [k0_pay93]
  unfold gq
  show _ = ∑ j : Fin 2048, dscore x0 x1 x2 x3 x4 x5 ⟨768 + r, by omega⟩ j * x1 (ix2 j d)
  rw [sum_two 768 (by omega) (fun j => dscore x0 x1 x2 x3 x4 x5 ⟨768 + r, by omega⟩ j * x1 (ix2 j d))
    (fun j hj => by rw [dscore_above _ _ _ _ _ _ (Fin.mk_lt_of_lt_val (by omega)), zero_mul])]
  simp only [dscore_diag_3, dscore_rest_3]

theorem piece6_2 (x0 x1 x2 x3 x4 : Blk) (x5 : Col) :
    (k0_pay92 (k0_pay163 x0 x1 x2 x3 x4 x5) (k0_pay91 (k0_pay149 x0 x1 x2 x3 x4 x5) (View.ld x1 r0_2)) (View.ld x1 r0_16) : FVec Ideal _ _) = View.ld (gq x0 x1 x2 x3 x4 x5) r0_2 := by
  funext y
  obtain ⟨r, d, rfl⟩ : ∃ (r : Fin 256) (d : Fin 128), y = ix2 r d := ⟨y 0, y 1, eq_ix2 y⟩
  pointwise [k0_pay92, k0_pay91]
  unfold gq
  show _ = ∑ j : Fin 2048, dscore x0 x1 x2 x3 x4 x5 ⟨512 + r, by omega⟩ j * x1 (ix2 j d)
  rw [sum_two 512 (by omega) (fun j => dscore x0 x1 x2 x3 x4 x5 ⟨512 + r, by omega⟩ j * x1 (ix2 j d))
    (fun j hj => by rw [dscore_above _ _ _ _ _ _ (Fin.mk_lt_of_lt_val (by omega)), zero_mul])]
  simp only [dscore_diag_2, dscore_rest_2]

theorem piece6_1 (x0 x1 x2 x3 x4 : Blk) (x5 : Col) :
    (k0_pay90 (k0_pay148 x0 x1 x2 x3 x4 x5) (k0_pay160 x0 x1 x2 x3 x4 x5) (View.ld x1 r0_1) (View.ld x1 r0_0) : FVec Ideal _ _) = View.ld (gq x0 x1 x2 x3 x4 x5) r0_1 := by
  funext y
  obtain ⟨r, d, rfl⟩ : ∃ (r : Fin 256) (d : Fin 128), y = ix2 r d := ⟨y 0, y 1, eq_ix2 y⟩
  pointwise [k0_pay90]
  unfold gq
  show _ = ∑ j : Fin 2048, dscore x0 x1 x2 x3 x4 x5 ⟨256 + r, by omega⟩ j * x1 (ix2 j d)
  rw [sum_two 256 (by omega) (fun j => dscore x0 x1 x2 x3 x4 x5 ⟨256 + r, by omega⟩ j * x1 (ix2 j d))
    (fun j hj => by rw [dscore_above _ _ _ _ _ _ (Fin.mk_lt_of_lt_val (by omega)), zero_mul])]
  simp only [dscore_diag_1, dscore_rest_1]

theorem piece6_0 (x0 x1 x2 x3 x4 : Blk) (x5 : Col) :
    (k0_pay89 (k0_pay146 x0 x1 x2 x3 x4 x5) (View.ld x1 r0_0) : FVec Ideal _ _) = View.ld (gq x0 x1 x2 x3 x4 x5) r0_0 := by
  funext y
  obtain ⟨r, d, rfl⟩ : ∃ (r : Fin 256) (d : Fin 128), y = ix2 r d := ⟨y 0, y 1, eq_ix2 y⟩
  pointwise [k0_pay89]
  unfold gq
  show _ = ∑ j : Fin 2048, dscore x0 x1 x2 x3 x4 x5 ⟨r, by omega⟩ j * x1 (ix2 j d)
  rw [sum_low (n := 256) (by omega) (fun j => dscore x0 x1 x2 x3 x4 x5 ⟨r, by omega⟩ j * x1 (ix2 j d))
    (fun j hj => by rw [dscore_above _ _ _ _ _ _ (Fin.mk_lt_of_lt_val (by omega)), zero_mul])]
  simp only [dscore_diag_0]

theorem out6_eq (x0 x1 x2 x3 x4 : Blk) (x5 : Col) :
    out0_6 x0 x1 x2 x3 x4 x5 = gq x0 x1 x2 x3 x4 x5 := by
  funext y
  refine View.canon_apply_of_pieces (gq x0 x1 x2 x3 x4 x5) _ ?_ y (cover0_6 _ _ _ _ _ _ _ _ y)
  simp only [List.forall_mem_cons, List.not_mem_nil, false_imp_iff, implies_true, and_true]
  exact ⟨congrFun (piece6_7 x0 x1 x2 x3 x4 x5), congrFun (piece6_6 x0 x1 x2 x3 x4 x5), congrFun (piece6_5 x0 x1 x2 x3 x4 x5), congrFun (piece6_4 x0 x1 x2 x3 x4 x5), congrFun (piece6_3 x0 x1 x2 x3 x4 x5), congrFun (piece6_2 x0 x1 x2 x3 x4 x5), congrFun (piece6_1 x0 x1 x2 x3 x4 x5), congrFun (piece6_0 x0 x1 x2 x3 x4 x5)⟩

end Cert.KernelIdeal.MlaBwd
end
-- ==== Proof.MlaBwd.Stacks.lean ====
module

public import proofs.«01_k».proof.Proof.MlaBwd.Scores

/-!
# Stacks of tiles

The gradients of the keys and of the values are products with a stack of 256 by 256 tiles, the tile on the
diagonal first and then one of each row group below it: a stack is the matrix it was cut from.
-/

@[expose] public section
noncomputable section
namespace Cert.KernelIdeal.MlaBwd
open Cert.KernelIdeal Cert.KernelIdeal.Gen Idealize.ShloMosaic Idealize.SL.Sem

/-- A stack of tiles read at an index. -/
theorem stack_apply {t : Shape} {N n : ℕ} (ht : t = ⟨2, ![n, 256]⟩) (hn : n = 256 * N)
    (f : Fin N → (S256x256.Idx → EReal))
    (h : Shape.Concatenates ((List.ofFn fun k : Fin N => (⟨S256x256, f k⟩ : (s : Shape) × (s.Idx → EReal))).map (·.1)) t
      (Fin.cast (by rw [ht]) (0 : Fin 2)))
    (x : Fin n) (r : Fin 256) (G : Fin n → EReal)
    (hG : ∀ (k : Fin N) (i : Fin 256), f k (ix2 i r) = G ⟨256 * k + i, by omega⟩) :
    concatenate t (Fin.cast (by rw [ht]) (0 : Fin 2))
      (List.ofFn fun k : Fin N => (⟨S256x256, f k⟩ : (s : Shape) × (s.Idx → EReal))) h
      (ht ▸ (ix2 x r : (⟨2, ![n, 256]⟩ : Shape).Idx)) = G x := by
  subst ht
  have hk : x.val / 256 < N := by omega
  rw [concatenate_ofFn_apply (s₁ := S256x256) _ f h rfl 256 rfl _ ⟨x.val / 256, hk⟩ rfl
    (ix2 ⟨x.val % 256, by omega⟩ r) rfl ?_, hG]
  · congr 1; ext; simp only []; omega
  · intro b hb
    match b with
    | ⟨0, _⟩ => exact absurd rfl hb
    | ⟨1, _⟩ => rfl

theorem stack2 (f0 f1 : FVec Ideal S256x256 .bf16) (h) (x : Fin 512) (r : Fin 256) (G : Fin 512 → EReal)
    (hG : ∀ (k : Fin 2) (i : Fin 256),
      (![f0, f1] : Fin 2 → FVec Ideal S256x256 .bf16) k (ix2 i r) = G ⟨256 * k + i, by omega⟩) :
    concatenate S512x256 0 [⟨S256x256, f0⟩, ⟨S256x256, f1⟩] h (ix2 x r) = G x :=
  stack_apply rfl rfl ![f0, f1] h x r G hG

theorem stack3 (f0 f1 f2 : FVec Ideal S256x256 .bf16) (h) (x : Fin 768) (r : Fin 256) (G : Fin 768 → EReal)
    (hG : ∀ (k : Fin 3) (i : Fin 256),
      (![f0, f1, f2] : Fin 3 → FVec Ideal S256x256 .bf16) k (ix2 i r) = G ⟨256 * k + i, by omega⟩) :
    concatenate S768x256 0 [⟨S256x256, f0⟩, ⟨S256x256, f1⟩, ⟨S256x256, f2⟩] h (ix2 x r) = G x :=
  stack_apply rfl rfl ![f0, f1, f2] h x r G hG

theorem stack4 (f0 f1 f2 f3 : FVec Ideal S256x256 .bf16) (h) (x : Fin 1024) (r : Fin 256) (G : Fin 1024 → EReal)
    (hG : ∀ (k : Fin 4) (i : Fin 256),
      (![f0, f1, f2, f3] : Fin 4 → FVec Ideal S256x256 .bf16) k (ix2 i r) = G ⟨256 * k + i, by omega⟩) :
    concatenate S1024x256 0 [⟨S256x256, f0⟩, ⟨S256x256, f1⟩, ⟨S256x256, f2⟩, ⟨S256x256, f3⟩] h (ix2 x r) = G x :=
  stack_apply rfl rfl ![f0, f1, f2, f3] h x r G hG

theorem stack5 (f0 f1 f2 f3 f4 : FVec Ideal S256x256 .bf16) (h) (x : Fin 1280) (r : Fin 256) (G : Fin 1280 → EReal)
    (hG : ∀ (k : Fin 5) (i : Fin 256),
      (![f0, f1, f2, f3, f4] : Fin 5 → FVec Ideal S256x256 .bf16) k (ix2 i r) = G ⟨256 * k + i, by omega⟩) :
    concatenate S1280x256 0 [⟨S256x256, f0⟩, ⟨S256x256, f1⟩, ⟨S256x256, f2⟩, ⟨S256x256, f3⟩, ⟨S256x256, f4⟩] h (ix2 x r) = G x :=
  stack_apply rfl rfl ![f0, f1, f2, f3, f4] h x r G hG

theorem stack6 (f0 f1 f2 f3 f4 f5 : FVec Ideal S256x256 .bf16) (h) (x : Fin 1536) (r : Fin 256) (G : Fin 1536 → EReal)
    (hG : ∀ (k : Fin 6) (i : Fin 256),
      (![f0, f1, f2, f3, f4, f5] : Fin 6 → FVec Ideal S256x256 .bf16) k (ix2 i r) = G ⟨256 * k + i, by omega⟩) :
    concatenate S1536x256 0 [⟨S256x256, f0⟩, ⟨S256x256, f1⟩, ⟨S256x256, f2⟩, ⟨S256x256, f3⟩, ⟨S256x256, f4⟩, ⟨S256x256, f5⟩] h (ix2 x r) = G x :=
  stack_apply rfl rfl ![f0, f1, f2, f3, f4, f5] h x r G hG

theorem stack7 (f0 f1 f2 f3 f4 f5 f6 : FVec Ideal S256x256 .bf16) (h) (x : Fin 1792) (r : Fin 256) (G : Fin 1792 → EReal)
    (hG : ∀ (k : Fin 7) (i : Fin 256),
      (![f0, f1, f2, f3, f4, f5, f6] : Fin 7 → FVec Ideal S256x256 .bf16) k (ix2 i r) = G ⟨256 * k + i, by omega⟩) :
    concatenate S1792x256 0 [⟨S256x256, f0⟩, ⟨S256x256, f1⟩, ⟨S256x256, f2⟩, ⟨S256x256, f3⟩, ⟨S256x256, f4⟩, ⟨S256x256, f5⟩, ⟨S256x256, f6⟩] h (ix2 x r) = G x :=
  stack_apply rfl rfl ![f0, f1, f2, f3, f4, f5, f6] h x r G hG

theorem stack8 (f0 f1 f2 f3 f4 f5 f6 f7 : FVec Ideal S256x256 .bf16) (h) (x : Fin 2048) (r : Fin 256) (G : Fin 2048 → EReal)
    (hG : ∀ (k : Fin 8) (i : Fin 256),
      (![f0, f1, f2, f3, f4, f5, f6, f7] : Fin 8 → FVec Ideal S256x256 .bf16) k (ix2 i r) = G ⟨256 * k + i, by omega⟩) :
    concatenate S2048x256 0 [⟨S256x256, f0⟩, ⟨S256x256, f1⟩, ⟨S256x256, f2⟩, ⟨S256x256, f3⟩, ⟨S256x256, f4⟩, ⟨S256x256, f5⟩, ⟨S256x256, f6⟩, ⟨S256x256, f7⟩] h (ix2 x r) = G x :=
  stack_apply rfl rfl ![f0, f1, f2, f3, f4, f5, f6, f7] h x r G hG

theorem stacked7_0 (f0 f1 f2 f3 f4 f5 f6 f7) (x : Blk) (r : Fin 256) (d : Fin 128) (G : Fin 2048 → EReal)
    (h0 : ∀ t : Fin 256, f0 (ix2 t r) = G ⟨t, by omega⟩)
    (h1 : ∀ t : Fin 256, f1 (ix2 t ⟨r, by omega⟩) = G ⟨256 + t, by omega⟩)
    (h2 : ∀ t : Fin 256, f2 (ix2 t ⟨r, by omega⟩) = G ⟨512 + t, by omega⟩)
    (h3 : ∀ t : Fin 256, f3 (ix2 t ⟨r, by omega⟩) = G ⟨768 + t, by omega⟩)
    (h4 : ∀ t : Fin 256, f4 (ix2 t ⟨r, by omega⟩) = G ⟨1024 + t, by omega⟩)
    (h5 : ∀ t : Fin 256, f5 (ix2 t ⟨r, by omega⟩) = G ⟨1280 + t, by omega⟩)
    (h6 : ∀ t : Fin 256, f6 (ix2 t ⟨r, by omega⟩) = G ⟨1536 + t, by omega⟩)
    (h7 : ∀ t : Fin 256, f7 (ix2 t ⟨r, by omega⟩) = G ⟨1792 + t, by omega⟩) :
    (k0_pay99 f0 f1 f2 f3 f4 f5 f6 f7 (View.ld x r0_22) : FVec Ideal _ _) (ix2 r d)
      = ∑ j : Fin 2048, G j * x (ix2 j d) := by
  unfold k0_pay99
  generalize hC : concatenate S2048x256 _ _ _ = C
  pointwise []
  refine Finset.sum_congr rfl fun y _ => Ideal.mul_congr ?_ rfl
  rw [← hC]
  refine stack8 _ _ _ _ _ _ _ _ _ y r (fun y => G ⟨y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))
  | 6 => pointwise []; exact (h6 i).trans (congrArg G (Fin.ext (by simp; try omega)))
  | 7 => pointwise []; exact (h7 i).trans (congrArg G (Fin.ext (by simp; try omega)))

theorem stacked7_1 (f0 f1 f2 f3 f4 f5 f6) (x : Blk) (r : Fin 256) (d : Fin 128) (G : Fin 2048 → EReal)
    (hz : ∀ j : Fin 2048, j.val < 256 → G j = 0)
    (h0 : ∀ t : Fin 256, f0 (ix2 t r) = G ⟨256 + t, by omega⟩)
    (h1 : ∀ t : Fin 256, f1 (ix2 t ⟨256 + r, by omega⟩) = G ⟨512 + t, by omega⟩)
    (h2 : ∀ t : Fin 256, f2 (ix2 t ⟨256 + r, by omega⟩) = G ⟨768 + t, by omega⟩)
    (h3 : ∀ t : Fin 256, f3 (ix2 t ⟨256 + r, by omega⟩) = G ⟨1024 + t, by omega⟩)
    (h4 : ∀ t : Fin 256, f4 (ix2 t ⟨256 + r, by omega⟩) = G ⟨1280 + t, by omega⟩)
    (h5 : ∀ t : Fin 256, f5 (ix2 t ⟨256 + r, by omega⟩) = G ⟨1536 + t, by omega⟩)
    (h6 : ∀ t : Fin 256, f6 (ix2 t ⟨256 + r, by omega⟩) = G ⟨1792 + t, by omega⟩) :
    (k0_pay101 f0 f1 f2 f3 f4 f5 f6 (View.ld x r0_23) : FVec Ideal _ _) (ix2 r d)
      = ∑ j : Fin 2048, G j * x (ix2 j d) := by
  unfold k0_pay101
  generalize hC : concatenate S1792x256 _ _ _ = C
  pointwise []
  rw [sum_high 256 1792 (by omega) (fun j => G j * x (ix2 j d)) (fun j hj => by rw [hz j hj, zero_mul])]
  refine Finset.sum_congr rfl fun y _ => Ideal.mul_congr ?_ rfl
  rw [← hC]
  refine stack7 _ _ _ _ _ _ _ _ y r (fun y => G ⟨256 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))
  | 6 => pointwise []; exact (h6 i).trans (congrArg G (Fin.ext (by simp; try omega)))

theorem stacked7_2 (f0 f1 f2 f3 f4 f5) (x : Blk) (r : Fin 256) (d : Fin 128) (G : Fin 2048 → EReal)
    (hz : ∀ j : Fin 2048, j.val < 512 → G j = 0)
    (h0 : ∀ t : Fin 256, f0 (ix2 t r) = G ⟨512 + t, by omega⟩)
    (h1 : ∀ t : Fin 256, f1 (ix2 t ⟨512 + r, by omega⟩) = G ⟨768 + t, by omega⟩)
    (h2 : ∀ t : Fin 256, f2 (ix2 t ⟨512 + r, by omega⟩) = G ⟨1024 + t, by omega⟩)
    (h3 : ∀ t : Fin 256, f3 (ix2 t ⟨512 + r, by omega⟩) = G ⟨1280 + t, by omega⟩)
    (h4 : ∀ t : Fin 256, f4 (ix2 t ⟨512 + r, by omega⟩) = G ⟨1536 + t, by omega⟩)
    (h5 : ∀ t : Fin 256, f5 (ix2 t ⟨512 + r, by omega⟩) = G ⟨1792 + t, by omega⟩) :
    (k0_pay104 f0 f1 f2 f3 f4 f5 (View.ld x r0_24) : FVec Ideal _ _) (ix2 r d)
      = ∑ j : Fin 2048, G j * x (ix2 j d) := by
  unfold k0_pay104
  generalize hC : concatenate S1536x256 _ _ _ = C
  pointwise []
  rw [sum_high 512 1536 (by omega) (fun j => G j * x (ix2 j d)) (fun j hj => by rw [hz j hj, zero_mul])]
  refine Finset.sum_congr rfl fun y _ => Ideal.mul_congr ?_ rfl
  rw [← hC]
  refine stack6 _ _ _ _ _ _ _ y r (fun y => G ⟨512 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))

theorem stacked7_3 (f0 f1 f2 f3 f4) (x : Blk) (r : Fin 256) (d : Fin 128) (G : Fin 2048 → EReal)
    (hz : ∀ j : Fin 2048, j.val < 768 → G j = 0)
    (h0 : ∀ t : Fin 256, f0 (ix2 t r) = G ⟨768 + t, by omega⟩)
    (h1 : ∀ t : Fin 256, f1 (ix2 t ⟨768 + r, by omega⟩) = G ⟨1024 + t, by omega⟩)
    (h2 : ∀ t : Fin 256, f2 (ix2 t ⟨768 + r, by omega⟩) = G ⟨1280 + t, by omega⟩)
    (h3 : ∀ t : Fin 256, f3 (ix2 t ⟨768 + r, by omega⟩) = G ⟨1536 + t, by omega⟩)
    (h4 : ∀ t : Fin 256, f4 (ix2 t ⟨768 + r, by omega⟩) = G ⟨1792 + t, by omega⟩) :
    (k0_pay106 f0 f1 f2 f3 f4 (View.ld x r0_25) : FVec Ideal _ _) (ix2 r d)
      = ∑ j : Fin 2048, G j * x (ix2 j d) := by
  unfold k0_pay106
  generalize hC : concatenate S1280x256 _ _ _ = C
  pointwise []
  rw [sum_high 768 1280 (by omega) (fun j => G j * x (ix2 j d)) (fun j hj => by rw [hz j hj, zero_mul])]
  refine Finset.sum_congr rfl fun y _ => Ideal.mul_congr ?_ rfl
  rw [← hC]
  refine stack5 _ _ _ _ _ _ y r (fun y => G ⟨768 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))

theorem stacked7_4 (f0 f1 f2 f3) (x : Blk) (r : Fin 256) (d : Fin 128) (G : Fin 2048 → EReal)
    (hz : ∀ j : Fin 2048, j.val < 1024 → G j = 0)
    (h0 : ∀ t : Fin 256, f0 (ix2 t r) = G ⟨1024 + t, by omega⟩)
    (h1 : ∀ t : Fin 256, f1 (ix2 t ⟨1024 + r, by omega⟩) = G ⟨1280 + t, by omega⟩)
    (h2 : ∀ t : Fin 256, f2 (ix2 t ⟨1024 + r, by omega⟩) = G ⟨1536 + t, by omega⟩)
    (h3 : ∀ t : Fin 256, f3 (ix2 t ⟨1024 + r, by omega⟩) = G ⟨1792 + t, by omega⟩) :
    (k0_pay109 f0 f1 f2 f3 (View.ld x r0_26) : FVec Ideal _ _) (ix2 r d)
      = ∑ j : Fin 2048, G j * x (ix2 j d) := by
  unfold k0_pay109
  generalize hC : concatenate S1024x256 _ _ _ = C
  pointwise []
  rw [sum_high 1024 1024 (by omega) (fun j => G j * x (ix2 j d)) (fun j hj => by rw [hz j hj, zero_mul])]
  refine Finset.sum_congr rfl fun y _ => Ideal.mul_congr ?_ rfl
  rw [← hC]
  refine stack4 _ _ _ _ _ y r (fun y => G ⟨1024 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))

theorem stacked7_5 (f0 f1 f2) (x : Blk) (r : Fin 256) (d : Fin 128) (G : Fin 2048 → EReal)
    (hz : ∀ j : Fin 2048, j.val < 1280 → G j = 0)
    (h0 : ∀ t : Fin 256, f0 (ix2 t r) = G ⟨1280 + t, by omega⟩)
    (h1 : ∀ t : Fin 256, f1 (ix2 t ⟨1280 + r, by omega⟩) = G ⟨1536 + t, by omega⟩)
    (h2 : ∀ t : Fin 256, f2 (ix2 t ⟨1280 + r, by omega⟩) = G ⟨1792 + t, by omega⟩) :
    (k0_pay111 f0 f1 f2 (View.ld x r0_27) : FVec Ideal _ _) (ix2 r d)
      = ∑ j : Fin 2048, G j * x (ix2 j d) := by
  unfold k0_pay111
  generalize hC : concatenate S768x256 _ _ _ = C
  pointwise []
  rw [sum_high 1280 768 (by omega) (fun j => G j * x (ix2 j d)) (fun j hj => by rw [hz j hj, zero_mul])]
  refine Finset.sum_congr rfl fun y _ => Ideal.mul_congr ?_ rfl
  rw [← hC]
  refine stack3 _ _ _ _ y r (fun y => G ⟨1280 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))

theorem stacked7_6 (f0 f1) (x : Blk) (r : Fin 256) (d : Fin 128) (G : Fin 2048 → EReal)
    (hz : ∀ j : Fin 2048, j.val < 1536 → G j = 0)
    (h0 : ∀ t : Fin 256, f0 (ix2 t r) = G ⟨1536 + t, by omega⟩)
    (h1 : ∀ t : Fin 256, f1 (ix2 t ⟨1536 + r, by omega⟩) = G ⟨1792 + t, by omega⟩) :
    (k0_pay113 f0 f1 (View.ld x r0_28) : FVec Ideal _ _) (ix2 r d)
      = ∑ j : Fin 2048, G j * x (ix2 j d) := by
  unfold k0_pay113
  generalize hC : concatenate S512x256 _ _ _ = C
  pointwise []
  rw [sum_high 1536 512 (by omega) (fun j => G j * x (ix2 j d)) (fun j hj => by rw [hz j hj, zero_mul])]
  refine Finset.sum_congr rfl fun y _ => Ideal.mul_congr ?_ rfl
  rw [← hC]
  refine stack2 _ _ _ y r (fun y => G ⟨1536 + y, by omega⟩) fun k i => ?_
  match k with
  | 0 => exact (h0 i).trans (congrArg G (Fin.ext (by simp)))
  | 1 => pointwise []; exact (h1 i).trans (congrArg G (Fin.ext (by simp; try omega)))

theorem stacked8_0 (f0 f1 f2 f3 f4 f5 f6 f7) (x : Blk) (r : Fin 256) (d : Fin 128) (G : Fin 2048 → EReal)
    (h0 : ∀ t : Fin 256, f0 (ix2 t r) = G ⟨t, by omega⟩)
    (h1 : ∀ t : Fin 256, f1 (ix2 t ⟨r, by omega⟩) = G ⟨256 + t, by omega⟩)
    (h2 : ∀ t : Fin 256, f2 (ix2 t ⟨r, by omega⟩) = G ⟨512 + t, by omega⟩)
    (h3 : ∀ t : Fin 256, f3 (ix2 t ⟨r, by omega⟩) = G ⟨768 + t, by omega⟩)
    (h4 : ∀ t : Fin 256, f4 (ix2 t ⟨r, by omega⟩) = G ⟨1024 + t, by omega⟩)
    (h5 : ∀ t : Fin 256, f5 (ix2 t ⟨r, by omega⟩) = G ⟨1280 + t, by omega⟩)
    (h6 : ∀ t : Fin 256, f6 (ix2 t ⟨r, by omega⟩) = G ⟨1536 + t, by omega⟩)
    (h7 : ∀ t : Fin 256, f7 (ix2 t ⟨r, by omega⟩) = G ⟨1792 + t, by omega⟩) :
    (k0_pay100 (k0_pay98 f0 f1 f2 f3 f4 f5 f6 f7) (View.ld x r0_22) : FVec Ideal _ _) (ix2 r d)
      = ∑ j : Fin 2048, G j * x (ix2 j d) := by
  unfold k0_pay100 k0_pay98
  dsimp only
  generalize hC : concatenate S2048x256 _ _ _ = C
  pointwise []
  refine Finset.sum_congr rfl fun y _ => Ideal.mul_congr ?_ rfl
  rw [← hC]
  refine stack8 _ _ _ _ _ _ _ _ _ y r (fun y => G ⟨y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))
  | 6 => pointwise []; exact (h6 i).trans (congrArg G (Fin.ext (by simp; try omega)))
  | 7 => pointwise []; exact (h7 i).trans (congrArg G (Fin.ext (by simp; try omega)))

theorem stacked8_1 (f0 f1 f2 f3 f4 f5 f6) (x : Blk) (r : Fin 256) (d : Fin 128) (G : Fin 2048 → EReal)
    (hz : ∀ j : Fin 2048, j.val < 256 → G j = 0)
    (h0 : ∀ t : Fin 256, f0 (ix2 t r) = G ⟨256 + t, by omega⟩)
    (h1 : ∀ t : Fin 256, f1 (ix2 t ⟨256 + r, by omega⟩) = G ⟨512 + t, by omega⟩)
    (h2 : ∀ t : Fin 256, f2 (ix2 t ⟨256 + r, by omega⟩) = G ⟨768 + t, by omega⟩)
    (h3 : ∀ t : Fin 256, f3 (ix2 t ⟨256 + r, by omega⟩) = G ⟨1024 + t, by omega⟩)
    (h4 : ∀ t : Fin 256, f4 (ix2 t ⟨256 + r, by omega⟩) = G ⟨1280 + t, by omega⟩)
    (h5 : ∀ t : Fin 256, f5 (ix2 t ⟨256 + r, by omega⟩) = G ⟨1536 + t, by omega⟩)
    (h6 : ∀ t : Fin 256, f6 (ix2 t ⟨256 + r, by omega⟩) = G ⟨1792 + t, by omega⟩) :
    (k0_pay102 f0 f1 f2 f3 f4 f5 f6 (View.ld x r0_23) : FVec Ideal _ _) (ix2 r d)
      = ∑ j : Fin 2048, G j * x (ix2 j d) := by
  unfold k0_pay102
  generalize hC : concatenate S1792x256 _ _ _ = C
  pointwise []
  rw [sum_high 256 1792 (by omega) (fun j => G j * x (ix2 j d)) (fun j hj => by rw [hz j hj, zero_mul])]
  refine Finset.sum_congr rfl fun y _ => Ideal.mul_congr ?_ rfl
  rw [← hC]
  refine stack7 _ _ _ _ _ _ _ _ y r (fun y => G ⟨256 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))
  | 6 => pointwise []; exact (h6 i).trans (congrArg G (Fin.ext (by simp; try omega)))

theorem stacked8_2 (f0 f1 f2 f3 f4 f5) (x : Blk) (r : Fin 256) (d : Fin 128) (G : Fin 2048 → EReal)
    (hz : ∀ j : Fin 2048, j.val < 512 → G j = 0)
    (h0 : ∀ t : Fin 256, f0 (ix2 t r) = G ⟨512 + t, by omega⟩)
    (h1 : ∀ t : Fin 256, f1 (ix2 t ⟨512 + r, by omega⟩) = G ⟨768 + t, by omega⟩)
    (h2 : ∀ t : Fin 256, f2 (ix2 t ⟨512 + r, by omega⟩) = G ⟨1024 + t, by omega⟩)
    (h3 : ∀ t : Fin 256, f3 (ix2 t ⟨512 + r, by omega⟩) = G ⟨1280 + t, by omega⟩)
    (h4 : ∀ t : Fin 256, f4 (ix2 t ⟨512 + r, by omega⟩) = G ⟨1536 + t, by omega⟩)
    (h5 : ∀ t : Fin 256, f5 (ix2 t ⟨512 + r, by omega⟩) = G ⟨1792 + t, by omega⟩) :
    (k0_pay105 (k0_pay103 f0 f1 f2 f3 f4 f5) (View.ld x r0_24) : FVec Ideal _ _) (ix2 r d)
      = ∑ j : Fin 2048, G j * x (ix2 j d) := by
  unfold k0_pay105 k0_pay103
  dsimp only
  generalize hC : concatenate S1536x256 _ _ _ = C
  pointwise []
  rw [sum_high 512 1536 (by omega) (fun j => G j * x (ix2 j d)) (fun j hj => by rw [hz j hj, zero_mul])]
  refine Finset.sum_congr rfl fun y _ => Ideal.mul_congr ?_ rfl
  rw [← hC]
  refine stack6 _ _ _ _ _ _ _ y r (fun y => G ⟨512 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))
  | 5 => pointwise []; exact (h5 i).trans (congrArg G (Fin.ext (by simp; try omega)))

theorem stacked8_3 (f0 f1 f2 f3 f4) (x : Blk) (r : Fin 256) (d : Fin 128) (G : Fin 2048 → EReal)
    (hz : ∀ j : Fin 2048, j.val < 768 → G j = 0)
    (h0 : ∀ t : Fin 256, f0 (ix2 t r) = G ⟨768 + t, by omega⟩)
    (h1 : ∀ t : Fin 256, f1 (ix2 t ⟨768 + r, by omega⟩) = G ⟨1024 + t, by omega⟩)
    (h2 : ∀ t : Fin 256, f2 (ix2 t ⟨768 + r, by omega⟩) = G ⟨1280 + t, by omega⟩)
    (h3 : ∀ t : Fin 256, f3 (ix2 t ⟨768 + r, by omega⟩) = G ⟨1536 + t, by omega⟩)
    (h4 : ∀ t : Fin 256, f4 (ix2 t ⟨768 + r, by omega⟩) = G ⟨1792 + t, by omega⟩) :
    (k0_pay107 f0 f1 f2 f3 f4 (View.ld x r0_25) : FVec Ideal _ _) (ix2 r d)
      = ∑ j : Fin 2048, G j * x (ix2 j d) := by
  unfold k0_pay107
  generalize hC : concatenate S1280x256 _ _ _ = C
  pointwise []
  rw [sum_high 768 1280 (by omega) (fun j => G j * x (ix2 j d)) (fun j hj => by rw [hz j hj, zero_mul])]
  refine Finset.sum_congr rfl fun y _ => Ideal.mul_congr ?_ rfl
  rw [← hC]
  refine stack5 _ _ _ _ _ _ y r (fun y => G ⟨768 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))
  | 4 => pointwise []; exact (h4 i).trans (congrArg G (Fin.ext (by simp; try omega)))

theorem stacked8_4 (f0 f1 f2 f3) (x : Blk) (r : Fin 256) (d : Fin 128) (G : Fin 2048 → EReal)
    (hz : ∀ j : Fin 2048, j.val < 1024 → G j = 0)
    (h0 : ∀ t : Fin 256, f0 (ix2 t r) = G ⟨1024 + t, by omega⟩)
    (h1 : ∀ t : Fin 256, f1 (ix2 t ⟨1024 + r, by omega⟩) = G ⟨1280 + t, by omega⟩)
    (h2 : ∀ t : Fin 256, f2 (ix2 t ⟨1024 + r, by omega⟩) = G ⟨1536 + t, by omega⟩)
    (h3 : ∀ t : Fin 256, f3 (ix2 t ⟨1024 + r, by omega⟩) = G ⟨1792 + t, by omega⟩) :
    (k0_pay110 (k0_pay108 f0 f1 f2 f3) (View.ld x r0_26) : FVec Ideal _ _) (ix2 r d)
      = ∑ j : Fin 2048, G j * x (ix2 j d) := by
  unfold k0_pay110 k0_pay108
  dsimp only
  generalize hC : concatenate S1024x256 _ _ _ = C
  pointwise []
  rw [sum_high 1024 1024 (by omega) (fun j => G j * x (ix2 j d)) (fun j hj => by rw [hz j hj, zero_mul])]
  refine Finset.sum_congr rfl fun y _ => Ideal.mul_congr ?_ rfl
  rw [← hC]
  refine stack4 _ _ _ _ _ y r (fun y => G ⟨1024 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))
  | 3 => pointwise []; exact (h3 i).trans (congrArg G (Fin.ext (by simp; try omega)))

theorem stacked8_5 (f0 f1 f2) (x : Blk) (r : Fin 256) (d : Fin 128) (G : Fin 2048 → EReal)
    (hz : ∀ j : Fin 2048, j.val < 1280 → G j = 0)
    (h0 : ∀ t : Fin 256, f0 (ix2 t r) = G ⟨1280 + t, by omega⟩)
    (h1 : ∀ t : Fin 256, f1 (ix2 t ⟨1280 + r, by omega⟩) = G ⟨1536 + t, by omega⟩)
    (h2 : ∀ t : Fin 256, f2 (ix2 t ⟨1280 + r, by omega⟩) = G ⟨1792 + t, by omega⟩) :
    (k0_pay112 f0 f1 f2 (View.ld x r0_27) : FVec Ideal _ _) (ix2 r d)
      = ∑ j : Fin 2048, G j * x (ix2 j d) := by
  unfold k0_pay112
  generalize hC : concatenate S768x256 _ _ _ = C
  pointwise []
  rw [sum_high 1280 768 (by omega) (fun j => G j * x (ix2 j d)) (fun j hj => by rw [hz j hj, zero_mul])]
  refine Finset.sum_congr rfl fun y _ => Ideal.mul_congr ?_ rfl
  rw [← hC]
  refine stack3 _ _ _ _ y r (fun y => G ⟨1280 + y, by omega⟩) fun k i => ?_
  match k with
  | 0 => exact (h0 i).trans (congrArg G (Fin.ext (by simp)))
  | 1 => pointwise []; exact (h1 i).trans (congrArg G (Fin.ext (by simp; try omega)))
  | 2 => pointwise []; exact (h2 i).trans (congrArg G (Fin.ext (by simp; try omega)))

theorem stacked8_6 (f0 f1) (x : Blk) (r : Fin 256) (d : Fin 128) (G : Fin 2048 → EReal)
    (hz : ∀ j : Fin 2048, j.val < 1536 → G j = 0)
    (h0 : ∀ t : Fin 256, f0 (ix2 t r) = G ⟨1536 + t, by omega⟩)
    (h1 : ∀ t : Fin 256, f1 (ix2 t ⟨1536 + r, by omega⟩) = G ⟨1792 + t, by omega⟩) :
    (k0_pay114 f0 f1 (View.ld x r0_28) : FVec Ideal _ _) (ix2 r d)
      = ∑ j : Fin 2048, G j * x (ix2 j d) := by
  unfold k0_pay114
  generalize hC : concatenate S512x256 _ _ _ = C
  pointwise []
  rw [sum_high 1536 512 (by omega) (fun j => G j * x (ix2 j d)) (fun j hj => by rw [hz j hj, zero_mul])]
  refine Finset.sum_congr rfl fun y _ => Ideal.mul_congr ?_ rfl
  rw [← hC]
  refine stack2 _ _ _ y r (fun y => G ⟨1536 + y, by omega⟩) fun k i => ?_
  match k with
  | 0 => exact (h0 i).trans (congrArg G (Fin.ext (by simp)))
  | 1 => pointwise []; exact (h1 i).trans (congrArg G (Fin.ext (by simp; try omega)))

end Cert.KernelIdeal.MlaBwd
end
-- ==== Proof.MlaBwd.Keys.lean ====
module

public import proofs.«01_k».proof.Proof.MlaBwd.Tiles
public import proofs.«01_k».proof.Proof.MlaBwd.Stacks

/-!
# The gradient of the keys, of one head

The eight pieces that the body writes, each on its rows, and the block they make.
-/

@[expose] public section
noncomputable section
namespace Cert.KernelIdeal.MlaBwd
open Cert.KernelIdeal Cert.KernelIdeal.Gen Idealize.ShloMosaic Idealize.SL.Sem

theorem piece7_7 (x0 x1 x2 x3 x4 : Blk) (x5 : Col) :
    (k0_pay1 (k0_pay159 x0 x1 x2 x3 x4 x5) (View.ld x0 r0_7) : FVec Ideal _ _) = View.ld (gk x0 x1 x2 x3 x4 x5) r0_7 := by
  funext y
  obtain ⟨r, d, rfl⟩ : ∃ (r : Fin 256) (d : Fin 128), y = ix2 r d := ⟨y 0, y 1, eq_ix2 y⟩
  pointwise [k0_pay1]
  unfold gk
  show _ = ∑ j : Fin 2048, dscore x0 x1 x2 x3 x4 x5 j ⟨1792 + r, by omega⟩ * x0 (ix2 j d)
  rw [sum_high 1792 256 (by omega) (fun j => dscore x0 x1 x2 x3 x4 x5 j ⟨1792 + r, by omega⟩ * x0 (ix2 j d))
    (fun j hj => by rw [dscore_above _ _ _ _ _ _ (Fin.lt_def.mpr (by simp only []; omega)), zero_mul])]
  refine Finset.sum_congr rfl fun x _ => ?_
  rw [dscore_diag_7]

theorem piece7_6 (x0 x1 x2 x3 x4 : Blk) (x5 : Col) :
    (k0_pay113 (k0_pay156 x0 x1 x2 x3 x4 x5) (k0_pay173 x0 x1 x2 x3 x4 x5) (View.ld x0 r0_28) : FVec Ideal _ _) = View.ld (gk x0 x1 x2 x3 x4 x5) r0_6 := by
  funext y
  obtain ⟨r, d, rfl⟩ : ∃ (r : Fin 256) (d : Fin 128), y = ix2 r d := ⟨y 0, y 1, eq_ix2 y⟩
  refine (stacked7_6 _ _ x0 r d (fun j => dscore x0 x1 x2 x3 x4 x5 j ⟨1536 + r, by omega⟩)
    (fun j hj => dscore_above _ _ _ _ _ _ (Fin.lt_def.mpr (by simp only []; omega)))
    (fun t => dscore_diag_6 x0 x1 x2 x3 x4 x5 t r)
    (fun t => dscore_rest_7 x0 x1 x2 x3 x4 x5 t ⟨1536 + r, by omega⟩)).trans ?_
  pointwise []
  unfold gk
  rfl

theorem piece7_5 (x0 x1 x2 x3 x4 : Blk) (x5 : Col) :
    (k0_pay111 (k0_pay155 x0 x1 x2 x3 x4 x5) (k0_pay171 x0 x1 x2 x3 x4 x5) (k0_pay173 x0 x1 x2 x3 x4 x5) (View.ld x0 r0_27) : FVec Ideal _ _) = View.ld (gk x0 x1 x2 x3 x4 x5) r0_5 := by
  funext y
  obtain ⟨r, d, rfl⟩ : ∃ (r : Fin 256) (d : Fin 128), y = ix2 r d := ⟨y 0, y 1, eq_ix2 y⟩
  refine (stacked7_5 _ _ _ x0 r d (fun j => dscore x0 x1 x2 x3 x4 x5 j ⟨1280 + r, by omega⟩)
    (fun j hj => dscore_above _ _ _ _ _ _ (Fin.lt_def.mpr (by simp only []; omega)))
    (fun t => dscore_diag_5 x0 x1 x2 x3 x4 x5 t r)
    (fun t => dscore_rest_6 x0 x1 x2 x3 x4 x5 t ⟨1280 + r, by omega⟩)
    (fun t => dscore_rest_7 x0 x1 x2 x3 x4 x5 t ⟨1280 + r, by omega⟩)).trans ?_
  pointwise []
  unfold gk
  rfl

theorem piece7_4 (x0 x1 x2 x3 x4 : Blk) (x5 : Col) :
    (k0_pay109 (k0_pay152 x0 x1 x2 x3 x4 x5) (k0_pay169 x0 x1 x2 x3 x4 x5) (k0_pay171 x0 x1 x2 x3 x4 x5) (k0_pay173 x0 x1 x2 x3 x4 x5) (View.ld x0 r0_26) : FVec Ideal _ _) = View.ld (gk x0 x1 x2 x3 x4 x5) r0_4 := by
  funext y
  obtain ⟨r, d, rfl⟩ : ∃ (r : Fin 256) (d : Fin 128), y = ix2 r d := ⟨y 0, y 1, eq_ix2 y⟩
  refine (stacked7_4 _ _ _ _ x0 r d (fun j => dscore x0 x1 x2 x3 x4 x5 j ⟨1024 + r, by omega⟩)
    (fun j hj => dscore_above _ _ _ _ _ _ (Fin.lt_def.mpr (by simp only []; omega)))
    (fun t => dscore_diag_4 x0 x1 x2 x3 x4 x5 t r)
    (fun t => dscore_rest_5 x0 x1 x2 x3 x4 x5 t ⟨1024 + r, by omega⟩)
    (fun t => dscore_rest_6 x0 x1 x2 x3 x4 x5 t ⟨1024 + r, by omega⟩)
    (fun t => dscore_rest_7 x0 x1 x2 x3 x4 x5 t ⟨1024 + r, by omega⟩)).trans ?_
  pointwise []
  unfold gk
  rfl

theorem piece7_3 (x0 x1 x2 x3 x4 : Blk) (x5 : Col) :
    (k0_pay106 (k0_pay151 x0 x1 x2 x3 x4 x5) (k0_pay167 x0 x1 x2 x3 x4 x5) (k0_pay169 x0 x1 x2 x3 x4 x5) (k0_pay171 x0 x1 x2 x3 x4 x5) (k0_pay173 x0 x1 x2 x3 x4 x5) (View.ld x0 r0_25) : FVec Ideal _ _) = View.ld (gk x0 x1 x2 x3 x4 x5) r0_3 := by
  funext y
  obtain ⟨r, d, rfl⟩ : ∃ (r : Fin 256) (d : Fin 128), y = ix2 r d := ⟨y 0, y 1, eq_ix2 y⟩
  refine (stacked7_3 _ _ _ _ _ x0 r d (fun j => dscore x0 x1 x2 x3 x4 x5 j ⟨768 + r, by omega⟩)
    (fun j hj => dscore_above _ _ _ _ _ _ (Fin.lt_def.mpr (by simp only []; omega)))
    (fun t => dscore_diag_3 x0 x1 x2 x3 x4 x5 t r)
    (fun t => dscore_rest_4 x0 x1 x2 x3 x4 x5 t ⟨768 + r, by omega⟩)
    (fun t => dscore_rest_5 x0 x1 x2 x3 x4 x5 t ⟨768 + r, by omega⟩)
    (fun t => dscore_rest_6 x0 x1 x2 x3 x4 x5 t ⟨768 + r, by omega⟩)
    (fun t => dscore_rest_7 x0 x1 x2 x3 x4 x5 t ⟨768 + r, by omega⟩)).trans ?_
  pointwise []
  unfold gk
  rfl

theorem piece7_2 (x0 x1 x2 x3 x4 : Blk) (x5 : Col) :
    (k0_pay104 (k0_pay149 x0 x1 x2 x3 x4 x5) (k0_pay165 x0 x1 x2 x3 x4 x5) (k0_pay167 x0 x1 x2 x3 x4 x5) (k0_pay169 x0 x1 x2 x3 x4 x5) (k0_pay171 x0 x1 x2 x3 x4 x5) (k0_pay173 x0 x1 x2 x3 x4 x5) (View.ld x0 r0_24) : FVec Ideal _ _) = View.ld (gk x0 x1 x2 x3 x4 x5) r0_2 := by
  funext y
  obtain ⟨r, d, rfl⟩ : ∃ (r : Fin 256) (d : Fin 128), y = ix2 r d := ⟨y 0, y 1, eq_ix2 y⟩
  refine (stacked7_2 _ _ _ _ _ _ x0 r d (fun j => dscore x0 x1 x2 x3 x4 x5 j ⟨512 + r, by omega⟩)
    (fun j hj => dscore_above _ _ _ _ _ _ (Fin.lt_def.mpr (by simp only []; omega)))
    (fun t => dscore_diag_2 x0 x1 x2 x3 x4 x5 t r)
    (fun t => dscore_rest_3 x0 x1 x2 x3 x4 x5 t ⟨512 + r, by omega⟩)
    (fun t => dscore_rest_4 x0 x1 x2 x3 x4 x5 t ⟨512 + r, by omega⟩)
    (fun t => dscore_rest_5 x0 x1 x2 x3 x4 x5 t ⟨512 + r, by omega⟩)
    (fun t => dscore_rest_6 x0 x1 x2 x3 x4 x5 t ⟨512 + r, by omega⟩)
    (fun t => dscore_rest_7 x0 x1 x2 x3 x4 x5 t ⟨512 + r, by omega⟩)).trans ?_
  pointwise []
  unfold gk
  rfl

theorem piece7_1 (x0 x1 x2 x3 x4 : Blk) (x5 : Col) :
    (k0_pay101 (k0_pay148 x0 x1 x2 x3 x4 x5) (k0_pay163 x0 x1 x2 x3 x4 x5) (k0_pay165 x0 x1 x2 x3 x4 x5) (k0_pay167 x0 x1 x2 x3 x4 x5) (k0_pay169 x0 x1 x2 x3 x4 x5) (k0_pay171 x0 x1 x2 x3 x4 x5) (k0_pay173 x0 x1 x2 x3 x4 x5) (View.ld x0 r0_23) : FVec Ideal _ _) = View.ld (gk x0 x1 x2 x3 x4 x5) r0_1 := by
  funext y
  obtain ⟨r, d, rfl⟩ : ∃ (r : Fin 256) (d : Fin 128), y = ix2 r d := ⟨y 0, y 1, eq_ix2 y⟩
  refine (stacked7_1 _ _ _ _ _ _ _ x0 r d (fun j => dscore x0 x1 x2 x3 x4 x5 j ⟨256 + r, by omega⟩)
    (fun j hj => dscore_above _ _ _ _ _ _ (Fin.lt_def.mpr (by simp only []; omega)))
    (fun t => dscore_diag_1 x0 x1 x2 x3 x4 x5 t r)
    (fun t => dscore_rest_2 x0 x1 x2 x3 x4 x5 t ⟨256 + r, by omega⟩)
    (fun t => dscore_rest_3 x0 x1 x2 x3 x4 x5 t ⟨256 + r, by omega⟩)
    (fun t => dscore_rest_4 x0 x1 x2 x3 x4 x5 t ⟨256 + r, by omega⟩)
    (fun t => dscore_rest_5 x0 x1 x2 x3 x4 x5 t ⟨256 + r, by omega⟩)
    (fun t => dscore_rest_6 x0 x1 x2 x3 x4 x5 t ⟨256 + r, by omega⟩)
    (fun t => dscore_rest_7 x0 x1 x2 x3 x4 x5 t ⟨256 + r, by omega⟩)).trans ?_
  pointwise []
  unfold gk
  rfl

theorem piece7_0 (x0 x1 x2 x3 x4 : Blk) (x5 : Col) :
    (k0_pay99 (k0_pay146 x0 x1 x2 x3 x4 x5) (k0_pay160 x0 x1 x2 x3 x4 x5) (k0_pay163 x0 x1 x2 x3 x4 x5) (k0_pay165 x0 x1 x2 x3 x4 x5) (k0_pay167 x0 x1 x2 x3 x4 x5) (k0_pay169 x0 x1 x2 x3 x4 x5) (k0_pay171 x0 x1 x2 x3 x4 x5) (k0_pay173 x0 x1 x2 x3 x4 x5) (View.ld x0 r0_22) : FVec Ideal _ _) = View.ld (gk x0 x1 x2 x3 x4 x5) r0_0 := by
  funext y
  obtain ⟨r, d, rfl⟩ : ∃ (r : Fin 256) (d : Fin 128), y = ix2 r d := ⟨y 0, y 1, eq_ix2 y⟩
  refine (stacked7_0 _ _ _ _ _ _ _ _ x0 r d (fun j => dscore x0 x1 x2 x3 x4 x5 j ⟨r, by omega⟩)
    (fun t => dscore_diag_0 x0 x1 x2 x3 x4 x5 t r)
    (fun t => dscore_rest_1 x0 x1 x2 x3 x4 x5 t ⟨r, by omega⟩)
    (fun t => dscore_rest_2 x0 x1 x2 x3 x4 x5 t ⟨r, by omega⟩)
    (fun t => dscore_rest_3 x0 x1 x2 x3 x4 x5 t ⟨r, by omega⟩)
    (fun t => dscore_rest_4 x0 x1 x2 x3 x4 x5 t ⟨r, by omega⟩)
    (fun t => dscore_rest_5 x0 x1 x2 x3 x4 x5 t ⟨r, by omega⟩)
    (fun t => dscore_rest_6 x0 x1 x2 x3 x4 x5 t ⟨r, by omega⟩)
    (fun t => dscore_rest_7 x0 x1 x2 x3 x4 x5 t ⟨r, by omega⟩)).trans ?_
  pointwise []
  unfold gk
  rfl

theorem out7_eq (x0 x1 x2 x3 x4 : Blk) (x5 : Col) :
    out0_7 x0 x1 x2 x3 x4 x5 = gk x0 x1 x2 x3 x4 x5 := by
  funext y
  refine View.canon_apply_of_pieces (gk x0 x1 x2 x3 x4 x5) _ ?_ y (cover0_7 _ _ _ _ _ _ _ _ y)
  simp only [List.forall_mem_cons, List.not_mem_nil, false_imp_iff, implies_true, and_true]
  exact ⟨congrFun (piece7_7 x0 x1 x2 x3 x4 x5), congrFun (piece7_6 x0 x1 x2 x3 x4 x5), congrFun (piece7_5 x0 x1 x2 x3 x4 x5), congrFun (piece7_4 x0 x1 x2 x3 x4 x5), congrFun (piece7_3 x0 x1 x2 x3 x4 x5), congrFun (piece7_2 x0 x1 x2 x3 x4 x5), congrFun (piece7_1 x0 x1 x2 x3 x4 x5), congrFun (piece7_0 x0 x1 x2 x3 x4 x5)⟩

end Cert.KernelIdeal.MlaBwd
end
-- ==== Proof.MlaBwd.Values.lean ====
module

public import proofs.«01_k».proof.Proof.MlaBwd.Tiles
public import proofs.«01_k».proof.Proof.MlaBwd.Stacks

/-!
# The gradient of the values, of one head

The eight pieces that the body writes, each on its rows, and the block they make.
-/

@[expose] public section
noncomputable section
namespace Cert.KernelIdeal.MlaBwd
open Cert.KernelIdeal Cert.KernelIdeal.Gen Idealize.ShloMosaic Idealize.SL.Sem

theorem piece8_7 (x0 x1 x2 x3 x4 : Blk) (x5 : Col) :
    (k0_pay2 (k0_pay64 (k0_pay138 x0 x1 x2 x3 x4 x5) (k0_pay157 x0 x1 x2 x3 x4 x5) (k0_pay158 x0 x1 x2 x3 x4 x5) (Named.named κ "mask" 0xF149F2CA#32)) (View.ld x4 r0_7) : FVec Ideal _ _) = View.ld (gv x0 x1 x4 x5) r0_7 := by
  funext y
  obtain ⟨r, d, rfl⟩ : ∃ (r : Fin 256) (d : Fin 128), y = ix2 r d := ⟨y 0, y 1, eq_ix2 y⟩
  pointwise [k0_pay2]
  unfold gv
  show _ = ∑ j : Fin 2048, prob x0 x1 x5 j ⟨1792 + r, by omega⟩ * x4 (ix2 j d)
  rw [sum_high 1792 256 (by omega) (fun j => prob x0 x1 x5 j ⟨1792 + r, by omega⟩ * x4 (ix2 j d))
    (fun j hj => by rw [prob_above _ _ _ (Fin.lt_def.mpr (by simp only []; omega)), zero_mul])]
  refine Finset.sum_congr rfl fun x _ => ?_
  rw [prob_diag_7]

theorem piece8_6 (x0 x1 x2 x3 x4 : Blk) (x5 : Col) :
    (k0_pay114 (k0_pay59 (k0_pay121 x0 x1 x2 x3 x4 x5) (k0_pay137 x0 x1 x2 x3 x4 x5) (View.ld x1 r0_6)) (k0_pay172 x0 x1 x2 x3 x4 x5) (View.ld x4 r0_28) : FVec Ideal _ _) = View.ld (gv x0 x1 x4 x5) r0_6 := by
  funext y
  obtain ⟨r, d, rfl⟩ : ∃ (r : Fin 256) (d : Fin 128), y = ix2 r d := ⟨y 0, y 1, eq_ix2 y⟩
  refine (stacked8_6 _ _ x4 r d (fun j => prob x0 x1 x5 j ⟨1536 + r, by omega⟩)
    (fun j hj => prob_above _ _ _ (Fin.lt_def.mpr (by simp only []; omega)))
    (fun t => prob_diag_6 x0 x1 x2 x3 x4 x5 t r)
    (fun t => prob_rest_7 x0 x1 x2 x3 x4 x5 t ⟨1536 + r, by omega⟩)).trans ?_
  pointwise []
  unfold gv
  rfl

theorem piece8_5 (x0 x1 x2 x3 x4 : Blk) (x5 : Col) :
    (k0_pay112 (k0_pay56 (k0_pay136 x0 x1 x2 x3 x4 x5) (k0_pay153 x0 x1 x2 x3 x4 x5) (k0_pay154 x0 x1 x2 x3 x4 x5)) (k0_pay170 x0 x1 x2 x3 x4 x5) (k0_pay172 x0 x1 x2 x3 x4 x5) (View.ld x4 r0_27) : FVec Ideal _ _) = View.ld (gv x0 x1 x4 x5) r0_5 := by
  funext y
  obtain ⟨r, d, rfl⟩ : ∃ (r : Fin 256) (d : Fin 128), y = ix2 r d := ⟨y 0, y 1, eq_ix2 y⟩
  refine (stacked8_5 _ _ _ x4 r d (fun j => prob x0 x1 x5 j ⟨1280 + r, by omega⟩)
    (fun j hj => prob_above _ _ _ (Fin.lt_def.mpr (by simp only []; omega)))
    (fun t => prob_diag_5 x0 x1 x2 x3 x4 x5 t r)
    (fun t => prob_rest_6 x0 x1 x2 x3 x4 x5 t ⟨1280 + r, by omega⟩)
    (fun t => prob_rest_7 x0 x1 x2 x3 x4 x5 t ⟨1280 + r, by omega⟩)).trans ?_
  pointwise []
  unfold gv
  rfl

theorem piece8_4 (x0 x1 x2 x3 x4 : Blk) (x5 : Col) :
    (k0_pay110 (k0_pay108 (k0_pay51 (k0_pay119 x0 x1 x2 x3 x4 x5) (k0_pay135 x0 x1 x2 x3 x4 x5) (View.ld x1 r0_4)) (k0_pay168 x0 x1 x2 x3 x4 x5) (k0_pay170 x0 x1 x2 x3 x4 x5) (k0_pay172 x0 x1 x2 x3 x4 x5)) (View.ld x4 r0_26) : FVec Ideal _ _) = View.ld (gv x0 x1 x4 x5) r0_4 := by
  funext y
  obtain ⟨r, d, rfl⟩ : ∃ (r : Fin 256) (d : Fin 128), y = ix2 r d := ⟨y 0, y 1, eq_ix2 y⟩
  refine (stacked8_4 _ _ _ _ x4 r d (fun j => prob x0 x1 x5 j ⟨1024 + r, by omega⟩)
    (fun j hj => prob_above _ _ _ (Fin.lt_def.mpr (by simp only []; omega)))
    (fun t => prob_diag_4 x0 x1 x2 x3 x4 x5 t r)
    (fun t => prob_rest_5 x0 x1 x2 x3 x4 x5 t ⟨1024 + r, by omega⟩)
    (fun t => prob_rest_6 x0 x1 x2 x3 x4 x5 t ⟨1024 + r, by omega⟩)
    (fun t => prob_rest_7 x0 x1 x2 x3 x4 x5 t ⟨1024 + r, by omega⟩)).trans ?_
  pointwise []
  unfold gv
  rfl

theorem piece8_3 (x0 x1 x2 x3 x4 : Blk) (x5 : Col) :
    (k0_pay107 (k0_pay48 (k0_pay150 x0 x1 x2 x3 x4 x5)) (k0_pay166 x0 x1 x2 x3 x4 x5) (k0_pay168 x0 x1 x2 x3 x4 x5) (k0_pay170 x0 x1 x2 x3 x4 x5) (k0_pay172 x0 x1 x2 x3 x4 x5) (View.ld x4 r0_25) : FVec Ideal _ _) = View.ld (gv x0 x1 x4 x5) r0_3 := by
  funext y
  obtain ⟨r, d, rfl⟩ : ∃ (r : Fin 256) (d : Fin 128), y = ix2 r d := ⟨y 0, y 1, eq_ix2 y⟩
  refine (stacked8_3 _ _ _ _ _ x4 r d (fun j => prob x0 x1 x5 j ⟨768 + r, by omega⟩)
    (fun j hj => prob_above _ _ _ (Fin.lt_def.mpr (by simp only []; omega)))
    (fun t => prob_diag_3 x0 x1 x2 x3 x4 x5 t r)
    (fun t => prob_rest_4 x0 x1 x2 x3 x4 x5 t ⟨768 + r, by omega⟩)
    (fun t => prob_rest_5 x0 x1 x2 x3 x4 x5 t ⟨768 + r, by omega⟩)
    (fun t => prob_rest_6 x0 x1 x2 x3 x4 x5 t ⟨768 + r, by omega⟩)
    (fun t => prob_rest_7 x0 x1 x2 x3 x4 x5 t ⟨768 + r, by omega⟩)).trans ?_
  pointwise []
  unfold gv
  rfl

theorem piece8_2 (x0 x1 x2 x3 x4 : Blk) (x5 : Col) :
    (k0_pay105 (k0_pay103 (k0_pay45 (k0_pay117 x0 x1 x2 x3 x4 x5) (k0_pay133 x0 x1 x2 x3 x4 x5) (View.ld x1 r0_2)) (k0_pay164 x0 x1 x2 x3 x4 x5) (k0_pay166 x0 x1 x2 x3 x4 x5) (k0_pay168 x0 x1 x2 x3 x4 x5) (k0_pay170 x0 x1 x2 x3 x4 x5) (k0_pay172 x0 x1 x2 x3 x4 x5)) (View.ld x4 r0_24) : FVec Ideal _ _) = View.ld (gv x0 x1 x4 x5) r0_2 := by
  funext y
  obtain ⟨r, d, rfl⟩ : ∃ (r : Fin 256) (d : Fin 128), y = ix2 r d := ⟨y 0, y 1, eq_ix2 y⟩
  refine (stacked8_2 _ _ _ _ _ _ x4 r d (fun j => prob x0 x1 x5 j ⟨512 + r, by omega⟩)
    (fun j hj => prob_above _ _ _ (Fin.lt_def.mpr (by simp only []; omega)))
    (fun t => prob_diag_2 x0 x1 x2 x3 x4 x5 t r)
    (fun t => prob_rest_3 x0 x1 x2 x3 x4 x5 t ⟨512 + r, by omega⟩)
    (fun t => prob_rest_4 x0 x1 x2 x3 x4 x5 t ⟨512 + r, by omega⟩)
    (fun t => prob_rest_5 x0 x1 x2 x3 x4 x5 t ⟨512 + r, by omega⟩)
    (fun t => prob_rest_6 x0 x1 x2 x3 x4 x5 t ⟨512 + r, by omega⟩)
    (fun t => prob_rest_7 x0 x1 x2 x3 x4 x5 t ⟨512 + r, by omega⟩)).trans ?_
  pointwise []
  unfold gv
  rfl

theorem piece8_1 (x0 x1 x2 x3 x4 : Blk) (x5 : Col) :
    (k0_pay102 (k0_pay42 (k0_pay147 x0 x1 x2 x3 x4 x5)) (k0_pay162 x0 x1 x2 x3 x4 x5) (k0_pay164 x0 x1 x2 x3 x4 x5) (k0_pay166 x0 x1 x2 x3 x4 x5) (k0_pay168 x0 x1 x2 x3 x4 x5) (k0_pay170 x0 x1 x2 x3 x4 x5) (k0_pay172 x0 x1 x2 x3 x4 x5) (View.ld x4 r0_23) : FVec Ideal _ _) = View.ld (gv x0 x1 x4 x5) r0_1 := by
  funext y
  obtain ⟨r, d, rfl⟩ : ∃ (r : Fin 256) (d : Fin 128), y = ix2 r d := ⟨y 0, y 1, eq_ix2 y⟩
  refine (stacked8_1 _ _ _ _ _ _ _ x4 r d (fun j => prob x0 x1 x5 j ⟨256 + r, by omega⟩)
    (fun j hj => prob_above _ _ _ (Fin.lt_def.mpr (by simp only []; omega)))
    (fun t => prob_diag_1 x0 x1 x2 x3 x4 x5 t r)
    (fun t => prob_rest_2 x0 x1 x2 x3 x4 x5 t ⟨256 + r, by omega⟩)
    (fun t => prob_rest_3 x0 x1 x2 x3 x4 x5 t ⟨256 + r, by omega⟩)
    (fun t => prob_rest_4 x0 x1 x2 x3 x4 x5 t ⟨256 + r, by omega⟩)
    (fun t => prob_rest_5 x0 x1 x2 x3 x4 x5 t ⟨256 + r, by omega⟩)
    (fun t => prob_rest_6 x0 x1 x2 x3 x4 x5 t ⟨256 + r, by omega⟩)
    (fun t => prob_rest_7 x0 x1 x2 x3 x4 x5 t ⟨256 + r, by omega⟩)).trans ?_
  pointwise []
  unfold gv
  rfl

theorem piece8_0 (x0 x1 x2 x3 x4 : Blk) (x5 : Col) :
    (k0_pay100 (k0_pay98 (k0_pay38 (k0_pay115 x0 x1 x2 x3 x4 x5) (k0_pay131 x0 x1 x2 x3 x4 x5) (View.ld x1 r0_0)) (k0_pay67 (k0_pay116 x0 x1 x2 x3 x4 x5) (k0_pay132 x0 x1 x2 x3 x4 x5) (View.ld x1 r0_0)) (k0_pay162 x0 x1 x2 x3 x4 x5) (k0_pay164 x0 x1 x2 x3 x4 x5) (k0_pay166 x0 x1 x2 x3 x4 x5) (k0_pay168 x0 x1 x2 x3 x4 x5) (k0_pay170 x0 x1 x2 x3 x4 x5) (k0_pay172 x0 x1 x2 x3 x4 x5)) (View.ld x4 r0_22) : FVec Ideal _ _) = View.ld (gv x0 x1 x4 x5) r0_0 := by
  funext y
  obtain ⟨r, d, rfl⟩ : ∃ (r : Fin 256) (d : Fin 128), y = ix2 r d := ⟨y 0, y 1, eq_ix2 y⟩
  refine (stacked8_0 _ _ _ _ _ _ _ _ x4 r d (fun j => prob x0 x1 x5 j ⟨r, by omega⟩)
    (fun t => prob_diag_0 x0 x1 x2 x3 x4 x5 t r)
    (fun t => prob_rest_1 x0 x1 x2 x3 x4 x5 t ⟨r, by omega⟩)
    (fun t => prob_rest_2 x0 x1 x2 x3 x4 x5 t ⟨r, by omega⟩)
    (fun t => prob_rest_3 x0 x1 x2 x3 x4 x5 t ⟨r, by omega⟩)
    (fun t => prob_rest_4 x0 x1 x2 x3 x4 x5 t ⟨r, by omega⟩)
    (fun t => prob_rest_5 x0 x1 x2 x3 x4 x5 t ⟨r, by omega⟩)
    (fun t => prob_rest_6 x0 x1 x2 x3 x4 x5 t ⟨r, by omega⟩)
    (fun t => prob_rest_7 x0 x1 x2 x3 x4 x5 t ⟨r, by omega⟩)).trans ?_
  pointwise []
  unfold gv
  rfl

theorem out8_eq (x0 x1 x2 x3 x4 : Blk) (x5 : Col) :
    out0_8 x0 x1 x2 x3 x4 x5 = gv x0 x1 x4 x5 := by
  funext y
  refine View.canon_apply_of_pieces (gv x0 x1 x4 x5) _ ?_ y (cover0_8 _ _ _ _ _ _ _ _ y)
  simp only [List.forall_mem_cons, List.not_mem_nil, false_imp_iff, implies_true, and_true]
  exact ⟨congrFun (piece8_7 x0 x1 x2 x3 x4 x5), congrFun (piece8_6 x0 x1 x2 x3 x4 x5), congrFun (piece8_5 x0 x1 x2 x3 x4 x5), congrFun (piece8_4 x0 x1 x2 x3 x4 x5), congrFun (piece8_3 x0 x1 x2 x3 x4 x5), congrFun (piece8_2 x0 x1 x2 x3 x4 x5), congrFun (piece8_1 x0 x1 x2 x3 x4 x5), congrFun (piece8_0 x0 x1 x2 x3 x4 x5)⟩

end Cert.KernelIdeal.MlaBwd
end
-- ==== Proof.MlaBwd.Array.lean ====
/- The three result arrays of the call, as functions of its six argument arrays.

   The arrays hold the 2 batch entries one below the other (2048 rows each) and the 8 heads side by side (128 lanes
   each); a grid point takes one batch entry and one head. -/
module

public import proofs.«01_k».proof.Proof.MlaBwd.Queries
public import proofs.«01_k».proof.Proof.MlaBwd.Keys
public import proofs.«01_k».proof.Proof.MlaBwd.Values
public import proofs.«01_k».proof.Proof.Gen.KernelIdeal.Value
public import Idealize.ShloMosaic.Lib.Pipeline.ValueKit

@[expose] public section
noncomputable section
namespace Cert.KernelIdeal.MlaBwd
open Cert.KernelIdeal Cert.KernelIdeal.Gen Idealize.ShloMosaic Idealize.ShloMosaic.TcCoe Idealize.SL.Sem

/-- An array of all batch entries and heads. -/
abbrev Wide (e : EltTy) := Vec Ideal S4096x1024 e

/-- The rows of batch entry `b` and the lanes of head `h`. -/
def head (a : Wide .bf16) (b : Fin 2) (h : Fin 8) : Blk := fun i =>
  a (ix2 ⟨2048 * b.val + (i 0).val, by have := (i 0).isLt; have : (i 0).val < 2048 := this; omega⟩
    ⟨128 * h.val + (i 1).val, by have := (i 1).isLt; have : (i 1).val < 128 := this; omega⟩)

/-- The column of batch entry `b` and head `h`. -/
def headCol (l : Vec Ideal S16x2048x1 .f32) (b : Fin 2) (h : Fin 8) : Col := fun i =>
  l (ix3 ⟨8 * b.val + h.val, by omega⟩ (i 1) (i 2))

/-- The batch entry of an index of an array. -/
def batchOf (i : S4096x1024.Idx) : Fin 2 := ⟨(i 0).val / 2048, by have : (i 0).val < 4096 := (i 0).isLt; omega⟩
/-- The head of an index of an array. -/
def headOf (i : S4096x1024.Idx) : Fin 8 := ⟨(i 1).val / 128, by have : (i 1).val < 1024 := (i 1).isLt; omega⟩
/-- The row and the lane within the batch entry and the head. -/
def within (i : S4096x1024.Idx) : S2048x128.Idx :=
  ix2 ⟨(i 0).val % 2048, Nat.mod_lt _ (by decide)⟩ ⟨(i 1).val % 128, Nat.mod_lt _ (by decide)⟩

variable (m : (ℓ : Loc nD τ sig) → Buf (Elt Ideal) ℓ) (c : Dev nD)

/-- The batch entry of a grid point. -/
def bt (t : Fin cfg0.N) : Fin 2 := ⟨(grid0.coords t 0).val, (grid0.coords t 0).isLt⟩
/-- The head of a grid point. -/
def ht (t : Fin cfg0.N) : Fin 8 := ⟨(grid0.coords t 1).val, (grid0.coords t 1).isLt⟩

theorem index0 : ∀ t : Fin cfg0.N, win0_0.index t = ![(grid0.coords t 0).val, (grid0.coords t 1).val] :=
  (by decide +kernel : ∀ t : Fin grid0.N, _)
theorem index1 : ∀ t : Fin cfg0.N, win0_1.index t = ![(grid0.coords t 0).val, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![(grid0.coords t 0).val, (grid0.coords t 1).val] :=
  (by decide +kernel : ∀ t : Fin grid0.N, _)
theorem index4 : ∀ t : Fin cfg0.N, win0_4.index t = ![(grid0.coords t 0).val, (grid0.coords t 1).val] :=
  (by decide +kernel : ∀ t : Fin grid0.N, _)
theorem index5 : ∀ t : Fin cfg0.N, win0_5.index t = ![8 * (grid0.coords t 0).val + (grid0.coords t 1).val, 0, 0] :=
  (by decide +kernel : ∀ t : Fin grid0.N, _)
theorem index6 : ∀ t : Fin cfg0.N, win0_6.index t = ![(grid0.coords t 0).val, (grid0.coords t 1).val] :=
  (by decide +kernel : ∀ t : Fin grid0.N, _)
theorem index7 : ∀ t : Fin cfg0.N, win0_7.index t = ![(grid0.coords t 0).val, (grid0.coords t 1).val] :=
  (by decide +kernel : ∀ t : Fin grid0.N, _)
theorem index8 : ∀ t : Fin cfg0.N, win0_8.index t = ![(grid0.coords t 0).val, (grid0.coords t 1).val] :=
  (by decide +kernel : ∀ t : Fin grid0.N, _)

theorem blk0 (t : Fin cfg0.N) : iblk m c 0 t = head (V m c main_v48) (bt t) (ht t) := by
  funext y; blk_simp [iblk]; unfold head; congr 1; blk_ext [index0, bt, ht]
theorem blk1 (t : Fin cfg0.N) : iblk m c 1 t = head (V m c main_v51) (bt t) (ht t) := by
  funext y; blk_simp [iblk]; unfold head; congr 1; blk_ext [index1, bt, ht]
theorem blk2 (t : Fin cfg0.N) : iblk m c 2 t = head (V m c main_v54) (bt t) (ht t) := by
  funext y; blk_simp [iblk]; unfold head; congr 1; blk_ext [index2, bt, ht]
theorem blk3 (t : Fin cfg0.N) : iblk m c 3 t = head (V m c main_v57) (bt t) (ht t) := by
  funext y; blk_simp [iblk]; unfold head; congr 1; blk_ext [index3, bt, ht]
theorem blk4 (t : Fin cfg0.N) : iblk m c 4 t = head (V m c main_v60) (bt t) (ht t) := by
  funext y; blk_simp [iblk]; unfold head; congr 1; blk_ext [index4, bt, ht]
theorem blk5 (t : Fin cfg0.N) : iblk m c 5 t = headCol (V m c main_v45) (bt t) (ht t) := by
  funext y; blk_simp [iblk]; unfold headCol; congr 1; blk_ext [index5, bt, ht]

/-- Where the rows and lanes of a grid point's block lie. -/
theorem place (i : S4096x1024.Idx) (t : Fin cfg0.N) (y : S2048x128.Idx)
    (h0 : (i 0).val = (bt t).val * 2048 + (y 0).val) (h1 : (i 1).val = (ht t).val * 128 + (y 1).val) :
    batchOf i = bt t ∧ headOf i = ht t ∧ within i = y := by
  have y0 : (y 0).val < 2048 := (y 0).isLt
  have y1 : (y 1).val < 128 := (y 1).isLt
  refine ⟨Fin.ext ?_, Fin.ext ?_, funext fun a => Fin.ext ?_⟩
  · show (i 0).val / 2048 = _
    omega
  · show (i 1).val / 128 = _
    omega
  · match a with
    | ⟨0, _⟩ => show (i 0).val % 2048 = (y 0).val; omega
    | ⟨1, _⟩ => show (i 1).val % 128 = (y 1).val; omega

/-- The gradient of the queries, of all batch entries and heads. -/
theorem arr6 : (dats m 0 c).arrAt 6 cfg0.N = fun i =>
    gq (head (V m c main_v48) (batchOf i) (headOf i)) (head (V m c main_v51) (batchOf i) (headOf i)) (head (V m c main_v54) (batchOf i) (headOf i)) (head (V m c main_v57) (batchOf i) (headOf i)) (head (V m c main_v60) (batchOf i) (headOf i)) (headCol (V m c main_v45) (batchOf i) (headOf i)) (within i) := by
  refine (dats m 0 c).arrAt_eq_of_covers 6 _ (by decide +kernel) fun t hf y => ?_
  obtain ⟨hb, hh, hw⟩ := place (((cfg0.win 6).blk t).view.emb y) t y (by blk_simp [index6, bt]) (by blk_simp [index6, ht])
  rw [hb, hh, hw]
  blk_simp
  rw [after0_6, out6_eq, blk0, blk1, blk2, blk3, blk4, blk5]

/-- The gradient of the keys, of all batch entries and heads. -/
theorem arr7 : (dats m 0 c).arrAt 7 cfg0.N = fun i =>
    gk (head (V m c main_v48) (batchOf i) (headOf i)) (head (V m c main_v51) (batchOf i) (headOf i)) (head (V m c main_v54) (batchOf i) (headOf i)) (head (V m c main_v57) (batchOf i) (headOf i)) (head (V m c main_v60) (batchOf i) (headOf i)) (headCol (V m c main_v45) (batchOf i) (headOf i)) (within i) := by
  refine (dats m 0 c).arrAt_eq_of_covers 7 _ (by decide +kernel) fun t hf y => ?_
  obtain ⟨hb, hh, hw⟩ := place (((cfg0.win 7).blk t).view.emb y) t y (by blk_simp [index7, bt]) (by blk_simp [index7, ht])
  rw [hb, hh, hw]
  blk_simp
  rw [after0_7, out7_eq, blk0, blk1, blk2, blk3, blk4, blk5]

/-- The gradient of the values, of all batch entries and heads. -/
theorem arr8 : (dats m 0 c).arrAt 8 cfg0.N = fun i =>
    gv (head (V m c main_v48) (batchOf i) (headOf i)) (head (V m c main_v51) (batchOf i) (headOf i)) (head (V m c main_v60) (batchOf i) (headOf i)) (headCol (V m c main_v45) (batchOf i) (headOf i)) (within i) := by
  refine (dats m 0 c).arrAt_eq_of_covers 8 _ (by decide +kernel) fun t hf y => ?_
  obtain ⟨hb, hh, hw⟩ := place (((cfg0.win 8).blk t).view.emb y) t y (by blk_simp [index8, bt]) (by blk_simp [index8, ht])
  rw [hb, hh, hw]
  blk_simp
  rw [after0_8, out8_eq, blk0, blk1, blk4, blk5]
end Cert.KernelIdeal.MlaBwd
-- ==== Proof.MlaBwd.Ref.lean ====
module

public import proofs.«01_k».proof.Proof.Gen.ReferenceIdeal.Read

@[expose] public section
noncomputable section
namespace Cert.ReferenceIdeal.MlaBwd
end Cert.ReferenceIdeal.MlaBwd
end
-- ==== Proof.MlaBwd.Host.lean ====
/- What the host code prepares: the six argument arrays of the call, from the arguments of the program.

   Where the host code has the same operations as the reference, its value is named by the reference's stage. -/
module

public import proofs.«01_k».proof.Proof.MlaBwd.Array
public import proofs.«01_k».proof.Proof.MlaBwd.Ref
public import Idealize.ShloMosaic.Lib.StableHlo.RunRead

@[expose] public section
noncomputable section
namespace Cert.KernelIdeal.MlaBwd
open Cert.KernelIdeal Cert.KernelIdeal.Gen Idealize.ShloMosaic Idealize.ShloMosaic.TcCoe Idealize.SL.Sem
open Idealize.ShloMosaic.StableHlo

/-- The queries (or keys) of all heads. -/
abbrev Args96 := FVec Ideal S2x2048x8x96 .f32
/-- The values (or outputs) of all heads. -/
abbrev Args64 := FVec Ideal S2x2048x8x64 .f32

/-- Each head's 96 lanes padded to 128, the heads side by side. -/
def wide96 (x : Args96) : FVec Ideal S4096x1024 .f32 :=
  shapeCast S4096x1024 (pad S2x2048x8x128 ![0, 0, 0, 0] ![0, 0, 0, 32] ![0, 0, 0, 0] x
    (sitofp .f32 (constantI S_ 32 0#32) : FVec Ideal S_ .f32) pads_S2x2048x8x96_S2x2048x8x128_000_000_000_0320 h_S_)
    shapeCasts_S2x2048x8x128_S4096x1024
/-- Each head's 64 lanes padded to 128, the heads side by side. -/
def wide64 (x : Args64) : FVec Ideal S4096x1024 .f32 :=
  shapeCast S4096x1024 (pad S2x2048x8x128 ![0, 0, 0, 0] ![0, 0, 0, 64] ![0, 0, 0, 0] x
    (sitofp .f32 (constantI S_ 32 0#32) : FVec Ideal S_ .f32) pads_S2x2048x8x64_S2x2048x8x128_000_000_000_0640 h_S_)
    shapeCasts_S2x2048x8x128_S4096x1024

/-- The masked and scaled scores. -/
def scores (q k : Args96) : FVec Ideal S2x8x2048x2048 .f32 := ReferenceIdeal.Read.val_main_v9_0 (F := Ideal) q k
/-- The largest score of each row. -/
def rowMax (q k : Args96) : FVec Ideal S2x8x2048x1 .f32 :=
  broadcastInDim S2x8x2048x1 ![0, 1, 2] bcast_S2x8x2048_S2x8x2048x1_0_1_2 (ReferenceIdeal.Read.val_main_v10 (F := Ideal) q k)
/-- The sum of the exponentials of each row, each taken against the largest. -/
def rowSum (q k : Args96) : FVec Ideal S2x8x2048x1 .f32 :=
  broadcastInDim S2x8x2048x1 ![0, 1, 2] bcast_S2x8x2048_S2x8x2048x1_0_1_2
    (Host.reduceAdd (Host.exp (subf (scores q k)
        (broadcastInDim S2x8x2048x2048 ![0, 1, 2, 3] bcast_S2x8x2048x1_S2x8x2048x2048_0_1_2_3 (rowMax q k))))
      (constant S_ .f32 0x00000000#32) reducesTo_S2x8x2048x2048_S2x8x2048_d3 h_S_)
/-- The base-2 logarithm of the sum of a row's exponentials. -/
def logSum2 (q k : Args96) : FVec Ideal S16x2048x1 .f32 :=
  shapeCast S16x2048x1 (Host.divf (addf (rowMax q k) (Host.log (rowSum q k)))
    (broadcastInDim S2x8x2048x1 ![] bcast_S_S2x8x2048x1 (Host.log (constant S_ .f32 0x40000000#32))))
    shapeCasts_S2x8x2048x1_S16x2048x1
/-- The attention's output. -/
def outs (q k : Args96) (v : Args64) : Args64 := ReferenceIdeal.Read.val_main_v39 (F := Ideal) q k v

variable (m : (ℓ : Loc nD τ sig) → Buf (Elt Ideal) ℓ) (c : Dev nD)

theorem entry_q : V m c main_v48 = wide96 (m (c, main_arg0)) := by
  unfold V; after_reads_simp; rfl
theorem entry_k : V m c main_v51 = wide96 (m (c, main_arg1)) := by
  unfold V; after_reads_simp; rfl
theorem entry_v : V m c main_v54 = wide64 (m (c, main_arg2)) := by
  unfold V; after_reads_simp; rfl
theorem entry_g : V m c main_v60 = wide64 (m (c, main_arg3)) := by
  unfold V; after_reads_simp; rfl
theorem entry_o : V m c main_v57 = wide64 (outs (m (c, main_arg0)) (m (c, main_arg1)) (m (c, main_arg2))) := by
  unfold V; after_reads_simp; rfl
theorem entry_l : V m c main_v45 = logSum2 (m (c, main_arg0)) (m (c, main_arg1)) := by
  unfold V; after_reads_simp; rfl
end Cert.KernelIdeal.MlaBwd
-- ==== Proof.MlaBwd.Softmax.lean ====
/- The causal softmax attention of one head over the real numbers, and its gradient. -/
module

public import Mathlib.Analysis.SpecialFunctions.Pow.Real
public import Mathlib.Data.EReal.Operations
public import Mathlib.Algebra.BigOperators.Fin
public import Mathlib.Algebra.BigOperators.Field

@[expose] public section
noncomputable section
namespace Cert.MlaBwd

/-- A finite sum of real numbers, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score scale of the reference, 1/√96 as a 32-bit float. -/
def scale : ℝ := 3424635 / 33554432

variable (Q K : Fin 2048 → Fin 96 → ℝ) (V G : Fin 2048 → Fin 64 → ℝ) (M : Fin 2048 → ℝ)

/-- The scaled score of query `r` and key `j`. -/
def S (r j : Fin 2048) : ℝ := (∑ x, Q r x * K j x) * scale
/-- The exponential of a score, taken against the number `M r` of its row; 0 above the diagonal. -/
def E (r j : Fin 2048) : ℝ := if j ≤ r then Real.exp (S Q K r j - M r) else 0
/-- The sum of a row's exponentials. -/
def L (r : Fin 2048) : ℝ := ∑ j, E Q K M r j
/-- The probabilities. -/
def P (r j : Fin 2048) : ℝ := E Q K M r j / L Q K M r
/-- The gradient of a probability. -/
def DP (r j : Fin 2048) : ℝ := ∑ x, G r x * V j x
/-- The attention's output. -/
def O (r : Fin 2048) (d : Fin 64) : ℝ := ∑ j, P Q K M r j * V j d
/-- The gradient of a score, times the scale. -/
def DS (r j : Fin 2048) : ℝ := P Q K M r j * (DP V G r j - ∑ x, G r x * O Q K V M r x) * scale

theorem E_nonneg (r j : Fin 2048) : 0 ≤ E Q K M r j := by
  unfold E; split
  · exact (Real.exp_pos _).le
  · exact le_rfl

theorem L_pos (r : Fin 2048) : 0 < L Q K M r := by
  refine Finset.sum_pos' (fun j _ => E_nonneg Q K M r j) ⟨r, Finset.mem_univ _, ?_⟩
  unfold E; rw [if_pos le_rfl]; exact Real.exp_pos _

/-- A row's gradient times its output is the sum of the probabilities' gradients, each times its probability. -/
theorem delta_eq (r : Fin 2048) : ∑ x, G r x * O Q K V M r x = ∑ j, P Q K M r j * DP V G r j := by
  unfold O DP
  simp_rw [Finset.mul_sum]
  rw [Finset.sum_comm]
  exact Finset.sum_congr rfl fun j _ => Finset.sum_congr rfl fun x _ => by ring

/-- The score's gradient as the quotient rule gives it: of `E / L` by the numerator and by the denominator. -/
theorem DS_eq (r j : Fin 2048) : DS Q K V G M r j =
    (DP V G r j / L Q K M r + -∑ i, DP V G r i * (1 / (L Q K M r * L Q K M r)) * E Q K M r i) * E Q K M r j * scale := by
  have h := (L_pos Q K M r).ne'
  rw [DS, delta_eq]
  congr 1
  have e : ∑ i, DP V G r i * (1 / (L Q K M r * L Q K M r)) * E Q K M r i
      = (∑ i, P Q K M r i * DP V G r i) / L Q K M r := by
    rw [Finset.sum_div]
    refine Finset.sum_congr rfl fun i _ => ?_
    unfold P; field_simp
  rw [e]
  unfold P
  field_simp
  ring

/-- Above the diagonal the score's gradient is 0. -/
theorem DS_above {r j : Fin 2048} (h : ¬ j ≤ r) : DS Q K V G M r j = 0 := by
  unfold DS P E; rw [if_neg h]; ring

/-- The probability from the base-2 logarithm of the row's sum. -/
theorem pow_eq (r j : Fin 2048) (h : j ≤ r) :
    (2 : ℝ) ^ ((∑ x, Q r x * K j x) * (3424635 / 33554432 * (Real.log 2)⁻¹) - (M r + Real.log (L Q K M r)) / Real.log 2)
      = P Q K M r j := by
  have h2 : Real.log 2 ≠ 0 := (Real.log_pos one_lt_two).ne'
  rw [Real.rpow_def_of_pos two_pos]
  have e : Real.log 2 * ((∑ x, Q r x * K j x) * (3424635 / 33554432 * (Real.log 2)⁻¹) - (M r + Real.log (L Q K M r)) / Real.log 2)
      = (S Q K r j - M r) - Real.log (L Q K M r) := by
    unfold S scale; field_simp; ring
  rw [e, Real.exp_sub, Real.exp_log (L_pos Q K M r)]
  unfold P E; rw [if_pos h]

end Cert.MlaBwd
-- ==== Proof.MlaBwd.Head.lean ====
/- One head's block results, over the real numbers: from blocks whose lanes are real numbers followed by zeros, the
   body leaves the gradients of the causal softmax attention, followed by zeros. -/
module

public import proofs.«01_k».proof.Proof.MlaBwd.Scores
public import proofs.«01_k».proof.Proof.MlaBwd.Softmax

@[expose] public section
noncomputable section
namespace Cert.KernelIdeal.MlaBwd
open Cert.KernelIdeal Cert.KernelIdeal.Gen Idealize.ShloMosaic Idealize.SL.Sem Cert.MlaBwd

/-- A block whose first `n` lanes are the real numbers `A`, and the others 0. -/
def Padded (n : ℕ) (a : Vec Ideal S2048x128 .bf16) (A : Fin 2048 → Fin n → ℝ) : Prop :=
  ∀ r x, a (ix2 r x) = if h : x.val < n then ((A r ⟨x.val, h⟩ : ℝ) : EReal) else 0

/-- A sum over 128 lanes of which only the first `n` are not 0. -/
theorem sum_lanes {n : ℕ} (hn : n ≤ 128) (f : Fin 128 → EReal) (g : Fin n → EReal)
    (hf : ∀ x : Fin 128, f x = if h : x.val < n then g ⟨x.val, h⟩ else 0) : ∑ x, f x = ∑ x, g x := by
  have h := Fin.sum_univ_two_halves n (128 - n) (by omega) f
  rw [h, Finset.sum_eq_zero (s := (Finset.univ : Finset (Fin (128 - n)))), add_zero]
  · exact Finset.sum_congr rfl fun x _ => by rw [hf, dif_pos x.isLt]
  · intro x _; rw [hf, dif_neg (by simp)]

theorem score_real {n : ℕ} (hn : n ≤ 128) {a b : Blk} {A B : Fin 2048 → Fin n → ℝ} (ha : Padded n a A)
    (hb : Padded n b B) (r j : Fin 2048) : score a b r j = ((∑ x, A r x * B j x : ℝ) : EReal) := by
  rw [coe_sum]
  refine sum_lanes hn _ _ fun x => ?_
  rw [ha, hb]
  by_cases h : x.val < n
  · rw [dif_pos h, dif_pos h, dif_pos h, EReal.coe_mul]
  · rw [dif_neg h, dif_neg h, dif_neg h, zero_mul]

theorem sc_real : sc = ((scale : ℝ) : EReal) := by
  unfold sc scale
  simp [Ideal.ofBits, Ideal.ieee]
  norm_num
  rw [← EReal.coe_mul]
  norm_num

variable {q k v o g : Blk} {l : Col} {Q K : Fin 2048 → Fin 96 → ℝ} {V G : Fin 2048 → Fin 64 → ℝ} {M : Fin 2048 → ℝ}

theorem prob_real (hq : Padded 96 q Q) (hk : Padded 96 k K)
    (hl : ∀ r, l (ix3 0 r 0) = (((M r + Real.log (L Q K M r)) / Real.log 2 : ℝ) : EReal)) (r j : Fin 2048) :
    prob q k l r j = ((P Q K M r j : ℝ) : EReal) := by
  unfold prob
  by_cases h : j ≤ r
  · rw [if_pos h, score_real (by decide) hq hk, sc2_val, hl, ← EReal.coe_mul, ← EReal.coe_sub, Ideal.exp2_coe]
    exact congrArg _ (pow_eq Q K M r j h)
  · rw [if_neg h]; unfold P E; rw [if_neg h, zero_div]; rfl

theorem dscore_real (hq : Padded 96 q Q) (hk : Padded 96 k K) (hv : Padded 64 v V) (ho : Padded 64 o (O Q K V M))
    (hg : Padded 64 g G) (hl : ∀ r, l (ix3 0 r 0) = (((M r + Real.log (L Q K M r)) / Real.log 2 : ℝ) : EReal))
    (r j : Fin 2048) : dscore q k v o g l r j = ((DS Q K V G M r j : ℝ) : EReal) := by
  rw [dscore, prob_real hq hk hl, score_real (by decide) hg hv, score_real (by decide) hg ho, sc_real, ← EReal.coe_sub,
    ← EReal.coe_mul, ← EReal.coe_mul]
  rfl

/-- A sum of real numbers times a padded lane. -/
theorem sum_padded {n : ℕ} {a : Blk} {A : Fin 2048 → Fin n → ℝ} (ha : Padded n a A) (f : Fin 2048 → EReal) (F : Fin 2048 → ℝ)
    (hf : ∀ j, f j = ((F j : ℝ) : EReal)) (x : Fin 128) :
    ∑ j, f j * a (ix2 j x) = if h : x.val < n then ((∑ j, F j * A j ⟨x.val, h⟩ : ℝ) : EReal) else 0 := by
  by_cases h : x.val < n
  · rw [dif_pos h, coe_sum]
    exact Finset.sum_congr rfl fun j _ => by rw [hf, ha, dif_pos h, EReal.coe_mul]
  · rw [dif_neg h]
    exact Finset.sum_eq_zero fun j _ => by rw [ha, dif_neg h, mul_zero]

theorem gq_real (hq : Padded 96 q Q) (hk : Padded 96 k K) (hv : Padded 64 v V) (ho : Padded 64 o (O Q K V M))
    (hg : Padded 64 g G) (hl : ∀ r, l (ix3 0 r 0) = (((M r + Real.log (L Q K M r)) / Real.log 2 : ℝ) : EReal)) :
    Padded 96 (gq q k v o g l) fun r x => ∑ j, DS Q K V G M r j * K j x :=
  fun r x => sum_padded hk _ _ (dscore_real hq hk hv ho hg hl r) x

theorem gk_real (hq : Padded 96 q Q) (hk : Padded 96 k K) (hv : Padded 64 v V) (ho : Padded 64 o (O Q K V M))
    (hg : Padded 64 g G) (hl : ∀ r, l (ix3 0 r 0) = (((M r + Real.log (L Q K M r)) / Real.log 2 : ℝ) : EReal)) :
    Padded 96 (gk q k v o g l) fun j x => ∑ r, DS Q K V G M r j * Q r x :=
  fun j x => sum_padded hq _ _ (fun r => dscore_real hq hk hv ho hg hl r j) x

theorem gv_real (hq : Padded 96 q Q) (hk : Padded 96 k K) (hg : Padded 64 g G)
    (hl : ∀ r, l (ix3 0 r 0) = (((M r + Real.log (L Q K M r)) / Real.log 2 : ℝ) : EReal)) :
    Padded 64 (gv q k g l) fun j x => ∑ r, P Q K M r j * G r x :=
  fun j x => sum_padded hg _ _ (fun r => prob_real hq hk hl r j) x

end Cert.KernelIdeal.MlaBwd
-- ==== Proof.MlaBwd.Layout.lean ====
/- The padded arrays read at one head, and the log-sums read at one head. -/
module

public import proofs.«01_k».proof.Proof.MlaBwd.Host
public import proofs.«01_k».proof.Proof.MlaBwd.Head
public import Idealize.ShloMosaic.Lib.KernelVsHost

@[expose] public section
noncomputable section
namespace Cert.KernelIdeal.MlaBwd
open Cert.KernelIdeal Cert.KernelIdeal.Gen Idealize.ShloMosaic Idealize.ShloMosaic.TcCoe Idealize.SL.Sem

/-- The integer 0 as a real number. -/
theorem padding (i : S_.Idx) : (sitofp .f32 (constantI S_ 32 0#32) : FVec Ideal S_ .f32) i = (0 : EReal) := by
  show (((0#32 : BitVec 32).toInt : ℝ) : EReal) = 0
  simp

theorem head_wide96 (x : Args96) (b : Fin 2) (h : Fin 8) (r : Fin 2048) (d : Fin 128) :
    head (wide96 x) b h (ix2 r d) = if hd : d.val < 96 then x (ix4 b r h ⟨d.val, hd⟩) else (0 : EReal) := by
  unfold head wide96
  refine (shapeCast_apply _ shapeCasts_S2x2048x8x128_S4096x1024 _ (ix4 b r h d) (by
    rw [Shape.rowMajor_val_four, Shape.rowMajor_val_two]
    show ((b.val * 2048 + r.val) * 8 + h.val) * 128 + d.val = (2048 * b.val + r.val) * 1024 + (128 * h.val + d.val)
    omega)).trans ?_
  by_cases hd : d.val < 96
  · rw [dif_pos hd]
    exact pad_apply_of_inside _ _ _ x _ pads_S2x2048x8x96_S2x2048x8x128_000_000_000_0320 h_S_ _ (ix4 b r h ⟨d.val, hd⟩) (fun a => by
      match a with
      | ⟨0, _⟩ => show b.val = 0 + b.val * 1; omega
      | ⟨1, _⟩ => show r.val = 0 + r.val * 1; omega
      | ⟨2, _⟩ => show h.val = 0 + h.val * 1; omega
      | ⟨3, _⟩ => show d.val = 0 + d.val * 1; omega)
  · rw [dif_neg hd]
    refine (pad_apply_of_not_inside _ _ _ x _ pads_S2x2048x8x96_S2x2048x8x128_000_000_000_0320 h_S_ _ (3 : Fin 4) (fun hin => hd ?_)).trans (padding _)
    have e : (d.val - 0) / (0 + 1) < 96 := hin.2.2
    omega

theorem head_wide64 (x : Args64) (b : Fin 2) (h : Fin 8) (r : Fin 2048) (d : Fin 128) :
    head (wide64 x) b h (ix2 r d) = if hd : d.val < 64 then x (ix4 b r h ⟨d.val, hd⟩) else (0 : EReal) := by
  unfold head wide64
  refine (shapeCast_apply _ shapeCasts_S2x2048x8x128_S4096x1024 _ (ix4 b r h d) (by
    rw [Shape.rowMajor_val_four, Shape.rowMajor_val_two]
    show ((b.val * 2048 + r.val) * 8 + h.val) * 128 + d.val = (2048 * b.val + r.val) * 1024 + (128 * h.val + d.val)
    omega)).trans ?_
  by_cases hd : d.val < 64
  · rw [dif_pos hd]
    exact pad_apply_of_inside _ _ _ x _ pads_S2x2048x8x64_S2x2048x8x128_000_000_000_0640 h_S_ _ (ix4 b r h ⟨d.val, hd⟩) (fun a => by
      match a with
      | ⟨0, _⟩ => show b.val = 0 + b.val * 1; omega
      | ⟨1, _⟩ => show r.val = 0 + r.val * 1; omega
      | ⟨2, _⟩ => show h.val = 0 + h.val * 1; omega
      | ⟨3, _⟩ => show d.val = 0 + d.val * 1; omega)
  · rw [dif_neg hd]
    refine (pad_apply_of_not_inside _ _ _ x _ pads_S2x2048x8x64_S2x2048x8x128_000_000_000_0640 h_S_ _ (3 : Fin 4) (fun hin => hd ?_)).trans (padding _)
    have e : (d.val - 0) / (0 + 1) < 64 := hin.2.2
    omega

/-- An array is determined by its heads. -/
theorem wide_apply (a : Vec Ideal S4096x1024 .f32) (i : S4096x1024.Idx) :
    a i = head a (batchOf i) (headOf i) (within i) := by
  unfold head
  refine congrArg a (funext fun x => Fin.ext ?_)
  match x with
  | ⟨0, _⟩ => show (i 0).val = 2048 * ((i 0).val / 2048) + (i 0).val % 2048; omega
  | ⟨1, _⟩ => show (i 1).val = 128 * ((i 1).val / 128) + (i 1).val % 128; omega

/-- A column read at one head. -/
theorem headCol_cast (l : FVec Ideal S2x8x2048x1 .f32) (b : Fin 2) (h : Fin 8) (r : Fin 2048) :
    headCol (shapeCast S16x2048x1 l shapeCasts_S2x8x2048x1_S16x2048x1) b h (ix3 0 r 0) = l (ix4 b h r 0) := by
  unfold headCol
  exact shapeCast_apply l shapeCasts_S2x8x2048x1_S16x2048x1 _ (ix4 b h r 0) (by
    rw [Shape.rowMajor_val_four, Shape.rowMajor_val_three]
    show ((b.val * 8 + h.val) * 2048 + r.val) * 1 + (0 : Fin 1).val = ((8 * b.val + h.val) * 2048 + r.val) * 1 + (0 : Fin 1).val
    rw [Nat.mul_comm b.val 8])

/-- A quotient by one number of a sum with a logarithm, read at an index. -/
theorem quotient_apply (x y : FVec Ideal S2x8x2048x1 .f32) (c : FVec Ideal S_ .f32) (i : S2x8x2048x1.Idx) :
    Host.divf (addf x (Host.log y)) (broadcastInDim S2x8x2048x1 ![] bcast_S_S2x8x2048x1 (Host.log c)) i
      = Ideal.div (x i + Ideal.log (y i)) (Ideal.log (c (fun a => a.elim0))) := by
  rw [ValueIdx.hostDivf_apply, broadcastInDim_apply _ bcast_S_S2x8x2048x1 _ _ (fun a => a.elim0) (fun a => a.elim0)]
  rfl

/-- A row's log-sum at one head, from the row's maximum and sum. -/
theorem headCol_logSum2 (q k : Args96) (b : Fin 2) (h : Fin 8) (r : Fin 2048) :
    headCol (logSum2 q k) b h (ix3 0 r 0) =
      Ideal.div (rowMax q k (ix4 b h r 0) + Ideal.log (rowSum q k (ix4 b h r 0))) (Ideal.log (Ideal.ofBits .f32 0x40000000#32)) := by
  unfold logSum2
  rw [headCol_cast, quotient_apply]
  rfl

end Cert.KernelIdeal.MlaBwd
-- ==== Proof.MlaBwd.RefProbs.lean ====
/- What the reference computes, over the real numbers: the probabilities and the output of one batch entry and head. -/
module

public import proofs.«01_k».proof.Proof.MlaBwd.Ref
public import proofs.«01_k».proof.Proof.MlaBwd.Softmax
public import Idealize.ShloMosaic.Lib.Pointwise
public import Idealize.ShloMosaic.Lib.WordCmp
public import Idealize.ShloMosaic.Lib.ValueIdx

@[expose] public section
noncomputable section
namespace Cert.ReferenceIdeal.MlaBwd
open Cert.ReferenceIdeal Cert.ReferenceIdeal.Gen Cert.ReferenceIdeal.Read Idealize.ShloMosaic Cert.MlaBwd

theorem eq_ix4 {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext x; apply Fin.ext
  match x with
  | ⟨0, _⟩ => exact h0
  | ⟨1, _⟩ => exact h1
  | ⟨2, _⟩ => exact h2
  | ⟨3, _⟩ => exact h3

theorem eq_ix3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x; apply Fin.ext
  match x with
  | ⟨0, _⟩ => exact h0
  | ⟨1, _⟩ => exact h1
  | ⟨2, _⟩ => exact h2

theorem zero_word : (FloatOps.ofBits (F := Ideal) .f32 0x00000000#32 : EReal) = 0 := Ideal.ofBits_zero_f32
theorem bot_word : (FloatOps.ofBits (F := Ideal) .f32 0xFF800000#32 : EReal) = ⊥ := by
  show Ideal.ofBits .f32 0xFF800000#32 = ⊥
  simp [Ideal.ofBits, Ideal.ieee]
theorem one_word : (FloatOps.ofBits (F := Ideal) .f32 0x3F800000#32 : EReal) = ((1 : ℝ) : EReal) := by
  show Ideal.ofBits .f32 0x3F800000#32 = _
  simp [Ideal.ofBits, Ideal.ieee]
  norm_num
  rw [← EReal.coe_mul]
  norm_num
theorem scale_word : (FloatOps.ofBits (F := Ideal) .f32 0x3DD105EC#32 : EReal) = ((scale : ℝ) : EReal) := by
  show Ideal.ofBits .f32 0x3DD105EC#32 = _
  unfold scale
  simp [Ideal.ofBits, Ideal.ieee]
  norm_num
  rw [← EReal.coe_mul]
  norm_num

/-- The quotient of two real numbers. -/
theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

variable (x0 x1 : (⟨S2x2048x8x96, .f32⟩ : BufTy).Contents (Elt Ideal)) (x2 x3 : (⟨S2x2048x8x64, .f32⟩ : BufTy).Contents (Elt Ideal))
variable (b : Fin 2) (h : Fin 8) (r j : Fin 2048)

/-- The row maximum, as a real number. -/
def rmax (r : Fin 2048) : ℝ := (val_main_v10 (F := Ideal) x0 x1 (ix3 b h r) : EReal).toReal

/-- The mask keeps the keys up to the query. -/
theorem mask_apply : val_main_v9_1 (F := Ideal) (ix4 b h r j) = BitVec.ofBool (decide (j.val ≤ r.val)) := by
  rw [val_main_v9_1_apply, val_main_v8_apply, val_main_v6_apply, val_main_v7_apply, val_main_v4_apply, val_main_v5_apply,
    val_main_v0_apply, val_main_v0_apply]
  exact WordCmp.cmpi_sge_ofNat (a := r.val) (b := j.val) (by omega) (by omega)

variable {x0 x1 x2 x3 b h} {Q K : Fin 2048 → Fin 96 → ℝ} {V G : Fin 2048 → Fin 64 → ℝ}

theorem scores_real (hq : ∀ r d, x0 (ix4 b r h d) = ((Q r d : ℝ) : EReal)) (hk : ∀ r d, x1 (ix4 b r h d) = ((K r d : ℝ) : EReal)) :
    val_main_v9_0 (F := Ideal) x0 x1 (ix4 b h r j) = if j ≤ r then ((S Q K r j : ℝ) : EReal) else ⊥ := by
  rw [val_main_v9_0_apply, mask_apply]
  by_cases hj : j ≤ r
  · rw [if_pos hj, decide_eq_true (show j.val ≤ r.val from hj)]
    show val_main_v3 (F := Ideal) x0 x1 (ix4 b h r j) = _
    rw [val_main_v3_apply, val_main_v1_apply, val_main_v2_apply, val_main_cst_apply, scale_word]
    unfold S
    rw [EReal.coe_mul, coe_sum]
    refine congrArg (· * ((scale : ℝ) : EReal)) (Finset.sum_congr rfl fun d _ => ?_)
    rw [eq_ix4 (lidx_main_v1 (ix4 b h r j) d) b r h d rfl rfl rfl rfl, eq_ix4 (ridx_main_v1 (ix4 b h r j) d) b j h d rfl rfl rfl rfl,
      hq, hk, EReal.coe_mul]
  · rw [if_neg hj, decide_eq_false (show ¬ j.val ≤ r.val from hj)]
    show val_main_call0_v2 (F := Ideal) (ix4 b h r j) = _
    rw [val_main_call0_v2_apply, val_main_call0_v0_apply, val_main_cst_0_apply, bot_word]

/-- A row's maximum is a real number. -/
theorem max_real (hq : ∀ r d, x0 (ix4 b r h d) = ((Q r d : ℝ) : EReal)) (hk : ∀ r d, x1 (ix4 b r h d) = ((K r d : ℝ) : EReal)) :
    val_main_v10 (F := Ideal) x0 x1 (ix3 b h r) = ((rmax x0 x1 b h r : ℝ) : EReal) := by
  have e : val_main_v10 (F := Ideal) x0 x1 (ix3 b h r)
      = (Finset.univ : Finset (Fin 2048)).fold max (⊥ : EReal) (fun j => val_main_v9_0 (F := Ideal) x0 x1 (ix4 b h r j)) := by
    unfold val_main_v10
    generalize val_main_v9_0 (F := Ideal) x0 x1 = y
    simp only [pointwise]
    rw [val_main_cst_1_apply, bot_word]
  refine (EReal.coe_toReal ?_ ?_).symm
  · rw [e]
    refine ne_of_lt (Finset.fold_max_lt _ |>.mpr ⟨bot_lt_top, fun j _ => ?_⟩)
    rw [scores_real r j hq hk]; split
    · exact EReal.coe_lt_top _
    · exact bot_lt_top
  · rw [e]
    refine (ne_of_lt ?_).symm
    refine lt_of_lt_of_le (EReal.bot_lt_coe (S Q K r r)) (Finset.le_fold_max _ |>.mpr (Or.inr ⟨r, Finset.mem_univ _, ?_⟩))
    rw [scores_real r r hq hk, if_pos le_rfl]

/-- An exponential of a score, taken against its row's maximum. -/
theorem exp_real (s : EReal) (M : ℝ) (hs : s = if j ≤ r then ((S Q K r j : ℝ) : EReal) else ⊥) :
    Ideal.exp (s - (M : EReal)) = (((if j ≤ r then Real.exp (S Q K r j - M) else 0) : ℝ) : EReal) := by
  by_cases hj : j ≤ r
  · rw [hs, if_pos hj, if_pos hj, ← EReal.coe_sub]; rfl
  · rw [hs, if_neg hj, if_neg hj, sub_eq_add_neg, EReal.bot_add]; rfl

theorem e_real (hq : ∀ r d, x0 (ix4 b r h d) = ((Q r d : ℝ) : EReal)) (hk : ∀ r d, x1 (ix4 b r h d) = ((K r d : ℝ) : EReal)) :
    val_main_v30 (F := Ideal) x0 x1 (ix4 b h r j) = ((E Q K (rmax x0 x1 b h) r j : ℝ) : EReal) := by
  rw [val_main_v30_apply, val_main_v29_apply, val_main_v28_apply, val_main_v27_apply, val_main_v17_apply, val_main_v16_apply,
    val_main_cst_3_apply, bot_word, eq_ix3 (idx_main_v27 (idx_main_v28 (ix4 b h r j))) b h r rfl rfl rfl, max_real r hq hk]
  show Ideal.exp (_ - max (⊥ : EReal) _) = _
  rw [max_eq_right bot_le]
  exact exp_real r j _ _ (scores_real r j hq hk)

theorem l_real (hq : ∀ r d, x0 (ix4 b r h d) = ((Q r d : ℝ) : EReal)) (hk : ∀ r d, x1 (ix4 b r h d) = ((K r d : ℝ) : EReal)) :
    val_main_v32 (F := Ideal) x0 x1 (ix4 b h r 0) = ((L Q K (rmax x0 x1 b h) r : ℝ) : EReal) := by
  rw [val_main_v32_apply, val_main_v31_apply, val_main_cst_9_apply, zero_word]
  unfold L
  rw [coe_sum]
  refine (zero_add _).trans (Finset.sum_congr rfl fun j _ => ?_)
  rw [eq_ix4 (idx_main_v31 (idx_main_v32 (ix4 b h r 0)) j) b h r j rfl rfl rfl rfl, e_real r j hq hk]

theorem p_real (hq : ∀ r d, x0 (ix4 b r h d) = ((Q r d : ℝ) : EReal)) (hk : ∀ r d, x1 (ix4 b r h d) = ((K r d : ℝ) : EReal)) :
    val_main_v34 (F := Ideal) x0 x1 (ix4 b h r j) = ((P Q K (rmax x0 x1 b h) r j : ℝ) : EReal) := by
  rw [val_main_v34_apply, e_real r j hq hk, val_main_v33_apply, eq_ix4 (idx_main_v33 (ix4 b h r j)) b h r 0 rfl rfl rfl rfl, l_real r hq hk]
  exact div_real _ _ (L_pos Q K _ r).ne'

/-- The attention's output. -/
theorem o_real (hq : ∀ r d, x0 (ix4 b r h d) = ((Q r d : ℝ) : EReal)) (hk : ∀ r d, x1 (ix4 b r h d) = ((K r d : ℝ) : EReal))
    (hv : ∀ r d, x2 (ix4 b r h d) = ((V r d : ℝ) : EReal)) (d : Fin 64) :
    val_main_v39 (F := Ideal) x0 x1 x2 (ix4 b r h d) = ((O Q K V (rmax x0 x1 b h) r d : ℝ) : EReal) := by
  rw [val_main_v39_apply, val_main_v38_apply]
  unfold O
  rw [coe_sum]
  refine Finset.sum_congr rfl fun j _ => ?_
  rw [eq_ix4 (lidx_main_v38 (idx_main_v39 (ix4 b r h d)) j) b j h d rfl rfl rfl rfl,
    eq_ix4 (ridx_main_v38 (idx_main_v39 (ix4 b r h d)) j) b h r j rfl rfl rfl rfl, p_real r j hq hk, hv, mul_comm, EReal.coe_mul]

end Cert.ReferenceIdeal.MlaBwd
-- ==== Proof.MlaBwd.RefGrads.lean ====
/- What the reference computes, over the real numbers: the gradients of one batch entry and head. -/
module

public import proofs.«01_k».proof.Proof.MlaBwd.RefProbs

@[expose] public section
noncomputable section
namespace Cert.ReferenceIdeal.MlaBwd
open Cert.ReferenceIdeal Cert.ReferenceIdeal.Gen Cert.ReferenceIdeal.Read Idealize.ShloMosaic Cert.MlaBwd

variable {x0 x1 : (⟨S2x2048x8x96, .f32⟩ : BufTy).Contents (Elt Ideal)} {x2 x3 : (⟨S2x2048x8x64, .f32⟩ : BufTy).Contents (Elt Ideal)}
variable {b : Fin 2} {h : Fin 8} (r j : Fin 2048)
variable {Q K : Fin 2048 → Fin 96 → ℝ} {V G : Fin 2048 → Fin 64 → ℝ}

theorem dp_real (hv : ∀ r d, x2 (ix4 b r h d) = ((V r d : ℝ) : EReal)) (hg : ∀ r d, x3 (ix4 b r h d) = ((G r d : ℝ) : EReal)) :
    val_main_v41 (F := Ideal) x2 x3 (ix4 b h r j) = ((DP V G r j : ℝ) : EReal) := by
  rw [val_main_v41_apply]
  unfold DP
  rw [coe_sum]
  refine Finset.sum_congr rfl fun d _ => ?_
  rw [val_main_v40_apply, eq_ix4 (idx_main_v40 (lidx_main_v41 (ix4 b h r j) d)) b r h d rfl rfl rfl rfl,
    eq_ix4 (ridx_main_v41 (ix4 b h r j) d) b j h d rfl rfl rfl rfl, hv, hg, EReal.coe_mul]

/-- The gradient of the values. -/
theorem dv_real (hq : ∀ r d, x0 (ix4 b r h d) = ((Q r d : ℝ) : EReal)) (hk : ∀ r d, x1 (ix4 b r h d) = ((K r d : ℝ) : EReal))
    (hg : ∀ r d, x3 (ix4 b r h d) = ((G r d : ℝ) : EReal)) (d : Fin 64) :
    val_main_v43 (F := Ideal) x0 x1 x3 (ix4 b j h d) = ((∑ r, P Q K (rmax x0 x1 b h) r j * G r d : ℝ) : EReal) := by
  rw [val_main_v43_apply, val_main_v42_apply, coe_sum]
  refine Finset.sum_congr rfl fun r _ => ?_
  rw [val_main_v40_apply, eq_ix4 (idx_main_v40 (lidx_main_v42 (idx_main_v43 (ix4 b j h d)) r)) b r h d rfl rfl rfl rfl,
    eq_ix4 (ridx_main_v42 (idx_main_v43 (ix4 b j h d)) r) b h r j rfl rfl rfl rfl, p_real r j hq hk, hg, mul_comm, EReal.coe_mul]

/-- The reciprocal of a row sum's square. -/
theorem inv_real (hq : ∀ r d, x0 (ix4 b r h d) = ((Q r d : ℝ) : EReal)) (hk : ∀ r d, x1 (ix4 b r h d) = ((K r d : ℝ) : EReal)) :
    val_main_v44 (F := Ideal) x0 x1 (ix4 b h r j)
      = ((1 / (L Q K (rmax x0 x1 b h) r * L Q K (rmax x0 x1 b h) r) : ℝ) : EReal) := by
  rw [val_main_v44_apply, eq_ix4 (idx_main_v44 (ix4 b h r j)) b h r 0 rfl rfl rfl rfl, val_main_v37_apply, val_main_v36_apply,
    val_main_v35_apply, val_main_cst_10_apply, one_word, l_real r hq hk]
  have hL := (L_pos Q K (rmax x0 x1 b h) r).ne'
  show Ideal.div _ ((_ : EReal) * _) = _
  rw [← EReal.coe_mul]
  exact div_real _ _ (mul_ne_zero hL hL)

theorem row_place (b h r z : Nat) (hb : b < 2) (hh : h < 8) (hr : r < 2048) (hz : z < 1) :
    (((b * 8 + h) * 2048 + r) * 1 + z) / 16384 = b ∧ (((b * 8 + h) * 2048 + r) * 1 + z) / 2048 % 8 = h
      ∧ (((b * 8 + h) * 2048 + r) * 1 + z) % 2048 = r := by omega

/-- The gradient of a row's sum. -/
theorem dsum_real (hq : ∀ r d, x0 (ix4 b r h d) = ((Q r d : ℝ) : EReal)) (hk : ∀ r d, x1 (ix4 b r h d) = ((K r d : ℝ) : EReal))
    (hv : ∀ r d, x2 (ix4 b r h d) = ((V r d : ℝ) : EReal)) (hg : ∀ r d, x3 (ix4 b r h d) = ((G r d : ℝ) : EReal)) :
    val_main_v53 (F := Ideal) x0 x1 x2 x3 (ix4 b h r j)
      = ((-∑ i, DP V G r i * (1 / (L Q K (rmax x0 x1 b h) r * L Q K (rmax x0 x1 b h) r)) * E Q K (rmax x0 x1 b h) r i : ℝ) : EReal) := by
  rw [val_main_v53_apply, val_main_v52_apply, val_main_cst_12_apply, zero_word, Fin.sum_univ_one, zero_add, val_main_v49_apply,
    val_main_v48_apply]
  have e : idx_main_v48 (idx_main_v52 (idx_main_v53 (ix4 b h r j)) 0) = ix3 b h r := by
    have p := row_place b.val h.val r.val 0 b.isLt h.isLt r.isLt one_pos
    exact eq_ix3 _ b h r p.1 p.2.1 p.2.2
  rw [e, val_main_v47_apply, val_main_cst_11_apply, zero_word, zero_add, EReal.coe_neg, coe_sum]
  show -(_ : EReal) = _
  refine congrArg (fun a : EReal => -a) (Finset.sum_congr rfl fun i _ => ?_)
  rw [eq_ix4 (idx_main_v47 (ix3 b h r) i) b h r i rfl rfl rfl rfl, val_main_v46_apply, val_main_v45_apply, dp_real r i hv hg,
    inv_real r i hq hk, e_real r i hq hk, EReal.coe_mul, EReal.coe_mul]
  rfl

/-- The gradient of a score, times the scale. -/
theorem ds_real (hq : ∀ r d, x0 (ix4 b r h d) = ((Q r d : ℝ) : EReal)) (hk : ∀ r d, x1 (ix4 b r h d) = ((K r d : ℝ) : EReal))
    (hv : ∀ r d, x2 (ix4 b r h d) = ((V r d : ℝ) : EReal)) (hg : ∀ r d, x3 (ix4 b r h d) = ((G r d : ℝ) : EReal)) :
    val_main_v58 (F := Ideal) x0 x1 x2 x3 (ix4 b h r j) = ((DS Q K V G (rmax x0 x1 b h) r j : ℝ) : EReal) := by
  rw [val_main_v58_apply, val_main_v57_apply, val_main_cst_13_apply, scale_word, val_main_v56_apply, mask_apply]
  by_cases hj : j ≤ r
  · rw [decide_eq_true (show j.val ≤ r.val from hj)]
    show (val_main_v55 (F := Ideal) x0 x1 x2 x3 (ix4 b h r j) : EReal) * _ = _
    rw [val_main_v55_apply, val_main_v54_apply, val_main_v51_apply, val_main_v50_apply,
      eq_ix4 (idx_main_v50 (ix4 b h r j)) b h r 0 rfl rfl rfl rfl, dp_real r j hv hg, l_real r hq hk, e_real r j hq hk,
      dsum_real r j hq hk hv hg, DS_eq, EReal.coe_mul, EReal.coe_mul, EReal.coe_add]
    refine congrArg (fun a : EReal => (a + _) * _ * _) ?_
    exact div_real _ _ (L_pos Q K _ r).ne'
  · rw [decide_eq_false (show ¬ j.val ≤ r.val from hj), DS_above Q K V G _ hj]
    show (val_main_call1_v0 (F := Ideal) (ix4 b h r j) : EReal) * _ = _
    rw [val_main_call1_v0_apply, val_main_call1_cst_apply, zero_word, zero_mul, EReal.coe_zero]

/-- The gradient of the keys. -/
theorem dk_real (hq : ∀ r d, x0 (ix4 b r h d) = ((Q r d : ℝ) : EReal)) (hk : ∀ r d, x1 (ix4 b r h d) = ((K r d : ℝ) : EReal))
    (hv : ∀ r d, x2 (ix4 b r h d) = ((V r d : ℝ) : EReal)) (hg : ∀ r d, x3 (ix4 b r h d) = ((G r d : ℝ) : EReal)) (x : Fin 96) :
    val_main_v60 (F := Ideal) x0 x1 x2 x3 (ix4 b j h x) = ((∑ r, DS Q K V G (rmax x0 x1 b h) r j * Q r x : ℝ) : EReal) := by
  rw [val_main_v60_apply, val_main_v59_apply, coe_sum]
  refine Finset.sum_congr rfl fun r _ => ?_
  rw [eq_ix4 (lidx_main_v59 (idx_main_v60 (ix4 b j h x)) r) b h r j rfl rfl rfl rfl,
    eq_ix4 (ridx_main_v59 (idx_main_v60 (ix4 b j h x)) r) b r h x rfl rfl rfl rfl, ds_real r j hq hk hv hg, hq, EReal.coe_mul]

/-- The gradient of the queries. -/
theorem dq_real (hq : ∀ r d, x0 (ix4 b r h d) = ((Q r d : ℝ) : EReal)) (hk : ∀ r d, x1 (ix4 b r h d) = ((K r d : ℝ) : EReal))
    (hv : ∀ r d, x2 (ix4 b r h d) = ((V r d : ℝ) : EReal)) (hg : ∀ r d, x3 (ix4 b r h d) = ((G r d : ℝ) : EReal)) (x : Fin 96) :
    val_main_v62 (F := Ideal) x0 x1 x2 x3 (ix4 b r h x) = ((∑ j, DS Q K V G (rmax x0 x1 b h) r j * K j x : ℝ) : EReal) := by
  rw [val_main_v62_apply, val_main_v61_apply, coe_sum]
  refine Finset.sum_congr rfl fun j _ => ?_
  rw [eq_ix4 (lidx_main_v61 (idx_main_v62 (ix4 b r h x)) j) b h r j rfl rfl rfl rfl,
    eq_ix4 (ridx_main_v61 (idx_main_v62 (ix4 b r h x)) j) b j h x rfl rfl rfl rfl, ds_real r j hq hk hv hg, hk, EReal.coe_mul]

end Cert.ReferenceIdeal.MlaBwd
-- ==== Proof.MlaBwd.Equation.lean ====
/- The call's three arrays are the reference's, when every entry of the arguments is a real number. -/
module

public import proofs.«01_k».proof.Proof.MlaBwd.Layout
public import proofs.«01_k».proof.Proof.MlaBwd.RefGrads
public import Idealize.ShloMosaic.Lib.IdealHost

@[expose] public section
noncomputable section
namespace Cert.KernelIdeal.MlaBwd
open Cert.KernelIdeal Cert.KernelIdeal.Gen Idealize.ShloMosaic Idealize.ShloMosaic.TcCoe Idealize.SL.Sem Cert.MlaBwd
open Cert.ReferenceIdeal.MlaBwd (rmax)

variable {q k : Args96} {v g : Args64} {b : Fin 2} {h : Fin 8}
variable {Q K : Fin 2048 → Fin 96 → ℝ} {V G : Fin 2048 → Fin 64 → ℝ}

theorem rowMax_real (hq : ∀ r d, q (ix4 b r h d) = ((Q r d : ℝ) : EReal)) (hk : ∀ r d, k (ix4 b r h d) = ((K r d : ℝ) : EReal))
    (r : Fin 2048) : rowMax q k (ix4 b h r 0) = ((rmax q k b h r : ℝ) : EReal) := by
  unfold rowMax
  rw [broadcastInDim_apply _ bcast_S2x8x2048_S2x8x2048x1_0_1_2 _ _ (ix3 b h r) (fun a => by
    match a with
    | ⟨0, _⟩ => rfl
    | ⟨1, _⟩ => rfl
    | ⟨2, _⟩ => rfl)]
  exact Cert.ReferenceIdeal.MlaBwd.max_real r hq hk

/-- The sum of a row. -/
theorem sum_apply (y : FVec Ideal S2x8x2048x2048 .f32) (b : Fin 2) (h : Fin 8) (r : Fin 2048) :
    Host.reduceAdd y (constant S_ .f32 0x00000000#32) reducesTo_S2x8x2048x2048_S2x8x2048_d3 h_S_ (ix3 b h r)
      = ∑ j : Fin 2048, y (ix4 b h r j) := by
  simp only [Host.reduceAdd, Ideal.hostReduceAdd_def]
  rw [Ideal.hostReduceAdd_single reducesTo_S2x8x2048x2048_S2x8x2048_d3 (by decide)]
  refine (congrArg (· + _) (Ideal.ofBits_zero_f32)).trans ((zero_add _).trans (Finset.sum_congr rfl fun j _ => ?_))
  exact congrArg y (Cert.ReferenceIdeal.MlaBwd.eq_ix4 _ b h r j rfl rfl rfl rfl)

theorem rowSum_real (hq : ∀ r d, q (ix4 b r h d) = ((Q r d : ℝ) : EReal)) (hk : ∀ r d, k (ix4 b r h d) = ((K r d : ℝ) : EReal))
    (r : Fin 2048) : rowSum q k (ix4 b h r 0) = ((L Q K (rmax q k b h) r : ℝ) : EReal) := by
  unfold rowSum
  rw [broadcastInDim_apply _ bcast_S2x8x2048_S2x8x2048x1_0_1_2 _ _ (ix3 b h r) (fun a => by
    match a with
    | ⟨0, _⟩ => rfl
    | ⟨1, _⟩ => rfl
    | ⟨2, _⟩ => rfl)]
  rw [sum_apply]
  unfold L
  rw [coe_sum]
  refine Finset.sum_congr rfl fun j _ => ?_
  show Ideal.exp (scores q k (ix4 b h r j) - broadcastInDim S2x8x2048x2048 ![0, 1, 2, 3] bcast_S2x8x2048x1_S2x8x2048x2048_0_1_2_3 (rowMax q k) (ix4 b h r j)) = _
  rw [broadcastInDim_apply _ bcast_S2x8x2048x1_S2x8x2048x2048_0_1_2_3 _ _ (ix4 b h r 0) (fun a => by
    match a with
    | ⟨0, _⟩ => rfl
    | ⟨1, _⟩ => rfl
    | ⟨2, _⟩ => rfl
    | ⟨3, _⟩ => rfl), rowMax_real hq hk]
  exact Cert.ReferenceIdeal.MlaBwd.exp_real r j _ _ (Cert.ReferenceIdeal.MlaBwd.scores_real r j hq hk)

theorem logSum_real (hq : ∀ r d, q (ix4 b r h d) = ((Q r d : ℝ) : EReal)) (hk : ∀ r d, k (ix4 b r h d) = ((K r d : ℝ) : EReal))
    (r : Fin 2048) : headCol (logSum2 q k) b h (ix3 0 r 0)
      = (((rmax q k b h r + Real.log (L Q K (rmax q k b h) r)) / Real.log 2 : ℝ) : EReal) := by
  have two : Ideal.ofBits .f32 0x40000000#32 = ((2 : ℝ) : EReal) := by
    simp [Ideal.ofBits, Ideal.ieee]
    norm_num
    rw [← EReal.coe_mul]
    norm_num
  rw [headCol_logSum2, rowMax_real hq hk, rowSum_real hq hk, two, Ideal.log_coe, Ideal.log_coe,
    if_neg (not_le.mpr (L_pos Q K _ r)), if_neg (by norm_num), ← EReal.coe_add]
  exact Cert.ReferenceIdeal.MlaBwd.div_real _ _ (Real.log_pos one_lt_two).ne'

theorem padded96 (x : Args96) {X : Fin 2048 → Fin 96 → ℝ} (hx : ∀ r d, x (ix4 b r h d) = ((X r d : ℝ) : EReal)) :
    Padded 96 (head (wide96 x) b h) X := fun r d => by
  rw [head_wide96]; split
  · exact hx _ _
  · rfl
theorem padded64 (x : Args64) {X : Fin 2048 → Fin 64 → ℝ} (hx : ∀ r d, x (ix4 b r h d) = ((X r d : ℝ) : EReal)) :
    Padded 64 (head (wide64 x) b h) X := fun r d => by
  rw [head_wide64]; split
  · exact hx _ _
  · rfl

/-- Every entry is a real number. -/
def Finite {s : Shape} (x : FVec Ideal s .f32) : Prop := ∀ i, (((x i : EReal).toReal : ℝ) : EReal) = x i

theorem heads_ext (a : FVec Ideal S4096x1024 .f32) (f : Fin 2 → Fin 8 → Blk) (x : S4096x1024.Idx)
    (hf : ∀ b h r d, f b h (ix2 r d) = head a b h (ix2 r d)) : f (batchOf x) (headOf x) (within x) = a x := by
  rw [wide_apply a x]
  have e : within x = ix2 (within x 0) (within x 1) := by
    funext z
    match z with
    | ⟨0, _⟩ => rfl
    | ⟨1, _⟩ => rfl
  rw [e]
  exact hf _ _ _ _

variable (m : (ℓ : Loc nD τ sig) → Buf (Elt Ideal) ℓ) (c : Dev nD)

theorem queries_eq (fq : Finite (m (c, main_arg0))) (fk : Finite (m (c, main_arg1))) (fv : Finite (m (c, main_arg2))) (fg : Finite (m (c, main_arg3))) :
    (dats m 0 c).arrAt 6 cfg0.N = ReferenceIdeal.Read.val_main_v64 (F := Ideal) (m (c, main_arg0)) (m (c, main_arg1)) (m (c, main_arg2)) (m (c, main_arg3)) := by
  rw [arr6, entry_q, entry_k, entry_v, entry_o, entry_g, entry_l, outs]
  generalize m (c, main_arg0) = q at *
  generalize m (c, main_arg1) = k at *
  generalize m (c, main_arg2) = v at *
  generalize m (c, main_arg3) = g at *
  funext x
  refine heads_ext _ (fun b h => gq _ _ _ _ _ _) x fun b h r d => ?_
  have hq := fun r d => (fq (ix4 b r h d)).symm
  have hk := fun r d => (fk (ix4 b r h d)).symm
  have hv := fun r d => (fv (ix4 b r h d)).symm
  have hg := fun r d => (fg (ix4 b r h d)).symm
  rw [gq_real (padded96 q hq) (padded96 k hk) (padded64 v hv) (padded64 _ (Cert.ReferenceIdeal.MlaBwd.o_real · hq hk hv ·)) (padded64 g hg) (logSum_real hq hk)]
  exact (padded96 _ (Cert.ReferenceIdeal.MlaBwd.dq_real · hq hk hv hg ·) r d).symm

theorem keys_eq (fq : Finite (m (c, main_arg0))) (fk : Finite (m (c, main_arg1))) (fv : Finite (m (c, main_arg2))) (fg : Finite (m (c, main_arg3))) :
    (dats m 0 c).arrAt 7 cfg0.N = ReferenceIdeal.Read.val_main_v66 (F := Ideal) (m (c, main_arg0)) (m (c, main_arg1)) (m (c, main_arg2)) (m (c, main_arg3)) := by
  rw [arr7, entry_q, entry_k, entry_v, entry_o, entry_g, entry_l, outs]
  generalize m (c, main_arg0) = q at *
  generalize m (c, main_arg1) = k at *
  generalize m (c, main_arg2) = v at *
  generalize m (c, main_arg3) = g at *
  funext x
  refine heads_ext _ (fun b h => gk _ _ _ _ _ _) x fun b h r d => ?_
  have hq := fun r d => (fq (ix4 b r h d)).symm
  have hk := fun r d => (fk (ix4 b r h d)).symm
  have hv := fun r d => (fv (ix4 b r h d)).symm
  have hg := fun r d => (fg (ix4 b r h d)).symm
  rw [gk_real (padded96 q hq) (padded96 k hk) (padded64 v hv) (padded64 _ (Cert.ReferenceIdeal.MlaBwd.o_real · hq hk hv ·)) (padded64 g hg) (logSum_real hq hk)]
  exact (padded96 _ (Cert.ReferenceIdeal.MlaBwd.dk_real · hq hk hv hg ·) r d).symm

theorem values_eq (fq : Finite (m (c, main_arg0))) (fk : Finite (m (c, main_arg1))) (fg : Finite (m (c, main_arg3))) :
    (dats m 0 c).arrAt 8 cfg0.N = ReferenceIdeal.Read.val_main_v68 (F := Ideal) (m (c, main_arg0)) (m (c, main_arg1)) (m (c, main_arg3)) := by
  rw [arr8, entry_q, entry_k, entry_g, entry_l]
  generalize m (c, main_arg0) = q at *
  generalize m (c, main_arg1) = k at *
  generalize m (c, main_arg3) = g at *
  funext x
  refine heads_ext _ (fun b h => gv _ _ _ _) x fun b h r d => ?_
  have hq := fun r d => (fq (ix4 b r h d)).symm
  have hk := fun r d => (fk (ix4 b r h d)).symm
  have hg := fun r d => (fg (ix4 b r h d)).symm
  rw [gv_real (padded96 q hq) (padded96 k hk) (padded64 g hg) (logSum_real hq hk)]
  exact (padded64 _ (Cert.ReferenceIdeal.MlaBwd.dv_real · hq hk hg ·) r d).symm

end Cert.KernelIdeal.MlaBwd
-- ==== Proof.MlaBwd.Claims.lean ====
/- The claims about the attention's backward call. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.MlaBwd.Equation

@[expose] public section
noncomputable section
namespace Cert.Proof.MlaBwd
open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E16C740#32
      (((3424635 / 33554432) * (Real.log 2)⁻¹ : ℝ) : EReal) rfl⟩

/-- A number whose absolute value is below +∞ is real. -/
theorem real_of_lt (x : EReal) (h : Ideal.cmp .olt (max x (-x)) (Ideal.ofBits .f32 0x7F800000#32) = 1#1) :
    ((x.toReal : ℝ) : EReal) = x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine EReal.coe_toReal hlt.1.ne fun hb => ?_
  rw [hb] at hlt
  exact absurd hlt.2 (by simp)

theorem finite_of_test {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    Cert.KernelIdeal.MlaBwd.Finite x := fun i => real_of_lt _ (congrFun h i)

/-- With arguments of real numbers the kernel's three arrays are the reference's. -/
theorem algebraic : Cert.algebraic_KernelIdeal_ReferenceIdeal_pre_finite := by
  intro m ρ m' ρ' hpre hagree
  refine ⟨_, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3⟩ := hagree c
  obtain ⟨p0, p1, p2, p3⟩ := hpre c
  have f0 := finite_of_test _ _ p0
  have f1 := finite_of_test _ _ p1
  have f2 := finite_of_test _ _ p2
  have f3 := finite_of_test _ _ p3
  refine ⟨h0.trans ?_, h1.trans ?_, h2.trans ?_, hargs⟩
  · rw [Cert.ReferenceIdeal.Read.val_main_v64_eq, a0, a1, a2, a3]
    exact (Cert.KernelIdeal.MlaBwd.queries_eq m c f0 f1 f2 f3).symm
  · rw [Cert.ReferenceIdeal.Read.val_main_v66_eq, a0, a1, a2, a3]
    exact (Cert.KernelIdeal.MlaBwd.keys_eq m c f0 f1 f2 f3).symm
  · rw [Cert.ReferenceIdeal.Read.val_main_v68_eq, a0, a1, a3]
    exact (Cert.KernelIdeal.MlaBwd.values_eq m c f0 f1 f3).symm

end Cert.Proof.MlaBwd
-- ==== Proof.FfnDown.Body.lean ====
module

public import proofs.«01_k».proof.Proof.Gen.Kernel2Ideal.Value
public import Idealize.ShloMosaic.Lib.Pointwise
public import Idealize.ShloMosaic.Lib.ValueIdx

/-!
# One grid point of the down projection's backward call

From a block of 512 tokens, the body computes the gradients of the two products, 256 columns at a time.
-/

@[expose] public section
noncomputable section
namespace Cert.Kernel2Ideal.FfnDown
open Cert.Kernel2Ideal Cert.Kernel2Ideal.Gen Idealize.ShloMosaic Idealize.SL.Sem

/-- One half. -/
abbrev half : EReal := Ideal.ofBits .f32 0x3F000000#32

/-- The logistic function by the hyperbolic tangent. -/
def sg (a : EReal) : EReal := half * Ideal.tanh (half * a) + half

/-- The gradient of the first product, from the product `d` of the gradient and the weights. -/
def daAt (d a b : EReal) : EReal := half * d * b * (sg a * (1 + a * (1 - sg a)))
/-- The gradient of the second product. -/
def dbAt (d a : EReal) : EReal := half * d * (a * sg a)

/-- A block of tokens: the gradient of the output. -/
abbrev BlkD : Type := Vec Ideal S512x1024 .bf16
/-- The weights. -/
abbrev Wts : Type := Vec Ideal S2816x1024 .bf16
/-- A block of tokens: the products. -/
abbrev BlkF : Type := Vec Ideal S512x2816 .bf16

/-- The gradients of the first product, of a block. -/
def gA (g : BlkD) (w : Wts) (a b : BlkF) : BlkF := fun i =>
  daAt (∑ k : Fin 1024, g (ix2 (i 0) k) * w (ix2 (i 1) k)) (a i) (b i)
/-- The gradients of the second product, of a block. -/
def gB (g : BlkD) (w : Wts) (a : BlkF) : BlkF := fun i =>
  dbAt (∑ k : Fin 1024, g (ix2 (i 0) k) * w (ix2 (i 1) k)) (a i)

theorem gA_at (g : BlkD) (w : Wts) (a b : BlkF) (r : Fin 512) (l : Fin 2816) : gA g w a b (ix2 r l)
    = daAt (∑ k : Fin 1024, g (ix2 r k) * w (ix2 l k)) (a (ix2 r l)) (b (ix2 r l)) := rfl
theorem gB_at (g : BlkD) (w : Wts) (a : BlkF) (r : Fin 512) (l : Fin 2816) : gB g w a (ix2 r l)
    = dbAt (∑ k : Fin 1024, g (ix2 r k) * w (ix2 l k)) (a (ix2 r l)) := rfl

/-- A chunk of 256 columns at an index. -/
theorem chunkA (g : Vec Ideal S512x1024 .bf16) (w : Vec Ideal S256x1024 .bf16) (a b : Vec Ideal S512x256 .bf16)
    (r : Fin 512) (l : Fin 256) : (k0_pay8 g w a b (ix2 r l) : EReal)
      = daAt (∑ k : Fin 1024, g (ix2 r k) * w (ix2 l k)) (a (ix2 r l)) (b (ix2 r l)) := by
  pointwise [k0_pay8, k0_pay7, k0_pay6, k0_pay5, k0_pay4]
  rfl

/-- A chunk of 256 columns at an index. -/
theorem chunkB (g : Vec Ideal S512x1024 .bf16) (w : Vec Ideal S256x1024 .bf16) (a : Vec Ideal S512x256 .bf16)
    (r : Fin 512) (l : Fin 256) : (k0_pay9 g w a (ix2 r l) : EReal)
      = dbAt (∑ k : Fin 1024, g (ix2 r k) * w (ix2 l k)) (a (ix2 r l)) := by
  pointwise [k0_pay9, k0_pay7, k0_pay6, k0_pay5, k0_pay4]
  rfl

/-- 256 columns of the block. -/
theorem pieceA (g : BlkD) (w : Wts) (a b : BlkF) (c : ℕ) (h) (h') (y : S512x256.Idx) :
    (k0_pay8 (View.ld g r0_0) (View.ld w (Rect.unit (s := S2816x1024) ![c, 0] S256x1024.size h)) (View.ld a (Rect.unit (s := S512x2816) ![0, c] S512x256.size h'))
      (View.ld b (Rect.unit (s := S512x2816) ![0, c] S512x256.size h')) y : EReal)
      = View.ld (gA g w a b) (Rect.unit (s := S512x2816) ![0, c] S512x256.size h') y := by
  obtain ⟨r, l, rfl⟩ : ∃ (r : Fin 512) (l : Fin 256), y = ix2 r l := ⟨y 0, y 1, eq_ix2 y⟩
  rw [chunkA]
  pointwise []
  rfl

/-- 256 columns of the block. -/
theorem pieceB (g : BlkD) (w : Wts) (a : BlkF) (c : ℕ) (h) (h') (y : S512x256.Idx) :
    (k0_pay9 (View.ld g r0_0) (View.ld w (Rect.unit (s := S2816x1024) ![c, 0] S256x1024.size h)) (View.ld a (Rect.unit (s := S512x2816) ![0, c] S512x256.size h')) y : EReal)
      = View.ld (gB g w a) (Rect.unit (s := S512x2816) ![0, c] S512x256.size h') y := by
  obtain ⟨r, l, rfl⟩ : ∃ (r : Fin 512) (l : Fin 256), y = ix2 r l := ⟨y 0, y 1, eq_ix2 y⟩
  rw [chunkB]
  pointwise []
  rfl

/-- The pieces make the block. -/
theorem outA (g : BlkD) (w : Wts) (a b : BlkF) : out0_4 g w a b = gA g w a b := by
  funext y
  refine View.canon_apply_of_pieces (gA g w a b) _ ?_ y (cover0_4 _ _ _ _ _ _ _ _ _ _ _ y)
  simp only [List.forall_mem_cons, List.not_mem_nil, false_imp_iff, implies_true, and_true]
  exact ⟨pieceA g w a b 2560 _ _, pieceA g w a b 2304 _ _, pieceA g w a b 2048 _ _, pieceA g w a b 1792 _ _,
    pieceA g w a b 1536 _ _, pieceA g w a b 1280 _ _, pieceA g w a b 1024 _ _, pieceA g w a b 768 _ _,
    pieceA g w a b 512 _ _, pieceA g w a b 256 _ _, pieceA g w a b 0 _ _⟩

/-- The pieces make the block. -/
theorem outB (g : BlkD) (w : Wts) (a b : BlkF) : out0_5 g w a b = gB g w a := by
  funext y
  refine View.canon_apply_of_pieces (gB g w a) _ ?_ y (cover0_5 _ _ _ _ _ _ _ _ _ _ _ y)
  simp only [List.forall_mem_cons, List.not_mem_nil, false_imp_iff, implies_true, and_true]
  exact ⟨pieceB g w a 2560 _ _, pieceB g w a 2304 _ _, pieceB g w a 2048 _ _, pieceB g w a 1792 _ _,
    pieceB g w a 1536 _ _, pieceB g w a 1280 _ _, pieceB g w a 1024 _ _, pieceB g w a 768 _ _,
    pieceB g w a 512 _ _, pieceB g w a 256 _ _, pieceB g w a 0 _ _⟩

end Cert.Kernel2Ideal.FfnDown
end
-- ==== Proof.FfnDown.Array.lean ====
/- The two result arrays of the down projection's backward call, from the arguments of the program. -/
module

public import proofs.«01_k».proof.Proof.FfnDown.Body
public import Idealize.ShloMosaic.Lib.Pipeline.ValueKit
public import Idealize.ShloMosaic.Lib.StableHlo.RunRead

@[expose] public section
noncomputable section
namespace Cert.Kernel2Ideal.FfnDown
open Cert.Kernel2Ideal Cert.Kernel2Ideal.Gen Idealize.ShloMosaic Idealize.ShloMosaic.TcCoe Idealize.SL.Sem
open Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![t.val, 0] :=
  (by decide +kernel : ∀ t : Fin grid0.N, _)
theorem index4 : ∀ t : Fin cfg0.N, win0_4.index t = ![t.val, 0] :=
  (by decide +kernel : ∀ t : Fin grid0.N, _)
theorem index5 : ∀ t : Fin cfg0.N, win0_5.index t = ![t.val, 0] :=
  (by decide +kernel : ∀ t : Fin grid0.N, _)

/-- Row `r` of tile `t`. -/
def row (t : Fin cfg0.N) (r : Fin 512) : Fin 4096 :=
  ⟨t.val * 512 + r.val, by have : t.val < 8 := t.isLt; omega⟩

theorem blk0 (t : Fin cfg0.N) (r : Fin 512) (k : Fin 1024) :
    iblk m c 0 t (ix2 r k) = V m c main_v0 (ix2 (row t r) k) := by
  blk_simp [iblk]; congr 1; blk_ext [index0, row]
theorem blk1 (t : Fin cfg0.N) : iblk m c 1 t = V m c main_v1 := by
  funext y; blk_simp [iblk]; congr 1; blk_ext [index1]
theorem blk2 (t : Fin cfg0.N) (r : Fin 512) (l : Fin 2816) :
    iblk m c 2 t (ix2 r l) = V m c main_v2 (ix2 (row t r) l) := by
  blk_simp [iblk]; congr 1; blk_ext [index2, row]
theorem blk3 (t : Fin cfg0.N) (r : Fin 512) (l : Fin 2816) :
    iblk m c 3 t (ix2 r l) = V m c main_v3 (ix2 (row t r) l) := by
  blk_simp [iblk]; congr 1; blk_ext [index3, row]

/-- Where a row of a tile lies in the array. -/
theorem place4 (t : Fin cfg0.N) (r : Fin 512) (l : Fin 2816) :
    ((cfg0.win 4).blk t).view.emb (ix2 r l) = ix2 (row t r) l := by
  funext a; apply Fin.ext
  match a with
  | ⟨0, _⟩ => blk_simp [index4, row]
  | ⟨1, _⟩ => blk_simp [index4, row]
theorem place5 (t : Fin cfg0.N) (r : Fin 512) (l : Fin 2816) :
    ((cfg0.win 5).blk t).view.emb (ix2 r l) = ix2 (row t r) l := by
  funext a; apply Fin.ext
  match a with
  | ⟨0, _⟩ => blk_simp [index5, row]
  | ⟨1, _⟩ => blk_simp [index5, row]

/-- The gradient of the first product, from the gradient of the output, the weights and the products. -/
def wholeA (g : FVec Ideal S4096x1024 .f32) (w : FVec Ideal S2816x1024 .f32) (a b : FVec Ideal S4096x2816 .f32) :
    FVec Ideal S4096x2816 .bf16 := fun i =>
  daAt (∑ k : Fin 1024, g (ix2 (i 0) k) * w (ix2 (i 1) k)) (a i) (b i)
/-- The gradient of the second product. -/
def wholeB (g : FVec Ideal S4096x1024 .f32) (w : FVec Ideal S2816x1024 .f32) (a : FVec Ideal S4096x2816 .f32) :
    FVec Ideal S4096x2816 .bf16 := fun i =>
  dbAt (∑ k : Fin 1024, g (ix2 (i 0) k) * w (ix2 (i 1) k)) (a i)

theorem entry_g : V m c main_v0 = m (c, main_arg3) := by unfold V; after_reads_simp; rfl
theorem entry_w : V m c main_v1 = m (c, main_arg2) := by unfold V; after_reads_simp; rfl
theorem entry_a : V m c main_v2 = m (c, main_arg0) := by unfold V; after_reads_simp; rfl
theorem entry_b : V m c main_v3 = m (c, main_arg1) := by unfold V; after_reads_simp; rfl

/-- The first result array. -/
theorem arr4 : (dats m 0 c).arrAt 4 cfg0.N
    = wholeA (m (c, main_arg3)) (m (c, main_arg2)) (m (c, main_arg0)) (m (c, main_arg1)) := by
  refine (dats m 0 c).arrAt_eq_of_covers 4 _ (by decide +kernel) fun t hf y => ?_
  obtain ⟨r, l, rfl⟩ : ∃ (r : Fin 512) (l : Fin 2816), y = ix2 r l := ⟨y 0, y 1, eq_ix2 y⟩
  rw [place4]
  blk_simp
  rw [after0_4, outA]
  refine (gA_at _ _ _ _ r l).trans ?_
  simp only [blk0, blk1, blk2, blk3, entry_g, entry_w, entry_a, entry_b]
  rfl

/-- The second result array. -/
theorem arr5 : (dats m 0 c).arrAt 5 cfg0.N
    = wholeB (m (c, main_arg3)) (m (c, main_arg2)) (m (c, main_arg0)) := by
  refine (dats m 0 c).arrAt_eq_of_covers 5 _ (by decide +kernel) fun t hf y => ?_
  obtain ⟨r, l, rfl⟩ : ∃ (r : Fin 512) (l : Fin 2816), y = ix2 r l := ⟨y 0, y 1, eq_ix2 y⟩
  rw [place5]
  blk_simp
  rw [after0_5, outB]
  refine (gB_at _ _ _ r l).trans ?_
  simp only [blk0, blk1, blk2, entry_g, entry_w, entry_a]
  rfl
end Cert.Kernel2Ideal.FfnDown
end
-- ==== Proof.Macaron.Numbers.lean ====
/- Real numbers inside the extended reals, as the feed-forward layer's gradients use them. -/
module

public import proofs.«01_k».proof.Proof.MlaBwd.RefProbs
public import Mathlib.Analysis.SpecialFunctions.Trigonometric.DerivHyp

@[expose] public section
noncomputable section
namespace Cert.Macaron
open Idealize.ShloMosaic

/-- Every entry is a real number. -/
def Finite {s : Shape} (x : FVec Ideal s .f32) : Prop := ∀ i, ((EReal.toReal (x i) : ℝ) : EReal) = x i

/-- One half. -/
abbrev half : EReal := Ideal.ofBits .f32 0x3F000000#32

theorem half_eq : half = ((1 / 2 : ℝ) : EReal) := by
  unfold half
  simp [Ideal.ofBits, Ideal.ieee]
  norm_num
  rw [← EReal.coe_mul]
  norm_num

/-- The logistic function. -/
def logist (a : ℝ) : ℝ := 1 / (1 + Real.exp (-a))

theorem logist_tanh (a : ℝ) : 1 / 2 * Real.tanh (1 / 2 * a) + 1 / 2 = logist a := by
  have h1 : Real.exp (-a) = (Real.exp (1 / 2 * a))⁻¹ * (Real.exp (1 / 2 * a))⁻¹ := by
    rw [← Real.exp_neg, ← Real.exp_add]; congr 1; ring
  have h := (Real.exp_pos (1 / 2 * a)).ne'
  unfold logist
  rw [Real.tanh_eq_sinh_div_cosh, Real.sinh_eq, Real.cosh_eq, Real.exp_neg, h1]
  have h2 : Real.exp (1 / 2 * a) ^ 2 + 1 ≠ 0 := by positivity
  field_simp
  ring

/-- One half of a sum. -/
theorem half_sum {ι : Type*} (s : Finset ι) (f : ι → EReal) : half * ∑ i ∈ s, f i = ∑ i ∈ s, half * f i := by
  classical
  have h0 : (0 : EReal) ≤ half := by rw [half_eq]; exact_mod_cast (by norm_num : (0 : ℝ) ≤ 1 / 2)
  have ht : half ≠ ⊤ := by rw [half_eq]; exact EReal.coe_ne_top _
  induction s using Finset.induction_on with
  | empty => simp
  | insert a s ha ih =>
    rw [Finset.sum_insert ha, Finset.sum_insert ha, EReal.left_distrib_of_nonneg_of_ne_top h0 ht, ih]

end Cert.Macaron
end
-- ==== Proof.FfnDown.Equation.lean ====
/- The down projection's two gradients are the reference's. -/
module

public import proofs.«01_k».proof.Proof.FfnDown.Array
public import proofs.«01_k».proof.Proof.Macaron.Numbers
public import proofs.«01_k».proof.Proof.Gen.Reference2Ideal.Read

@[expose] public section
noncomputable section
namespace Cert.Kernel2Ideal.FfnDown
open Idealize.ShloMosaic Cert.Macaron Cert.MlaBwd Cert.Reference2Ideal.Read
open Cert.ReferenceIdeal.MlaBwd (one_word div_real)

/-- The logistic function of a real number. -/
theorem sg_real (a : ℝ) : sg (a : EReal) = ((logist a : ℝ) : EReal) := by
  unfold sg
  rw [show FfnDown.half = ((1 / 2 : ℝ) : EReal) from half_eq, ← EReal.coe_mul, Ideal.tanh_coe, ← EReal.coe_mul, ← EReal.coe_add, logist_tanh]

/-- The reference's logistic function. -/
theorem ref_sig (x0 : FVec Ideal Cert.Reference2Ideal.S4096x2816 .f32) (i : Cert.Reference2Ideal.S4096x2816.Idx) (a : ℝ)
    (ha : x0 i = (a : EReal)) : val_main_v0_2 (F := Ideal) x0 i = ((logist a : ℝ) : EReal) := by
  rw [val_main_v0_2_apply, val_main_call0_v4_apply, val_main_call0_cst_0_apply, val_main_call0_v3_apply, val_main_call0_v2_apply,
    val_main_call0_cst_apply, val_main_call0_v1_apply, val_main_call0_v0_apply, one_word, ha]
  show Ideal.div _ (_ + Ideal.exp (-(a : EReal))) = _
  rw [← EReal.coe_neg, Ideal.exp_coe, ← EReal.coe_add, div_real _ _ (by positivity)]
  rfl

/-- The reference's derivative of the logistic function. -/
theorem ref_dsig (x0 : FVec Ideal Cert.Reference2Ideal.S4096x2816 .f32) (i : Cert.Reference2Ideal.S4096x2816.Idx) (a : ℝ)
    (ha : x0 i = (a : EReal)) : val_main_v0_1 (F := Ideal) x0 i = ((logist a * (1 - logist a) : ℝ) : EReal) := by
  rw [val_main_v0_1_apply, val_main_call0_v7_apply, val_main_call0_v6_apply, val_main_call0_cst_1_apply, ref_sig x0 i a ha, one_word]
  rfl

/-- The product of the gradient and the weights, halved. -/
theorem ref_dh (w : FVec Ideal Cert.Reference2Ideal.S2816x1024 .f32) (g : FVec Ideal Cert.Reference2Ideal.S4096x1024 .f32)
    (r : Fin 4096) (l : Fin 2816) : val_main_v9 (F := Ideal) w g (ix2 r l) = Macaron.half * ∑ k : Fin 1024, g (ix2 r k) * w (ix2 l k) := by
  rw [val_main_v9_apply, half_sum]
  refine Finset.sum_congr rfl fun k _ => ?_
  rw [val_main_v6_apply, val_main_v5_apply, val_main_cst_0_apply,
    show lidx_main_v9 (ix2 r l) k = ix2 r k from eq_ix2 _, show ridx_main_v9 (ix2 r l) k = ix2 l k from eq_ix2 _]
  exact mul_assoc _ _ _

/-- A sum of products of real numbers is a real number. -/
theorem sum_real {n : ℕ} (f g : Fin n → EReal) (hf : ∀ k, ((f k).toReal : EReal) = f k) (hg : ∀ k, ((g k).toReal : EReal) = g k) :
    ∑ k, f k * g k = ((∑ k, (f k).toReal * (g k).toReal : ℝ) : EReal) := by
  rw [coe_sum]
  exact Finset.sum_congr rfl fun k _ => by rw [EReal.coe_mul, hf, hg]

theorem first_eq (g : FVec Ideal Cert.Reference2Ideal.S4096x1024 .f32) (w : FVec Ideal Cert.Reference2Ideal.S2816x1024 .f32)
    (a b : FVec Ideal Cert.Reference2Ideal.S4096x2816 .f32) (fg : Finite g) (fw : Finite w) (fa : Finite a) (fb : Finite b) :
    wholeA g w a b = val_main_v13 (F := Ideal) a b w g := by
  funext i
  obtain ⟨r, l, rfl⟩ : ∃ (r : Fin 4096) (l : Fin 2816), i = ix2 r l := ⟨i 0, i 1, eq_ix2 i⟩
  rw [val_main_v13_apply, val_main_v12_apply, val_main_call1_v1_apply, val_main_call1_v2_apply, val_main_call1_v0_apply,
    val_main_v11_apply, ref_dh, ref_sig a _ _ (fa _).symm, ref_dsig a _ _ (fa _).symm]
  show daAt (∑ k : Fin 1024, g (ix2 r k) * w (ix2 l k)) (a (ix2 r l)) (b (ix2 r l)) = _
  rw [sum_real _ _ (fun k => fg (ix2 r k)) (fun k => fw (ix2 l k))]
  generalize (∑ k : Fin 1024, (g (ix2 r k)).toReal * (w (ix2 l k)).toReal : ℝ) = d
  rw [← fa (ix2 r l), ← fb (ix2 r l)]
  simp only [EReal.toReal_coe]
  generalize EReal.toReal (a (ix2 r l)) = x
  generalize EReal.toReal (b (ix2 r l)) = y
  unfold daAt
  rw [sg_real, half_eq, show FfnDown.half = ((1 / 2 : ℝ) : EReal) from half_eq]
  show (((1 / 2 : ℝ) : EReal) * d * y * (((logist x : ℝ) : EReal) * (1 + x * (1 - ((logist x : ℝ) : EReal)))) : EReal)
    = (((1 / 2 : ℝ) : EReal) * d * y) * ((logist x : ℝ) : EReal) + (x * (((1 / 2 : ℝ) : EReal) * d * y)) * ((logist x * (1 - logist x) : ℝ) : EReal)
  rw [← EReal.coe_one]
  simp only [← EReal.coe_mul, ← EReal.coe_sub, ← EReal.coe_add]
  congr 1
  ring

theorem second_eq (g : FVec Ideal Cert.Reference2Ideal.S4096x1024 .f32) (w : FVec Ideal Cert.Reference2Ideal.S2816x1024 .f32)
    (a : FVec Ideal Cert.Reference2Ideal.S4096x2816 .f32) (fa : Finite a) :
    wholeB g w a = val_main_v14 (F := Ideal) a w g := by
  funext i
  obtain ⟨r, l, rfl⟩ : ∃ (r : Fin 4096) (l : Fin 2816), i = ix2 r l := ⟨i 0, i 1, eq_ix2 i⟩
  rw [val_main_v14_apply, val_main_v10_apply, val_main_v0_0_apply, ref_dh, ref_sig a _ _ (fa _).symm]
  show dbAt (∑ k : Fin 1024, g (ix2 r k) * w (ix2 l k)) (a (ix2 r l)) = _
  unfold dbAt
  rw [← fa (ix2 r l), sg_real, EReal.toReal_coe]
  exact mul_comm _ _

end Cert.Kernel2Ideal.FfnDown
end
-- ==== Proof.FfnDown.Claims.lean ====
/- The claims about the feed-forward layer's backward call through its last product and its gates. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.MlaBwd.Claims
public import proofs.«01_k».proof.Proof.FfnDown.Equation

@[expose] public section
noncomputable section
namespace Cert.Proof.FfnDown
open Idealize.ShloMosaic Idealize.SL.Sem Cert.Proof.MlaBwd

theorem frame_p : Cert.quiescent_Kernel2 := fun m ρ _ => Cert.Kernel2.Gen.frame m ρ
theorem frame_pi : Cert.quiescent_Kernel2Ideal := fun m ρ _ => Cert.Kernel2Ideal.Gen.frame m ρ
theorem frame_pi_finite : Cert.quiescent_Kernel2Ideal_pre_finite2 := fun m ρ _ => Cert.Kernel2Ideal.Gen.frame m ρ
theorem frame_ri : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)
theorem frame_ri_finite : Cert.quiescent_Reference2Ideal_pre_finite2 := fun m ρ _ => frame_ri m ρ trivial

theorem preserves : Cert.preserves_Kernel2_Kernel2Ideal := trivial

/-- With arguments of real numbers the kernel's two arrays are the reference's. -/
theorem algebraic : Cert.algebraic_Kernel2Ideal_Reference2Ideal_pre_finite2 := by
  intro m ρ m' ρ' hpre hagree
  refine ⟨_, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨h0, h1, hargs⟩ := h c
  obtain ⟨a0, a1, a2, a3⟩ := hagree c
  obtain ⟨p0, p1, p2, p3⟩ := hpre c
  have f0 := finite_of_test _ _ p0
  have f1 := finite_of_test _ _ p1
  have f2 := finite_of_test _ _ p2
  have f3 := finite_of_test _ _ p3
  refine ⟨h0.trans ?_, h1.trans ?_, hargs⟩
  · rw [Cert.Reference2Ideal.Read.val_main_v13_eq, a0, a1, a2, a3, Cert.Kernel2Ideal.FfnDown.arr4]
    exact (Cert.Kernel2Ideal.FfnDown.first_eq _ _ _ _ f3 f2 f0 f1).symm
  · rw [Cert.Reference2Ideal.Read.val_main_v14_eq, a0, a2, a3, Cert.Kernel2Ideal.FfnDown.arr5]
    exact (Cert.Kernel2Ideal.FfnDown.second_eq _ _ _ f0).symm

end Cert.Proof.FfnDown
end
-- ==== Proof.FfnDn.Body.lean ====
/- What one grid point of the backward call through the layer's first products and its norm leaves in its results. -/
module

public import proofs.«01_k».proof.Proof.Gen.Kernel3Ideal.Value
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel3Ideal.FfnDn
open Cert.Kernel3Ideal Cert.Kernel3Ideal.Gen Idealize.ShloMosaic Idealize.ShloMosaic.TcCoe Idealize.SL.Sem

section
variable (x0 x1 : Vec Ideal S512x2816 .bf16) (x2 x3 : Vec Ideal S2816x1024 .bf16)

/-- The gradient of the normalised input on one tile. -/
def dn : Vec Ideal S512x1024 .f32 := fun y =>
  ∑ k : Fin 2816, x0 (ix2 (y 0) k) * x2 (ix2 k (y 1)) + ∑ k : Fin 2816, x1 (ix2 (y 0) k) * x3 (ix2 k (y 1))

/-- Half of the columns of it, from column `o`. -/
theorem dn_half (o : ℕ) (h) (h') (h'') (y : S512x512.Idx) :
    (k0_pay1 (View.ld x0 (Rect.unit (s := S512x2816) ![0, 0] S512x2816.size h')) (View.ld x2 (Rect.unit (s := S2816x1024) ![0, o] S2816x512.size h''))
      (View.ld x1 (Rect.unit (s := S512x2816) ![0, 0] S512x2816.size h')) (View.ld x3 (Rect.unit (s := S2816x1024) ![0, o] S2816x512.size h'')) y : EReal)
      = dn x0 x1 x2 x3 ((Rect.unit (s := S512x1024) ![0, o] S512x512.size h).emb y) := by
  obtain ⟨r, l, rfl⟩ : ∃ (r : Fin 512) (l : Fin 512), y = ix2 r l := ⟨y 0, y 1, eq_ix2 y⟩
  show _ = View.ld (dn x0 x1 x2 x3) (Rect.unit (s := S512x1024) ![0, o] S512x512.size h) (ix2 r l)
  pointwise [k0_pay1]
  rfl

/-- The two stores of it, the last first. -/
def halves : List (View.Piece (Elt Ideal) S512x1024 .f32) :=
  let f (o : ℕ) (h : ∀ a, (![0, o] : Fin 2 → ℕ) a + S512x512.size a ≤ S512x1024.size a)
      (h'' : ∀ a, (![0, o] : Fin 2 → ℕ) a + S2816x512.size a ≤ S2816x1024.size a) : View.Piece (Elt Ideal) S512x1024 .f32 :=
    ⟨Rect.unit (s := S512x1024) ![0, o] S512x512.size h,
      k0_pay1 (View.ld x0 (Rect.unit (s := S512x2816) ![0, 0] S512x2816.size (by decide))) (View.ld x2 (Rect.unit (s := S2816x1024) ![0, o] S2816x512.size h''))
        (View.ld x1 (Rect.unit (s := S512x2816) ![0, 0] S512x2816.size (by decide))) (View.ld x3 (Rect.unit (s := S2816x1024) ![0, o] S2816x512.size h''))⟩
  [f 512 (by decide) (by decide), f 0 (by decide) (by decide)]

theorem canon_halves : View.canon (halves x0 x1 x2 x3) = dn x0 x1 x2 x3 := by
  funext y
  refine View.canon_apply_of_pieces (dn x0 x1 x2 x3) _ ?_ y
    (View.cover_of_tiledL (halves x0 x1 x2 x3) S512x512.size (by sl_kernel_rfl) y)
  unfold halves
  simp only [List.forall_mem_cons, List.not_mem_nil, false_imp_iff, implies_true, and_true]
  exact ⟨dn_half x0 x1 x2 x3 512 _ _ _, dn_half x0 x1 x2 x3 0 _ _ _⟩

theorem zero2 : (![0, 0] : Fin 2 → ℕ) = fun _ => 0 := by decide

theorem whole_tile {e : EltTy} (x : Vec Ideal S512x1024 e) (h) :
    View.ld x (Rect.unit (s := S512x1024) ![0, 0] ![512, 1024] h) = x := View.ld_unit_zero zero2 h x
theorem whole_row (x : Vec Ideal S1x1024 .f32) (h) :
    View.ld x (Rect.unit (s := S1x1024) ![0, 0] ![1, 1024] h) = x := View.ld_unit_zero zero2 h x

/-- What is read back of the two stores. -/
theorem read_halves (v : View sig .tc .vmem S512x1024 .f32) (h) :
    v.readCov (halves x0 x1 x2 x3) (Rect.unit (s := S512x1024) ![0, 0] S512x1024.size h).toLoadRect = dn x0 x1 x2 x3 := by
  rw [View.readCov_eq_canon']
  exact (View.ld_unit_zero zero2 _ _).trans (canon_halves x0 x1 x2 x3)
end

variable (c : Dev nD) (i : grid0.Coords) (a1 : Memref sig .tc .vmem S512x2816 .bf16) (h1 : a1.IsWhole)
  (a2 : Memref sig .tc .vmem S512x2816 .bf16) (h2 : a2.IsWhole) (a3 : Memref sig .tc .vmem S2816x1024 .bf16) (h3 : a3.IsWhole)
  (a4 : Memref sig .tc .vmem S2816x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (x0 x1 : Vec Ideal S512x2816 .bf16) (x2 x3 : Vec Ideal S2816x1024 .bf16) (x4 : Vec Ideal S512x1024 .f32)
  (x5 : Vec Ideal S1x1024 .f32) (x6 : Vec Ideal S512x1024 .f32) (xo : Vec Ideal S1x1024 .f32)

theorem out_A7 (hc : cond0_0 i) :
    out0_A_7 c i a1 h1 a2 h2 a3 h3 a4 h4 a5 h5 a6 h6 a7 h7 a8 h8 a9 h9 a10 h10 a11 h11 hc x0 x1 x2 x3 x4 x5 x6
      = k0_pay6 x4 (k0_pay3 x4) (dn x0 x1 x2 x3) x5 x6 := by
  unfold out0_A_7
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread]
  refine (View.canon_cons_unit_zero zero2 _ _ _).trans ?_
  simp only [whole_tile, whole_row]
  exact congrArg (fun z => k0_pay6 x4 (k0_pay3 x4) z x5 x6) (read_halves x0 x1 x2 x3 a11.view _)

theorem out_A8 (hc : cond0_0 i) :
    out0_A_8 c i a1 h1 a2 h2 a3 h3 a4 h4 a5 h5 a6 h6 a7 h7 a8 h8 a9 h9 a10 h10 a11 h11 hc x0 x1 x2 x3 x4 x5 x6
      = k0_pay7 x4 (k0_pay3 x4) (dn x0 x1 x2 x3) x5 x6 := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread]
  refine (View.canon_cons_unit_zero zero2 _ _ _).trans ?_
  simp only [whole_tile, whole_row]
  exact congrArg (fun z => k0_pay7 x4 (k0_pay3 x4) z x5 x6) (read_halves x0 x1 x2 x3 a11.view _)

theorem out_A9 (hc : cond0_0 i) :
    out0_A_9 c i a1 h1 a2 h2 a3 h3 a4 h4 a5 h5 a6 h6 a7 h7 a8 h8 a9 h9 a10 h10 a11 h11 hc x0 x1 x2 x3 x4 x5 x6
      = k0_pay9 x4 (k0_pay3 x4) (dn x0 x1 x2 x3) (k0_pay8 (F := Ideal)) := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread]
  refine (View.canon_cons_unit_zero zero2 _ _ _).trans ?_
  simp only [whole_tile, whole_row]
  exact congrArg₂ (fun z w => k0_pay9 x4 (k0_pay3 x4) z w) (read_halves x0 x1 x2 x3 a11.view _) (View.readCov_unit_zero a10.view zero2 _ _)

theorem out_B7 (hc : ¬cond0_0 i) :
    out0_B_7 c i a1 h1 a2 h2 a3 h3 a4 h4 a5 h5 a6 h6 a7 h7 a8 h8 a9 h9 a10 h10 a11 h11 hc x0 x1 x2 x3 x4 x5 x6 xo
      = k0_pay6 x4 (k0_pay3 x4) (dn x0 x1 x2 x3) x5 x6 := by
  unfold out0_B_7
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h10.read_unread]
  refine (View.canon_cons_unit_zero zero2 _ _ _).trans ?_
  simp only [whole_tile, whole_row]
  exact congrArg (fun z => k0_pay6 x4 (k0_pay3 x4) z x5 x6) (read_halves x0 x1 x2 x3 a11.view _)

theorem out_B8 (hc : ¬cond0_0 i) :
    out0_B_8 c i a1 h1 a2 h2 a3 h3 a4 h4 a5 h5 a6 h6 a7 h7 a8 h8 a9 h9 a10 h10 a11 h11 hc x0 x1 x2 x3 x4 x5 x6 xo
      = k0_pay7 x4 (k0_pay3 x4) (dn x0 x1 x2 x3) x5 x6 := by
  unfold out0_B_8
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h10.read_unread]
  refine (View.canon_cons_unit_zero zero2 _ _ _).trans ?_
  simp only [whole_tile, whole_row]
  exact congrArg (fun z => k0_pay7 x4 (k0_pay3 x4) z x5 x6) (read_halves x0 x1 x2 x3 a11.view _)

theorem out_B9 (hc : ¬cond0_0 i) :
    out0_B_9 c i a1 h1 a2 h2 a3 h3 a4 h4 a5 h5 a6 h6 a7 h7 a8 h8 a9 h9 a10 h10 a11 h11 hc x0 x1 x2 x3 x4 x5 x6 xo
      = k0_pay9 x4 (k0_pay3 x4) (dn x0 x1 x2 x3) xo := by
  unfold out0_B_9
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h10.read_unread]
  refine (View.canon_cons_unit_zero zero2 _ _ _).trans ?_
  simp only [whole_tile, whole_row]
  exact congrArg (fun z => k0_pay9 x4 (k0_pay3 x4) z xo) (read_halves x0 x1 x2 x3 a11.view _)

end Cert.Kernel3Ideal.FfnDn
end
-- ==== Proof.Macaron.Norm.lean ====
/- The root mean square norm of a row of 1024 numbers: its factor, and what the backward calls make of it. -/
module

public import proofs.«01_k».proof.Proof.Macaron.Numbers
public import Idealize.ShloMosaic.Lib.ValueIdx
public import Idealize.ShloMosaic.Lib.Pointwise

@[expose] public section
noncomputable section
namespace Cert.Macaron
open Idealize.ShloMosaic

/-- The length of a row. -/
abbrev width : EReal := Ideal.ofBits .f32 0x44800000#32
/-- What is added to the mean of the squares. -/
abbrev small : EReal := Ideal.ofBits .f32 0x358637BD#32

/-- The mean of a row's squares, and the small number. -/
def msq (x : Fin 1024 → EReal) : EReal := Ideal.div (∑ k, x k * x k) width + small
/-- The factor of a row. -/
def rs (x : Fin 1024 → EReal) : EReal := Ideal.rsqrt (msq x)

/-- The gradient of an entry of the norm's input, from the gradient `d` of the norm's output and the gradient `dy` past it. -/
def dxAt (x d g : Fin 1024 → EReal) (dy : EReal) (l : Fin 1024) : EReal :=
  dy + rs x * (d l * g l - x l * rs x * Ideal.div (∑ k, d k * g k * (x k * rs x)) width)

theorem width_eq : width = ((1024 : ℝ) : EReal) := by
  unfold width
  simp [Ideal.ofBits, Ideal.ieee]
  norm_num
  try rw [← EReal.coe_mul]
  try norm_num

/-- The small number, as a real one. -/
def smallR : ℝ := 8796093 / 2 ^ 43
theorem small_eq : small = ((smallR : ℝ) : EReal) := by
  unfold small smallR
  simp [Ideal.ofBits, Ideal.ieee]
  norm_num
  try rw [← EReal.coe_mul]
  try norm_num
theorem smallR_pos : 0 < smallR := by unfold smallR; norm_num

theorem minus_half_eq : Ideal.ofBits .f32 0xBF000000#32 = ((-(1 / 2) : ℝ) : EReal) := by
  simp [Ideal.ofBits, Ideal.ieee]
  norm_num
  try rw [← EReal.coe_mul]
  try norm_num

end Cert.Macaron
end
-- ==== Proof.Tokens.Sum.lean ====
/- A sum over all 4096 tokens, gathered over 8 tiles of 512, and the fold that gathers it. -/
module

public import Idealize.ShloMosaic.Lib.Pipeline.ValueKit
public import Idealize.ShloMosaic.Lib.Pointwise
public import Idealize.ShloMosaic.Lib.ValueIdx

@[expose] public section
noncomputable section
namespace Cert.Tokens
open Idealize.ShloMosaic

/-- Row `k` of tile `s`. -/
def row (s : ℕ) (k : Fin 512) : Fin 4096 := ⟨(s * 512 + k.val) % 4096, Nat.mod_lt _ (by decide)⟩

theorem row_val (s : ℕ) (hs : s < 8) (k : Fin 512) : (row s k).val = s * 512 + k.val :=
  Nat.mod_eq_of_lt (by omega)

/-- The first `n` tiles' part of a sum over the tokens. -/
def upto (p : Fin 4096 → EReal) (n : ℕ) : EReal := ∑ s ∈ Finset.range n, ∑ k : Fin 512, p (row s k)

theorem upto_succ (p : Fin 4096 → EReal) (n : ℕ) : upto p (n + 1) = upto p n + ∑ k : Fin 512, p (row n k) :=
  Finset.sum_range_succ _ _

theorem upto_all (p : Fin 4096 → EReal) : upto p 8 = ∑ k : Fin 4096, p k := by
  unfold upto
  rw [Finset.sum_range (n := 8), ← Fintype.sum_prod_type']
  refine Fintype.sum_equiv (finProdFinEquiv (m := 8) (n := 512)) _ _ fun x => ?_
  congr 1
  apply Fin.ext
  rw [row_val _ x.1.isLt]
  show _ = x.2.val + 512 * x.1.val
  omega

/-- A fold whose second component follows `M` from the first point on. -/
theorem fold_snd {α β : Type} {N : ℕ} (g : (n : ℕ) → n < N → α × β) (a : (n : ℕ) → n < N → α × β → α × β) (M : ℕ → β) (J : ℕ)
    (h0 : ∀ h, (g 0 h).2 = M 1) (hs : ∀ n h acc, 0 < n → n ≤ J → acc.2 = M n → (a n h acc).2 = M (n + 1)) :
    ∀ (j : ℕ) (h : 0 + j < N), j ≤ J → (Pipeline.accAt g a 0 j h).2 = M (j + 1) := by
  intro j
  induction j with
  | zero => exact fun h _ => h0 h
  | succ j ih =>
    intro h hj
    refine (hs (0 + (j + 1)) h _ (by omega) (by omega) ?_).trans (by rw [Nat.zero_add])
    rw [Nat.zero_add]
    exact ih _ (by omega)

end Cert.Tokens
end
-- ==== Proof.FfnDn.Array.lean ====
/- The result arrays of the backward call through the layer's first products and its norm, from the arguments of the program. -/
module

public import proofs.«01_k».proof.Proof.FfnDn.Body
public import proofs.«01_k».proof.Proof.Macaron.Norm
public import proofs.«01_k».proof.Proof.Tokens.Sum
public import Idealize.ShloMosaic.Lib.StableHlo.RunRead

@[expose] public section
noncomputable section
namespace Cert.Kernel3Ideal.FfnDn
open Cert.Kernel3Ideal Cert.Kernel3Ideal.Gen Idealize.ShloMosaic Idealize.ShloMosaic.TcCoe Idealize.SL.Sem
open Idealize.ShloMosaic.StableHlo Cert.Macaron Cert.Tokens

/-! ## One tile -/

section
variable (x : Vec Ideal S512x1024 .f32) (d : Vec Ideal S512x1024 .f32) (g : Vec Ideal S1x1024 .f32) (dy : Vec Ideal S512x1024 .f32)
  (acc : Vec Ideal S1x1024 .f32)

theorem dx_at (r : Fin 512) (l : Fin 1024) : (k0_pay6 x (k0_pay3 x) d g dy (ix2 r l) : EReal)
    = dxAt (fun k => x (ix2 r k)) (fun k => d (ix2 r k)) (fun k => g (ix2 0 k)) (dy (ix2 r l)) l := by
  pointwise [k0_pay6, k0_pay3, k0_pay5, k0_pay4]
  rfl
theorem dxh_at (r : Fin 512) (l : Fin 1024) : (k0_pay7 x (k0_pay3 x) d g dy (ix2 r l) : EReal)
    = dxAt (fun k => x (ix2 r k)) (fun k => d (ix2 r k)) (fun k => g (ix2 0 k)) (dy (ix2 r l)) l := by
  pointwise [k0_pay7, k0_pay6, k0_pay3, k0_pay5, k0_pay4]
  rfl
theorem dg_at (r : Fin 1) (l : Fin 1024) : (k0_pay9 x (k0_pay3 x) d acc (ix2 r l) : EReal)
    = acc (ix2 r l) + ∑ k : Fin 512, d (ix2 k l) * (x (ix2 k l) * rs (fun j => x (ix2 k j))) := by
  pointwise [k0_pay9, k0_pay3, k0_pay5, k0_pay4]
  rfl
theorem zero_at (r : Fin 1) (l : Fin 1024) : (k0_pay8 (F := Ideal) (ix2 r l) : EReal) = 0 := by
  pointwise [k0_pay8]
end

/-! ## The whole arrays -/

section
variable (x : FVec Ideal S4096x1024 .f32) (g : FVec Ideal S1024 .f32) (wg wu : FVec Ideal S1024x2816 .f32)
  (dy : FVec Ideal S4096x1024 .f32) (da db : FVec Ideal S4096x2816 .f32)

/-- The gradient of the norm's output. -/
def dnAll (r : Fin 4096) (l : Fin 1024) : EReal :=
  ∑ k : Fin 2816, da (ix2 r k) * wg (ix2 l k) + ∑ k : Fin 2816, db (ix2 r k) * wu (ix2 l k)
/-- The gradient of the layer's input. -/
def wholeX : FVec Ideal S4096x1024 .f32 := fun i =>
  dxAt (fun k => x (ix2 (i 0) k)) (dnAll wg wu da db (i 0)) (fun k => g (ix1 k)) (dy i) (i 1)
/-- The same, as the last result holds it. -/
def wholeH : FVec Ideal S4096x1024 .bf16 := wholeX x g wg wu dy da db
/-- A token's part of the gradient of the norm's gain. -/
def part (l : Fin 1024) (r : Fin 4096) : EReal :=
  dnAll wg wu da db r l * (x (ix2 r l) * rs (fun k => x (ix2 r k)))
/-- The gradient of the gain after `n` tiles. -/
def gainAfter (n : ℕ) : FVec Ideal S1x1024 .f32 := fun i => upto (part x wg wu da db (i 1)) n
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)

theorem rowOf (t : Fin cfg0.N) (k : Fin 512) : row t.val k = ⟨t.val * 512 + k.val, by have : t.val < 8 := t.isLt; omega⟩ :=
  Fin.ext (row_val _ t.isLt k)

theorem entry_da : V m c main_v0 = m (c, main_arg5) := by unfold V; after_reads_simp; rfl
theorem entry_db : V m c main_v3 = m (c, main_arg6) := by unfold V; after_reads_simp; rfl
theorem entry_wg (k : Fin 2816) (l : Fin 1024) : V m c main_v2 (ix2 k l) = m (c, main_arg2) (ix2 l k) := by
  unfold V; after_reads_simp; pointwise []
theorem entry_wu (k : Fin 2816) (l : Fin 1024) : V m c main_v5 (ix2 k l) = m (c, main_arg3) (ix2 l k) := by
  unfold V; after_reads_simp; pointwise []
theorem entry_x : V m c main_arg0 = m (c, main_arg0) := by unfold V; after_reads_simp
theorem entry_dy : V m c main_arg4 = m (c, main_arg4) := by unfold V; after_reads_simp
theorem entry_g (k : Fin 1024) : V m c main_v6 (ix2 0 k) = m (c, main_arg1) (ix1 k) := by
  unfold V; after_reads_simp; pointwise []

theorem blk0 (t : Fin cfg0.N) (r : Fin 512) (k : Fin 2816) : iblk m c 0 t (ix2 r k) = m (c, main_arg5) (ix2 (row t.val r) k) := by
  rw [← entry_da m c, rowOf]; blk_simp [iblk]; congr 1; blk_ext [index0]
theorem blk1 (t : Fin cfg0.N) (r : Fin 512) (k : Fin 2816) : iblk m c 1 t (ix2 r k) = m (c, main_arg6) (ix2 (row t.val r) k) := by
  rw [← entry_db m c, rowOf]; blk_simp [iblk]; congr 1; blk_ext [index1]
theorem blk2 (t : Fin cfg0.N) (k : Fin 2816) (l : Fin 1024) : iblk m c 2 t (ix2 k l) = m (c, main_arg2) (ix2 l k) := by
  rw [← entry_wg m c]; blk_simp [iblk]; congr 1; blk_ext [index2]
theorem blk3 (t : Fin cfg0.N) (k : Fin 2816) (l : Fin 1024) : iblk m c 3 t (ix2 k l) = m (c, main_arg3) (ix2 l k) := by
  rw [← entry_wu m c]; blk_simp [iblk]; congr 1; blk_ext [index3]
theorem blk4 (t : Fin cfg0.N) (r : Fin 512) (k : Fin 1024) : iblk m c 4 t (ix2 r k) = m (c, main_arg0) (ix2 (row t.val r) k) := by
  rw [← entry_x m c, rowOf]; blk_simp [iblk]; congr 1; blk_ext [index4]
theorem blk5 (t : Fin cfg0.N) (k : Fin 1024) : iblk m c 5 t (ix2 0 k) = m (c, main_arg1) (ix1 k) := by
  rw [← entry_g m c]; blk_simp [iblk]; congr 1; blk_ext [index5]
theorem blk6 (t : Fin cfg0.N) (r : Fin 512) (k : Fin 1024) : iblk m c 6 t (ix2 r k) = m (c, main_arg4) (ix2 (row t.val r) k) := by
  rw [← entry_dy m c, rowOf]; blk_simp [iblk]; congr 1; blk_ext [index6]

/-- Where a row of a tile lies in the array. -/
theorem place7 (t : Fin cfg0.N) (r : Fin 512) (l : Fin 1024) :
    ((cfg0.win 7).blk t).view.emb (ix2 r l) = ix2 (row t.val r) l := by
  rw [rowOf]
  funext a; apply Fin.ext
  match a with
  | ⟨0, _⟩ => blk_simp [index7]
  | ⟨1, _⟩ => blk_simp [index7]
theorem place8 (t : Fin cfg0.N) (r : Fin 512) (l : Fin 1024) :
    ((cfg0.win 8).blk t).view.emb (ix2 r l) = ix2 (row t.val r) l := by
  rw [rowOf]
  funext a; apply Fin.ext
  match a with
  | ⟨0, _⟩ => blk_simp [index8]
  | ⟨1, _⟩ => blk_simp [index8]
theorem place9 (t : Fin cfg0.N) (y : S1x1024.Idx) : ((cfg0.win 9).blk t).view.emb y = y := by
  funext a; apply Fin.ext
  match a with
  | ⟨0, _⟩ => blk_simp [index9]
  | ⟨1, _⟩ => blk_simp [index9]

section
variable (t : ℕ) (x : FVec Ideal S4096x1024 .f32) (g : FVec Ideal S1024 .f32) (wg wu : FVec Ideal S1024x2816 .f32)
  (dy : FVec Ideal S4096x1024 .f32) (da db : FVec Ideal S4096x2816 .f32)
  (x0 x1 : Vec Ideal S512x2816 .bf16) (x2 x3 : Vec Ideal S2816x1024 .bf16) (x4 : Vec Ideal S512x1024 .f32)
  (x5 : Vec Ideal S1x1024 .f32) (x6 : Vec Ideal S512x1024 .f32)
  (e0 : ∀ r k, (x0 (ix2 r k) : EReal) = da (ix2 (row t r) k)) (e1 : ∀ r k, (x1 (ix2 r k) : EReal) = db (ix2 (row t r) k))
  (e2 : ∀ k l, (x2 (ix2 k l) : EReal) = wg (ix2 l k)) (e3 : ∀ k l, (x3 (ix2 k l) : EReal) = wu (ix2 l k))
  (e4 : ∀ r k, (x4 (ix2 r k) : EReal) = x (ix2 (row t r) k)) (e5 : ∀ k, (x5 (ix2 0 k) : EReal) = g (ix1 k))
  (e6 : ∀ r k, (x6 (ix2 r k) : EReal) = dy (ix2 (row t r) k))
include e0 e1 e2 e3

/-- A tile's part of the gradient of the norm's output. -/
theorem dn_at (r : Fin 512) (l : Fin 1024) : dn x0 x1 x2 x3 (ix2 r l) = dnAll wg wu da db (row t r) l := by
  show (∑ k : Fin 2816, x0 (ix2 r k) * x2 (ix2 k l) + ∑ k : Fin 2816, x1 (ix2 r k) * x3 (ix2 k l) : EReal) = _
  simp only [e0, e1, e2, e3]
  rfl

include e4
/-- One more tile of the gradient of the gain. -/
theorem gain_step : k0_pay9 x4 (k0_pay3 x4) (dn x0 x1 x2 x3) (gainAfter x wg wu da db t) = gainAfter x wg wu da db (t + 1) := by
  funext y
  obtain ⟨r, l, rfl⟩ : ∃ (r : Fin 1) (l : Fin 1024), y = ix2 r l := ⟨y 0, y 1, eq_ix2 y⟩
  refine (dg_at _ _ _ r l).trans ((upto_succ _ _).trans ?_).symm
  refine congrArg (_ + ·) (Finset.sum_congr rfl fun k _ => ?_)
  simp only [dn_at t wg wu da db x0 x1 x2 x3 e0 e1 e2 e3, e4]
  rfl

include e5 e6
theorem dx_row (r : Fin 512) (l : Fin 1024) :
    k0_pay6 x4 (k0_pay3 x4) (dn x0 x1 x2 x3) x5 x6 (ix2 r l) = wholeX x g wg wu dy da db (ix2 (row t r) l) := by
  refine (dx_at _ _ _ _ r l).trans ?_
  simp only [dn_at t wg wu da db x0 x1 x2 x3 e0 e1 e2 e3, e4, e5, e6]
  rfl
theorem dxh_row (r : Fin 512) (l : Fin 1024) :
    k0_pay7 x4 (k0_pay3 x4) (dn x0 x1 x2 x3) x5 x6 (ix2 r l) = wholeH x g wg wu dy da db (ix2 (row t r) l) := by
  refine (dxh_at _ _ _ _ r l).trans ?_
  simp only [dn_at t wg wu da db x0 x1 x2 x3 e0 e1 e2 e3, e4, e5, e6]
  rfl
end

theorem gain_first (x : FVec Ideal S4096x1024 .f32) (wg wu : FVec Ideal S1024x2816 .f32) (da db : FVec Ideal S4096x2816 .f32) :
    (k0_pay8 (F := Ideal)) = gainAfter x wg wu da db 0 := by
  funext y
  obtain ⟨r, l, rfl⟩ : ∃ (r : Fin 1) (l : Fin 1024), y = ix2 r l := ⟨y 0, y 1, eq_ix2 y⟩
  refine (zero_at r l).trans ?_
  show _ = Tokens.upto _ 0
  unfold Tokens.upto
  rfl

theorem out7 (t : Fin cfg0.N) : (outsAt0 m c t.val t.isLt).1 = k0_pay6 (iblk m c 4 t) (k0_pay3 (iblk m c 4 t))
    (dn (iblk m c 0 t) (iblk m c 1 t) (iblk m c 2 t) (iblk m c 3 t)) (iblk m c 5 t) (iblk m c 6 t) := by
  by_cases h0 : t.val % 8 = 0
  · rw [outsAt0_A m c t h0]; dsimp only; rw [out_A7]
  · rw [outsAt0_B m c t h0]; dsimp only; rw [out_B7]
/-- The first result array. -/
theorem arr7 : (dats m 0 c).arrAt 7 cfg0.N = wholeX (m (c, main_arg0)) (m (c, main_arg1)) (m (c, main_arg2)) (m (c, main_arg3))
    (m (c, main_arg4)) (m (c, main_arg5)) (m (c, main_arg6)) := by
  refine (dats m 0 c).arrAt_eq_of_covers 7 _ (by decide +kernel) fun t hf y => ?_
  obtain ⟨r, l, rfl⟩ : ∃ (r : Fin 512) (l : Fin 1024), y = ix2 r l := ⟨y 0, y 1, eq_ix2 y⟩
  rw [place7]
  blk_simp
  rw [after0_7]
  rw [out7]
  exact dx_row t.val _ _ _ _ _ _ _ _ _ _ _ _ _ _ (blk0 m c t) (blk1 m c t) (blk2 m c t) (blk3 m c t)
    (blk4 m c t) (blk5 m c t) (blk6 m c t) r l

theorem out8 (t : Fin cfg0.N) : (outsAt0 m c t.val t.isLt).2.1 = k0_pay7 (iblk m c 4 t) (k0_pay3 (iblk m c 4 t))
    (dn (iblk m c 0 t) (iblk m c 1 t) (iblk m c 2 t) (iblk m c 3 t)) (iblk m c 5 t) (iblk m c 6 t) := by
  by_cases h0 : t.val % 8 = 0
  · rw [outsAt0_A m c t h0]; dsimp only; rw [out_A8]
  · rw [outsAt0_B m c t h0]; dsimp only; rw [out_B8]
/-- The second result array. -/
theorem arr8 : (dats m 0 c).arrAt 8 cfg0.N = wholeH (m (c, main_arg0)) (m (c, main_arg1)) (m (c, main_arg2)) (m (c, main_arg3))
    (m (c, main_arg4)) (m (c, main_arg5)) (m (c, main_arg6)) := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  rw [place8]
  blk_simp
  rw [after0_8]
  rw [out8]
  exact dxh_row t.val _ _ _ _ _ _ _ _ _ _ _ _ _ _ (blk0 m c t) (blk1 m c t) (blk2 m c t) (blk3 m c t)
    (blk4 m c t) (blk5 m c t) (blk6 m c t) r l

/-- What the third result's buffer holds after each tile. -/
theorem gain_at : ∀ (n : ℕ) (h : n < cfg0.N), (outsAt0 m c n h).2.2
    = gainAfter (m (c, main_arg0)) (m (c, main_arg2)) (m (c, main_arg3)) (m (c, main_arg5)) (m (c, main_arg6)) (n + 1) := by
  intro n
  induction n with
  | zero =>
    intro h
    rw [outsAt0_A m c ⟨0, h⟩ (by rfl)]
    dsimp only
    rw [out_A9]
    refine (congrArg (k0_pay9 _ _ _) (gain_first (m (c, main_arg0)) (m (c, main_arg2)) (m (c, main_arg3)) (m (c, main_arg5)) (m (c, main_arg6)))).trans ?_
    exact gain_step 0 _ _ _ _ _ _ _ _ _ _ (blk0 m c ⟨0, h⟩) (blk1 m c ⟨0, h⟩) (blk2 m c ⟨0, h⟩) (blk3 m c ⟨0, h⟩) (blk4 m c ⟨0, h⟩)
  | succ n ih =>
    intro h
    rw [outsAt0_B m c ⟨n + 1, h⟩ (by have : n + 1 < 8 := h; show ¬(n + 1) % 8 = 0; omega)]
    dsimp only
    rw [out_B9]
    refine (congrArg (k0_pay9 _ _ _) (ih _)).trans ?_
    exact gain_step (n + 1) _ _ _ _ _ _ _ _ _ _ (blk0 m c ⟨n + 1, h⟩) (blk1 m c ⟨n + 1, h⟩) (blk2 m c ⟨n + 1, h⟩) (blk3 m c ⟨n + 1, h⟩)
      (blk4 m c ⟨n + 1, h⟩)

/-- The third result array. -/
theorem arr9 : (dats m 0 c).arrAt 9 cfg0.N
    = gainAfter (m (c, main_arg0)) (m (c, main_arg2)) (m (c, main_arg3)) (m (c, main_arg5)) (m (c, main_arg6)) 8 := by
  refine (dats m 0 c).arrAt_eq_of_covers 9 _ (by decide +kernel) fun t hf y => ?_
  have ht : t.val = 7 := (by decide +kernel : ∀ t : Fin grid0.N, (cfg0.win 9).flush t = true → t.val = 7) t hf
  rw [place9]
  blk_simp
  rw [after0_9, gain_at, ht]

end Cert.Kernel3Ideal.FfnDn
end
-- ==== Proof.FfnDn.Equation.lean ====
/- The layer's gradients through its first products and its norm are the reference's. -/
module

public import proofs.«01_k».proof.Proof.FfnDn.Array
public import proofs.«01_k».proof.Proof.Gen.Reference3Ideal.Read

@[expose] public section
noncomputable section
namespace Cert.Kernel3Ideal.FfnDn
open Idealize.ShloMosaic Cert.Macaron Cert.MlaBwd Cert.Reference3Ideal.Read
open Cert.ReferenceIdeal.MlaBwd (one_word zero_word div_real)

/-! ## The row's gradient, over the real numbers -/

/-- A sum of real numbers. -/
theorem sum_coe {n : ℕ} (f : Fin n → ℝ) : ∑ k, ((f k : ℝ) : EReal) = ((∑ k, f k : ℝ) : EReal) := (coe_sum _ f).symm

/-- The mean of the squares of real numbers, and the small number. -/
def msqR (x : Fin 1024 → ℝ) : ℝ := (∑ k, x k * x k) / 1024 + smallR
theorem msqR_pos (x : Fin 1024 → ℝ) : 0 < msqR x :=
  add_pos_of_nonneg_of_pos (div_nonneg (Finset.sum_nonneg fun k _ => mul_self_nonneg _) (by norm_num)) smallR_pos

theorem msq_coe (x : Fin 1024 → ℝ) : msq (fun k => (x k : EReal)) = ((msqR x : ℝ) : EReal) := by
  unfold msq
  simp only [← EReal.coe_mul]
  rw [sum_coe, width_eq, small_eq, div_real _ _ (by norm_num), ← EReal.coe_add]
  rfl
theorem rs_coe (x : Fin 1024 → ℝ) : rs (fun k => (x k : EReal)) = (((Real.sqrt (msqR x))⁻¹ : ℝ) : EReal) := by
  unfold rs
  rw [msq_coe, Ideal.rsqrt_coe, if_neg (not_lt.2 (msqR_pos x).le), if_neg (msqR_pos x).ne']

/-- What the reference computes for the gradient of an entry of the norm's input. -/
def refDx (x d g : Fin 1024 → EReal) (dy : EReal) (l : Fin 1024) : EReal :=
  let s := Ideal.div ((∑ k, x k * (d k * g k)) * (((-(1 / 2) : ℝ) : EReal) * Ideal.div (rs x) (msq x))) width
  dy + d l * g l * rs x + x l * s + s * x l

theorem dx_eq (x d g : Fin 1024 → ℝ) (dy : ℝ) (l : Fin 1024) :
    dxAt (fun k => x k) (fun k => d k) (fun k => g k) dy l = refDx (fun k => x k) (fun k => d k) (fun k => g k) dy l := by
  have hp := msqR_pos x
  have hq : Real.sqrt (msqR x) ≠ 0 := (Real.sqrt_pos.2 hp).ne'
  have hs : Real.sqrt (msqR x) * Real.sqrt (msqR x) = msqR x := Real.mul_self_sqrt hp.le
  unfold dxAt refDx
  simp only [rs_coe, msq_coe, width_eq, ← EReal.coe_mul, sum_coe]
  rw [div_real _ _ hp.ne', div_real _ _ (by norm_num)]
  simp only [← EReal.coe_mul]
  rw [div_real _ _ (by norm_num)]
  simp only [← EReal.coe_mul, ← EReal.coe_sub, ← EReal.coe_add]
  congr 1
  have e : ∑ k, d k * g k * (x k * (Real.sqrt (msqR x))⁻¹) = (∑ k, x k * (d k * g k)) * (Real.sqrt (msqR x))⁻¹ := by
    rw [Finset.sum_mul]; exact Finset.sum_congr rfl fun k _ => by ring
  rw [e]
  generalize ∑ k, x k * (d k * g k) = S
  generalize Real.sqrt (msqR x) = q at hq hs ⊢
  rw [← hs]
  field_simp
  ring

/-! ## The reference's arrays -/

section
variable (x : FVec Ideal Cert.Reference3Ideal.S4096x1024 .f32) (g : FVec Ideal Cert.Reference3Ideal.S1024 .f32)
  (wg wu : FVec Ideal Cert.Reference3Ideal.S1024x2816 .f32) (dy : FVec Ideal Cert.Reference3Ideal.S4096x1024 .f32)
  (da db : FVec Ideal Cert.Reference3Ideal.S4096x2816 .f32)

theorem ref_dn (r : Fin 4096) (l : Fin 1024) : val_main_v24 (F := Ideal) wg wu da db (ix2 r l) = dnAll wg wu da db r l := by
  rw [val_main_v24_apply, val_main_v20_apply, val_main_v23_apply]
  refine (add_comm _ _).trans (congrArg₂ (fun u v : EReal => u + v) (Finset.sum_congr rfl fun k _ => ?_) (Finset.sum_congr rfl fun k _ => ?_))
  · rw [show lidx_main_v23 (ix2 r l) k = ix2 r k from eq_ix2 _, show ridx_main_v23 (ix2 r l) k = ix2 l k from eq_ix2 _]
  · rw [show lidx_main_v20 (ix2 r l) k = ix2 r k from eq_ix2 _, show ridx_main_v20 (ix2 r l) k = ix2 l k from eq_ix2 _]

theorem ref_msq (r : Fin 4096) (u : Fin 1) : val_main_v6 (F := Ideal) x (ix2 r u) = msq (fun k => x (ix2 r k)) := by
  rw [val_main_v6_apply, val_main_v4_apply, val_main_v5_apply, val_main_cst_1_apply, val_main_v3_apply, val_main_cst_0_apply, val_main_v2_apply,
    val_main_v1_apply, val_main_cst_apply]
  refine congrArg (fun u => Ideal.div u width + small) ?_
  refine (congrArg₂ (fun u v : EReal => u + v) zero_word (Finset.sum_congr rfl fun k _ => ?_)).trans (zero_add _)
  rw [val_main_v0_apply, show idx_main_v1 (idx_main_v2 (ix2 r u)) k = ix2 r k from eq_ix2 _]
  rfl

theorem ref_rs (r : Fin 4096) (u : Fin 1) : val_main_v7 (F := Ideal) x (ix2 r u) = rs (fun k => x (ix2 r k)) := by
  rw [val_main_v7_apply, ref_msq]
  rfl

theorem ref_dxh (r : Fin 4096) (l : Fin 1024) :
    val_main_v29 (F := Ideal) g wg wu da db (ix2 r l) = dnAll wg wu da db r l * g (ix1 l) := by
  rw [val_main_v29_apply, ref_dn, val_main_v28_apply, val_main_v13_apply, show idx_main_v13 (idx_main_v28 (ix2 r l)) = ix1 l from eq_ix1 _]
  rfl

theorem ref_dx (r : Fin 4096) (l : Fin 1024) : val_main_v45 (F := Ideal) x g wg wu dy da db (ix2 r l)
    = refDx (fun k => x (ix2 r k)) (dnAll wg wu da db r) (fun k => g (ix1 k)) (dy (ix2 r l)) l := by
  have hs : val_main_v41 (F := Ideal) x g wg wu da db (ix2 r l)
      = Ideal.div ((∑ k, x (ix2 r k) * (dnAll wg wu da db r k * g (ix1 k)))
        * (((-(1 / 2) : ℝ) : EReal) * Ideal.div (rs (fun k => x (ix2 r k))) (msq (fun k => x (ix2 r k))))) width := by
    rw [val_main_v41_apply, val_main_v40_apply, val_main_cst_7_apply]
    refine (congrArg₂ (fun u v : EReal => u + v) zero_word (Fin.sum_univ_one _)).trans ((zero_add _).trans ?_)
    rw [show idx_main_v40 (idx_main_v41 (ix2 r l)) 0 = ix2 r 0 from eq_ix2 _, val_main_v39_apply, val_main_v38_apply, val_main_cst_6_apply,
      val_main_v37_apply, val_main_v33_apply, val_main_v32_apply, val_main_cst_5_apply, val_main_v10_apply, val_main_v9_apply,
      val_main_cst_2_apply, val_main_v8_apply, ref_rs, ref_msq]
    refine congrArg (fun u => Ideal.div u width) (congrArg₂ (fun u v : EReal => u * v) ?_ ?_)
    · refine (congrArg₂ (fun u v : EReal => u + v) zero_word (Finset.sum_congr rfl fun k _ => ?_)).trans (zero_add _)
      have e : idx_main_v32 (idx_main_v33 (ix2 r 0)) k = ix2 r k := by
        funext a
        match a with
        | ⟨0, _⟩ => apply Fin.ext; show r.val * 1 + 0 = r.val; omega
        | ⟨1, _⟩ => rfl
      rw [e, val_main_v31_apply, ref_dxh]
      rfl
    · exact congrArg (· * Ideal.div (rs (fun k => x (ix2 r k))) (msq (fun k => x (ix2 r k)))) minus_half_eq
  rw [val_main_v45_apply, val_main_v43_apply, val_main_v36_apply, val_main_v35_apply, val_main_v42_apply, val_main_v44_apply, hs, ref_dxh,
    val_main_v34_apply, show idx_main_v34 (ix2 r l) = ix2 r 0 from eq_ix2 _, ref_rs]
  rfl

/-- The gradient of the gain. -/
theorem gain_eq : gainAfter x wg wu da db 8 = val_main_v47 (F := Ideal) x wg wu da db := by
  funext i
  obtain ⟨u, l, rfl⟩ : ∃ (u : Fin 1) (l : Fin 1024), i = ix2 u l := ⟨i 0, i 1, eq_ix2 i⟩
  refine (Tokens.upto_all _).trans ?_
  rw [val_main_v47_apply, val_main_v30_apply, val_main_cst_4_apply]
  refine ((congrArg₂ (fun u v : EReal => u + v) zero_word (Fin.sum_univ_one _)).trans ((zero_add _).trans ?_)).symm
  rw [val_main_v27_apply, val_main_v26_apply, val_main_cst_3_apply]
  refine (congrArg₂ (fun u v : EReal => u + v) zero_word (Finset.sum_congr rfl fun k _ => ?_)).trans (zero_add _)
  have e : idx_main_v26 (idx_main_v27 (idx_main_v30 (idx_main_v47 (ix2 u l)) 0)) k = ix2 k l := by
    funext a
    match a with
    | ⟨0, _⟩ => rfl
    | ⟨1, _⟩ => apply Fin.ext; show 0 * 1024 + (u.val * 1024 + l.val) = l.val; omega
  rw [e, val_main_v25_apply, ref_dn, val_main_v12_apply, val_main_v11_apply, show idx_main_v11 (ix2 k l) = ix2 k 0 from eq_ix2 _, ref_rs]
  exact mul_comm _ _

/-- The gradient of the layer's input, of arguments of real numbers. -/
theorem input_eq (fx : Finite x) (fg : Finite g) (fwg : Finite wg) (fwu : Finite wu) (fdy : Finite dy) (fda : Finite da) (fdb : Finite db) :
    wholeX x g wg wu dy da db = val_main_v45 (F := Ideal) x g wg wu dy da db := by
  funext i
  obtain ⟨r, l, rfl⟩ : ∃ (r : Fin 4096) (l : Fin 1024), i = ix2 r l := ⟨i 0, i 1, eq_ix2 i⟩
  rw [ref_dx]
  have hd : dnAll wg wu da db r = fun j => ((∑ k, (da (ix2 r k)).toReal * (wg (ix2 j k)).toReal
      + ∑ k, (db (ix2 r k)).toReal * (wu (ix2 j k)).toReal : ℝ) : EReal) := by
    funext j
    unfold dnAll
    rw [EReal.coe_add, coe_sum, coe_sum]
    refine congrArg₂ (fun u v : EReal => u + v) (Finset.sum_congr rfl fun k _ => ?_) (Finset.sum_congr rfl fun k _ => ?_)
    · rw [EReal.coe_mul, fda, fwg]
    · rw [EReal.coe_mul, fdb, fwu]
  show dxAt (fun k => x (ix2 r k)) (dnAll wg wu da db r) (fun k => g (ix1 k)) (dy (ix2 r l)) l = _
  rw [hd, show (fun k => x (ix2 r k)) = fun k => ((x (ix2 r k)).toReal : EReal) from funext fun k => (fx _).symm,
    show (fun k => g (ix1 k)) = fun k => ((g (ix1 k)).toReal : EReal) from funext fun k => (fg _).symm, ← fdy]
  exact dx_eq _ _ _ _ l

theorem input_eq_half (fx : Finite x) (fg : Finite g) (fwg : Finite wg) (fwu : Finite wu) (fdy : Finite dy) (fda : Finite da) (fdb : Finite db) :
    wholeH x g wg wu dy da db = val_main_v46 (F := Ideal) x g wg wu dy da db := by
  funext i
  exact congrFun (input_eq x g wg wu dy da db fx fg fwg fwu fdy fda fdb) i
end

end Cert.Kernel3Ideal.FfnDn
end
-- ==== Proof.FfnDn.Claims.lean ====
/- The claims about the feed-forward layer's backward call through its first products and its norm. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.MlaBwd.Claims
public import proofs.«01_k».proof.Proof.FfnDn.Equation

@[expose] public section
noncomputable section
namespace Cert.Proof.FfnDn
open Idealize.ShloMosaic Idealize.SL.Sem Cert.Proof.MlaBwd

theorem frame_p : Cert.quiescent_Kernel3 := fun m ρ _ => Cert.Kernel3.Gen.frame m ρ
theorem frame_pi : Cert.quiescent_Kernel3Ideal := fun m ρ _ => Cert.Kernel3Ideal.Gen.frame m ρ
theorem frame_pi_finite : Cert.quiescent_Kernel3Ideal_pre_finite3 := fun m ρ _ => Cert.Kernel3Ideal.Gen.frame m ρ
theorem frame_ri : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)
theorem frame_ri_finite : Cert.quiescent_Reference3Ideal_pre_finite3 := fun m ρ _ => frame_ri m ρ trivial

theorem preserves : Cert.preserves_Kernel3_Kernel3Ideal := trivial

/-- With arguments of real numbers the kernel's three arrays are the reference's. -/
theorem algebraic : Cert.algebraic_Kernel3Ideal_Reference3Ideal_pre_finite3 := by
  intro m ρ m' ρ' hpre hagree
  refine ⟨_, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, hargs⟩ := h c
  obtain ⟨a0, a1, a2, a3, a4, a5, a6⟩ := hagree c
  obtain ⟨p0, p1, p2, p3, p4, p5, p6⟩ := hpre c
  have f0 := finite_of_test _ _ p0
  have f1 := finite_of_test _ _ p1
  have f2 := finite_of_test _ _ p2
  have f3 := finite_of_test _ _ p3
  have f4 := finite_of_test _ _ p4
  have f5 := finite_of_test _ _ p5
  have f6 := finite_of_test _ _ p6
  refine ⟨h0.trans ?_, h1.trans ?_, h2.trans ?_, hargs⟩
  · rw [Cert.Reference3Ideal.Read.val_main_v45_eq, a0, a1, a2, a3, a4, a5, a6, Cert.Kernel3Ideal.FfnDn.arr7]
    exact (Cert.Kernel3Ideal.FfnDn.input_eq _ _ _ _ _ _ _ f0 f1 f2 f3 f4 f5 f6).symm
  · rw [Cert.Reference3Ideal.Read.val_main_v46_eq, a0, a1, a2, a3, a4, a5, a6, Cert.Kernel3Ideal.FfnDn.arr8]
    exact (Cert.Kernel3Ideal.FfnDn.input_eq_half _ _ _ _ _ _ _ f0 f1 f2 f3 f4 f5 f6).symm
  · rw [Cert.Reference3Ideal.Read.val_main_v47_eq, a0, a2, a3, a5, a6, Cert.Kernel3Ideal.FfnDn.arr9]
    exact (Cert.Kernel3Ideal.FfnDn.gain_eq _ _ _ _ _).symm

end Cert.Proof.FfnDn
end
-- ==== Proof.Tokens.Chunk.lean ====
/- One tile's part of the product over the tokens, added to the accumulator in chunks of rows. -/
module

public import proofs.«01_k».proof.Proof.Gen.Kernel4Ideal.Value
public import proofs.«01_k».proof.Proof.Tokens.Sum
public import proofs.«01_k».proof.Proof.Macaron.Numbers
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Tokens
open Cert.Kernel4Ideal Cert.Kernel4Ideal.Gen Idealize.ShloMosaic Idealize.ShloMosaic.TcCoe Idealize.SL.Sem

/-- The accumulator with one tile's product added. -/
def step (x0 : Vec Ideal S512x2816 .bf16) (x1 : Vec Ideal S512x1024 .bf16) (acc : Vec Ideal S2816x1024 .f32) :
    Vec Ideal S2816x1024 .f32 :=
  fun y => acc y + ∑ k : Fin 512, x0 (ix2 k (y 0)) * x1 (ix2 k (y 1))

variable (x0 : Vec Ideal S512x2816 .bf16) (x1 : Vec Ideal S512x1024 .bf16) (acc : Vec Ideal S2816x1024 .f32)

/-- A chunk of 512 rows, from row `o`. -/
theorem chunk512 (o : ℕ) (h) (h') (h'') (y : S512x1024.Idx) :
    (k0_pay4 (View.ld acc (Rect.unit (s := S2816x1024) ![o, 0] S512x1024.size h)) (View.ld x0 (Rect.unit (s := S512x2816) ![0, o] S512x512.size h'))
      (View.ld x1 (Rect.unit (s := S512x1024) ![0, 0] S512x1024.size h'')) y : EReal)
      = step x0 x1 acc ((Rect.unit (s := S2816x1024) ![o, 0] S512x1024.size h).emb y) := by
  obtain ⟨r, l, rfl⟩ : ∃ (r : Fin 512) (l : Fin 1024), y = ix2 r l := ⟨y 0, y 1, eq_ix2 y⟩
  show _ = View.ld (step x0 x1 acc) (Rect.unit (s := S2816x1024) ![o, 0] S512x1024.size h) (ix2 r l)
  pointwise [k0_pay4]
  rfl

/-- The last chunk, of 256 rows. -/
theorem chunk256 (o : ℕ) (h) (h') (h'') (y : S256x1024.Idx) :
    (k0_pay1 (View.ld acc (Rect.unit (s := S2816x1024) ![o, 0] S256x1024.size h)) (k0_pay10 (View.ld x0 (Rect.unit (s := S512x2816) ![0, o] S512x256.size h'))
      (View.ld x1 (Rect.unit (s := S512x1024) ![0, 0] S512x1024.size h''))) y : EReal)
      = step x0 x1 acc ((Rect.unit (s := S2816x1024) ![o, 0] S256x1024.size h).emb y) := by
  obtain ⟨r, l, rfl⟩ : ∃ (r : Fin 256) (l : Fin 1024), y = ix2 r l := ⟨y 0, y 1, eq_ix2 y⟩
  show _ = View.ld (step x0 x1 acc) (Rect.unit (s := S2816x1024) ![o, 0] S256x1024.size h) (ix2 r l)
  pointwise [k0_pay1, k0_pay10]
  rfl

/-- The stores of the chunks, the last first. -/
def chunks : List (View.Piece (Elt Ideal) S2816x1024 .f32) :=
  let f (o : ℕ) (h : ∀ a, (![o, 0] : Fin 2 → ℕ) a + S512x1024.size a ≤ S2816x1024.size a)
      (h' : ∀ a, (![0, o] : Fin 2 → ℕ) a + S512x512.size a ≤ S512x2816.size a) : View.Piece (Elt Ideal) S2816x1024 .f32 :=
    ⟨Rect.unit (s := S2816x1024) ![o, 0] S512x1024.size h,
      k0_pay4 (View.ld acc (Rect.unit (s := S2816x1024) ![o, 0] S512x1024.size h)) (View.ld x0 (Rect.unit (s := S512x2816) ![0, o] S512x512.size h'))
        (View.ld x1 (Rect.unit (s := S512x1024) ![0, 0] S512x1024.size (by decide)))⟩
  [⟨Rect.unit (s := S2816x1024) ![2560, 0] S256x1024.size (by decide),
      k0_pay1 (View.ld acc (Rect.unit (s := S2816x1024) ![2560, 0] S256x1024.size (by decide)))
        (k0_pay10 (View.ld x0 (Rect.unit (s := S512x2816) ![0, 2560] S512x256.size (by decide)))
          (View.ld x1 (Rect.unit (s := S512x1024) ![0, 0] S512x1024.size (by decide))))⟩,
    f 2048 (by decide) (by decide), f 1536 (by decide) (by decide), f 1024 (by decide) (by decide),
    f 512 (by decide) (by decide), f 0 (by decide) (by decide)]

theorem chunks_cover (y : S2816x1024.Idx) : ∃ p ∈ chunks x0 x1 acc, y ∈ p.1.set :=
  View.cover_of_tiledBy (chunks x0 x1 acc) ![256, 1024] (by sl_kernel_rfl) y

/-- Whatever was stored before, the chunks leave the accumulator with the tile's product added. -/
theorem canon_chunks (L : List (View.Piece (Elt Ideal) S2816x1024 .f32)) :
    View.canon (chunks x0 x1 acc ++ L) = step x0 x1 acc := by
  funext y
  refine View.canon_append_of_pieces (step x0 x1 acc) L _ ?_ y (chunks_cover x0 x1 acc y)
  unfold chunks
  simp only [List.forall_mem_cons, List.not_mem_nil, false_imp_iff, implies_true, and_true]
  exact ⟨chunk256 x0 x1 acc 2560 _ _ _, chunk512 x0 x1 acc 2048 _ _ _, chunk512 x0 x1 acc 1536 _ _ _,
    chunk512 x0 x1 acc 1024 _ _ _, chunk512 x0 x1 acc 512 _ _ _, chunk512 x0 x1 acc 0 _ _ _⟩

/-- The entry of the product over the first `n` tiles. -/
def firstTiles (a : FVec Ideal S4096x2816 .f32) (b : FVec Ideal S4096x1024 .f32) (n : ℕ) : Vec Ideal S2816x1024 .f32 :=
  fun y => upto (fun k => a (ix2 k (y 0)) * b (ix2 k (y 1))) n

/-- One tile more. -/
theorem step_first (a : FVec Ideal S4096x2816 .f32) (b : FVec Ideal S4096x1024 .f32) (n : ℕ)
    (e0 : ∀ (k : Fin 512) (l : Fin 2816), x0 (ix2 k l) = a (ix2 (row n k) l))
    (e1 : ∀ (k : Fin 512) (l : Fin 1024), x1 (ix2 k l) = b (ix2 (row n k) l)) :
    step x0 x1 (firstTiles a b n) = firstTiles a b (n + 1) := by
  funext y
  refine (congrArg (firstTiles a b n y + ·) (Finset.sum_congr rfl fun k _ => ?_)).trans (upto_succ _ _).symm
  exact congrArg₂ (fun u v : EReal => u * v) (e0 k (y 0)) (e1 k (y 1))

theorem fill_first (a : FVec Ideal S4096x2816 .f32) (b : FVec Ideal S4096x1024 .f32) :
    (k0_pay3 (F := Ideal)) = firstTiles a b 0 := by
  funext y
  obtain ⟨r, l, rfl⟩ : ∃ (r : Fin 2816) (l : Fin 1024), y = ix2 r l := ⟨y 0, y 1, eq_ix2 y⟩
  pointwise [k0_pay3]
  rfl

end Cert.Tokens
end
-- ==== Proof.Tokens.Gate.lean ====
/- The gate weights' gradient: the result array is the reference's. -/
module

public import proofs.«01_k».proof.Proof.Tokens.GateBody
public import proofs.«01_k».proof.Proof.Gen.Reference4Ideal.Read
public import Idealize.ShloMosaic.Lib.StableHlo.RunRead

@[expose] public section
noncomputable section
namespace Cert.Kernel4Ideal.Tokens
open Cert.Kernel4Ideal Cert.Kernel4Ideal.Gen Cert.Kernel4Ideal.Value Cert.Tokens Idealize.ShloMosaic Idealize.ShloMosaic.TcCoe
open Idealize.SL.Sem Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)

theorem entry0 : V m c main_v0 = m (c, main_arg1) := by unfold V; after_reads_simp; rfl
theorem entry1 : V m c main_v1 = m (c, main_arg0) := by unfold V; after_reads_simp; rfl

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 2816) :
    iblk m c 0 t (ix2 k l) = m (c, main_arg1) (ix2 (row t.val k) l) := by
  rw [← entry0 m c, rowOf]; blk_simp [iblk]; congr 1; blk_ext [index0]
theorem blk1 (t : Fin cfg0.N) (k : Fin 512) (l : Fin 1024) :
    iblk m c 1 t (ix2 k l) = m (c, main_arg0) (ix2 (row t.val k) l) := by
  rw [← entry1 m c, rowOf]; blk_simp [iblk]; congr 1; blk_ext [index1]

/-- The accumulator after tile `j`. -/
theorem acc_at (j : ℕ) (h : 0 + j < cfg0.N) (hj : j ≤ 6) :
    (Pipeline.accAt (fun n h => stAt0 m c n h junk0) (stAt0 m c) 0 j h).2
      = firstTiles (m (c, main_arg1)) (m (c, main_arg0)) (j + 1) := by
  refine fold_snd _ _ (firstTiles (m (c, main_arg1)) (m (c, main_arg0))) 6 (fun h => ?_) (fun n h acc hn hJ e => ?_) j h hj
  · rw [stAt0_A m c ⟨0, h⟩ junk0 (by rfl) (by show ¬0 % 8 = 7; decide)]
    dsimp only
    rw [sout_A]
    refine (congrArg (step _ _) (fill_first (m (c, main_arg1)) (m (c, main_arg0)))).trans ?_
    exact step_first _ _ _ _ 0 (blk0 m c ⟨0, h⟩) (blk1 m c ⟨0, h⟩)
  · rw [stAt0_B m c ⟨n, h⟩ acc (by show ¬n % 8 = 0; omega) (by show ¬n % 8 = 7; omega)]
    dsimp only
    rw [sout_B, e]
    exact step_first _ _ _ _ n (blk0 m c ⟨n, h⟩) (blk1 m c ⟨n, h⟩)

/-- The result array: the product over all the tokens, times the call's factor. -/
theorem arr : G2 m c = k0_pay2 (firstTiles (m (c, main_arg1)) (m (c, main_arg0)) 8) := by
  rw [G2_last, Pipeline.accAt_succ]
  refine (congrArg Prod.fst (stAt0_C m c ⟨7, lt_of_lt_of_eq (by decide) N_0.symm⟩ _ (by show ¬7 % 8 = 0; decide) (by rfl))).trans ?_
  dsimp only
  rw [out_C, acc_at m c 6 _ le_rfl]
  exact congrArg k0_pay2 (step_first _ _ _ _ 7 (blk0 m c ⟨7, _⟩) (blk1 m c ⟨7, _⟩))

open Cert.Reference4Ideal.Read in
theorem result_eq (n : FVec Ideal S4096x1024 .f32) (a : FVec Ideal S4096x2816 .f32) :
    k0_pay2 (firstTiles a n 8) = val_main_v5 (F := Ideal) n a := by
  funext i
  obtain ⟨r, l, rfl⟩ : ∃ (r : Fin 2816) (l : Fin 1024), i = ix2 r l := ⟨i 0, i 1, eq_ix2 i⟩
  rw [val_main_v5_apply, val_main_v4_apply, val_main_v3_apply, val_main_v2_apply]
  pointwise [k0_pay2]
  refine (upto_all _).trans ?_
  refine Finset.sum_congr rfl fun k _ => ?_
  exact congrArg₂ (fun u v : EReal => u * v) (congrArg a (eq_ix2 (lidx_main_v2 (idx_main_v3 (idx_main_v4 (ix2 r l))) k)).symm)
    (congrArg n (eq_ix2 (ridx_main_v2 (idx_main_v3 (idx_main_v4 (ix2 r l))) k)).symm)

end Cert.Kernel4Ideal.Tokens
end
-- ==== Proof.Tokens.DownBody.lean ====
/- What one grid point of the down projection's weights' gradient leaves in the accumulator and in the result. -/
module

public import proofs.«01_k».proof.Proof.Gen.Kernel5Ideal.Value
public import proofs.«01_k».proof.Proof.Tokens.Chunk

@[expose] public section
noncomputable section
namespace Cert.Kernel5Ideal.Tokens
open Cert.Kernel5Ideal Cert.Kernel5Ideal.Gen Cert.Tokens Idealize.ShloMosaic Idealize.ShloMosaic.TcCoe Idealize.SL.Sem

variable (c : Dev nD) (i : grid0.Coords) (a1 : Memref sig .tc .vmem S512x2816 .bf16) (h1 : a1.IsWhole)
  (a2 : Memref sig .tc .vmem S512x1024 .bf16) (h2 : a2.IsWhole) (a3 : Memref sig .tc .vmem S2816x1024 .bf16) (h3 : a3.IsWhole)
  (a4 : Memref sig .tc .vmem S2816x1024 .f32) (h4 : a4.IsWhole)
  (x0 : Vec Ideal S512x2816 .bf16) (x1 : Vec Ideal S512x1024 .bf16) (acc : Vec Ideal S2816x1024 .f32)

theorem sout_A (hc0 : cond0_0 i) (hc1 : ¬cond0_1 i) :
    sout0_A_0 c i a1 h1 a2 h2 a3 h3 a4 h4 hc0 hc1 x0 x1 = step x0 x1 (k0_pay3 (F := Ideal)) := by
  unfold sout0_A_0
  rw [View.read_writes_eq_canon _ _ _ (scover0_A_0 c i a1 h1 a2 h2 a3 h3 a4 h4 hc0 hc1 x0 x1)]
  unfold kernelRun0_A
  dsimp only
  sl_unfold_words
  simp (disch := decide) only [↓View.readCov_skip, View.readCov_fill, View.readAt_eq_ld, h1.read_unread, h2.read_unread]
  exact canon_chunks x0 x1 _ [_]

theorem sout_B (hc0 : ¬cond0_0 i) (hc1 : ¬cond0_1 i) :
    sout0_B_0 c i a1 h1 a2 h2 a3 h3 a4 h4 hc0 hc1 x0 x1 acc = step x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  simp only [View.readAt_eq_ld, h1.read_unread, h2.read_unread, h4.read_unread]
  exact canon_chunks x0 x1 acc []

theorem out_C (hc0 : ¬cond0_0 i) (hc1 : cond0_1 i) :
    out0_C_2 c i a1 h1 a2 h2 a3 h3 a4 h4 hc0 hc1 x0 x1 acc = k0_pay2 (step x0 x1 acc) := by
  have hz : (![0, 0] : Fin 2 → ℕ) = fun _ => 0 := by decide
  unfold out0_C_2
  rw [View.read_writes_junk_eq_canon]
  unfold kernelRun0_C
  dsimp only
  sl_unfold_words
  simp only [View.readAt_eq_ld, h1.read_unread, h2.read_unread, h4.read_unread]
  refine (View.canon_cons_unit_zero hz _ _ _).trans ?_
  rw [View.readCov_eq_canon']
  exact congrArg k0_pay2 ((View.ld_unit_zero hz _ _).trans (canon_chunks x0 x1 acc []))

end Cert.Kernel5Ideal.Tokens
end
-- ==== Proof.Tokens.Down.lean ====
/- The down projection's weights' gradient: the result array is the reference's. -/
module

public import proofs.«01_k».proof.Proof.Tokens.DownBody
public import proofs.«01_k».proof.Proof.Gen.Reference5Ideal.Read
public import Idealize.ShloMosaic.Lib.StableHlo.RunRead

@[expose] public section
noncomputable section
namespace Cert.Kernel5Ideal.Tokens
open Cert.Kernel5Ideal Cert.Kernel5Ideal.Gen Cert.Kernel5Ideal.Value Cert.Tokens Idealize.ShloMosaic Idealize.ShloMosaic.TcCoe
open Idealize.SL.Sem Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)

theorem entry0 : V m c main_v0 = m (c, main_arg0) := by unfold V; after_reads_simp; rfl
theorem entry1 : V m c main_v1 = m (c, main_arg1) := by unfold V; after_reads_simp; rfl

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 2816) :
    iblk m c 0 t (ix2 k l) = m (c, main_arg0) (ix2 (row t.val k) l) := by
  rw [← entry0 m c, rowOf]; blk_simp [iblk]; congr 1; blk_ext [index0]
theorem blk1 (t : Fin cfg0.N) (k : Fin 512) (l : Fin 1024) :
    iblk m c 1 t (ix2 k l) = m (c, main_arg1) (ix2 (row t.val k) l) := by
  rw [← entry1 m c, rowOf]; blk_simp [iblk]; congr 1; blk_ext [index1]

/-- The accumulator after tile `j`. -/
theorem acc_at (j : ℕ) (h : 0 + j < cfg0.N) (hj : j ≤ 6) :
    (Pipeline.accAt (fun n h => stAt0 m c n h junk0) (stAt0 m c) 0 j h).2
      = firstTiles (m (c, main_arg0)) (m (c, main_arg1)) (j + 1) := by
  refine fold_snd _ _ (firstTiles (m (c, main_arg0)) (m (c, main_arg1))) 6 (fun h => ?_) (fun n h acc hn hJ e => ?_) j h hj
  · rw [stAt0_A m c ⟨0, h⟩ junk0 (by rfl) (by show ¬0 % 8 = 7; decide)]
    dsimp only
    rw [sout_A]
    refine (congrArg (step _ _) (fill_first (m (c, main_arg0)) (m (c, main_arg1)))).trans ?_
    exact step_first _ _ _ _ 0 (blk0 m c ⟨0, h⟩) (blk1 m c ⟨0, h⟩)
  · rw [stAt0_B m c ⟨n, h⟩ acc (by show ¬n % 8 = 0; omega) (by show ¬n % 8 = 7; omega)]
    dsimp only
    rw [sout_B, e]
    exact step_first _ _ _ _ n (blk0 m c ⟨n, h⟩) (blk1 m c ⟨n, h⟩)

/-- The result array: the product over all the tokens, times the call's factor. -/
theorem arr : G2 m c = k0_pay2 (firstTiles (m (c, main_arg0)) (m (c, main_arg1)) 8) := by
  rw [G2_last, Pipeline.accAt_succ]
  refine (congrArg Prod.fst (stAt0_C m c ⟨7, lt_of_lt_of_eq (by decide) N_0.symm⟩ _ (by show ¬7 % 8 = 0; decide) (by rfl))).trans ?_
  dsimp only
  rw [out_C, acc_at m c 6 _ le_rfl]
  exact congrArg k0_pay2 (step_first _ _ _ _ 7 (blk0 m c ⟨7, _⟩) (blk1 m c ⟨7, _⟩))

open Cert.Reference5Ideal.Read in
theorem result_eq (h : FVec Ideal S4096x2816 .f32) (g : FVec Ideal S4096x1024 .f32) :
    k0_pay2 (firstTiles h g 8) = val_main_v8 (F := Ideal) h g := by
  funext i
  obtain ⟨r, l, rfl⟩ : ∃ (r : Fin 2816) (l : Fin 1024), i = ix2 r l := ⟨i 0, i 1, eq_ix2 i⟩
  rw [val_main_v8_apply, val_main_v7_apply, val_main_v6_apply]
  pointwise [k0_pay2]
  refine ((mul_comm _ _).trans (congrArg (Cert.Macaron.half * ·) (upto_all _))).trans ((Cert.Macaron.half_sum _ _).trans ?_)
  refine Finset.sum_congr rfl fun k _ => ?_
  have eh : ridx_main_v6 (idx_main_v7 (ix2 r l)) k = ix2 k r := eq_ix2 _
  have eg : lidx_main_v6 (idx_main_v7 (ix2 r l)) k = ix2 k l := eq_ix2 _
  rw [eh, eg]
  exact (mul_left_comm _ _ _).trans (mul_comm _ _)

end Cert.Kernel5Ideal.Tokens
end
-- ==== Proof.Tokens.Claims.lean ====
/- The claims about the products over the tokens: the gradients of the gate and of the down projection. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Tokens.Gate
public import proofs.«01_k».proof.Proof.Tokens.Down

@[expose] public section
noncomputable section
open Idealize.ShloMosaic Idealize.SL.Sem

namespace Cert.Proof.TokensGate

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- The kernel's array is the reference's. -/
theorem algebraic : Cert.algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ?_) (Cert.Reference4Ideal.Value.run (F := Ideal) m' ρ')
  obtain ⟨h0, hargs⟩ := h c
  obtain ⟨a0, a1⟩ := hagree c
  refine ⟨h0.trans ?_, hargs⟩
  rw [Cert.Reference4Ideal.Read.val_main_v5_eq, a0, a1, Cert.Kernel4Ideal.Tokens.arr]
  exact (Cert.Kernel4Ideal.Tokens.result_eq _ _).symm

end Cert.Proof.TokensGate

namespace Cert.Proof.TokensDown

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem preserves : Cert.preserves_Kernel5_Kernel5Ideal := trivial

/-- The kernel's array is the reference's. -/
theorem algebraic : Cert.algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ?_) (Cert.Reference5Ideal.Value.run (F := Ideal) m' ρ')
  obtain ⟨h0, hargs⟩ := h c
  obtain ⟨a0, a1⟩ := hagree c
  refine ⟨h0.trans ?_, hargs⟩
  rw [Cert.Reference5Ideal.Read.val_main_v8_eq, a0, a1, Cert.Kernel5Ideal.Tokens.arr]
  exact (Cert.Kernel5Ideal.Tokens.result_eq _ _).symm

end Cert.Proof.TokensDown

end
-- ==== Proof.FfnUp.Body.lean ====
/- What one grid point of the feed-forward layer's forward call through its gates leaves in its four results. -/
module

public import proofs.«01_k».proof.Proof.Gen.Kernel6Ideal.Value
public import proofs.«01_k».proof.Proof.Macaron.Norm
public import Idealize.ShloMosaic.Lib.Pointwise
public import Idealize.ShloMosaic.Lib.ValueIdx

@[expose] public section
noncomputable section
namespace Cert.Kernel6Ideal.FfnUp
open Cert.Kernel6Ideal Cert.Kernel6Ideal.Gen Idealize.ShloMosaic Idealize.SL.Sem Cert.Macaron

/-- The logistic function by the hyperbolic tangent. -/
def sg (a : EReal) : EReal := half * Ideal.tanh (half * a) + half

section
variable (x : Vec Ideal S512x1024 .f32) (g : Vec Ideal S1x1024 .f32) (wg wu : Vec Ideal S2816x1024 .bf16)

/-- The normalised input. -/
def nn : Vec Ideal S512x1024 .bf16 := fun i => x i * rs (fun k => x (ix2 (i 0) k)) * g (ix2 0 (i 1))
/-- Its product with one of the weights. -/
def prod (w : Vec Ideal S2816x1024 .bf16) : Vec Ideal S512x2816 .bf16 := fun i =>
  ∑ k : Fin 1024, nn x g (ix2 (i 0) k) * w (ix2 (i 1) k)
/-- The gated product. -/
def gated : Vec Ideal S512x2816 .bf16 := fun i => prod x g wg i * sg (prod x g wg i) * prod x g wu i

theorem norm_at : k0_pay6 x g = nn x g := by
  funext y
  obtain ⟨r, l, rfl⟩ : ∃ (r : Fin 512) (l : Fin 1024), y = ix2 r l := ⟨y 0, y 1, eq_ix2 y⟩
  pointwise [k0_pay6]
  rfl

theorem zero2 : (![0, 0] : Fin 2 → ℕ) = fun _ => 0 := by decide
theorem whole_tile {e : EltTy} (x : Vec Ideal S512x1024 e) (h) :
    View.ld x (Rect.unit (s := S512x1024) ![0, 0] ![512, 1024] h) = x := View.ld_unit_zero zero2 h x
theorem whole_row (x : Vec Ideal S1x1024 .f32) (h) :
    View.ld x (Rect.unit (s := S1x1024) ![0, 0] ![1, 1024] h) = x := View.ld_unit_zero zero2 h x

theorem norm_all : k0_pay58 x g wg wu = nn x g := by
  unfold k0_pay58
  rw [whole_tile, whole_row, norm_at]

/-- 256 columns of a product, from column `c`. -/
theorem pieceA (c : ℕ) (h) (h') (y : S512x256.Idx) :
    (k0_pay3 (k0_pay58 x g wg wu) (View.ld wg (Rect.unit (s := S2816x1024) ![c, 0] S256x1024.size h)) y : EReal)
      = prod x g wg ((Rect.unit (s := S512x2816) ![0, c] S512x256.size h').emb y) := by
  obtain ⟨r, l, rfl⟩ : ∃ (r : Fin 512) (l : Fin 256), y = ix2 r l := ⟨y 0, y 1, eq_ix2 y⟩
  show _ = View.ld (prod x g wg) (Rect.unit (s := S512x2816) ![0, c] S512x256.size h') (ix2 r l)
  rw [norm_all]
  pointwise [k0_pay3, k0_pay1]
  rfl

theorem pieceB (c : ℕ) (h) (h') (y : S512x256.Idx) :
    (k0_pay4 (k0_pay58 x g wg wu) (View.ld wu (Rect.unit (s := S2816x1024) ![c, 0] S256x1024.size h)) y : EReal)
      = prod x g wu ((Rect.unit (s := S512x2816) ![0, c] S512x256.size h').emb y) :=
  pieceA x g wu wu c h h' y

/-- 256 columns of the gated product. -/
theorem pieceH (c : ℕ) (h) (h') (y : S512x256.Idx) :
    (k0_pay5 (k0_pay58 x g wg wu) (View.ld wg (Rect.unit (s := S2816x1024) ![c, 0] S256x1024.size h))
      (View.ld wu (Rect.unit (s := S2816x1024) ![c, 0] S256x1024.size h)) y : EReal)
      = gated x g wg wu ((Rect.unit (s := S512x2816) ![0, c] S512x256.size h').emb y) := by
  obtain ⟨r, l, rfl⟩ : ∃ (r : Fin 512) (l : Fin 256), y = ix2 r l := ⟨y 0, y 1, eq_ix2 y⟩
  show _ = View.ld (gated x g wg wu) (Rect.unit (s := S512x2816) ![0, c] S512x256.size h') (ix2 r l)
  rw [norm_all]
  pointwise [k0_pay5, k0_pay1, k0_pay2]
  rfl

theorem out_n : out0_4 x g wg wu = nn x g := by
  unfold out0_4
  refine (View.canon_cons_unit_zero zero2 _ _ _).trans ?_
  exact norm_all x g wg wu

theorem out_a : out0_5 x g wg wu = prod x g wg := by
  funext y
  refine View.canon_apply_of_pieces (prod x g wg) _ ?_ y (cover0_5 _ _ _ _ _ _ _ _ _ _ _ y)
  simp only [List.forall_mem_cons, List.not_mem_nil, false_imp_iff, implies_true, and_true]
  exact ⟨pieceA x g wg wu 2560 _ _, pieceA x g wg wu 2304 _ _, pieceA x g wg wu 2048 _ _, pieceA x g wg wu 1792 _ _,
    pieceA x g wg wu 1536 _ _, pieceA x g wg wu 1280 _ _, pieceA x g wg wu 1024 _ _, pieceA x g wg wu 768 _ _,
    pieceA x g wg wu 512 _ _, pieceA x g wg wu 256 _ _, pieceA x g wg wu 0 _ _⟩

theorem out_b : out0_6 x g wg wu = prod x g wu := by
  funext y
  refine View.canon_apply_of_pieces (prod x g wu) _ ?_ y (cover0_6 _ _ _ _ _ _ _ _ _ _ _ y)
  simp only [List.forall_mem_cons, List.not_mem_nil, false_imp_iff, implies_true, and_true]
  exact ⟨pieceB x g wg wu 2560 _ _, pieceB x g wg wu 2304 _ _, pieceB x g wg wu 2048 _ _, pieceB x g wg wu 1792 _ _,
    pieceB x g wg wu 1536 _ _, pieceB x g wg wu 1280 _ _, pieceB x g wg wu 1024 _ _, pieceB x g wg wu 768 _ _,
    pieceB x g wg wu 512 _ _, pieceB x g wg wu 256 _ _, pieceB x g wg wu 0 _ _⟩

theorem out_h : out0_7 x g wg wu = gated x g wg wu := by
  funext y
  refine View.canon_apply_of_pieces (gated x g wg wu) _ ?_ y (cover0_7 _ _ _ _ _ _ _ _ _ _ _ y)
  simp only [List.forall_mem_cons, List.not_mem_nil, false_imp_iff, implies_true, and_true]
  exact ⟨pieceH x g wg wu 2560 _ _, pieceH x g wg wu 2304 _ _, pieceH x g wg wu 2048 _ _, pieceH x g wg wu 1792 _ _,
    pieceH x g wg wu 1536 _ _, pieceH x g wg wu 1280 _ _, pieceH x g wg wu 1024 _ _, pieceH x g wg wu 768 _ _,
    pieceH x g wg wu 512 _ _, pieceH x g wg wu 256 _ _, pieceH x g wg wu 0 _ _⟩
end

end Cert.Kernel6Ideal.FfnUp
end
-- ==== Proof.FfnUp.Array.lean ====
/- The four result arrays of the feed-forward layer's forward call through its gates, from the arguments of the program. -/
module

public import proofs.«01_k».proof.Proof.FfnUp.Body
public import Idealize.ShloMosaic.Lib.Pipeline.ValueKit
public import Idealize.ShloMosaic.Lib.StableHlo.RunRead

@[expose] public section
noncomputable section
namespace Cert.Kernel6Ideal.FfnUp
open Cert.Kernel6Ideal Cert.Kernel6Ideal.Gen Idealize.ShloMosaic Idealize.ShloMosaic.TcCoe Idealize.SL.Sem Cert.Macaron
open Idealize.ShloMosaic.StableHlo

/-! ## The whole arrays -/

section
variable (x : FVec Ideal S4096x1024 .f32) (g : FVec Ideal S1024 .f32) (wg wu : FVec Ideal S1024x2816 .f32)

/-- The normalised input. -/
def wholeN : FVec Ideal S4096x1024 .bf16 := fun i => x i * rs (fun k => x (ix2 (i 0) k)) * g (ix1 (i 1))
/-- Its product with one of the weights. -/
def wholeP (w : FVec Ideal S1024x2816 .f32) : FVec Ideal S4096x2816 .bf16 := fun i =>
  ∑ k : Fin 1024, wholeN x g (ix2 (i 0) k) * w (ix2 k (i 1))
/-- The gated product. -/
def wholeH : FVec Ideal S4096x2816 .bf16 := fun i => wholeP x g wg i * sg (wholeP x g wg i) * wholeP x g wu i
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_x : V m c main_arg0 = m (c, main_arg0) := by unfold V; after_reads_simp
theorem entry_g (k : Fin 1024) : V m c main_v0 (ix2 0 k) = m (c, main_arg1) (ix1 k) := by
  unfold V; after_reads_simp; pointwise []
theorem entry_wg (k : Fin 2816) (l : Fin 1024) : V m c main_v2 (ix2 k l) = m (c, main_arg2) (ix2 l k) := by
  unfold V; after_reads_simp; pointwise []
theorem entry_wu (k : Fin 2816) (l : Fin 1024) : V m c main_v4 (ix2 k l) = m (c, main_arg3) (ix2 l k) := by
  unfold V; after_reads_simp; pointwise []

theorem blk0 (t : Fin cfg0.N) (r : Fin 512) (k : Fin 1024) : iblk m c 0 t (ix2 r k) = m (c, main_arg0) (ix2 (row t r) k) := by
  rw [← entry_x m c]; blk_simp [iblk]; congr 1; blk_ext [index0, row]
theorem blk1 (t : Fin cfg0.N) (k : Fin 1024) : iblk m c 1 t (ix2 0 k) = m (c, main_arg1) (ix1 k) := by
  rw [← entry_g m c]; blk_simp [iblk]; congr 1; blk_ext [index1]
theorem blk2 (t : Fin cfg0.N) (k : Fin 2816) (l : Fin 1024) : iblk m c 2 t (ix2 k l) = m (c, main_arg2) (ix2 l k) := by
  rw [← entry_wg m c]; blk_simp [iblk]; congr 1; blk_ext [index2]
theorem blk3 (t : Fin cfg0.N) (k : Fin 2816) (l : Fin 1024) : iblk m c 3 t (ix2 k l) = m (c, main_arg3) (ix2 l k) := by
  rw [← entry_wu m c]; blk_simp [iblk]; congr 1; blk_ext [index3]

/-- Where a row of a tile lies in the array. -/
theorem place4 (t : Fin cfg0.N) (r : Fin 512) (l : Fin 1024) : ((cfg0.win 4).blk t).view.emb (ix2 r l) = ix2 (row t r) l := by
  funext a; apply Fin.ext
  match a with
  | ⟨0, _⟩ => blk_simp [index4, row]
  | ⟨1, _⟩ => blk_simp [index4, row]
theorem place5 (t : Fin cfg0.N) (r : Fin 512) (l : Fin 2816) : ((cfg0.win 5).blk t).view.emb (ix2 r l) = ix2 (row t r) l := by
  funext a; apply Fin.ext
  match a with
  | ⟨0, _⟩ => blk_simp [index5, row]
  | ⟨1, _⟩ => blk_simp [index5, row]
theorem place6 (t : Fin cfg0.N) (r : Fin 512) (l : Fin 2816) : ((cfg0.win 6).blk t).view.emb (ix2 r l) = ix2 (row t r) l := by
  funext a; apply Fin.ext
  match a with
  | ⟨0, _⟩ => blk_simp [index6, row]
  | ⟨1, _⟩ => blk_simp [index6, row]
theorem place7 (t : Fin cfg0.N) (r : Fin 512) (l : Fin 2816) : ((cfg0.win 7).blk t).view.emb (ix2 r l) = ix2 (row t r) l := by
  funext a; apply Fin.ext
  match a with
  | ⟨0, _⟩ => blk_simp [index7, row]
  | ⟨1, _⟩ => blk_simp [index7, row]

/-! ## A tile's part of them -/

section
variable (t : Fin cfg0.N) (x : FVec Ideal S4096x1024 .f32) (g : FVec Ideal S1024 .f32) (w : FVec Ideal S1024x2816 .f32)
  (x0 : Vec Ideal S512x1024 .f32) (x1 : Vec Ideal S1x1024 .f32) (x2 : Vec Ideal S2816x1024 .bf16)
  (e0 : ∀ r k, (x0 (ix2 r k) : EReal) = x (ix2 (row t r) k)) (e1 : ∀ k, (x1 (ix2 0 k) : EReal) = g (ix1 k))
  (e2 : ∀ k l, (x2 (ix2 k l) : EReal) = w (ix2 l k))
include e0 e1

theorem n_row (r : Fin 512) (l : Fin 1024) : nn x0 x1 (ix2 r l) = wholeN x g (ix2 (row t r) l) := by
  show (x0 (ix2 r l) * rs (fun k => x0 (ix2 r k)) * x1 (ix2 0 l) : EReal) = _
  simp only [e0, e1]
  rfl
include e2
theorem p_row (r : Fin 512) (l : Fin 2816) : prod x0 x1 x2 (ix2 r l) = wholeP x g w (ix2 (row t r) l) := by
  show (∑ k : Fin 1024, nn x0 x1 (ix2 r k) * x2 (ix2 l k) : EReal) = _
  simp only [n_row t x g x0 x1 e0 e1, e2]
  rfl
end

/-- The first result array. -/
theorem arr4 : (dats m 0 c).arrAt 4 cfg0.N = wholeN (m (c, main_arg0)) (m (c, main_arg1)) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  rw [place4]
  blk_simp
  rw [after0_4, out_n]
  exact n_row t _ _ _ _ (blk0 m c t) (blk1 m c t) r l

/-- The second result array. -/
theorem arr5 : (dats m 0 c).arrAt 5 cfg0.N = wholeP (m (c, main_arg0)) (m (c, main_arg1)) (m (c, main_arg2)) := by
  refine (dats m 0 c).arrAt_eq_of_covers 5 _ (by decide +kernel) fun t hf y => ?_
  obtain ⟨r, l, rfl⟩ : ∃ (r : Fin 512) (l : Fin 2816), y = ix2 r l := ⟨y 0, y 1, eq_ix2 y⟩
  rw [place5]
  blk_simp
  rw [after0_5, out_a]
  exact p_row t _ _ _ _ _ _ (blk0 m c t) (blk1 m c t) (blk2 m c t) r l

/-- The third result array. -/
theorem arr6 : (dats m 0 c).arrAt 6 cfg0.N = wholeP (m (c, main_arg0)) (m (c, main_arg1)) (m (c, main_arg3)) := by
  refine (dats m 0 c).arrAt_eq_of_covers 6 _ (by decide +kernel) fun t hf y => ?_
  obtain ⟨r, l, rfl⟩ : ∃ (r : Fin 512) (l : Fin 2816), y = ix2 r l := ⟨y 0, y 1, eq_ix2 y⟩
  rw [place6]
  blk_simp
  rw [after0_6, out_b]
  exact p_row t _ _ _ _ _ _ (blk0 m c t) (blk1 m c t) (blk3 m c t) r l

/-- The fourth result array. -/
theorem arr7 : (dats m 0 c).arrAt 7 cfg0.N = wholeH (m (c, main_arg0)) (m (c, main_arg1)) (m (c, main_arg2)) (m (c, main_arg3)) := by
  refine (dats m 0 c).arrAt_eq_of_covers 7 _ (by decide +kernel) fun t hf y => ?_
  obtain ⟨r, l, rfl⟩ : ∃ (r : Fin 512) (l : Fin 2816), y = ix2 r l := ⟨y 0, y 1, eq_ix2 y⟩
  rw [place7]
  blk_simp
  rw [after0_7, out_h]
  exact congrArg₂ (fun a b : EReal => a * sg a * b) (p_row t _ _ _ _ _ _ (blk0 m c t) (blk1 m c t) (blk2 m c t) r l)
    (p_row t _ _ _ _ _ _ (blk0 m c t) (blk1 m c t) (blk3 m c t) r l)

end Cert.Kernel6Ideal.FfnUp
end
-- ==== Proof.FfnUp.Equation.lean ====
/- The four arrays of the feed-forward layer's forward call through its gates are the reference's. -/
module

public import proofs.«01_k».proof.Proof.FfnUp.Array
public import proofs.«01_k».proof.Proof.Gen.Reference6Ideal.Read

@[expose] public section
noncomputable section
namespace Cert.Kernel6Ideal.FfnUp
open Idealize.ShloMosaic Cert.Macaron Cert.Reference6Ideal.Read
open Cert.ReferenceIdeal.MlaBwd (one_word zero_word div_real)

/-- The logistic function by the hyperbolic tangent is the one by the exponential, at the infinities too. -/
theorem sg_eq (a : EReal) : sg a = Ideal.div 1 (1 + Ideal.exp (-a)) := by
  unfold sg
  rw [half_eq]
  induction a with
  | coe a =>
    rw [← EReal.coe_mul, Ideal.tanh_coe, ← EReal.coe_mul, ← EReal.coe_add, logist_tanh, ← EReal.coe_neg, Ideal.exp_coe, ← EReal.coe_one,
      ← EReal.coe_add, div_real _ _ (by positivity)]
    rfl
  | top =>
    rw [EReal.coe_mul_top_of_pos (by norm_num), Ideal.tanh_top, EReal.neg_top, Ideal.exp_bot, mul_one, ← EReal.coe_add, add_zero,
      ← EReal.coe_one, div_real _ _ (by norm_num)]
    norm_num
  | bot =>
    rw [EReal.coe_mul_bot_of_pos (by norm_num), Ideal.tanh_bot, EReal.neg_bot, Ideal.exp_top]
    have h : (1 : EReal) + ⊤ = ⊤ := EReal.coe_add_top 1
    rw [h, Ideal.div, if_neg EReal.top_ne_zero, EReal.inv_top, mul_zero, ← EReal.coe_one, ← EReal.coe_neg, ← EReal.coe_mul, ← EReal.coe_add]
    norm_num

section
variable (x : FVec Ideal Cert.Reference6Ideal.S4096x1024 .f32) (g : FVec Ideal Cert.Reference6Ideal.S1024 .f32)
  (wg wu : FVec Ideal Cert.Reference6Ideal.S1024x2816 .f32)

theorem ref_rs (r : Fin 4096) (u : Fin 1) : val_main_v7 (F := Ideal) x (ix2 r u) = rs (fun k => x (ix2 r k)) := by
  rw [val_main_v7_apply, val_main_v6_apply, val_main_v4_apply, val_main_v5_apply, val_main_cst_1_apply, val_main_v3_apply, val_main_cst_0_apply,
    val_main_v2_apply, val_main_v1_apply, val_main_cst_apply]
  refine congrArg (fun u => Ideal.rsqrt (Ideal.div u width + small)) ?_
  refine (congrArg₂ (fun u v : EReal => u + v) zero_word (Finset.sum_congr rfl fun k _ => ?_)).trans (zero_add _)
  rw [val_main_v0_apply, show idx_main_v1 (idx_main_v2 (ix2 r u)) k = ix2 r k from eq_ix2 _]
  rfl

theorem norm_row (r : Fin 4096) (l : Fin 1024) : wholeN x g (ix2 r l) = val_main_v12 (F := Ideal) x g (ix2 r l) := by
  rw [val_main_v12_apply, val_main_v9_apply, val_main_v8_apply, show idx_main_v8 (ix2 r l) = ix2 r 0 from eq_ix2 _, ref_rs,
    val_main_v11_apply, val_main_v10_apply, show idx_main_v10 (idx_main_v11 (ix2 r l)) = ix1 l from eq_ix1 _]
  rfl

theorem norm_eq : wholeN x g = val_main_v15 (F := Ideal) x g := by
  funext i
  obtain ⟨r, l, rfl⟩ : ∃ (r : Fin 4096) (l : Fin 1024), i = ix2 r l := ⟨i 0, i 1, eq_ix2 i⟩
  exact norm_row x g r l

theorem first_row (r : Fin 4096) (l : Fin 2816) : wholeP x g wg (ix2 r l) = val_main_v13 (F := Ideal) x g wg (ix2 r l) := by
  rw [val_main_v13_apply]
  refine Finset.sum_congr rfl fun k _ => ?_
  rw [show lidx_main_v13 (ix2 r l) k = ix2 r k from eq_ix2 _, show ridx_main_v13 (ix2 r l) k = ix2 k l from eq_ix2 _, ← norm_row]
  rfl
theorem second_row (r : Fin 4096) (l : Fin 2816) : wholeP x g wu (ix2 r l) = val_main_v14 (F := Ideal) x g wu (ix2 r l) := by
  rw [val_main_v14_apply]
  refine Finset.sum_congr rfl fun k _ => ?_
  rw [show lidx_main_v14 (ix2 r l) k = ix2 r k from eq_ix2 _, show ridx_main_v14 (ix2 r l) k = ix2 k l from eq_ix2 _, ← norm_row]
  rfl

theorem first_eq : wholeP x g wg = val_main_v16 (F := Ideal) x g wg := by
  funext i
  obtain ⟨r, l, rfl⟩ : ∃ (r : Fin 4096) (l : Fin 2816), i = ix2 r l := ⟨i 0, i 1, eq_ix2 i⟩
  exact first_row x g wg r l
theorem second_eq : wholeP x g wu = val_main_v17 (F := Ideal) x g wu := by
  funext i
  obtain ⟨r, l, rfl⟩ : ∃ (r : Fin 4096) (l : Fin 2816), i = ix2 r l := ⟨i 0, i 1, eq_ix2 i⟩
  exact second_row x g wu r l

theorem gated_eq : wholeH x g wg wu = val_main_v20 (F := Ideal) x g wg wu := by
  funext i
  obtain ⟨r, l, rfl⟩ : ∃ (r : Fin 4096) (l : Fin 2816), i = ix2 r l := ⟨i 0, i 1, eq_ix2 i⟩
  rw [val_main_v20_apply, val_main_v19_apply, val_main_v18_apply, val_main_call0_v5_apply, val_main_call0_v4_apply, val_main_call0_cst_0_apply,
    val_main_call0_v3_apply, val_main_call0_v2_apply, val_main_call0_cst_apply, val_main_call0_v1_apply, val_main_call0_v0_apply, one_word,
    ← first_row, ← second_row]
  exact congrArg (fun u : EReal => wholeP x g wg (ix2 r l) * u * wholeP x g wu (ix2 r l)) (sg_eq _)
end

end Cert.Kernel6Ideal.FfnUp
end
-- ==== Proof.FfnUp.Claims.lean ====
/- The claims about the feed-forward layer's forward call through its gates. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.FfnUp.Equation

@[expose] public section
noncomputable section
namespace Cert.Proof.FfnUp
open Idealize.ShloMosaic Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

theorem preserves : Cert.preserves_Kernel6_Kernel6Ideal := trivial

/-- The kernel's four arrays are the reference's. -/
theorem algebraic : Cert.algebraic_Kernel6Ideal_Reference6Ideal := by
  intro m ρ m' ρ' _ hagree
  refine ⟨_, _, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨h0, h1, h2, h3, hargs⟩ := h c
  obtain ⟨a0, a1, a2, a3⟩ := hagree c
  refine ⟨h0.trans ?_, h1.trans ?_, h2.trans ?_, h3.trans ?_, hargs⟩
  · rw [Cert.Reference6Ideal.Read.val_main_v15_eq, a0, a1, Cert.Kernel6Ideal.FfnUp.arr4]
    exact (Cert.Kernel6Ideal.FfnUp.norm_eq _ _).symm
  · rw [Cert.Reference6Ideal.Read.val_main_v16_eq, a0, a1, a2, Cert.Kernel6Ideal.FfnUp.arr5]
    exact (Cert.Kernel6Ideal.FfnUp.first_eq _ _ _).symm
  · rw [Cert.Reference6Ideal.Read.val_main_v17_eq, a0, a1, a3, Cert.Kernel6Ideal.FfnUp.arr6]
    exact (Cert.Kernel6Ideal.FfnUp.second_eq _ _ _).symm
  · rw [Cert.Reference6Ideal.Read.val_main_v20_eq, a0, a1, a2, a3, Cert.Kernel6Ideal.FfnUp.arr7]
    exact (Cert.Kernel6Ideal.FfnUp.gated_eq _ _ _ _).symm

end Cert.Proof.FfnUp
end
-- ==== Proof.FfnOut.Array.lean ====
/- The down projection's forward call: its result array is the reference's. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.ValueIdx
public import Idealize.ShloMosaic.Lib.StableHlo.RunRead

@[expose] public section
noncomputable section
namespace Cert.Kernel7Ideal.FfnOut
open Cert.Kernel7Ideal Cert.Kernel7Ideal.Gen Idealize.ShloMosaic Idealize.ShloMosaic.TcCoe Idealize.SL.Sem
open Idealize.ShloMosaic.StableHlo

/-- One half. -/
abbrev half : EReal := Ideal.ofBits .f32 0x3F000000#32

section
variable (h : Vec Ideal S512x2816 .bf16) (w : Vec Ideal S2816x1024 .bf16) (x : Vec Ideal S512x1024 .f32)

/-- A tile of the result. -/
def tile : Vec Ideal S512x1024 .f32 := fun i => x i + (∑ k : Fin 2816, h (ix2 (i 0) k) * w (ix2 k (i 1))) * half

/-- Half of the columns of it, from column `o`. -/
theorem piece (o : ℕ) (q) (q') (y : S512x512.Idx) :
    (k0_pay1 (View.ld w (Rect.unit (s := S2816x1024) ![0, o] S2816x512.size q)) (View.ld h r0_1)
      (View.ld x (Rect.unit (s := S512x1024) ![0, o] S512x512.size q')) y : EReal)
      = View.ld (tile h w x) (Rect.unit (s := S512x1024) ![0, o] S512x512.size q') y := by
  obtain ⟨r, l, rfl⟩ : ∃ (r : Fin 512) (l : Fin 512), y = ix2 r l := ⟨y 0, y 1, eq_ix2 y⟩
  pointwise [k0_pay1]
  rfl

theorem out_tile : out0_3 h w x = tile h w x := by
  funext y
  refine View.canon_apply_of_pieces (tile h w x) _ ?_ y (cover0_3 _ _ y)
  simp only [List.forall_mem_cons, List.not_mem_nil, false_imp_iff, implies_true, and_true]
  exact ⟨piece h w x 512 _ _, piece h w x 0 _ _⟩
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_h : V m c main_v0 = m (c, main_arg1) := by unfold V; after_reads_simp; rfl
theorem entry_w : V m c main_v1 = m (c, main_arg2) := by unfold V; after_reads_simp; rfl
theorem entry_x : V m c main_arg0 = m (c, main_arg0) := by unfold V; after_reads_simp

theorem blk0 (t : Fin cfg0.N) (r : Fin 512) (k : Fin 2816) : iblk m c 0 t (ix2 r k) = V m c main_v0 (ix2 (row t r) k) := by
  blk_simp [iblk]; congr 1; blk_ext [index0, row]
theorem blk1 (t : Fin cfg0.N) : iblk m c 1 t = V m c main_v1 := by
  funext y; blk_simp [iblk]; congr 1; blk_ext [index1]
theorem blk2 (t : Fin cfg0.N) (r : Fin 512) (l : Fin 1024) : iblk m c 2 t (ix2 r l) = V m c main_arg0 (ix2 (row t r) l) := by
  blk_simp [iblk]; congr 1; blk_ext [index2, row]

/-- Where a row of a tile lies in the array. -/
theorem place3 (t : Fin cfg0.N) (r : Fin 512) (l : Fin 1024) :
    ((cfg0.win 3).blk t).view.emb (ix2 r l) = ix2 (row t r) l := by
  funext a; apply Fin.ext
  match a with
  | ⟨0, _⟩ => blk_simp [index3, row]
  | ⟨1, _⟩ => blk_simp [index3, row]

/-- The result, from the arguments. -/
def whole (x : FVec Ideal S4096x1024 .f32) (h : FVec Ideal S4096x2816 .f32) (w : FVec Ideal S2816x1024 .f32) :
    FVec Ideal S4096x1024 .f32 := fun i => x i + (∑ k : Fin 2816, h (ix2 (i 0) k) * w (ix2 k (i 1))) * half

theorem tile_at (h : Vec Ideal S512x2816 .bf16) (w : Vec Ideal S2816x1024 .bf16) (x : Vec Ideal S512x1024 .f32) (r : Fin 512) (l : Fin 1024) :
    tile h w x (ix2 r l) = x (ix2 r l) + (∑ k : Fin 2816, h (ix2 r k) * w (ix2 k l)) * half := rfl

/-- The result array. -/
theorem arr : (dats m 0 c).arrAt 3 cfg0.N = whole (m (c, main_arg0)) (m (c, main_arg1)) (m (c, main_arg2)) := by
  refine (dats m 0 c).arrAt_eq_of_covers 3 _ (by decide +kernel) fun t hf y => ?_
  obtain ⟨r, l, rfl⟩ : ∃ (r : Fin 512) (l : Fin 1024), y = ix2 r l := ⟨y 0, y 1, eq_ix2 y⟩
  rw [place3]
  blk_simp
  rw [after0_3, out_tile]
  refine (tile_at _ _ _ r l).trans ?_
  simp only [blk0, blk1, blk2, entry_h, entry_w, entry_x]
  rfl

open Cert.Reference7Ideal.Read in
theorem result_eq (x : FVec Ideal S4096x1024 .f32) (h : FVec Ideal S4096x2816 .f32) (w : FVec Ideal S2816x1024 .f32) :
    whole x h w = val_main_v3 (F := Ideal) x h w := by
  funext i
  obtain ⟨r, l, rfl⟩ : ∃ (r : Fin 4096) (l : Fin 1024), i = ix2 r l := ⟨i 0, i 1, eq_ix2 i⟩
  rw [val_main_v3_apply, val_main_v2_apply, val_main_v1_apply, val_main_cst_apply, val_main_v0_apply]
  refine congrArg (fun u : EReal => x (ix2 r l) + u) ((mul_comm _ _).trans (congrArg (fun u : EReal => half * u) ?_))
  refine Finset.sum_congr rfl fun k _ => ?_
  rw [show lidx_main_v0 (ix2 r l) k = ix2 r k from eq_ix2 _, show ridx_main_v0 (ix2 r l) k = ix2 k l from eq_ix2 _]
  rfl
end Cert.Kernel7Ideal.FfnOut
end
-- ==== Proof.FfnOut.Claims.lean ====
/- The claims about the down projection's forward call. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.FfnOut.Array

@[expose] public section
noncomputable section
namespace Cert.Proof.FfnOut
open Idealize.ShloMosaic Idealize.SL.Sem

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem preserves : Cert.preserves_Kernel7_Kernel7Ideal := trivial

/-- The kernel's array is the reference's. -/
theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨h0, hargs⟩ := h c
  obtain ⟨a0, a1, a2⟩ := hagree c
  refine ⟨h0.trans ?_, hargs⟩
  rw [Cert.Reference7Ideal.Read.val_main_v3_eq, a0, a1, a2, Cert.Kernel7Ideal.FfnOut.arr]
  exact (Cert.Kernel7Ideal.FfnOut.result_eq _ _ _).symm

end Cert.Proof.FfnOut
end
-- ==== Proof.Mixer.GatesBwd.Body.lean ====
/- What one grid point of the backward call through the branches' gates and products leaves in its six results. -/
module

public import proofs.«01_k».proof.Proof.Gen.Kernel8Ideal.Value
public import proofs.«01_k».proof.Proof.FfnUp.Equation
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel8Ideal.MixerGatesBwd
open Cert.Kernel8Ideal Cert.Kernel8Ideal.Gen Idealize.ShloMosaic Idealize.ShloMosaic.TcCoe Idealize.SL.Sem
open Cert.Kernel6Ideal.FfnUp (sg sg_eq)
open Cert.ReferenceIdeal.MlaBwd (one_word zero_word div_real)

section
variable (dy : Vec Ideal S512x1024 .bf16) (wo : Vec Ideal S1024x1024 .bf16) (g : Vec Ideal S512x1024 .f32)
  (y : Vec Ideal S512x1024 .bf16) (wa : Vec Ideal S1024x512 .bf16) (wb : Vec Ideal S1024x1024 .bf16)

/-- The gradient of the gated sum. -/
def dm : Vec Ideal S512x1024 .f32 := fun i => ∑ k : Fin 1024, dy (ix2 (i 0) k) * wo (ix2 (i 1) k)
/-- The gradient of a branch's product. -/
def dyr : Vec Ideal S512x1024 .bf16 := fun i => dm dy wo i * sg (g i)
/-- The gradient of a branch's gate. -/
def dgt : Vec Ideal S512x1024 .bf16 := fun i => dm dy wo i * y i * (sg (g i) * (1 - sg (g i)))
/-- The gradient of the first branch's output. -/
def doa : Vec Ideal S512x512 .bf16 := fun i => ∑ k : Fin 1024, dyr dy wo g (ix2 (i 0) k) * wa (ix2 k (i 1))
/-- The gradient of the second branch's output. -/
def dob : Vec Ideal S512x1024 .bf16 := fun i => ∑ k : Fin 1024, dyr dy wo g (ix2 (i 0) k) * wb (ix2 k (i 1))

theorem zero2 : (![0, 0] : Fin 2 → ℕ) = fun _ => 0 := by decide
theorem whole_b {e : EltTy} (x : Vec Ideal S512x1024 e) (h) :
    View.ld x (Rect.unit (s := S512x1024) ![0, 0] ![512, 1024] h) = x := View.ld_unit_zero zero2 h x

/-- 512 columns of each, from column `o`. -/
theorem pieceM (o : ℕ) (h) (h') (z : S512x512.Idx) :
    (k0_pay16 (k0_pay3 dy) (View.ld wo (Rect.unit (s := S1024x1024) ![o, 0] S512x1024.size h)) z : EReal)
      = View.ld (dm dy wo) (Rect.unit (s := S512x1024) ![0, o] S512x512.size h') z := by
  obtain ⟨r, l, rfl⟩ : ∃ (r : Fin 512) (l : Fin 512), z = ix2 r l := ⟨z 0, z 1, eq_ix2 z⟩
  pointwise [k0_pay16, k0_pay3]
  rfl
theorem pieceY (o : ℕ) (h) (h') (z : S512x512.Idx) :
    (k0_pay19 (k0_pay16 (k0_pay3 dy) (View.ld wo (Rect.unit (s := S1024x1024) ![o, 0] S512x1024.size h)))
      (k0_pay17 (View.ld g (Rect.unit (s := S512x1024) ![0, o] S512x512.size h'))) z : EReal)
      = View.ld (dyr dy wo g) (Rect.unit (s := S512x1024) ![0, o] S512x512.size h') z := by
  obtain ⟨r, l, rfl⟩ : ∃ (r : Fin 512) (l : Fin 512), z = ix2 r l := ⟨z 0, z 1, eq_ix2 z⟩
  pointwise [k0_pay19, k0_pay16, k0_pay3, k0_pay17]
  rfl
theorem pieceG (o : ℕ) (h) (h') (z : S512x512.Idx) :
    (k0_pay21 (k0_pay16 (k0_pay3 dy) (View.ld wo (Rect.unit (s := S1024x1024) ![o, 0] S512x1024.size h)))
      (k0_pay17 (View.ld g (Rect.unit (s := S512x1024) ![0, o] S512x512.size h')))
      (View.ld y (Rect.unit (s := S512x1024) ![0, o] S512x512.size h')) z : EReal)
      = View.ld (dgt dy wo g y) (Rect.unit (s := S512x1024) ![0, o] S512x512.size h') z := by
  obtain ⟨r, l, rfl⟩ : ∃ (r : Fin 512) (l : Fin 512), z = ix2 r l := ⟨z 0, z 1, eq_ix2 z⟩
  pointwise [k0_pay21, k0_pay16, k0_pay3, k0_pay17]
  rfl

/-- A sum over 1024 columns in two halves. -/
theorem two_halves (f : Fin 1024 → EReal) :
    0 + ∑ k : Fin 512, f ⟨k.val, by omega⟩ + ∑ k : Fin 512, f ⟨512 + k.val, by omega⟩ = ∑ k, f k := by
  rw [zero_add]
  exact (Fin.sum_univ_add (a := 512) (b := 512) f).symm

theorem sumA (h) (h') (q) (q') (u) (u') :
    k0_pay1 (k0_pay14 (k0_pay4 (F := Ideal))
        (k0_pay9 dy (View.ld wo (Rect.unit (s := S1024x1024) ![0, 0] S512x1024.size h)) (View.ld g (Rect.unit (s := S512x1024) ![0, 0] S512x512.size q)))
        (View.ld wa (Rect.unit (s := S1024x512) ![0, 0] S512x512.size u)))
      (k0_pay19 (k0_pay16 (k0_pay3 dy) (View.ld wo (Rect.unit (s := S1024x1024) ![512, 0] S512x1024.size h')))
        (k0_pay17 (View.ld g (Rect.unit (s := S512x1024) ![0, 512] S512x512.size q'))))
      (k0_pay23 (View.ld wa (Rect.unit (s := S1024x512) ![512, 0] S512x512.size u'))) (constant S512x512 .f32 0x00000000#32)
      = doa dy wo g wa := by
  funext z
  obtain ⟨r, l, rfl⟩ : ∃ (r : Fin 512) (l : Fin 512), z = ix2 r l := ⟨z 0, z 1, eq_ix2 z⟩
  rw [show k0_pay9 dy (View.ld wo (Rect.unit (s := S1024x1024) ![0, 0] S512x1024.size h)) (View.ld g (Rect.unit (s := S512x1024) ![0, 0] S512x512.size q))
    = View.ld (dyr dy wo g) (Rect.unit (s := S512x1024) ![0, 0] S512x512.size q) from funext (pieceY dy wo g 0 h q),
    show k0_pay19 _ _ = View.ld (dyr dy wo g) (Rect.unit (s := S512x1024) ![0, 512] S512x512.size q') from funext (pieceY dy wo g 512 h' q')]
  refine Eq.trans ?_ (two_halves fun k => dyr dy wo g (ix2 r k) * wa (ix2 k l))
  pointwise [k0_pay1, k0_pay14, k0_pay4, k0_pay23]

theorem sumB (h) (h') (q) (q') (u) (u') :
    k0_pay2 (k0_pay15 (k0_pay5 (F := Ideal))
        (k0_pay10 dy (View.ld wo (Rect.unit (s := S1024x1024) ![0, 0] S512x1024.size h)) (View.ld g (Rect.unit (s := S512x1024) ![0, 0] S512x512.size q)))
        (View.ld wb (Rect.unit (s := S1024x1024) ![0, 0] S512x1024.size u)))
      (k0_pay20 (k0_pay16 (k0_pay3 dy) (View.ld wo (Rect.unit (s := S1024x1024) ![512, 0] S512x1024.size h')))
        (View.ld g (Rect.unit (s := S512x1024) ![0, 512] S512x512.size q')))
      (View.ld wb (Rect.unit (s := S1024x1024) ![512, 0] S512x1024.size u'))
      = dob dy wo g wb := by
  funext z
  obtain ⟨r, l, rfl⟩ : ∃ (r : Fin 512) (l : Fin 1024), z = ix2 r l := ⟨z 0, z 1, eq_ix2 z⟩
  rw [show k0_pay10 dy (View.ld wo (Rect.unit (s := S1024x1024) ![0, 0] S512x1024.size h)) (View.ld g (Rect.unit (s := S512x1024) ![0, 0] S512x512.size q))
    = View.ld (dyr dy wo g) (Rect.unit (s := S512x1024) ![0, 0] S512x512.size q) from funext (pieceY dy wo g 0 h q),
    show k0_pay20 (k0_pay16 (k0_pay3 dy) (View.ld wo (Rect.unit (s := S1024x1024) ![512, 0] S512x1024.size h')))
        (View.ld g (Rect.unit (s := S512x1024) ![0, 512] S512x512.size q')) = View.ld (dyr dy wo g) (Rect.unit (s := S512x1024) ![0, 512] S512x512.size q') from funext (pieceY dy wo g 512 h' q')]
  refine Eq.trans ?_ (two_halves fun k => dyr dy wo g (ix2 r k) * wb (ix2 k l))
  pointwise [k0_pay2, k0_pay15, k0_pay5]
end

variable (c : Dev nD) (i : grid0.Coords) (a1 : Memref sig .tc .vmem S512x1024 .bf16) (h1 : a1.IsWhole)
  (a2 : Memref sig .tc .vmem S1024x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S512x1024 .bf16) (h5 : a5.IsWhole)
  (a6 : Memref sig .tc .vmem S512x1024 .bf16) (h6 : a6.IsWhole) (a7 : Memref sig .tc .vmem S1024x512 .bf16) (h7 : a7.IsWhole)
  (a8 : Memref sig .tc .vmem S1024x1024 .bf16) (h8 : a8.IsWhole) (a9 : Memref sig .tc .vmem S512x1024 .bf16) (h9 : a9.IsWhole)
  (a10 : Memref sig .tc .vmem S512x1024 .bf16) (h10 : a10.IsWhole) (a11 : Memref sig .tc .vmem S512x1024 .bf16) (h11 : a11.IsWhole)
  (a12 : Memref sig .tc .vmem S512x1024 .bf16) (h12 : a12.IsWhole) (a13 : Memref sig .tc .vmem S512x512 .bf16) (h13 : a13.IsWhole)
  (a14 : Memref sig .tc .vmem S512x1024 .bf16) (h14 : a14.IsWhole)
  (dy : Vec Ideal S512x1024 .bf16) (wo : Vec Ideal S1024x1024 .bf16) (ga gb : Vec Ideal S512x1024 .f32)
  (ya yb : Vec Ideal S512x1024 .bf16) (wa : Vec Ideal S1024x512 .bf16) (wb : Vec Ideal S1024x1024 .bf16)

theorem out_ya : out0_A_8 c i a1 h1 a2 h2 a3 h3 a4 h4 a5 h5 a6 h6 a7 h7 a8 h8 a9 h9 a10 h10 a11 h11 a12 h12 a13 h13 a14 h14
    dy wo ga gb ya yb wa wb = dyr dy wo ga := by
  unfold out0_A_8
  rw [View.read_writes_junk_eq_canon]
  funext y
  refine View.canon_apply_of_pieces (dyr dy wo ga) _ ?_ y
    (cover0_A_8 c i a1 h1 a2 h2 a3 h3 a4 h4 a5 h5 a6 h6 a7 h7 a8 h8 a9 h9 a10 h10 a11 h11 a12 h12 a13 h13 a14 h14 dy wo ga gb ya yb wa wb y)
  unfold kernelRun0_A
  dsimp only
  sl_unfold_words
  simp only [View.readAt_eq_ld, h1.read_unread, h2.read_unread, h3.read_unread, h4.read_unread, h5.read_unread, h6.read_unread, h7.read_unread,
    h8.read_unread, whole_b, List.forall_mem_cons, List.not_mem_nil, false_imp_iff, implies_true, and_true]
  exact ⟨pieceY dy wo ga 512 _ _, pieceY dy wo ga 0 _ _⟩

theorem out_yb : out0_A_9 c i a1 h1 a2 h2 a3 h3 a4 h4 a5 h5 a6 h6 a7 h7 a8 h8 a9 h9 a10 h10 a11 h11 a12 h12 a13 h13 a14 h14
    dy wo ga gb ya yb wa wb = dyr dy wo gb := by
  unfold out0_A_9
  rw [View.read_writes_junk_eq_canon]
  funext y
  refine View.canon_apply_of_pieces (dyr dy wo gb) _ ?_ y
    (cover0_A_9 c i a1 h1 a2 h2 a3 h3 a4 h4 a5 h5 a6 h6 a7 h7 a8 h8 a9 h9 a10 h10 a11 h11 a12 h12 a13 h13 a14 h14 dy wo ga gb ya yb wa wb y)
  unfold kernelRun0_A
  dsimp only
  sl_unfold_words
  simp only [View.readAt_eq_ld, h1.read_unread, h2.read_unread, h3.read_unread, h4.read_unread, h5.read_unread, h6.read_unread, h7.read_unread,
    h8.read_unread, whole_b, List.forall_mem_cons, List.not_mem_nil, false_imp_iff, implies_true, and_true]
  exact ⟨pieceY dy wo gb 512 _ _, pieceY dy wo gb 0 _ _⟩

theorem out_ga : out0_A_10 c i a1 h1 a2 h2 a3 h3 a4 h4 a5 h5 a6 h6 a7 h7 a8 h8 a9 h9 a10 h10 a11 h11 a12 h12 a13 h13 a14 h14
    dy wo ga gb ya yb wa wb = dgt dy wo ga ya := by
  unfold out0_A_10
  rw [View.read_writes_junk_eq_canon]
  funext y
  refine View.canon_apply_of_pieces (dgt dy wo ga ya) _ ?_ y
    (cover0_A_10 c i a1 h1 a2 h2 a3 h3 a4 h4 a5 h5 a6 h6 a7 h7 a8 h8 a9 h9 a10 h10 a11 h11 a12 h12 a13 h13 a14 h14 dy wo ga gb ya yb wa wb y)
  unfold kernelRun0_A
  dsimp only
  sl_unfold_words
  simp only [View.readAt_eq_ld, h1.read_unread, h2.read_unread, h3.read_unread, h4.read_unread, h5.read_unread, h6.read_unread, h7.read_unread,
    h8.read_unread, whole_b, List.forall_mem_cons, List.not_mem_nil, false_imp_iff, implies_true, and_true]
  exact ⟨pieceG dy wo ga ya 512 _ _, pieceG dy wo ga ya 0 _ _⟩

theorem out_gb : out0_A_11 c i a1 h1 a2 h2 a3 h3 a4 h4 a5 h5 a6 h6 a7 h7 a8 h8 a9 h9 a10 h10 a11 h11 a12 h12 a13 h13 a14 h14
    dy wo ga gb ya yb wa wb = dgt dy wo gb yb := by
  unfold out0_A_11
  rw [View.read_writes_junk_eq_canon]
  funext y
  refine View.canon_apply_of_pieces (dgt dy wo gb yb) _ ?_ y
    (cover0_A_11 c i a1 h1 a2 h2 a3 h3 a4 h4 a5 h5 a6 h6 a7 h7 a8 h8 a9 h9 a10 h10 a11 h11 a12 h12 a13 h13 a14 h14 dy wo ga gb ya yb wa wb y)
  unfold kernelRun0_A
  dsimp only
  sl_unfold_words
  simp only [View.readAt_eq_ld, h1.read_unread, h2.read_unread, h3.read_unread, h4.read_unread, h5.read_unread, h6.read_unread, h7.read_unread,
    h8.read_unread, whole_b, List.forall_mem_cons, List.not_mem_nil, false_imp_iff, implies_true, and_true]
  exact ⟨pieceG dy wo gb yb 512 _ _, pieceG dy wo gb yb 0 _ _⟩

theorem out_oa : out0_A_12 c i a1 h1 a2 h2 a3 h3 a4 h4 a5 h5 a6 h6 a7 h7 a8 h8 a9 h9 a10 h10 a11 h11 a12 h12 a13 h13 a14 h14
    dy wo ga gb ya yb wa wb = doa dy wo ga wa := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread, h7.read_unread,
    h8.read_unread]
  refine (View.canon_cons_unit_zero zero2 _ _ _).trans ?_
  simp only [whole_b]
  exact sumA dy wo ga wa _ _ _ _ _ _

theorem out_ob : out0_A_13 c i a1 h1 a2 h2 a3 h3 a4 h4 a5 h5 a6 h6 a7 h7 a8 h8 a9 h9 a10 h10 a11 h11 a12 h12 a13 h13 a14 h14
    dy wo ga gb ya yb wa wb = dob dy wo gb wb := by
  unfold out0_A_13
  rw [View.read_writes_junk_eq_canon]
  unfold kernelRun0_A
  dsimp only
  sl_unfold_words
  simp only [View.readAt_eq_ld, h1.read_unread, h2.read_unread, h3.read_unread, h4.read_unread, h5.read_unread, h6.read_unread, h7.read_unread,
    h8.read_unread]
  refine (View.canon_cons_unit_zero zero2 _ _ _).trans ?_
  simp only [whole_b]
  exact sumB dy wo gb wb _ _ _ _ _ _

end Cert.Kernel8Ideal.MixerGatesBwd
end
-- ==== Proof.Mixer.GatesBwd.Array.lean ====
/- The six result arrays of the backward call through the branches' gates and products, from the arguments of the program. -/
module

public import proofs.«01_k».proof.Proof.Mixer.GatesBwd.Body
public import Idealize.ShloMosaic.Lib.Pipeline.ValueKit
public import Idealize.ShloMosaic.Lib.StableHlo.RunRead

@[expose] public section
noncomputable section
namespace Cert.Kernel8Ideal.MixerGatesBwd
open Cert.Kernel8Ideal Cert.Kernel8Ideal.Gen Idealize.ShloMosaic Idealize.ShloMosaic.TcCoe Idealize.SL.Sem
open Idealize.ShloMosaic.StableHlo
open Cert.Kernel6Ideal.FfnUp (sg sg_eq)

/-! ## The whole arrays -/

/-- The first gate's column `l`. -/
def colA (l : Fin 1024) : Fin 3328 := ⟨l.val, by omega⟩
/-- The second gate's column `l`. -/
def colB (l : Fin 1024) : Fin 3328 := ⟨1024 + l.val, by omega⟩

section
variable (p : FVec Ideal S4096x3328 .f32) (col : Fin 1024 → Fin 3328) (y : FVec Ideal S4096x1024 .f32) (wa : FVec Ideal S512x1024 .f32)
  (wb wo : FVec Ideal S1024x1024 .f32) (dy : FVec Ideal S4096x1024 .f32)

/-- The gradient of the gated sum. -/
def wholeM : FVec Ideal S4096x1024 .f32 := fun i => ∑ k : Fin 1024, dy (ix2 (i 0) k) * wo (ix2 (i 1) k)
/-- The gradient of a branch's product. -/
def wholeY : FVec Ideal S4096x1024 .bf16 := fun i => wholeM wo dy i * sg (p (ix2 (i 0) (col (i 1))))
/-- The gradient of a branch's gate. -/
def wholeG : FVec Ideal S4096x1024 .bf16 := fun i =>
  wholeM wo dy i * y i * (sg (p (ix2 (i 0) (col (i 1)))) * (1 - sg (p (ix2 (i 0) (col (i 1))))))
/-- The gradient of the first branch's output. -/
def wholeA : FVec Ideal S4096x512 .bf16 := fun i => ∑ k : Fin 1024, wholeY p col wo dy (ix2 (i 0) k) * wa (ix2 (i 1) k)
/-- The gradient of the second branch's output. -/
def wholeB : FVec Ideal S4096x1024 .bf16 := fun i => ∑ k : Fin 1024, wholeY p col wo dy (ix2 (i 0) k) * wb (ix2 (i 1) k)
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 1] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_dy : V m c main_v0 = m (c, main_arg6) := by unfold V; after_reads_simp; rfl
theorem entry_wo : V m c main_v1 = m (c, main_arg5) := by unfold V; after_reads_simp; rfl
theorem entry_p : V m c main_arg0 = m (c, main_arg0) := by unfold V; after_reads_simp
theorem entry_ya : V m c main_v2 = m (c, main_arg1) := by unfold V; after_reads_simp; rfl
theorem entry_yb : V m c main_v3 = m (c, main_arg2) := by unfold V; after_reads_simp; rfl
theorem entry_wa (k : Fin 1024) (l : Fin 512) : V m c main_v5 (ix2 k l) = m (c, main_arg3) (ix2 l k) := by
  unfold V; after_reads_simp; pointwise []
theorem entry_wb (k : Fin 1024) (l : Fin 1024) : V m c main_v7 (ix2 k l) = m (c, main_arg4) (ix2 l k) := by
  unfold V; after_reads_simp; pointwise []

theorem blk0 (t : Fin cfg0.N) (r : Fin 512) (k : Fin 1024) : iblk m c 0 t (ix2 r k) = m (c, main_arg6) (ix2 (row t r) k) := by
  rw [← entry_dy m c]; blk_simp [iblk]; congr 1; blk_ext [index0, row]
theorem blk1 (t : Fin cfg0.N) (k : Fin 1024) (l : Fin 1024) : iblk m c 1 t (ix2 k l) = m (c, main_arg5) (ix2 k l) := by
  rw [← entry_wo m c]; blk_simp [iblk]; congr 1; blk_ext [index1]
theorem blk2 (t : Fin cfg0.N) (r : Fin 512) (k : Fin 1024) : X0_2 m c t (ix2 r k) = m (c, main_arg0) (ix2 (row t r) (colA k)) := by
  rw [← entry_p m c]; unfold X0_2 Pipeline.Window.fill; rw [dif_pos (moved0_2 t _)]; blk_simp [iblk]; congr 1; blk_ext [index2, row, colA]
theorem blk3 (t : Fin cfg0.N) (r : Fin 512) (k : Fin 1024) : X0_3 m c t (ix2 r k) = m (c, main_arg0) (ix2 (row t r) (colB k)) := by
  rw [← entry_p m c]; unfold X0_3 Pipeline.Window.fill; rw [dif_pos (moved0_3 t _)]; blk_simp [iblk]; congr 1; blk_ext [index3, row, colB]
theorem blk4 (t : Fin cfg0.N) (r : Fin 512) (k : Fin 1024) : iblk m c 4 t (ix2 r k) = m (c, main_arg1) (ix2 (row t r) k) := by
  rw [← entry_ya m c]; blk_simp [iblk]; congr 1; blk_ext [index4, row]
theorem blk5 (t : Fin cfg0.N) (r : Fin 512) (k : Fin 1024) : iblk m c 5 t (ix2 r k) = m (c, main_arg2) (ix2 (row t r) k) := by
  rw [← entry_yb m c]; blk_simp [iblk]; congr 1; blk_ext [index5, row]
theorem blk6 (t : Fin cfg0.N) (k : Fin 1024) (l : Fin 512) : iblk m c 6 t (ix2 k l) = m (c, main_arg3) (ix2 l k) := by
  rw [← entry_wa m c]; blk_simp [iblk]; congr 1; blk_ext [index6]
theorem blk7 (t : Fin cfg0.N) (k : Fin 1024) (l : Fin 1024) : iblk m c 7 t (ix2 k l) = m (c, main_arg4) (ix2 l k) := by
  rw [← entry_wb m c]; blk_simp [iblk]; congr 1; blk_ext [index7]

/-- Where a row of a tile lies in the array. -/
theorem place8 (t : Fin cfg0.N) (r : Fin 512) (l : Fin 1024) : ((cfg0.win 8).blk t).view.emb (ix2 r l) = ix2 (row t r) l := by
  funext a; apply Fin.ext
  match a with
  | ⟨0, _⟩ => blk_simp [index8, row]
  | ⟨1, _⟩ => blk_simp [index8, row]
theorem place9 (t : Fin cfg0.N) (r : Fin 512) (l : Fin 1024) : ((cfg0.win 9).blk t).view.emb (ix2 r l) = ix2 (row t r) l := by
  funext a; apply Fin.ext
  match a with
  | ⟨0, _⟩ => blk_simp [index9, row]
  | ⟨1, _⟩ => blk_simp [index9, row]
theorem place10 (t : Fin cfg0.N) (r : Fin 512) (l : Fin 1024) : ((cfg0.win 10).blk t).view.emb (ix2 r l) = ix2 (row t r) l := by
  funext a; apply Fin.ext
  match a with
  | ⟨0, _⟩ => blk_simp [index10, row]
  | ⟨1, _⟩ => blk_simp [index10, row]
theorem place11 (t : Fin cfg0.N) (r : Fin 512) (l : Fin 1024) : ((cfg0.win 11).blk t).view.emb (ix2 r l) = ix2 (row t r) l := by
  funext a; apply Fin.ext
  match a with
  | ⟨0, _⟩ => blk_simp [index11, row]
  | ⟨1, _⟩ => blk_simp [index11, row]
theorem place12 (t : Fin cfg0.N) (r : Fin 512) (l : Fin 512) : ((cfg0.win 12).blk t).view.emb (ix2 r l) = ix2 (row t r) l := by
  funext a; apply Fin.ext
  match a with
  | ⟨0, _⟩ => blk_simp [index12, row]
  | ⟨1, _⟩ => blk_simp [index12, row]
theorem place13 (t : Fin cfg0.N) (r : Fin 512) (l : Fin 1024) : ((cfg0.win 13).blk t).view.emb (ix2 r l) = ix2 (row t r) l := by
  funext a; apply Fin.ext
  match a with
  | ⟨0, _⟩ => blk_simp [index13, row]
  | ⟨1, _⟩ => blk_simp [index13, row]

/-! ## A tile's part of them -/

section
variable (t : Fin cfg0.N) (p : FVec Ideal S4096x3328 .f32) (col : Fin 1024 → Fin 3328) (y : FVec Ideal S4096x1024 .f32)
  (wa : FVec Ideal S512x1024 .f32) (wb wo : FVec Ideal S1024x1024 .f32) (dy : FVec Ideal S4096x1024 .f32)
  (x0 : Vec Ideal S512x1024 .bf16) (x1 : Vec Ideal S1024x1024 .bf16) (x2 : Vec Ideal S512x1024 .f32) (x4 : Vec Ideal S512x1024 .bf16)
  (x6 : Vec Ideal S1024x512 .bf16) (x7 : Vec Ideal S1024x1024 .bf16)
  (e0 : ∀ r k, (x0 (ix2 r k) : EReal) = dy (ix2 (row t r) k)) (e1 : ∀ k l, (x1 (ix2 k l) : EReal) = wo (ix2 k l))
  (e2 : ∀ r k, (x2 (ix2 r k) : EReal) = p (ix2 (row t r) (col k)))
include e0 e1

theorem m_row (r : Fin 512) (l : Fin 1024) : (dm x0 x1 (ix2 r l) : EReal) = wholeM wo dy (ix2 (row t r) l) := by
  show (∑ k : Fin 1024, x0 (ix2 r k) * x1 (ix2 l k) : EReal) = _
  simp only [e0, e1]
  rfl
include e2
theorem y_row (r : Fin 512) (l : Fin 1024) : (dyr x0 x1 x2 (ix2 r l) : EReal) = wholeY p col wo dy (ix2 (row t r) l) := by
  show (dm x0 x1 (ix2 r l) * sg (x2 (ix2 r l)) : EReal) = _
  rw [e2, m_row t wo dy x0 x1 e0 e1]
  rfl
theorem g_row (e4 : ∀ r k, (x4 (ix2 r k) : EReal) = y (ix2 (row t r) k)) (r : Fin 512) (l : Fin 1024) :
    (dgt x0 x1 x2 x4 (ix2 r l) : EReal) = wholeG p col y wo dy (ix2 (row t r) l) := by
  show (dm x0 x1 (ix2 r l) * x4 (ix2 r l) * (sg (x2 (ix2 r l)) * (1 - sg (x2 (ix2 r l)))) : EReal) = _
  rw [e2, e4, m_row t wo dy x0 x1 e0 e1]
  rfl
theorem a_row (e6 : ∀ k l, (x6 (ix2 k l) : EReal) = wa (ix2 l k)) (r : Fin 512) (l : Fin 512) :
    (doa x0 x1 x2 x6 (ix2 r l) : EReal) = wholeA p col wa wo dy (ix2 (row t r) l) := by
  show (∑ k : Fin 1024, dyr x0 x1 x2 (ix2 r k) * x6 (ix2 k l) : EReal) = _
  simp only [e6, y_row t p col wo dy x0 x1 x2 e0 e1 e2]
  rfl
theorem b_row (e7 : ∀ k l, (x7 (ix2 k l) : EReal) = wb (ix2 l k)) (r : Fin 512) (l : Fin 1024) :
    (dob x0 x1 x2 x7 (ix2 r l) : EReal) = wholeB p col wb wo dy (ix2 (row t r) l) := by
  show (∑ k : Fin 1024, dyr x0 x1 x2 (ix2 r k) * x7 (ix2 k l) : EReal) = _
  simp only [e7, y_row t p col wo dy x0 x1 x2 e0 e1 e2]
  rfl
end

/-! ## The result arrays -/

theorem arr8 : (dats m 0 c).arrAt 8 cfg0.N = wholeY (m (c, main_arg0)) colA (m (c, main_arg5)) (m (c, main_arg6)) := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  rw [place8]
  blk_simp
  rw [after0_8]
  unfold outsAt0
  dsimp only
  rw [out_ya]
  exact y_row t _ _ _ _ _ _ _ (blk0 m c t) (blk1 m c t) (blk2 m c t) r l

theorem arr9 : (dats m 0 c).arrAt 9 cfg0.N = wholeY (m (c, main_arg0)) colB (m (c, main_arg5)) (m (c, main_arg6)) := by
  refine (dats m 0 c).arrAt_eq_of_covers 9 _ (by decide +kernel) fun t hf y => ?_
  obtain ⟨r, l, rfl⟩ : ∃ (r : Fin 512) (l : Fin 1024), y = ix2 r l := ⟨y 0, y 1, eq_ix2 y⟩
  rw [place9]
  blk_simp
  rw [after0_9]
  unfold outsAt0
  dsimp only
  rw [out_yb]
  exact y_row t _ _ _ _ _ _ _ (blk0 m c t) (blk1 m c t) (blk3 m c t) r l

theorem arr10 : (dats m 0 c).arrAt 10 cfg0.N = wholeG (m (c, main_arg0)) colA (m (c, main_arg1)) (m (c, main_arg5)) (m (c, main_arg6)) := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  rw [place10]
  blk_simp
  rw [after0_10]
  unfold outsAt0
  dsimp only
  rw [out_ga]
  exact g_row t _ _ _ _ _ _ _ _ _ (blk0 m c t) (blk1 m c t) (blk2 m c t) (blk4 m c t) r l

theorem arr11 : (dats m 0 c).arrAt 11 cfg0.N = wholeG (m (c, main_arg0)) colB (m (c, main_arg2)) (m (c, main_arg5)) (m (c, main_arg6)) := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  rw [place11]
  blk_simp
  rw [after0_11]
  unfold outsAt0
  dsimp only
  rw [out_gb]
  exact g_row t _ _ _ _ _ _ _ _ _ (blk0 m c t) (blk1 m c t) (blk3 m c t) (blk5 m c t) r l

theorem arr12 : (dats m 0 c).arrAt 12 cfg0.N = wholeA (m (c, main_arg0)) colA (m (c, main_arg3)) (m (c, main_arg5)) (m (c, main_arg6)) := by
  refine (dats m 0 c).arrAt_eq_of_covers 12 _ (by decide +kernel) fun t hf y => ?_
  obtain ⟨r, l, rfl⟩ : ∃ (r : Fin 512) (l : Fin 512), y = ix2 r l := ⟨y 0, y 1, eq_ix2 y⟩
  rw [place12]
  blk_simp
  rw [after0_12]
  unfold outsAt0
  dsimp only
  rw [out_oa]
  exact a_row t _ _ _ _ _ _ _ _ _ (blk0 m c t) (blk1 m c t) (blk2 m c t) (blk6 m c t) r l

theorem arr13 : (dats m 0 c).arrAt 13 cfg0.N = wholeB (m (c, main_arg0)) colB (m (c, main_arg4)) (m (c, main_arg5)) (m (c, main_arg6)) := by
  refine (dats m 0 c).arrAt_eq_of_covers 13 _ (by decide +kernel) fun t hf y => ?_
  obtain ⟨r, l, rfl⟩ : ∃ (r : Fin 512) (l : Fin 1024), y = ix2 r l := ⟨y 0, y 1, eq_ix2 y⟩
  rw [place13]
  blk_simp
  rw [after0_13]
  unfold outsAt0
  dsimp only
  rw [out_ob]
  exact b_row t _ _ _ _ _ _ _ _ _ (blk0 m c t) (blk1 m c t) (blk3 m c t) (blk7 m c t) r l

end Cert.Kernel8Ideal.MixerGatesBwd
end
-- ==== Proof.Mixer.GatesBwd.Equation.lean ====
/- The six arrays of the backward call through the branches' gates and products are the reference's. -/
module

public import proofs.«01_k».proof.Proof.Mixer.GatesBwd.Array
public import proofs.«01_k».proof.Proof.Gen.Reference8Ideal.Read

@[expose] public section
noncomputable section
namespace Cert.Kernel8Ideal.MixerGatesBwd
open Idealize.ShloMosaic Cert.Reference8Ideal.Read
open Cert.ReferenceIdeal.MlaBwd (one_word zero_word div_real)
open Cert.Kernel6Ideal.FfnUp (sg sg_eq)

variable (p : FVec Ideal Cert.Reference8Ideal.S4096x3328 .f32) (y : FVec Ideal Cert.Reference8Ideal.S4096x1024 .f32)
  (wa : FVec Ideal Cert.Reference8Ideal.S512x1024 .f32) (wb wo : FVec Ideal Cert.Reference8Ideal.S1024x1024 .f32)
  (dy : FVec Ideal Cert.Reference8Ideal.S4096x1024 .f32)

theorem ref_m (r : Fin 4096) (l : Fin 1024) : val_main_v26 (F := Ideal) wo dy (ix2 r l) = wholeM wo dy (ix2 r l) := by
  rw [val_main_v26_apply]
  refine Finset.sum_congr rfl fun k _ => ?_
  rw [show lidx_main_v26 (ix2 r l) k = ix2 r k from eq_ix2 _, show ridx_main_v26 (ix2 r l) k = ix2 l k from eq_ix2 _]
  rfl

theorem gate_a (r : Fin 4096) (l : Fin 1024) : val_main_v7 (F := Ideal) p (ix2 r l) = sg (p (ix2 r (colA l))) := by
  have e : idx_main_v0 (ix2 r l) = ix2 r (colA l) := by
    funext a
    match a with
    | ⟨0, _⟩ => rfl
    | ⟨1, _⟩ => rfl
  rw [val_main_v7_apply, val_main_v6_apply, val_main_cst_0_apply, val_main_v5_apply, val_main_v4_apply, val_main_cst_apply, val_main_v3_apply,
    val_main_v2_apply, val_main_v0_apply, e, one_word]
  exact (sg_eq _).symm
theorem gate_b (r : Fin 4096) (l : Fin 1024) : val_main_v17 (F := Ideal) p (ix2 r l) = sg (p (ix2 r (colB l))) := by
  have e : idx_main_v1 (ix2 r l) = ix2 r (colB l) := by
    funext a
    match a with
    | ⟨0, _⟩ => rfl
    | ⟨1, _⟩ => rfl
  rw [val_main_v17_apply, val_main_v16_apply, val_main_cst_3_apply, val_main_v15_apply, val_main_v14_apply, val_main_cst_2_apply,
    val_main_v13_apply, val_main_v12_apply, val_main_v1_apply, e, one_word]
  exact (sg_eq _).symm

/-- The factors of a product in the reference's order. -/
theorem swap (a b : EReal) : a * b = b * a := mul_comm a b

theorem ya_row (r : Fin 4096) (l : Fin 1024) : val_main_v30 (F := Ideal) p wo dy (ix2 r l) = wholeY p colA wo dy (ix2 r l) := by
  rw [val_main_v30_apply, gate_a, ref_m]
  exact swap _ _
theorem yb_row (r : Fin 4096) (l : Fin 1024) : val_main_v27 (F := Ideal) p wo dy (ix2 r l) = wholeY p colB wo dy (ix2 r l) := by
  rw [val_main_v27_apply, gate_b, ref_m]
  exact swap _ _

theorem ya_eq : wholeY p colA wo dy = val_main_v39 (F := Ideal) p wo dy := by
  funext i
  obtain ⟨r, l, rfl⟩ : ∃ (r : Fin 4096) (l : Fin 1024), i = ix2 r l := ⟨i 0, i 1, eq_ix2 i⟩
  exact (ya_row p wo dy r l).symm
theorem yb_eq : wholeY p colB wo dy = val_main_v40 (F := Ideal) p wo dy := by
  funext i
  obtain ⟨r, l, rfl⟩ : ∃ (r : Fin 4096) (l : Fin 1024), i = ix2 r l := ⟨i 0, i 1, eq_ix2 i⟩
  exact (yb_row p wo dy r l).symm
theorem ga_eq : wholeG p colA y wo dy = val_main_v41 (F := Ideal) p y wo dy := by
  funext i
  obtain ⟨r, l, rfl⟩ : ∃ (r : Fin 4096) (l : Fin 1024), i = ix2 r l := ⟨i 0, i 1, eq_ix2 i⟩
  rw [val_main_v41_apply, val_main_v32_apply, val_main_v31_apply, val_main_v10_apply, val_main_v9_apply, val_main_v8_apply, val_main_cst_1_apply,
    gate_a, ref_m, one_word]
  rfl
theorem gb_eq : wholeG p colB y wo dy = val_main_v42 (F := Ideal) p y wo dy := by
  funext i
  obtain ⟨r, l, rfl⟩ : ∃ (r : Fin 4096) (l : Fin 1024), i = ix2 r l := ⟨i 0, i 1, eq_ix2 i⟩
  rw [val_main_v42_apply, val_main_v29_apply, val_main_v28_apply, val_main_v20_apply, val_main_v19_apply, val_main_v18_apply, val_main_cst_4_apply,
    gate_b, ref_m, one_word]
  rfl
theorem oa_eq : wholeA p colA wa wo dy = val_main_v43 (F := Ideal) p wa wo dy := by
  funext i
  obtain ⟨r, l, rfl⟩ : ∃ (r : Fin 4096) (l : Fin 512), i = ix2 r l := ⟨i 0, i 1, eq_ix2 i⟩
  rw [val_main_v43_apply, val_main_v35_apply]
  refine Finset.sum_congr rfl fun k _ => ?_
  rw [show lidx_main_v35 (ix2 r l) k = ix2 r k from eq_ix2 _, show ridx_main_v35 (ix2 r l) k = ix2 l k from eq_ix2 _, ya_row]
  rfl
theorem ob_eq : wholeB p colB wb wo dy = val_main_v44 (F := Ideal) p wb wo dy := by
  funext i
  obtain ⟨r, l, rfl⟩ : ∃ (r : Fin 4096) (l : Fin 1024), i = ix2 r l := ⟨i 0, i 1, eq_ix2 i⟩
  rw [val_main_v44_apply, val_main_v38_apply]
  refine Finset.sum_congr rfl fun k _ => ?_
  rw [show lidx_main_v38 (ix2 r l) k = ix2 r k from eq_ix2 _, show ridx_main_v38 (ix2 r l) k = ix2 l k from eq_ix2 _, yb_row]
  rfl

end Cert.Kernel8Ideal.MixerGatesBwd
end
-- ==== Proof.Mixer.GatesBwd.Claims.lean ====
/- The claims about the backward call through the branches' gates and products. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Mixer.GatesBwd.Equation

@[expose] public section
noncomputable section
namespace Cert.Proof.MixerGatesBwd
open Idealize.ShloMosaic Idealize.SL.Sem

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2.2.2.2.2.2,
      Idealize.ShloMosaic.sem_eq_zero_of_no_sems (by decide) r.2⟩)
    (Cert.Reference8Ideal.Value.run (F := Ideal) m ρ)

theorem preserves : Cert.preserves_Kernel8_Kernel8Ideal := trivial

/-- The kernel's six arrays are the reference's. -/
theorem algebraic : Cert.algebraic_Kernel8Ideal_Reference8Ideal := by
  intro m ρ m' ρ' _ hagree
  refine ⟨_, _, _, _, _, _, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨h0, h1, h2, h3, h4, h5, hargs⟩ := h c
  obtain ⟨a0, a1, a2, a3, a4, a5, a6⟩ := hagree c
  refine ⟨h0.trans ?_, h1.trans ?_, h2.trans ?_, h3.trans ?_, h4.trans ?_, h5.trans ?_, hargs⟩
  · rw [Cert.Reference8Ideal.Read.val_main_v39_eq, a0, a5, a6, Cert.Kernel8Ideal.MixerGatesBwd.arr8]
    exact (Cert.Kernel8Ideal.MixerGatesBwd.ya_eq _ _ _).symm
  · rw [Cert.Reference8Ideal.Read.val_main_v40_eq, a0, a5, a6, Cert.Kernel8Ideal.MixerGatesBwd.arr9]
    exact (Cert.Kernel8Ideal.MixerGatesBwd.yb_eq _ _ _).symm
  · rw [Cert.Reference8Ideal.Read.val_main_v41_eq, a0, a1, a5, a6, Cert.Kernel8Ideal.MixerGatesBwd.arr10]
    exact (Cert.Kernel8Ideal.MixerGatesBwd.ga_eq _ _ _ _).symm
  · rw [Cert.Reference8Ideal.Read.val_main_v42_eq, a0, a2, a5, a6, Cert.Kernel8Ideal.MixerGatesBwd.arr11]
    exact (Cert.Kernel8Ideal.MixerGatesBwd.gb_eq _ _ _ _).symm
  · rw [Cert.Reference8Ideal.Read.val_main_v43_eq, a0, a3, a5, a6, Cert.Kernel8Ideal.MixerGatesBwd.arr12]
    exact (Cert.Kernel8Ideal.MixerGatesBwd.oa_eq _ _ _ _).symm
  · rw [Cert.Reference8Ideal.Read.val_main_v44_eq, a0, a4, a5, a6, Cert.Kernel8Ideal.MixerGatesBwd.arr13]
    exact (Cert.Kernel8Ideal.MixerGatesBwd.ob_eq _ _ _ _).symm

end Cert.Proof.MixerGatesBwd
end
-- ==== Proof.Mixer.Pieces.lean ====
/- Eight pieces laid side by side along the columns: their reading and the sum over them. -/
module

public import proofs.«01_k».proof.Proof.Gen.Reference10Ideal.Read
public import Idealize.ShloMosaic.Lib.Pointwise
public import Idealize.ShloMosaic.Lib.ValueIdx
public import Idealize.ShloMosaic.Lib.Tactic

@[expose] public section
noncomputable section
namespace Cert.MixerPieces
open Idealize.ShloMosaic Idealize.ShloMosaic.TcCoe

/-- One row of two pieces side by side. -/
def join {n m : ℕ} (p : Fin n → EReal) (q : Fin m → EReal) (c : Fin (n + m)) : EReal :=
  if h : c.val < n then p ⟨c.val, h⟩ else q ⟨c.val - n, by have := c.isLt; omega⟩

theorem join_left {n m : ℕ} (p : Fin n → EReal) (q : Fin m → EReal) (c : ℕ) (h : c < n + m) (hc : c < n) :
    join p q ⟨c, h⟩ = p ⟨c, hc⟩ := dif_pos hc

theorem join_right {n m : ℕ} (p : Fin n → EReal) (q : Fin m → EReal) (c : ℕ) (h : c < n + m) (l : Fin m) (hc : c = n + l.val) :
    join p q ⟨c, h⟩ = q l := by
  subst hc
  refine (dif_neg (by show ¬n + l.val < n; omega)).trans (congrArg q (Fin.ext ?_))
  show n + l.val - n = l.val
  omega

/-- The sum over both pieces is the sum over the one and the sum over the other. -/
theorem sum_join {n m : ℕ} (p : Fin n → EReal) (q : Fin m → EReal) (w : Fin (n + m) → EReal) :
    ∑ c, join p q c * w c
      = ∑ l : Fin n, p l * w ⟨l.val, by omega⟩ + ∑ l : Fin m, q l * w ⟨n + l.val, by omega⟩ := by
  rw [Fin.sum_univ_add]
  refine congrArg₂ (· + ·) (Finset.sum_congr rfl fun l _ => ?_) (Finset.sum_congr rfl fun l _ => ?_)
  · exact congrArg (· * w ⟨l.val, by omega⟩) (join_left p q l.val _ l.isLt)
  · exact congrArg (· * w ⟨n + l.val, by omega⟩) (join_right p q (n + l.val) _ l rfl)

/-- One row of the eight pieces. -/
def row8 (p0 p1 : Fin 1024 → EReal) (p2 : Fin 512 → EReal) (p3 : Fin 256 → EReal) (p4 p5 p6 p7 : Fin 128 → EReal) : Fin 3328 → EReal :=
  join (n := 1024) (m := 2304) p0 (join (n := 1024) (m := 1280) p1 (join (n := 512) (m := 768) p2 (join (n := 256) (m := 512) p3
    (join (n := 128) (m := 384) p4 (join (n := 128) (m := 256) p5 (join p6 p7))))))

section
variable (p0 p1 : Fin 1024 → EReal) (p2 : Fin 512 → EReal) (p3 : Fin 256 → EReal) (p4 p5 p6 p7 : Fin 128 → EReal)

theorem row8_0 (l : Fin 1024) (c : Fin 3328) (h : c.val = l.val) : row8 p0 p1 p2 p3 p4 p5 p6 p7 c = p0 l := by
  obtain ⟨_, _⟩ := c
  subst h
  exact join_left (n := 1024) (m := 2304) _ _ _ _ l.isLt
/-- From the second piece on. -/
theorem row8_tail1 (c : Fin 3328) (l : Fin 2304) (h : c.val = 1024 + l.val) :
    row8 p0 p1 p2 p3 p4 p5 p6 p7 c = join (n := 1024) (m := 1280) p1 (join (n := 512) (m := 768) p2 (join (n := 256) (m := 512) p3
      (join (n := 128) (m := 384) p4 (join (n := 128) (m := 256) p5 (join p6 p7))))) l :=
  join_right (n := 1024) (m := 2304) p0 _ c.val c.isLt l h
/-- From the third piece on. -/
theorem row8_tail2 (c : Fin 3328) (l : Fin 1280) (h : c.val = 2048 + l.val) :
    row8 p0 p1 p2 p3 p4 p5 p6 p7 c = join (n := 512) (m := 768) p2 (join (n := 256) (m := 512) p3
      (join (n := 128) (m := 384) p4 (join (n := 128) (m := 256) p5 (join p6 p7)))) l :=
  (row8_tail1 p0 p1 p2 p3 p4 p5 p6 p7 c ⟨1024 + l.val, by omega⟩ (h.trans (by dsimp only; omega))).trans
    (join_right (n := 1024) (m := 1280) p1 _ _ _ l rfl)
/-- From the fourth piece on. -/
theorem row8_tail3 (c : Fin 3328) (l : Fin 768) (h : c.val = 2560 + l.val) :
    row8 p0 p1 p2 p3 p4 p5 p6 p7 c = join (n := 256) (m := 512) p3
      (join (n := 128) (m := 384) p4 (join (n := 128) (m := 256) p5 (join p6 p7))) l :=
  (row8_tail2 p0 p1 p2 p3 p4 p5 p6 p7 c ⟨512 + l.val, by omega⟩ (h.trans (by dsimp only; omega))).trans
    (join_right (n := 512) (m := 768) p2 _ _ _ l rfl)
/-- From the fifth piece on. -/
theorem row8_tail4 (c : Fin 3328) (l : Fin 512) (h : c.val = 2816 + l.val) :
    row8 p0 p1 p2 p3 p4 p5 p6 p7 c = join (n := 128) (m := 384) p4 (join (n := 128) (m := 256) p5 (join p6 p7)) l :=
  (row8_tail3 p0 p1 p2 p3 p4 p5 p6 p7 c ⟨256 + l.val, by omega⟩ (h.trans (by dsimp only; omega))).trans
    (join_right (n := 256) (m := 512) p3 _ _ _ l rfl)
/-- From the sixth piece on. -/
theorem row8_tail5 (c : Fin 3328) (l : Fin 384) (h : c.val = 2944 + l.val) :
    row8 p0 p1 p2 p3 p4 p5 p6 p7 c = join (n := 128) (m := 256) p5 (join p6 p7) l :=
  (row8_tail4 p0 p1 p2 p3 p4 p5 p6 p7 c ⟨128 + l.val, by omega⟩ (h.trans (by dsimp only; omega))).trans
    (join_right (n := 128) (m := 384) p4 _ _ _ l rfl)
/-- From the seventh piece on. -/
theorem row8_tail6 (c : Fin 3328) (l : Fin 256) (h : c.val = 3072 + l.val) :
    row8 p0 p1 p2 p3 p4 p5 p6 p7 c = join (n := 128) (m := 128) p6 p7 l :=
  (row8_tail5 p0 p1 p2 p3 p4 p5 p6 p7 c ⟨128 + l.val, by omega⟩ (h.trans (by dsimp only; omega))).trans
    (join_right (n := 128) (m := 256) p5 _ _ _ l rfl)

theorem row8_1 (l : Fin 1024) (c : Fin 3328) (h : c.val = 1024 + l.val) : row8 p0 p1 p2 p3 p4 p5 p6 p7 c = p1 l :=
  (row8_tail1 p0 p1 p2 p3 p4 p5 p6 p7 c ⟨l.val, by omega⟩ h).trans (join_left (n := 1024) (m := 1280) p1 _ _ _ l.isLt)
theorem row8_2 (l : Fin 512) (c : Fin 3328) (h : c.val = 2048 + l.val) : row8 p0 p1 p2 p3 p4 p5 p6 p7 c = p2 l :=
  (row8_tail2 p0 p1 p2 p3 p4 p5 p6 p7 c ⟨l.val, by omega⟩ h).trans (join_left (n := 512) (m := 768) p2 _ _ _ l.isLt)
theorem row8_3 (l : Fin 256) (c : Fin 3328) (h : c.val = 2560 + l.val) : row8 p0 p1 p2 p3 p4 p5 p6 p7 c = p3 l :=
  (row8_tail3 p0 p1 p2 p3 p4 p5 p6 p7 c ⟨l.val, by omega⟩ h).trans (join_left (n := 256) (m := 512) p3 _ _ _ l.isLt)
theorem row8_4 (l : Fin 128) (c : Fin 3328) (h : c.val = 2816 + l.val) : row8 p0 p1 p2 p3 p4 p5 p6 p7 c = p4 l :=
  (row8_tail4 p0 p1 p2 p3 p4 p5 p6 p7 c ⟨l.val, by omega⟩ h).trans (join_left (n := 128) (m := 384) p4 _ _ _ l.isLt)
theorem row8_5 (l : Fin 128) (c : Fin 3328) (h : c.val = 2944 + l.val) : row8 p0 p1 p2 p3 p4 p5 p6 p7 c = p5 l :=
  (row8_tail5 p0 p1 p2 p3 p4 p5 p6 p7 c ⟨l.val, by omega⟩ h).trans (join_left (n := 128) (m := 256) p5 _ _ _ l.isLt)
theorem row8_6 (l : Fin 128) (c : Fin 3328) (h : c.val = 3072 + l.val) : row8 p0 p1 p2 p3 p4 p5 p6 p7 c = p6 l :=
  (row8_tail6 p0 p1 p2 p3 p4 p5 p6 p7 c ⟨l.val, by omega⟩ h).trans (join_left (n := 128) (m := 128) p6 _ _ _ l.isLt)
theorem row8_7 (l : Fin 128) (c : Fin 3328) (h : c.val = 3200 + l.val) : row8 p0 p1 p2 p3 p4 p5 p6 p7 c = p7 l :=
  (row8_tail6 p0 p1 p2 p3 p4 p5 p6 p7 c ⟨128 + l.val, by omega⟩ (h.trans (by dsimp only; omega))).trans
    (join_right (n := 128) (m := 128) p6 p7 _ _ l rfl)

/-- The sum over the row, piece by piece. -/
theorem sum_row8 (w : Fin 3328 → EReal) :
    ∑ c, row8 p0 p1 p2 p3 p4 p5 p6 p7 c * w c
      = ∑ l : Fin 1024, p0 l * w ⟨l.val, by omega⟩ + ∑ l : Fin 1024, p1 l * w ⟨1024 + l.val, by omega⟩
        + ∑ l : Fin 512, p2 l * w ⟨2048 + l.val, by omega⟩ + ∑ l : Fin 256, p3 l * w ⟨2560 + l.val, by omega⟩
        + ∑ l : Fin 128, p4 l * w ⟨2816 + l.val, by omega⟩ + ∑ l : Fin 128, p5 l * w ⟨2944 + l.val, by omega⟩
        + ∑ l : Fin 128, p6 l * w ⟨3072 + l.val, by omega⟩ + ∑ l : Fin 128, p7 l * w ⟨3200 + l.val, by omega⟩ := by
  refine (sum_join (n := 1024) (m := 2304) p0 _ w).trans ?_
  refine (congrArg (fun z : EReal => _ + z) (sum_join (n := 1024) (m := 1280) p1 _ _)).trans ?_
  refine (congrArg (fun z : EReal => _ + (_ + z)) (sum_join (n := 512) (m := 768) p2 _ _)).trans ?_
  refine (congrArg (fun z : EReal => _ + (_ + (_ + z))) (sum_join (n := 256) (m := 512) p3 _ _)).trans ?_
  refine (congrArg (fun z : EReal => _ + (_ + (_ + (_ + z)))) (sum_join (n := 128) (m := 384) p4 _ _)).trans ?_
  refine (congrArg (fun z : EReal => _ + (_ + (_ + (_ + (_ + z))))) (sum_join (n := 128) (m := 256) p5 _ _)).trans ?_
  refine (congrArg (fun z : EReal => _ + (_ + (_ + (_ + (_ + (_ + z)))))) (sum_join (n := 128) (m := 128) p6 p7 _)).trans ?_
  simp only [← Nat.add_assoc, Nat.reduceAdd, ← add_assoc]
end

open Cert.Reference10Ideal.Read Cert.Reference10Ideal in
/-- The concatenation of eight arrays read at an entry. -/
theorem concat_at (x1 x2 : FVec Ideal S4096x1024 .f32) (x3 : FVec Ideal S4096x512 .f32) (x4 : FVec Ideal S4096x256 .f32)
    (x5 x6 x7 x8 : FVec Ideal S4096x128 .f32) (k : Fin 4096) (c : Fin 3328) :
    val_main_v2 (F := Ideal) x1 x2 x3 x4 x5 x6 x7 x8 (ix2 k c)
      = row8 (fun l => x1 (ix2 k l)) (fun l => x2 (ix2 k l)) (fun l => x3 (ix2 k l)) (fun l => x4 (ix2 k l))
          (fun l => x5 (ix2 k l)) (fun l => x6 (ix2 k l)) (fun l => x7 (ix2 k l)) (fun l => x8 (ix2 k l)) c := by
  pointwise [val_main_v2]
  simp only [row8, join]

end Cert.MixerPieces
end
-- ==== Proof.Mixer.InBwd.Body.lean ====
/- What one grid point of the backward call through the mixer's input projection and its norm leaves in its results. -/
module

public import proofs.«01_k».proof.Proof.Gen.Kernel9Ideal.Value
public import proofs.«01_k».proof.Proof.Mixer.Pieces
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel9Ideal.MixerInBwd
open Cert.Kernel9Ideal Cert.Kernel9Ideal.Gen Cert.MixerPieces Idealize.ShloMosaic Idealize.ShloMosaic.TcCoe Idealize.SL.Sem

section
variable (x0 x1 : Vec Ideal S512x1024 .bf16) (x2 : Vec Ideal S512x512 .bf16) (x3 : Vec Ideal S512x256 .bf16) (x4 x5 x6 x7 : Vec Ideal S512x128 .bf16)
  (x8 : Vec Ideal S3328x1024 .bf16)

/-- The gradient of the normalised input on one tile: the pieces side by side against the weights. -/
def dn : Vec Ideal S512x1024 .f32 := fun y =>
  ∑ q, row8 (fun l => x0 (ix2 (y 0) l)) (fun l => x1 (ix2 (y 0) l)) (fun l => x2 (ix2 (y 0) l)) (fun l => x3 (ix2 (y 0) l))
    (fun l => x4 (ix2 (y 0) l)) (fun l => x5 (ix2 (y 0) l)) (fun l => x6 (ix2 (y 0) l)) (fun l => x7 (ix2 (y 0) l)) q * x8 (ix2 q (y 1))

/-- The first half of the columns of it. -/
def left : FVec Ideal S512x512 .f32 :=
      k0_pay5 (k0_pay3 x0 (View.ld x8 (Rect.unit (s := S3328x1024) ![0, 0] S1024x512.size (by decide))) x1 (View.ld x8 (Rect.unit (s := S3328x1024) ![1024, 0] S1024x512.size (by decide))) x2 (View.ld x8 (Rect.unit (s := S3328x1024) ![2048, 0] S512x512.size (by decide))) x3 (View.ld x8 (Rect.unit (s := S3328x1024) ![2560, 0] S256x512.size (by decide))) x4 (View.ld x8 (Rect.unit (s := S3328x1024) ![2816, 0] S128x512.size (by decide))))
        (k0_pay4 x5) (View.ld x8 (Rect.unit (s := S3328x1024) ![2944, 0] S128x512.size (by decide))) x6 (View.ld x8 (Rect.unit (s := S3328x1024) ![3072, 0] S128x512.size (by decide))) x7 (View.ld x8 (Rect.unit (s := S3328x1024) ![3200, 0] S128x512.size (by decide)))
/-- The second half. -/
def right : FVec Ideal S512x512 .f32 :=
      k0_pay10 (k0_pay8 (k0_pay6 x0 (View.ld x8 (Rect.unit (s := S3328x1024) ![0, 512] S1024x512.size (by decide))) x1 (View.ld x8 (Rect.unit (s := S3328x1024) ![1024, 512] S1024x512.size (by decide))))
        (k0_pay7 x2) (View.ld x8 (Rect.unit (s := S3328x1024) ![2048, 512] S512x512.size (by decide))) x3 (View.ld x8 (Rect.unit (s := S3328x1024) ![2560, 512] S256x512.size (by decide))) x4 (View.ld x8 (Rect.unit (s := S3328x1024) ![2816, 512] S128x512.size (by decide))) x5 (View.ld x8 (Rect.unit (s := S3328x1024) ![2944, 512] S128x512.size (by decide))) x6 (View.ld x8 (Rect.unit (s := S3328x1024) ![3072, 512] S128x512.size (by decide)))) (k0_pay9 x7 (View.ld x8 (Rect.unit (s := S3328x1024) ![3200, 512] S128x512.size (by decide))))

/-- Some rows and columns of the weights, read at an entry. -/
theorem ld_at {n m : ℕ} (o p : ℕ) (h) (k : Fin n) (l : Fin m) (hk hl) :
    View.ld x8 (Rect.unit (s := S3328x1024) ![o, p] ![n, m] h) (ix2 k l) = x8 (ix2 ⟨o + k.val, hk⟩ ⟨p + l.val, hl⟩) := by
  refine congrArg x8 ?_
  funext a
  match a with
  | ⟨0, _⟩ => exact Fin.ext (show o + 1 * k.val = o + k.val by omega)
  | ⟨1, _⟩ => exact Fin.ext (show p + 1 * l.val = p + l.val by omega)

section
variable (w0 w1 : Vec Ideal S1024x512 .bf16) (w2 : Vec Ideal S512x512 .bf16) (w3 : Vec Ideal S256x512 .bf16) (w4 w5 w6 w7 : Vec Ideal S128x512 .bf16)

/-- The eight products of one half, added up. -/
def eight (r l : Fin 512) : EReal :=
  ∑ k : Fin 1024, x0 (ix2 r k) * w0 (ix2 k l) + ∑ k : Fin 1024, x1 (ix2 r k) * w1 (ix2 k l) + ∑ k : Fin 512, x2 (ix2 r k) * w2 (ix2 k l)
    + ∑ k : Fin 256, x3 (ix2 r k) * w3 (ix2 k l) + ∑ k : Fin 128, x4 (ix2 r k) * w4 (ix2 k l) + ∑ k : Fin 128, x5 (ix2 r k) * w5 (ix2 k l)
    + ∑ k : Fin 128, x6 (ix2 r k) * w6 (ix2 k l) + ∑ k : Fin 128, x7 (ix2 r k) * w7 (ix2 k l)

theorem left_at (r l : Fin 512) :
    (k0_pay5 (k0_pay3 x0 w0 x1 w1 x2 w2 x3 w3 x4 w4) (k0_pay4 x5) w5 x6 w6 x7 w7 (ix2 r l) : EReal)
      = eight x0 x1 x2 x3 x4 x5 x6 x7 w0 w1 w2 w3 w4 w5 w6 w7 r l := by
  pointwise [k0_pay5, k0_pay3, k0_pay4]
  rfl
theorem right_at (r l : Fin 512) :
    (k0_pay10 (k0_pay8 (k0_pay6 x0 w0 x1 w1) (k0_pay7 x2) w2 x3 w3 x4 w4 x5 w5 x6 w6) (k0_pay9 x7 w7) (ix2 r l) : EReal)
      = eight x0 x1 x2 x3 x4 x5 x6 x7 w0 w1 w2 w3 w4 w5 w6 w7 r l := by
  pointwise [k0_pay10, k0_pay9, k0_pay8, k0_pay7, k0_pay6]
  rfl

/-- A half of the columns, from column `p`, is the products of the pieces with the weights' rows. -/
theorem eight_eq (p : ℕ) (r l : Fin 512) (h : p + l.val < 1024)
    (e0 : ∀ k : Fin 1024, w0 (ix2 k l) = x8 (ix2 ⟨k.val, by omega⟩ ⟨p + l.val, h⟩))
    (e1 : ∀ k : Fin 1024, w1 (ix2 k l) = x8 (ix2 ⟨1024 + k.val, by omega⟩ ⟨p + l.val, h⟩))
    (e2 : ∀ k : Fin 512, w2 (ix2 k l) = x8 (ix2 ⟨2048 + k.val, by omega⟩ ⟨p + l.val, h⟩))
    (e3 : ∀ k : Fin 256, w3 (ix2 k l) = x8 (ix2 ⟨2560 + k.val, by omega⟩ ⟨p + l.val, h⟩))
    (e4 : ∀ k : Fin 128, w4 (ix2 k l) = x8 (ix2 ⟨2816 + k.val, by omega⟩ ⟨p + l.val, h⟩))
    (e5 : ∀ k : Fin 128, w5 (ix2 k l) = x8 (ix2 ⟨2944 + k.val, by omega⟩ ⟨p + l.val, h⟩))
    (e6 : ∀ k : Fin 128, w6 (ix2 k l) = x8 (ix2 ⟨3072 + k.val, by omega⟩ ⟨p + l.val, h⟩))
    (e7 : ∀ k : Fin 128, w7 (ix2 k l) = x8 (ix2 ⟨3200 + k.val, by omega⟩ ⟨p + l.val, h⟩)) :
    eight x0 x1 x2 x3 x4 x5 x6 x7 w0 w1 w2 w3 w4 w5 w6 w7 r l = dn x0 x1 x2 x3 x4 x5 x6 x7 x8 (ix2 r ⟨p + l.val, h⟩) := by
  unfold eight
  simp only [e0, e1, e2, e3, e4, e5, e6, e7]
  exact (sum_row8 (fun k => x0 (ix2 r k)) (fun k => x1 (ix2 r k)) (fun k => x2 (ix2 r k)) (fun k => x3 (ix2 r k)) (fun k => x4 (ix2 r k))
    (fun k => x5 (ix2 r k)) (fun k => x6 (ix2 r k)) (fun k => x7 (ix2 r k)) (fun q => x8 (ix2 q ⟨p + l.val, h⟩))).symm
end

/-- Where an entry of a half lies. -/
theorem half_emb (p : ℕ) (h) (r l : Fin 512) (hl) :
    (Rect.unit (s := S512x1024) ![0, p] S512x512.size h).emb (ix2 r l) = ix2 r ⟨p + l.val, hl⟩ := by
  funext a
  match a with
  | ⟨0, _⟩ => exact Fin.ext (show 0 + 1 * r.val = r.val by omega)
  | ⟨1, _⟩ => exact Fin.ext (show p + 1 * l.val = p + l.val by omega)

theorem zero_row {n : ℕ} (hn : n ≤ 3328) (p : ℕ) (h) (k : Fin n) (l : Fin 512) (hl) :
    View.ld x8 (Rect.unit (s := S3328x1024) ![0, p] ![n, 512] h) (ix2 k l) = x8 (ix2 ⟨k.val, by omega⟩ ⟨p + l.val, hl⟩) :=
  (ld_at x8 0 p h k l (by omega) hl).trans (congrArg (fun q => x8 (ix2 q ⟨p + l.val, hl⟩)) (Fin.ext (Nat.zero_add _)))

theorem left_eq (h) (y : S512x512.Idx) :
    (left x0 x1 x2 x3 x4 x5 x6 x7 x8 y : EReal) = dn x0 x1 x2 x3 x4 x5 x6 x7 x8 ((Rect.unit (s := S512x1024) ![0, 0] S512x512.size h).emb y) := by
  obtain ⟨r, l, rfl⟩ : ∃ (r : Fin 512) (l : Fin 512), y = ix2 r l := ⟨y 0, y 1, eq_ix2 y⟩
  rw [half_emb 0 h r l (by omega)]
  unfold left
  refine (left_at x0 x1 x2 x3 x4 x5 x6 x7 _ _ _ _ _ _ _ _ r l).trans ?_
  exact eight_eq x0 x1 x2 x3 x4 x5 x6 x7 x8 _ _ _ _ _ _ _ _ 0 r l (by omega) (fun k => zero_row x8 (by decide) 0 _ k l _) (fun k => ld_at x8 1024 0 _ k l _ _)
    (fun k => ld_at x8 2048 0 _ k l _ _) (fun k => ld_at x8 2560 0 _ k l _ _) (fun k => ld_at x8 2816 0 _ k l _ _)
    (fun k => ld_at x8 2944 0 _ k l _ _) (fun k => ld_at x8 3072 0 _ k l _ _) (fun k => ld_at x8 3200 0 _ k l _ _)
theorem right_eq (h) (y : S512x512.Idx) :
    (right x0 x1 x2 x3 x4 x5 x6 x7 x8 y : EReal) = dn x0 x1 x2 x3 x4 x5 x6 x7 x8 ((Rect.unit (s := S512x1024) ![0, 512] S512x512.size h).emb y) := by
  obtain ⟨r, l, rfl⟩ : ∃ (r : Fin 512) (l : Fin 512), y = ix2 r l := ⟨y 0, y 1, eq_ix2 y⟩
  rw [half_emb 512 h r l (by omega)]
  unfold right
  refine (right_at x0 x1 x2 x3 x4 x5 x6 x7 _ _ _ _ _ _ _ _ r l).trans ?_
  exact eight_eq x0 x1 x2 x3 x4 x5 x6 x7 x8 _ _ _ _ _ _ _ _ 512 r l (by omega) (fun k => zero_row x8 (by decide) 512 _ k l _) (fun k => ld_at x8 1024 512 _ k l _ _)
    (fun k => ld_at x8 2048 512 _ k l _ _) (fun k => ld_at x8 2560 512 _ k l _ _) (fun k => ld_at x8 2816 512 _ k l _ _)
    (fun k => ld_at x8 2944 512 _ k l _ _) (fun k => ld_at x8 3072 512 _ k l _ _) (fun k => ld_at x8 3200 512 _ k l _ _)

/-- The two stores of it, the last first. -/
def halves : List (View.Piece (Elt Ideal) S512x1024 .f32) :=
  [⟨Rect.unit (s := S512x1024) ![0, 512] S512x512.size (by decide), right x0 x1 x2 x3 x4 x5 x6 x7 x8⟩,
    ⟨Rect.unit (s := S512x1024) ![0, 0] S512x512.size (by decide), left x0 x1 x2 x3 x4 x5 x6 x7 x8⟩]

theorem canon_halves : View.canon (halves x0 x1 x2 x3 x4 x5 x6 x7 x8) = dn x0 x1 x2 x3 x4 x5 x6 x7 x8 := by
  funext y
  refine View.canon_apply_of_pieces (dn x0 x1 x2 x3 x4 x5 x6 x7 x8) _ ?_ y
    (View.cover_of_tiledL (halves x0 x1 x2 x3 x4 x5 x6 x7 x8) S512x512.size (by sl_kernel_rfl) y)
  unfold halves
  simp only [List.forall_mem_cons, List.not_mem_nil, false_imp_iff, implies_true, and_true]
  exact ⟨right_eq x0 x1 x2 x3 x4 x5 x6 x7 x8 _, left_eq x0 x1 x2 x3 x4 x5 x6 x7 x8 _⟩

theorem zero2 : (![0, 0] : Fin 2 → ℕ) = fun _ => 0 := by decide

theorem whole_tile {e : EltTy} (x : Vec Ideal S512x1024 e) (h) :
    View.ld x (Rect.unit (s := S512x1024) ![0, 0] ![512, 1024] h) = x := View.ld_unit_zero zero2 h x
theorem whole_row (x : Vec Ideal S1x1024 .f32) (h) :
    View.ld x (Rect.unit (s := S1x1024) ![0, 0] ![1, 1024] h) = x := View.ld_unit_zero zero2 h x

theorem whole_512 (x : Vec Ideal S512x512 .bf16) (h) :
    View.ld x (Rect.unit (s := S512x512) ![0, 0] ![512, 512] h) = x := View.ld_unit_zero zero2 h x
theorem whole_256 (x : Vec Ideal S512x256 .bf16) (h) :
    View.ld x (Rect.unit (s := S512x256) ![0, 0] ![512, 256] h) = x := View.ld_unit_zero zero2 h x
theorem whole_128 (x : Vec Ideal S512x128 .bf16) (h) :
    View.ld x (Rect.unit (s := S512x128) ![0, 0] ![512, 128] h) = x := View.ld_unit_zero zero2 h x

/-- What is read back of the two stores. -/
theorem read_halves (v : View sig .tc .vmem S512x1024 .f32) (h) :
    v.readCov (halves x0 x1 x2 x3 x4 x5 x6 x7 x8) (Rect.unit (s := S512x1024) ![0, 0] S512x1024.size h).toLoadRect = dn x0 x1 x2 x3 x4 x5 x6 x7 x8 := by
  rw [View.readCov_eq_canon']
  exact (View.ld_unit_zero zero2 _ _).trans (canon_halves x0 x1 x2 x3 x4 x5 x6 x7 x8)
end

variable (c : Dev nD) (i : grid0.Coords)
  (a1 : Memref sig .tc .vmem S512x1024 .bf16) (h1 : a1.IsWhole) (a2 : Memref sig .tc .vmem S512x1024 .bf16) (h2 : a2.IsWhole)
  (a3 : Memref sig .tc .vmem S512x512 .bf16) (h3 : a3.IsWhole) (a4 : Memref sig .tc .vmem S512x256 .bf16) (h4 : a4.IsWhole)
  (a5 : Memref sig .tc .vmem S512x128 .bf16) (h5 : a5.IsWhole) (a6 : Memref sig .tc .vmem S512x128 .bf16) (h6 : a6.IsWhole)
  (a7 : Memref sig .tc .vmem S512x128 .bf16) (h7 : a7.IsWhole) (a8 : Memref sig .tc .vmem S512x128 .bf16) (h8 : a8.IsWhole)
  (a9 : Memref sig .tc .vmem S3328x1024 .bf16) (h9 : a9.IsWhole) (a10 : Memref sig .tc .vmem S512x1024 .f32) (h10 : a10.IsWhole)
  (a11 : Memref sig .tc .vmem S1x1024 .f32) (h11 : a11.IsWhole) (a12 : Memref sig .tc .vmem S512x1024 .f32) (h12 : a12.IsWhole)
  (a13 : Memref sig .tc .vmem S512x1024 .f32) (h13 : a13.IsWhole) (a14 : Memref sig .tc .vmem S512x1024 .bf16) (h14 : a14.IsWhole)
  (a15 : Memref sig .tc .vmem S1x1024 .f32) (h15 : a15.IsWhole) (a16 : Memref sig .tc .vmem S512x1024 .f32) (h16 : a16.IsWhole)
  (x0 x1 : Vec Ideal S512x1024 .bf16) (x2 : Vec Ideal S512x512 .bf16) (x3 : Vec Ideal S512x256 .bf16) (x4 x5 x6 x7 : Vec Ideal S512x128 .bf16)
  (x8 : Vec Ideal S3328x1024 .bf16) (x9 : Vec Ideal S512x1024 .f32) (x10 : Vec Ideal S1x1024 .f32) (x11 : Vec Ideal S512x1024 .f32) (xo : Vec Ideal S1x1024 .f32)

theorem out_A12 (hc : cond0_0 i) :
    out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = k0_pay13 x9 (dn x0 x1 x2 x3 x4 x5 x6 x7 x8) x10 x11 := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread]
  refine (View.canon_cons_unit_zero zero2 _ _ _).trans ?_
  simp only [whole_tile, whole_row, whole_512, whole_256, whole_128]
  exact congrArg (fun z => k0_pay13 x9 z x10 x11) (read_halves x0 x1 x2 x3 x4 x5 x6 x7 x8 a16.view _)

theorem out_A13 (hc : cond0_0 i) :
    out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = k0_pay14 x9 (dn x0 x1 x2 x3 x4 x5 x6 x7 x8) x10 x11 := by
  unfold out0_A_13
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread]
  refine (View.canon_cons_unit_zero zero2 _ _ _).trans ?_
  simp only [whole_tile, whole_row, whole_512, whole_256, whole_128]
  exact congrArg (fun z => k0_pay14 x9 z x10 x11) (read_halves x0 x1 x2 x3 x4 x5 x6 x7 x8 a16.view _)

theorem out_A14 (hc : cond0_0 i) :
    out0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11
      = k0_pay2 (k0_pay12 x9) (dn x0 x1 x2 x3 x4 x5 x6 x7 x8) (k0_pay1 (F := Ideal)) := by
  unfold out0_A_14
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread]
  refine (View.canon_cons_unit_zero zero2 _ _ _).trans ?_
  simp only [whole_tile, whole_row, whole_512, whole_256, whole_128]
  exact congrArg₂ (fun z w => k0_pay2 (k0_pay12 x9) z w) (read_halves x0 x1 x2 x3 x4 x5 x6 x7 x8 a16.view _) (View.readCov_unit_zero a15.view zero2 _ _)

theorem out_B12 (hc : ¬cond0_0 i) :
    out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo
      = k0_pay13 x9 (dn x0 x1 x2 x3 x4 x5 x6 x7 x8) x10 x11 := by
  unfold out0_B_12
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread, h15.read_unread]
  refine (View.canon_cons_unit_zero zero2 _ _ _).trans ?_
  simp only [whole_tile, whole_row, whole_512, whole_256, whole_128]
  exact congrArg (fun z => k0_pay13 x9 z x10 x11) (read_halves x0 x1 x2 x3 x4 x5 x6 x7 x8 a16.view _)

theorem out_B13 (hc : ¬cond0_0 i) :
    out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo
      = k0_pay14 x9 (dn x0 x1 x2 x3 x4 x5 x6 x7 x8) x10 x11 := by
  unfold out0_B_13
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread, h15.read_unread]
  refine (View.canon_cons_unit_zero zero2 _ _ _).trans ?_
  simp only [whole_tile, whole_row, whole_512, whole_256, whole_128]
  exact congrArg (fun z => k0_pay14 x9 z x10 x11) (read_halves x0 x1 x2 x3 x4 x5 x6 x7 x8 a16.view _)

theorem out_B14 (hc : ¬cond0_0 i) :
    out0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 xo
      = k0_pay2 (k0_pay12 x9) (dn x0 x1 x2 x3 x4 x5 x6 x7 x8) xo := by
  unfold out0_B_14
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h12.read_unread, h15.read_unread]
  refine (View.canon_cons_unit_zero zero2 _ _ _).trans ?_
  simp only [whole_tile, whole_row, whole_512, whole_256, whole_128]
  exact congrArg (fun z => k0_pay2 (k0_pay12 x9) z xo) (read_halves x0 x1 x2 x3 x4 x5 x6 x7 x8 a16.view _)

end Cert.Kernel9Ideal.MixerInBwd
end
-- ==== Proof.Mixer.InBwd.Array.lean ====
/- The result arrays of the backward call through the mixer's input projection and its norm, from the arguments of the program. -/
module

public import proofs.«01_k».proof.Proof.Mixer.InBwd.Body
public import proofs.«01_k».proof.Proof.Macaron.Norm
public import proofs.«01_k».proof.Proof.Tokens.Sum
public import Idealize.ShloMosaic.Lib.StableHlo.RunRead

@[expose] public section
noncomputable section
namespace Cert.Kernel9Ideal.MixerInBwd
open Cert.Kernel9Ideal Cert.Kernel9Ideal.Gen Cert.MixerPieces Idealize.ShloMosaic Idealize.ShloMosaic.TcCoe Idealize.SL.Sem
open Idealize.ShloMosaic.StableHlo Cert.Macaron Cert.Tokens

/-! ## One tile -/

section
variable (x : Vec Ideal S512x1024 .f32) (d : Vec Ideal S512x1024 .f32) (g : Vec Ideal S1x1024 .f32) (dy : Vec Ideal S512x1024 .f32)
  (acc : Vec Ideal S1x1024 .f32)

theorem dx_at (r : Fin 512) (l : Fin 1024) : (k0_pay13 x d g dy (ix2 r l) : EReal)
    = dxAt (fun k => x (ix2 r k)) (fun k => d (ix2 r k)) (fun k => g (ix2 0 k)) (dy (ix2 r l)) l := by
  pointwise [k0_pay13, k0_pay12, k0_pay11]
  rfl
theorem dxh_at (r : Fin 512) (l : Fin 1024) : (k0_pay14 x d g dy (ix2 r l) : EReal)
    = dxAt (fun k => x (ix2 r k)) (fun k => d (ix2 r k)) (fun k => g (ix2 0 k)) (dy (ix2 r l)) l := by
  pointwise [k0_pay14, k0_pay13, k0_pay12, k0_pay11]
  rfl
theorem dg_at (r : Fin 1) (l : Fin 1024) : (k0_pay2 (k0_pay12 x) d acc (ix2 r l) : EReal)
    = acc (ix2 r l) + ∑ k : Fin 512, d (ix2 k l) * (x (ix2 k l) * rs (fun j => x (ix2 k j))) := by
  pointwise [k0_pay2, k0_pay12, k0_pay11]
  rfl
theorem zero_at (r : Fin 1) (l : Fin 1024) : (k0_pay1 (F := Ideal) (ix2 r l) : EReal) = 0 := by
  pointwise [k0_pay1]
end

/-! ## The whole arrays -/

section
variable (x : FVec Ideal S4096x1024 .f32) (g : FVec Ideal S1024 .f32) (w : FVec Ideal S1024x3328 .f32) (dy : FVec Ideal S4096x1024 .f32)
  (pc : Fin 4096 → Fin 3328 → EReal)

/-- The gradient of the norm's output. -/
def dnAll (r : Fin 4096) (l : Fin 1024) : EReal := ∑ q, pc r q * w (ix2 l q)
/-- The gradient of the layer's input. -/
def wholeX : FVec Ideal S4096x1024 .f32 := fun i =>
  dxAt (fun k => x (ix2 (i 0) k)) (dnAll w pc (i 0)) (fun k => g (ix1 k)) (dy i) (i 1)
/-- The same, as the second result holds it. -/
def wholeH : FVec Ideal S4096x1024 .bf16 := wholeX x g w dy pc
/-- A token's part of the gradient of the norm's gain. -/
def part (l : Fin 1024) (r : Fin 4096) : EReal := dnAll w pc r l * (x (ix2 r l) * rs (fun k => x (ix2 r k)))
/-- The gradient of the gain after `n` tiles. -/
def gainAfter (n : ℕ) : FVec Ideal S1x1024 .f32 := fun i => upto (part x w pc (i 1)) n
end

/-- Eight arrays side by side, by rows. -/
def cat (p0 p1 : FVec Ideal S4096x1024 .f32) (p2 : FVec Ideal S4096x512 .f32) (p3 : FVec Ideal S4096x256 .f32)
    (p4 p5 p6 p7 : FVec Ideal S4096x128 .f32) (r : Fin 4096) : Fin 3328 → EReal :=
  row8 (fun l => p0 (ix2 r l)) (fun l => p1 (ix2 r l)) (fun l => p2 (ix2 r l)) (fun l => p3 (ix2 r l)) (fun l => p4 (ix2 r l)) (fun l => p5 (ix2 r l)) (fun l => p6 (ix2 r l)) (fun l => p7 (ix2 r l))

variable (m : (ℓ : Loc nD τ sig) → Buf (Elt Ideal) ℓ) (c : Dev nD)

/-- The call's pieces. -/
abbrev pcs : Fin 4096 → Fin 3328 → EReal :=
  cat (m (c, main_arg4)) (m (c, main_arg5)) (m (c, main_arg6)) (m (c, main_arg7)) (m (c, main_arg8)) (m (c, main_arg9)) (m (c, main_arg10)) (m (c, main_arg11))

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![0, 0] := (by decide +kernel : ∀ t : Fin grid0.N, _)

theorem rowOf (t : Fin cfg0.N) (k : Fin 512) : row t.val k = ⟨t.val * 512 + k.val, by have : t.val < 8 := t.isLt; omega⟩ :=
  Fin.ext (row_val _ t.isLt k)

theorem entry0 : V m c main_v0 = m (c, main_arg4) := by unfold V; after_reads_simp; rfl
theorem entry1 : V m c main_v1 = m (c, main_arg5) := by unfold V; after_reads_simp; rfl
theorem entry2 : V m c main_v2 = m (c, main_arg6) := by unfold V; after_reads_simp; rfl
theorem entry3 : V m c main_v3 = m (c, main_arg7) := by unfold V; after_reads_simp; rfl
theorem entry4 : V m c main_v4 = m (c, main_arg8) := by unfold V; after_reads_simp; rfl
theorem entry5 : V m c main_v5 = m (c, main_arg9) := by unfold V; after_reads_simp; rfl
theorem entry6 : V m c main_v6 = m (c, main_arg10) := by unfold V; after_reads_simp; rfl
theorem entry7 : V m c main_v7 = m (c, main_arg11) := by unfold V; after_reads_simp; rfl
theorem entry_w (q : Fin 3328) (l : Fin 1024) : V m c main_v9 (ix2 q l) = m (c, main_arg2) (ix2 l q) := by
  unfold V; after_reads_simp; pointwise []
theorem entry_x : V m c main_arg0 = m (c, main_arg0) := by unfold V; after_reads_simp
theorem entry_dy : V m c main_arg3 = m (c, main_arg3) := by unfold V; after_reads_simp
theorem entry_g (k : Fin 1024) : V m c main_v10 (ix2 0 k) = m (c, main_arg1) (ix1 k) := by
  unfold V; after_reads_simp; pointwise []

theorem blk0 (t : Fin cfg0.N) (r : Fin 512) (k : Fin 1024) : iblk m c 0 t (ix2 r k) = m (c, main_arg4) (ix2 (row t.val r) k) := by
  rw [← entry0 m c, rowOf]; blk_simp [iblk]; congr 1; blk_ext [index0]
theorem blk1 (t : Fin cfg0.N) (r : Fin 512) (k : Fin 1024) : iblk m c 1 t (ix2 r k) = m (c, main_arg5) (ix2 (row t.val r) k) := by
  rw [← entry1 m c, rowOf]; blk_simp [iblk]; congr 1; blk_ext [index1]
theorem blk2 (t : Fin cfg0.N) (r : Fin 512) (k : Fin 512) : iblk m c 2 t (ix2 r k) = m (c, main_arg6) (ix2 (row t.val r) k) := by
  rw [← entry2 m c, rowOf]; blk_simp [iblk]; congr 1; blk_ext [index2]
theorem blk3 (t : Fin cfg0.N) (r : Fin 512) (k : Fin 256) : iblk m c 3 t (ix2 r k) = m (c, main_arg7) (ix2 (row t.val r) k) := by
  rw [← entry3 m c, rowOf]; blk_simp [iblk]; congr 1; blk_ext [index3]
theorem blk4 (t : Fin cfg0.N) (r : Fin 512) (k : Fin 128) : iblk m c 4 t (ix2 r k) = m (c, main_arg8) (ix2 (row t.val r) k) := by
  rw [← entry4 m c, rowOf]; blk_simp [iblk]; congr 1; blk_ext [index4]
theorem blk5 (t : Fin cfg0.N) (r : Fin 512) (k : Fin 128) : iblk m c 5 t (ix2 r k) = m (c, main_arg9) (ix2 (row t.val r) k) := by
  rw [← entry5 m c, rowOf]; blk_simp [iblk]; congr 1; blk_ext [index5]
theorem blk6 (t : Fin cfg0.N) (r : Fin 512) (k : Fin 128) : iblk m c 6 t (ix2 r k) = m (c, main_arg10) (ix2 (row t.val r) k) := by
  rw [← entry6 m c, rowOf]; blk_simp [iblk]; congr 1; blk_ext [index6]
theorem blk7 (t : Fin cfg0.N) (r : Fin 512) (k : Fin 128) : iblk m c 7 t (ix2 r k) = m (c, main_arg11) (ix2 (row t.val r) k) := by
  rw [← entry7 m c, rowOf]; blk_simp [iblk]; congr 1; blk_ext [index7]
theorem blk8 (t : Fin cfg0.N) (q : Fin 3328) (l : Fin 1024) : iblk m c 8 t (ix2 q l) = m (c, main_arg2) (ix2 l q) := by
  rw [← entry_w m c]; blk_simp [iblk]; congr 1; blk_ext [index8]
theorem blk9 (t : Fin cfg0.N) (r : Fin 512) (k : Fin 1024) : iblk m c 9 t (ix2 r k) = m (c, main_arg0) (ix2 (row t.val r) k) := by
  rw [← entry_x m c, rowOf]; blk_simp [iblk]; congr 1; blk_ext [index9]
theorem blk10 (t : Fin cfg0.N) (k : Fin 1024) : iblk m c 10 t (ix2 0 k) = m (c, main_arg1) (ix1 k) := by
  rw [← entry_g m c]; blk_simp [iblk]; congr 1; blk_ext [index10]
theorem blk11 (t : Fin cfg0.N) (r : Fin 512) (k : Fin 1024) : iblk m c 11 t (ix2 r k) = m (c, main_arg3) (ix2 (row t.val r) k) := by
  rw [← entry_dy m c, rowOf]; blk_simp [iblk]; congr 1; blk_ext [index11]

/-- A row of the tiles of the pieces. -/
theorem blkP (t : Fin cfg0.N) (r : Fin 512) (q : Fin 3328) :
    row8 (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) q
      = pcs m c (row t.val r) q := by
  simp only [blk0, blk1, blk2, blk3, blk4, blk5, blk6, blk7]
  rfl

/-- Where a row of a tile lies in the array. -/
theorem place12 (t : Fin cfg0.N) (r : Fin 512) (l : Fin 1024) :
    ((cfg0.win 12).blk t).view.emb (ix2 r l) = ix2 (row t.val r) l := by
  rw [rowOf]
  funext a; apply Fin.ext
  match a with
  | ⟨0, _⟩ => blk_simp [index12]
  | ⟨1, _⟩ => blk_simp [index12]
theorem place13 (t : Fin cfg0.N) (r : Fin 512) (l : Fin 1024) :
    ((cfg0.win 13).blk t).view.emb (ix2 r l) = ix2 (row t.val r) l := by
  rw [rowOf]
  funext a; apply Fin.ext
  match a with
  | ⟨0, _⟩ => blk_simp [index13]
  | ⟨1, _⟩ => blk_simp [index13]
theorem place14 (t : Fin cfg0.N) (y : S1x1024.Idx) : ((cfg0.win 14).blk t).view.emb y = y := by
  funext a; apply Fin.ext
  match a with
  | ⟨0, _⟩ => blk_simp [index14]
  | ⟨1, _⟩ => blk_simp [index14]

section
variable (t : ℕ) (x : FVec Ideal S4096x1024 .f32) (g : FVec Ideal S1024 .f32) (w : FVec Ideal S1024x3328 .f32)
  (dy : FVec Ideal S4096x1024 .f32) (pc : Fin 4096 → Fin 3328 → EReal)
  (x0 x1 : Vec Ideal S512x1024 .bf16) (x2 : Vec Ideal S512x512 .bf16) (x3 : Vec Ideal S512x256 .bf16) (x4 x5 x6 x7 : Vec Ideal S512x128 .bf16)
  (x8 : Vec Ideal S3328x1024 .bf16) (x9 : Vec Ideal S512x1024 .f32) (x10 : Vec Ideal S1x1024 .f32) (x11 : Vec Ideal S512x1024 .f32)
  (e0 : ∀ r q, row8 (fun l => x0 (ix2 r l)) (fun l => x1 (ix2 r l)) (fun l => x2 (ix2 r l)) (fun l => x3 (ix2 r l)) (fun l => x4 (ix2 r l)) (fun l => x5 (ix2 r l)) (fun l => x6 (ix2 r l)) (fun l => x7 (ix2 r l)) q = pc (row t r) q)
  (e8 : ∀ q l, (x8 (ix2 q l) : EReal) = w (ix2 l q))
  (e9 : ∀ r k, (x9 (ix2 r k) : EReal) = x (ix2 (row t r) k)) (e10 : ∀ k, (x10 (ix2 0 k) : EReal) = g (ix1 k))
  (e11 : ∀ r k, (x11 (ix2 r k) : EReal) = dy (ix2 (row t r) k))
include e0 e8

/-- A tile's part of the gradient of the norm's output. -/
theorem dn_at (r : Fin 512) (l : Fin 1024) : dn x0 x1 x2 x3 x4 x5 x6 x7 x8 (ix2 r l) = dnAll w pc (row t r) l :=
  Finset.sum_congr rfl fun q _ => congrArg₂ (fun u v : EReal => u * v) (e0 r q) (e8 q l)

include e9
/-- One more tile of the gradient of the gain. -/
theorem gain_step : k0_pay2 (k0_pay12 x9) (dn x0 x1 x2 x3 x4 x5 x6 x7 x8) (gainAfter x w pc t) = gainAfter x w pc (t + 1) := by
  funext y
  obtain ⟨r, l, rfl⟩ : ∃ (r : Fin 1) (l : Fin 1024), y = ix2 r l := ⟨y 0, y 1, eq_ix2 y⟩
  refine (dg_at _ _ _ r l).trans ((upto_succ _ _).trans ?_).symm
  refine congrArg (_ + ·) (Finset.sum_congr rfl fun k _ => ?_)
  simp only [dn_at t w pc x0 x1 x2 x3 x4 x5 x6 x7 x8 e0 e8, e9]
  rfl

include e10 e11
theorem dx_row (r : Fin 512) (l : Fin 1024) :
    k0_pay13 x9 (dn x0 x1 x2 x3 x4 x5 x6 x7 x8) x10 x11 (ix2 r l) = wholeX x g w dy pc (ix2 (row t r) l) := by
  refine (dx_at _ _ _ _ r l).trans ?_
  simp only [dn_at t w pc x0 x1 x2 x3 x4 x5 x6 x7 x8 e0 e8, e9, e10, e11]
  rfl
theorem dxh_row (r : Fin 512) (l : Fin 1024) :
    k0_pay14 x9 (dn x0 x1 x2 x3 x4 x5 x6 x7 x8) x10 x11 (ix2 r l) = wholeH x g w dy pc (ix2 (row t r) l) := by
  refine (dxh_at _ _ _ _ r l).trans ?_
  simp only [dn_at t w pc x0 x1 x2 x3 x4 x5 x6 x7 x8 e0 e8, e9, e10, e11]
  rfl
end

theorem gain_first (x : FVec Ideal S4096x1024 .f32) (w : FVec Ideal S1024x3328 .f32) (pc : Fin 4096 → Fin 3328 → EReal) :
    (k0_pay1 (F := Ideal)) = gainAfter x w pc 0 := by
  funext y
  obtain ⟨r, l, rfl⟩ : ∃ (r : Fin 1) (l : Fin 1024), y = ix2 r l := ⟨y 0, y 1, eq_ix2 y⟩
  refine (zero_at r l).trans ?_
  show _ = Tokens.upto _ 0
  unfold Tokens.upto
  rfl

theorem out12 (t : Fin cfg0.N) : (outsAt0 m c t.val t.isLt).1 = k0_pay13 (iblk m c 9 t)
    (dn (iblk m c 0 t) (iblk m c 1 t) (iblk m c 2 t) (iblk m c 3 t) (iblk m c 4 t) (iblk m c 5 t) (iblk m c 6 t) (iblk m c 7 t) (iblk m c 8 t)) (iblk m c 10 t) (iblk m c 11 t) := by
  by_cases h0 : t.val % 8 = 0
  · rw [outsAt0_A m c t h0]; dsimp only; rw [out_A12]
  · rw [outsAt0_B m c t h0]; dsimp only; rw [out_B12]
/-- The first result array. -/
theorem arr12 : (dats m 0 c).arrAt 12 cfg0.N = wholeX (m (c, main_arg0)) (m (c, main_arg1)) (m (c, main_arg2)) (m (c, main_arg3)) (pcs m c) := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  rw [place12]
  blk_simp
  rw [after0_12]
  rw [out12]
  exact dx_row t.val _ _ _ _ _ _ _ _ _ _ _ _ _ _ _ _ _ (blkP m c t) (blk8 m c t) (blk9 m c t) (blk10 m c t) (blk11 m c t) r l

theorem out13 (t : Fin cfg0.N) : (outsAt0 m c t.val t.isLt).2.1 = k0_pay14 (iblk m c 9 t)
    (dn (iblk m c 0 t) (iblk m c 1 t) (iblk m c 2 t) (iblk m c 3 t) (iblk m c 4 t) (iblk m c 5 t) (iblk m c 6 t) (iblk m c 7 t) (iblk m c 8 t)) (iblk m c 10 t) (iblk m c 11 t) := by
  by_cases h0 : t.val % 8 = 0
  · rw [outsAt0_A m c t h0]; dsimp only; rw [out_A13]
  · rw [outsAt0_B m c t h0]; dsimp only; rw [out_B13]
/-- The second result array. -/
theorem arr13 : (dats m 0 c).arrAt 13 cfg0.N = wholeH (m (c, main_arg0)) (m (c, main_arg1)) (m (c, main_arg2)) (m (c, main_arg3)) (pcs m c) := by
  refine (dats m 0 c).arrAt_eq_of_covers 13 _ (by decide +kernel) fun t hf y => ?_
  obtain ⟨r, l, rfl⟩ : ∃ (r : Fin 512) (l : Fin 1024), y = ix2 r l := ⟨y 0, y 1, eq_ix2 y⟩
  rw [place13]
  blk_simp
  rw [after0_13]
  rw [out13]
  exact dxh_row t.val _ _ _ _ _ _ _ _ _ _ _ _ _ _ _ _ _ (blkP m c t) (blk8 m c t) (blk9 m c t) (blk10 m c t) (blk11 m c t) r l

/-- What the third result's buffer holds after each tile. -/
theorem gain_at : ∀ (n : ℕ) (h : n < cfg0.N), (outsAt0 m c n h).2.2 = gainAfter (m (c, main_arg0)) (m (c, main_arg2)) (pcs m c) (n + 1) := by
  intro n
  induction n with
  | zero =>
    intro h
    rw [outsAt0_A m c ⟨0, h⟩ (by rfl)]
    dsimp only
    rw [out_A14]
    refine (congrArg (k0_pay2 _ _) (gain_first (m (c, main_arg0)) (m (c, main_arg2)) (pcs m c))).trans ?_
    exact gain_step 0 _ _ _ _ _ _ _ _ _ _ _ _ _ (blkP m c ⟨0, h⟩) (blk8 m c ⟨0, h⟩) (blk9 m c ⟨0, h⟩)
  | succ n ih =>
    intro h
    rw [outsAt0_B m c ⟨n + 1, h⟩ (by have : n + 1 < 8 := h; show ¬(n + 1) % 8 = 0; omega)]
    dsimp only
    rw [out_B14]
    refine (congrArg (k0_pay2 _ _) (ih _)).trans ?_
    exact gain_step (n + 1) _ _ _ _ _ _ _ _ _ _ _ _ _ (blkP m c ⟨n + 1, h⟩) (blk8 m c ⟨n + 1, h⟩) (blk9 m c ⟨n + 1, h⟩)

/-- The third result array. -/
theorem arr14 : (dats m 0 c).arrAt 14 cfg0.N = gainAfter (m (c, main_arg0)) (m (c, main_arg2)) (pcs m c) 8 := by
  refine (dats m 0 c).arrAt_eq_of_covers 14 _ (by decide +kernel) fun t hf y => ?_
  have ht : t.val = 7 := (by decide +kernel : ∀ t : Fin grid0.N, (cfg0.win 14).flush t = true → t.val = 7) t hf
  rw [place14]
  blk_simp
  rw [after0_14, gain_at, ht]

end Cert.Kernel9Ideal.MixerInBwd
end
-- ==== Proof.Mixer.InBwd.Equation.lean ====
/- The mixer's gradients through its input projection and its norm are the reference's. -/
module

public import proofs.«01_k».proof.Proof.Mixer.InBwd.Array
public import proofs.«01_k».proof.Proof.FfnDn.Equation
public import proofs.«01_k».proof.Proof.Gen.Reference9Ideal.Read

@[expose] public section
noncomputable section
namespace Cert.Kernel9Ideal.MixerInBwd
open Idealize.ShloMosaic Cert.Macaron Cert.MlaBwd Cert.MixerPieces Cert.Reference9Ideal.Read
open Cert.ReferenceIdeal.MlaBwd (one_word zero_word div_real)
open Cert.Kernel3Ideal.FfnDn (refDx dx_eq)

/-! ## The reference's arrays -/

section
variable (x : FVec Ideal Cert.Reference9Ideal.S4096x1024 .f32) (g : FVec Ideal Cert.Reference9Ideal.S1024 .f32)
  (w : FVec Ideal Cert.Reference9Ideal.S1024x3328 .f32) (dy p0 p1 : FVec Ideal Cert.Reference9Ideal.S4096x1024 .f32)
  (p2 : FVec Ideal Cert.Reference9Ideal.S4096x512 .f32) (p3 : FVec Ideal Cert.Reference9Ideal.S4096x256 .f32) (p4 p5 p6 p7 : FVec Ideal Cert.Reference9Ideal.S4096x128 .f32)

theorem ref_dn (r : Fin 4096) (l : Fin 1024) : val_main_v20 (F := Ideal) w p0 p1 p2 p3 p4 p5 p6 p7 (ix2 r l) = dnAll w (cat p0 p1 p2 p3 p4 p5 p6 p7) r l := by
  rw [val_main_v20_apply]
  refine Finset.sum_congr rfl fun q _ => ?_
  rw [show lidx_main_v20 (ix2 r l) q = ix2 r q from eq_ix2 _, show ridx_main_v20 (ix2 r l) q = ix2 l q from eq_ix2 _]
  exact congrArg (· * w (ix2 l q)) (concat_at p0 p1 p2 p3 p4 p5 p6 p7 r q)

theorem ref_msq (r : Fin 4096) (u : Fin 1) : val_main_v6 (F := Ideal) x (ix2 r u) = msq (fun k => x (ix2 r k)) := by
  rw [val_main_v6_apply, val_main_v4_apply, val_main_v5_apply, val_main_cst_1_apply, val_main_v3_apply, val_main_cst_0_apply, val_main_v2_apply,
    val_main_v1_apply, val_main_cst_apply]
  refine congrArg (fun u => Ideal.div u width + small) ?_
  refine (congrArg₂ (fun u v : EReal => u + v) zero_word (Finset.sum_congr rfl fun k _ => ?_)).trans (zero_add _)
  rw [val_main_v0_apply, show idx_main_v1 (idx_main_v2 (ix2 r u)) k = ix2 r k from eq_ix2 _]
  rfl

theorem ref_rs (r : Fin 4096) (u : Fin 1) : val_main_v7 (F := Ideal) x (ix2 r u) = rs (fun k => x (ix2 r k)) := by
  rw [val_main_v7_apply, ref_msq]
  rfl

theorem ref_dxh (r : Fin 4096) (l : Fin 1024) :
    val_main_v25 (F := Ideal) g w p0 p1 p2 p3 p4 p5 p6 p7 (ix2 r l) = dnAll w (cat p0 p1 p2 p3 p4 p5 p6 p7) r l * g (ix1 l) := by
  rw [val_main_v25_apply, ref_dn, val_main_v24_apply, val_main_v13_apply, show idx_main_v13 (idx_main_v24 (ix2 r l)) = ix1 l from eq_ix1 _]
  rfl

theorem ref_dx (r : Fin 4096) (l : Fin 1024) : val_main_v41 (F := Ideal) x g w dy p0 p1 p2 p3 p4 p5 p6 p7 (ix2 r l)
    = refDx (fun k => x (ix2 r k)) (dnAll w (cat p0 p1 p2 p3 p4 p5 p6 p7) r) (fun k => g (ix1 k)) (dy (ix2 r l)) l := by
  have hs : val_main_v37 (F := Ideal) x g w p0 p1 p2 p3 p4 p5 p6 p7 (ix2 r l)
      = Ideal.div ((∑ k, x (ix2 r k) * (dnAll w (cat p0 p1 p2 p3 p4 p5 p6 p7) r k * g (ix1 k)))
        * (((-(1 / 2) : ℝ) : EReal) * Ideal.div (rs (fun k => x (ix2 r k))) (msq (fun k => x (ix2 r k))))) width := by
    rw [val_main_v37_apply, val_main_v36_apply, val_main_cst_7_apply]
    refine (congrArg₂ (fun u v : EReal => u + v) zero_word (Fin.sum_univ_one _)).trans ((zero_add _).trans ?_)
    rw [show idx_main_v36 (idx_main_v37 (ix2 r l)) 0 = ix2 r 0 from eq_ix2 _, val_main_v35_apply, val_main_v34_apply, val_main_cst_6_apply,
      val_main_v33_apply, val_main_v29_apply, val_main_v28_apply, val_main_cst_5_apply, val_main_v10_apply, val_main_v9_apply,
      val_main_cst_2_apply, val_main_v8_apply, ref_rs, ref_msq]
    refine congrArg (fun u => Ideal.div u width) (congrArg₂ (fun u v : EReal => u * v) ?_ ?_)
    · refine (congrArg₂ (fun u v : EReal => u + v) zero_word (Finset.sum_congr rfl fun k _ => ?_)).trans (zero_add _)
      have e : idx_main_v28 (idx_main_v29 (ix2 r 0)) k = ix2 r k := by
        funext a
        match a with
        | ⟨0, _⟩ => apply Fin.ext; show r.val * 1 + 0 = r.val; omega
        | ⟨1, _⟩ => rfl
      rw [e, val_main_v27_apply, ref_dxh]
      rfl
    · exact congrArg (· * Ideal.div (rs (fun k => x (ix2 r k))) (msq (fun k => x (ix2 r k)))) minus_half_eq
  rw [val_main_v41_apply, val_main_v39_apply, val_main_v32_apply, val_main_v31_apply, val_main_v38_apply, val_main_v40_apply, hs, ref_dxh,
    val_main_v30_apply, show idx_main_v30 (ix2 r l) = ix2 r 0 from eq_ix2 _, ref_rs]
  rfl

/-- The gradient of the gain. -/
theorem gain_eq : gainAfter x w (cat p0 p1 p2 p3 p4 p5 p6 p7) 8 = val_main_v43 (F := Ideal) x w p0 p1 p2 p3 p4 p5 p6 p7 := by
  funext i
  obtain ⟨u, l, rfl⟩ : ∃ (u : Fin 1) (l : Fin 1024), i = ix2 u l := ⟨i 0, i 1, eq_ix2 i⟩
  refine (Tokens.upto_all _).trans ?_
  rw [val_main_v43_apply, val_main_v26_apply, val_main_cst_4_apply]
  refine ((congrArg₂ (fun u v : EReal => u + v) zero_word (Fin.sum_univ_one _)).trans ((zero_add _).trans ?_)).symm
  rw [val_main_v23_apply, val_main_v22_apply, val_main_cst_3_apply]
  refine (congrArg₂ (fun u v : EReal => u + v) zero_word (Finset.sum_congr rfl fun k _ => ?_)).trans (zero_add _)
  have e : idx_main_v22 (idx_main_v23 (idx_main_v26 (idx_main_v43 (ix2 u l)) 0)) k = ix2 k l := by
    funext a
    match a with
    | ⟨0, _⟩ => rfl
    | ⟨1, _⟩ => apply Fin.ext; show 0 * 1024 + (u.val * 1024 + l.val) = l.val; omega
  rw [e, val_main_v21_apply, ref_dn, val_main_v12_apply, val_main_v11_apply, show idx_main_v11 (ix2 k l) = ix2 k 0 from eq_ix2 _, ref_rs]
  exact mul_comm _ _

/-- A row of pieces of real numbers is one of real numbers. -/
theorem join_real {n k : ℕ} (p : Fin n → EReal) (q : Fin k → EReal) (hp : ∀ l, ((p l).toReal : EReal) = p l)
    (hq : ∀ l, ((q l).toReal : EReal) = q l) (c : Fin (n + k)) : ((join p q c).toReal : EReal) = join p q c := by
  unfold join
  split
  · exact hp _
  · exact hq _
theorem cat_real (f0 : Finite p0) (f1 : Finite p1) (f2 : Finite p2) (f3 : Finite p3) (f4 : Finite p4) (f5 : Finite p5)
    (f6 : Finite p6) (f7 : Finite p7) (r : Fin 4096) (q : Fin 3328) : ((cat p0 p1 p2 p3 p4 p5 p6 p7 r q).toReal : EReal) = cat p0 p1 p2 p3 p4 p5 p6 p7 r q :=
  join_real (n := 1024) (k := 2304) _ _ (fun _ => f0 _) (join_real (n := 1024) (k := 1280) _ _ (fun _ => f1 _)
    (join_real (n := 512) (k := 768) _ _ (fun _ => f2 _) (join_real (n := 256) (k := 512) _ _ (fun _ => f3 _)
      (join_real (n := 128) (k := 384) _ _ (fun _ => f4 _) (join_real (n := 128) (k := 256) _ _ (fun _ => f5 _)
        (join_real (n := 128) (k := 128) _ _ (fun _ => f6 _) (fun _ => f7 _))))))) q

/-- The gradient of the layer's input, of arguments of real numbers. -/
theorem input_eq (fx : Finite x) (fg : Finite g) (fw : Finite w) (fdy : Finite dy) (f0 : Finite p0) (f1 : Finite p1) (f2 : Finite p2) (f3 : Finite p3)
    (f4 : Finite p4) (f5 : Finite p5) (f6 : Finite p6) (f7 : Finite p7) :
    wholeX x g w dy (cat p0 p1 p2 p3 p4 p5 p6 p7) = val_main_v41 (F := Ideal) x g w dy p0 p1 p2 p3 p4 p5 p6 p7 := by
  funext i
  obtain ⟨r, l, rfl⟩ : ∃ (r : Fin 4096) (l : Fin 1024), i = ix2 r l := ⟨i 0, i 1, eq_ix2 i⟩
  rw [ref_dx]
  have fp := fun q => cat_real p0 p1 p2 p3 p4 p5 p6 p7 f0 f1 f2 f3 f4 f5 f6 f7 r q
  have hd : dnAll w (cat p0 p1 p2 p3 p4 p5 p6 p7) r = fun j => ((∑ q, (cat p0 p1 p2 p3 p4 p5 p6 p7 r q).toReal * (w (ix2 j q)).toReal : ℝ) : EReal) := by
    funext j
    unfold dnAll
    rw [coe_sum]
    refine Finset.sum_congr rfl fun q _ => ?_
    rw [EReal.coe_mul, fp, fw]
  show dxAt (fun k => x (ix2 r k)) (dnAll w (cat p0 p1 p2 p3 p4 p5 p6 p7) r) (fun k => g (ix1 k)) (dy (ix2 r l)) l = _
  rw [hd, show (fun k => x (ix2 r k)) = fun k => ((x (ix2 r k)).toReal : EReal) from funext fun k => (fx _).symm,
    show (fun k => g (ix1 k)) = fun k => ((g (ix1 k)).toReal : EReal) from funext fun k => (fg _).symm, ← fdy]
  exact dx_eq _ _ _ _ l

theorem input_eq_half (fx : Finite x) (fg : Finite g) (fw : Finite w) (fdy : Finite dy) (f0 : Finite p0) (f1 : Finite p1) (f2 : Finite p2) (f3 : Finite p3)
    (f4 : Finite p4) (f5 : Finite p5) (f6 : Finite p6) (f7 : Finite p7) :
    wholeH x g w dy (cat p0 p1 p2 p3 p4 p5 p6 p7) = val_main_v42 (F := Ideal) x g w dy p0 p1 p2 p3 p4 p5 p6 p7 := by
  funext i
  exact congrFun (input_eq x g w dy p0 p1 p2 p3 p4 p5 p6 p7 fx fg fw fdy f0 f1 f2 f3 f4 f5 f6 f7) i
end

end Cert.Kernel9Ideal.MixerInBwd
end
-- ==== Proof.Mixer.InBwd.Claims.lean ====
/- The claims about the mixer's backward call through its input projection and its norm. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.MlaBwd.Claims
public import proofs.«01_k».proof.Proof.Mixer.InBwd.Equation

@[expose] public section
noncomputable section
namespace Cert.Proof.MixerInBwd
open Idealize.ShloMosaic Idealize.SL.Sem Cert.Proof.MlaBwd

theorem frame_p : Cert.quiescent_Kernel9 := fun m ρ _ => Cert.Kernel9.Gen.frame m ρ
theorem frame_pi : Cert.quiescent_Kernel9Ideal := fun m ρ _ => Cert.Kernel9Ideal.Gen.frame m ρ
theorem frame_pi_finite : Cert.quiescent_Kernel9Ideal_pre_finite9 := fun m ρ _ => Cert.Kernel9Ideal.Gen.frame m ρ
theorem frame_ri : Cert.quiescent_Reference9Ideal := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)
theorem frame_ri_finite : Cert.quiescent_Reference9Ideal_pre_finite9 := fun m ρ _ => frame_ri m ρ trivial

theorem preserves : Cert.preserves_Kernel9_Kernel9Ideal := trivial

/-- With arguments of real numbers the kernel's three arrays are the reference's. -/
theorem algebraic : Cert.algebraic_Kernel9Ideal_Reference9Ideal_pre_finite9 := by
  intro m ρ m' ρ' hpre hagree
  refine ⟨_, _, _, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨h0, h1, h2, hargs⟩ := h c
  obtain ⟨a0, a1, a2, a3, a4, a5, a6, a7, a8, a9, a10, a11⟩ := hagree c
  obtain ⟨p0, p1, p2, p3, p4, p5, p6, p7, p8, p9, p10, p11⟩ := hpre c
  have f0 := finite_of_test _ _ p0
  have f1 := finite_of_test _ _ p1
  have f2 := finite_of_test _ _ p2
  have f3 := finite_of_test _ _ p3
  have f4 := finite_of_test _ _ p4
  have f5 := finite_of_test _ _ p5
  have f6 := finite_of_test _ _ p6
  have f7 := finite_of_test _ _ p7
  have f8 := finite_of_test _ _ p8
  have f9 := finite_of_test _ _ p9
  have f10 := finite_of_test _ _ p10
  have f11 := finite_of_test _ _ p11
  refine ⟨h0.trans ?_, h1.trans ?_, h2.trans ?_, hargs⟩
  · rw [Cert.Reference9Ideal.Read.val_main_v41_eq, a0, a1, a2, a3, a4, a5, a6, a7, a8, a9, a10, a11, Cert.Kernel9Ideal.MixerInBwd.arr12]
    exact (Cert.Kernel9Ideal.MixerInBwd.input_eq _ _ _ _ _ _ _ _ _ _ _ _ f0 f1 f2 f3 f4 f5 f6 f7 f8 f9 f10 f11).symm
  · rw [Cert.Reference9Ideal.Read.val_main_v42_eq, a0, a1, a2, a3, a4, a5, a6, a7, a8, a9, a10, a11, Cert.Kernel9Ideal.MixerInBwd.arr13]
    exact (Cert.Kernel9Ideal.MixerInBwd.input_eq_half _ _ _ _ _ _ _ _ _ _ _ _ f0 f1 f2 f3 f4 f5 f6 f7 f8 f9 f10 f11).symm
  · rw [Cert.Reference9Ideal.Read.val_main_v43_eq, a0, a2, a4, a5, a6, a7, a8, a9, a10, a11, Cert.Kernel9Ideal.MixerInBwd.arr14]
    exact (Cert.Kernel9Ideal.MixerInBwd.gain_eq _ _ _ _ _ _ _ _ _ _).symm

end Cert.Proof.MixerInBwd
end
-- ==== Proof.Mixer.Grads.InBody.lean ====
/- What one grid point of the input weights' gradient leaves in the accumulator and in the result. -/
module

public import proofs.«01_k».proof.Proof.Gen.Kernel10Ideal.Value
public import proofs.«01_k».proof.Proof.Tokens.Sum
public import proofs.«01_k».proof.Proof.Mixer.Pieces
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel10Ideal.MixerInGrad
open Cert.Kernel10Ideal Cert.Kernel10Ideal.Gen Cert.Tokens Cert.MixerPieces Idealize.ShloMosaic Idealize.ShloMosaic.TcCoe Idealize.SL.Sem

/-- Some columns of an array, read at an entry. -/
theorem ld_cols {n m : ℕ} (x : Vec Ideal ⟨2, ![512, n]⟩ .bf16) (o : ℕ) (h) (k : Fin 512) (r : Fin m) (h') :
    View.ld x (Rect.unit (s := ⟨2, ![512, n]⟩) ![0, o] ![512, m] h) (ix2 k r) = x (ix2 k ⟨o + r.val, h'⟩) := by
  refine congrArg x ?_
  funext a
  match a with
  | ⟨0, _⟩ => exact Fin.ext (show 0 + 1 * k.val = k.val by omega)
  | ⟨1, _⟩ => exact Fin.ext (show o + 1 * r.val = o + r.val by omega)

section
variable (x0 x1 : Vec Ideal S512x1024 .bf16) (x2 : Vec Ideal S512x512 .bf16) (x3 : Vec Ideal S512x256 .bf16) (x4 x5 x6 x7 : Vec Ideal S512x128 .bf16)
  (x8 : Vec Ideal S512x1024 .bf16) (acc : Vec Ideal S3328x1024 .f32)

/-- One tile of the pieces side by side. -/
def tile (k : Fin 512) : Fin 3328 → EReal :=
  row8 (fun l => x0 (ix2 k l)) (fun l => x1 (ix2 k l)) (fun l => x2 (ix2 k l)) (fun l => x3 (ix2 k l))
    (fun l => x4 (ix2 k l)) (fun l => x5 (ix2 k l)) (fun l => x6 (ix2 k l)) (fun l => x7 (ix2 k l))

/-- The accumulator with one tile's product added. -/
def step : Vec Ideal S3328x1024 .f32 := fun y => acc y + ∑ k : Fin 512, tile x0 x1 x2 x3 x4 x5 x6 x7 k (y 0) * x8 (ix2 k (y 1))

/-- A chunk of 512 rows, from row `o`. -/
theorem chunk512 (u : Vec Ideal S512x512 .bf16) (o : ℕ) (h) (h'')
    (hu : ∀ (k : Fin 512) (r : Fin 512) (q : Fin 3328), q.val = o + r.val → tile x0 x1 x2 x3 x4 x5 x6 x7 k q = u (ix2 k r)) (y : S512x1024.Idx) :
    (k0_pay5 (View.ld acc (Rect.unit (s := S3328x1024) ![o, 0] S512x1024.size h)) u (View.ld x8 (Rect.unit (s := S512x1024) ![0, 0] S512x1024.size h'')) y : EReal)
      = step x0 x1 x2 x3 x4 x5 x6 x7 x8 acc ((Rect.unit (s := S3328x1024) ![o, 0] S512x1024.size h).emb y) := by
  obtain ⟨r, l, rfl⟩ : ∃ (r : Fin 512) (l : Fin 1024), y = ix2 r l := ⟨y 0, y 1, eq_ix2 y⟩
  show _ = View.ld (step x0 x1 x2 x3 x4 x5 x6 x7 x8 acc) (Rect.unit (s := S3328x1024) ![o, 0] S512x1024.size h) (ix2 r l)
  pointwise [k0_pay5]
  refine congrArg₂ (· + ·) rfl (Finset.sum_congr rfl fun k _ => ?_)
  exact congrArg (· * _) (hu k r _ rfl).symm

/-- A chunk of 256 rows, from row `o`. -/
theorem chunk256 (u : Vec Ideal S512x256 .bf16) (o : ℕ) (h) (h'')
    (hu : ∀ (k : Fin 512) (r : Fin 256) (q : Fin 3328), q.val = o + r.val → tile x0 x1 x2 x3 x4 x5 x6 x7 k q = u (ix2 k r)) (y : S256x1024.Idx) :
    (k0_pay12 (View.ld acc (Rect.unit (s := S3328x1024) ![o, 0] S256x1024.size h)) (k0_pay11 u (View.ld x8 (Rect.unit (s := S512x1024) ![0, 0] S512x1024.size h''))) y : EReal)
      = step x0 x1 x2 x3 x4 x5 x6 x7 x8 acc ((Rect.unit (s := S3328x1024) ![o, 0] S256x1024.size h).emb y) := by
  obtain ⟨r, l, rfl⟩ : ∃ (r : Fin 256) (l : Fin 1024), y = ix2 r l := ⟨y 0, y 1, eq_ix2 y⟩
  show _ = View.ld (step x0 x1 x2 x3 x4 x5 x6 x7 x8 acc) (Rect.unit (s := S3328x1024) ![o, 0] S256x1024.size h) (ix2 r l)
  pointwise [k0_pay12, k0_pay11]
  refine congrArg₂ (· + ·) rfl (Finset.sum_congr rfl fun k _ => ?_)
  exact congrArg (· * _) (hu k r _ rfl).symm

/-- A chunk of 128 rows, from row `o`. -/
theorem chunk128 (u : Vec Ideal S512x128 .bf16) (o : ℕ) (h) (h'')
    (hu : ∀ (k : Fin 512) (r : Fin 128) (q : Fin 3328), q.val = o + r.val → tile x0 x1 x2 x3 x4 x5 x6 x7 k q = u (ix2 k r)) (y : S128x1024.Idx) :
    (k0_pay2 (View.ld acc (Rect.unit (s := S3328x1024) ![o, 0] S128x1024.size h)) u (View.ld x8 (Rect.unit (s := S512x1024) ![0, 0] S512x1024.size h'')) y : EReal)
      = step x0 x1 x2 x3 x4 x5 x6 x7 x8 acc ((Rect.unit (s := S3328x1024) ![o, 0] S128x1024.size h).emb y) := by
  obtain ⟨r, l, rfl⟩ : ∃ (r : Fin 128) (l : Fin 1024), y = ix2 r l := ⟨y 0, y 1, eq_ix2 y⟩
  show _ = View.ld (step x0 x1 x2 x3 x4 x5 x6 x7 x8 acc) (Rect.unit (s := S3328x1024) ![o, 0] S128x1024.size h) (ix2 r l)
  pointwise [k0_pay2]
  refine congrArg₂ (· + ·) rfl (Finset.sum_congr rfl fun k _ => ?_)
  exact congrArg (· * _) (hu k r _ rfl).symm

/-- The stores of the chunks, the last first. -/
def chunks : List (View.Piece (Elt Ideal) S3328x1024 .f32) :=
  [
    ⟨Rect.unit (s := S3328x1024) ![3200, 0] S128x1024.size (by decide),
      k0_pay2 (View.ld acc (Rect.unit (s := S3328x1024) ![3200, 0] S128x1024.size (by decide))) (View.ld x7 (Rect.unit (s := S512x128) ![0, 0] S512x128.size (by decide))) (View.ld x8 (Rect.unit (s := S512x1024) ![0, 0] S512x1024.size (by decide)))⟩,
    ⟨Rect.unit (s := S3328x1024) ![3072, 0] S128x1024.size (by decide),
      k0_pay1 (View.ld acc (Rect.unit (s := S3328x1024) ![3072, 0] S128x1024.size (by decide))) (k0_pay15 (View.ld x6 (Rect.unit (s := S512x128) ![0, 0] S512x128.size (by decide))) (View.ld x8 (Rect.unit (s := S512x1024) ![0, 0] S512x1024.size (by decide))))⟩,
    ⟨Rect.unit (s := S3328x1024) ![2944, 0] S128x1024.size (by decide),
      k0_pay14 (View.ld acc (Rect.unit (s := S3328x1024) ![2944, 0] S128x1024.size (by decide))) (View.ld x5 (Rect.unit (s := S512x128) ![0, 0] S512x128.size (by decide))) (View.ld x8 (Rect.unit (s := S512x1024) ![0, 0] S512x1024.size (by decide)))⟩,
    ⟨Rect.unit (s := S3328x1024) ![2816, 0] S128x1024.size (by decide),
      k0_pay13 (View.ld acc (Rect.unit (s := S3328x1024) ![2816, 0] S128x1024.size (by decide))) (View.ld x4 (Rect.unit (s := S512x128) ![0, 0] S512x128.size (by decide))) (View.ld x8 (Rect.unit (s := S512x1024) ![0, 0] S512x1024.size (by decide)))⟩,
    ⟨Rect.unit (s := S3328x1024) ![2560, 0] S256x1024.size (by decide),
      k0_pay12 (View.ld acc (Rect.unit (s := S3328x1024) ![2560, 0] S256x1024.size (by decide))) (k0_pay11 (View.ld x3 (Rect.unit (s := S512x256) ![0, 0] S512x256.size (by decide))) (View.ld x8 (Rect.unit (s := S512x1024) ![0, 0] S512x1024.size (by decide))))⟩,
    ⟨Rect.unit (s := S3328x1024) ![2048, 0] S512x1024.size (by decide),
      k0_pay10 (View.ld acc (Rect.unit (s := S3328x1024) ![2048, 0] S512x1024.size (by decide))) (View.ld x2 (Rect.unit (s := S512x512) ![0, 0] S512x512.size (by decide))) (View.ld x8 (Rect.unit (s := S512x1024) ![0, 0] S512x1024.size (by decide)))⟩,
    ⟨Rect.unit (s := S3328x1024) ![1536, 0] S512x1024.size (by decide),
      k0_pay9 (View.ld acc (Rect.unit (s := S3328x1024) ![1536, 0] S512x1024.size (by decide))) (View.ld x1 (Rect.unit (s := S512x1024) ![0, 512] S512x512.size (by decide))) (View.ld x8 (Rect.unit (s := S512x1024) ![0, 0] S512x1024.size (by decide)))⟩,
    ⟨Rect.unit (s := S3328x1024) ![1024, 0] S512x1024.size (by decide),
      k0_pay8 (View.ld acc (Rect.unit (s := S3328x1024) ![1024, 0] S512x1024.size (by decide))) (k0_pay7 (View.ld x1 (Rect.unit (s := S512x1024) ![0, 0] S512x512.size (by decide))) (View.ld x8 (Rect.unit (s := S512x1024) ![0, 0] S512x1024.size (by decide))))⟩,
    ⟨Rect.unit (s := S3328x1024) ![512, 0] S512x1024.size (by decide),
      k0_pay6 (View.ld acc (Rect.unit (s := S3328x1024) ![512, 0] S512x1024.size (by decide))) (View.ld x0 (Rect.unit (s := S512x1024) ![0, 512] S512x512.size (by decide))) (View.ld x8 (Rect.unit (s := S512x1024) ![0, 0] S512x1024.size (by decide)))⟩,
    ⟨Rect.unit (s := S3328x1024) ![0, 0] S512x1024.size (by decide),
      k0_pay5 (View.ld acc (Rect.unit (s := S3328x1024) ![0, 0] S512x1024.size (by decide))) (View.ld x0 (Rect.unit (s := S512x1024) ![0, 0] S512x512.size (by decide))) (View.ld x8 (Rect.unit (s := S512x1024) ![0, 0] S512x1024.size (by decide)))⟩
  ]

theorem chunks_cover (y : S3328x1024.Idx) : ∃ p ∈ chunks x0 x1 x2 x3 x4 x5 x6 x7 x8 acc, y ∈ p.1.set :=
  View.cover_of_tiledBy (chunks x0 x1 x2 x3 x4 x5 x6 x7 x8 acc) ![128, 1024] (by sl_kernel_rfl) y

/-- Whatever was stored before, the chunks leave the accumulator with the tile's product added. -/
theorem canon_chunks (L : List (View.Piece (Elt Ideal) S3328x1024 .f32)) :
    View.canon (chunks x0 x1 x2 x3 x4 x5 x6 x7 x8 acc ++ L) = step x0 x1 x2 x3 x4 x5 x6 x7 x8 acc := by
  funext y
  refine View.canon_append_of_pieces (step x0 x1 x2 x3 x4 x5 x6 x7 x8 acc) L _ ?_ y (chunks_cover x0 x1 x2 x3 x4 x5 x6 x7 x8 acc y)
  unfold chunks
  simp only [List.forall_mem_cons, List.not_mem_nil, false_imp_iff, implies_true, and_true]
  refine ⟨?_, ?_, ?_, ?_, ?_, ?_, ?_, ?_, ?_, ?_⟩
  · exact chunk128 x0 x1 x2 x3 x4 x5 x6 x7 x8 acc _ 3200 _ _ (fun k r q hq => (row8_7 _ _ _ _ _ _ _ _ ⟨0 + r.val, by omega⟩ q (by dsimp only; omega)).trans
      (ld_cols x7 0 _ k r _).symm)
  · exact chunk128 x0 x1 x2 x3 x4 x5 x6 x7 x8 acc _ 3072 _ _ (fun k r q hq => (row8_6 _ _ _ _ _ _ _ _ ⟨0 + r.val, by omega⟩ q (by dsimp only; omega)).trans
      (ld_cols x6 0 _ k r _).symm)
  · exact chunk128 x0 x1 x2 x3 x4 x5 x6 x7 x8 acc _ 2944 _ _ (fun k r q hq => (row8_5 _ _ _ _ _ _ _ _ ⟨0 + r.val, by omega⟩ q (by dsimp only; omega)).trans
      (ld_cols x5 0 _ k r _).symm)
  · exact chunk128 x0 x1 x2 x3 x4 x5 x6 x7 x8 acc _ 2816 _ _ (fun k r q hq => (row8_4 _ _ _ _ _ _ _ _ ⟨0 + r.val, by omega⟩ q (by dsimp only; omega)).trans
      (ld_cols x4 0 _ k r _).symm)
  · exact chunk256 x0 x1 x2 x3 x4 x5 x6 x7 x8 acc _ 2560 _ _ (fun k r q hq => (row8_3 _ _ _ _ _ _ _ _ ⟨0 + r.val, by omega⟩ q (by dsimp only; omega)).trans
      (ld_cols x3 0 _ k r _).symm)
  · exact chunk512 x0 x1 x2 x3 x4 x5 x6 x7 x8 acc _ 2048 _ _ (fun k r q hq => (row8_2 _ _ _ _ _ _ _ _ ⟨0 + r.val, by omega⟩ q (by dsimp only; omega)).trans
      (ld_cols x2 0 _ k r _).symm)
  · exact chunk512 x0 x1 x2 x3 x4 x5 x6 x7 x8 acc _ 1536 _ _ (fun k r q hq => (row8_1 _ _ _ _ _ _ _ _ ⟨512 + r.val, by omega⟩ q (by dsimp only; omega)).trans
      (ld_cols x1 512 _ k r _).symm)
  · exact chunk512 x0 x1 x2 x3 x4 x5 x6 x7 x8 acc _ 1024 _ _ (fun k r q hq => (row8_1 _ _ _ _ _ _ _ _ ⟨0 + r.val, by omega⟩ q (by dsimp only; omega)).trans
      (ld_cols x1 0 _ k r _).symm)
  · exact chunk512 x0 x1 x2 x3 x4 x5 x6 x7 x8 acc _ 512 _ _ (fun k r q hq => (row8_0 _ _ _ _ _ _ _ _ ⟨512 + r.val, by omega⟩ q (by dsimp only; omega)).trans
      (ld_cols x0 512 _ k r _).symm)
  · exact chunk512 x0 x1 x2 x3 x4 x5 x6 x7 x8 acc _ 0 _ _ (fun k r q hq => (row8_0 _ _ _ _ _ _ _ _ ⟨0 + r.val, by omega⟩ q (by dsimp only; omega)).trans
      (ld_cols x0 0 _ k r _).symm)

/-- The entry of the product over the first `n` tiles. -/
def firstTiles (a0 a1 : FVec Ideal S4096x1024 .f32) (a2 : FVec Ideal S4096x512 .f32) (a3 : FVec Ideal S4096x256 .f32)
    (a4 a5 a6 a7 : FVec Ideal S4096x128 .f32) (b : FVec Ideal S4096x1024 .f32) (n : ℕ) : Vec Ideal S3328x1024 .f32 :=
  fun y => Tokens.upto (fun k => row8 (fun l => a0 (ix2 k l)) (fun l => a1 (ix2 k l)) (fun l => a2 (ix2 k l)) (fun l => a3 (ix2 k l))
    (fun l => a4 (ix2 k l)) (fun l => a5 (ix2 k l)) (fun l => a6 (ix2 k l)) (fun l => a7 (ix2 k l)) (y 0) * b (ix2 k (y 1))) n

section
variable (a0 a1 : FVec Ideal S4096x1024 .f32) (a2 : FVec Ideal S4096x512 .f32) (a3 : FVec Ideal S4096x256 .f32)
  (a4 a5 a6 a7 : FVec Ideal S4096x128 .f32) (b : FVec Ideal S4096x1024 .f32)

/-- One tile more. -/
theorem step_first (n : ℕ)
    (e0 : ∀ (k : Fin 512) (l : Fin 1024), x0 (ix2 k l) = a0 (ix2 (row n k) l))
    (e1 : ∀ (k : Fin 512) (l : Fin 1024), x1 (ix2 k l) = a1 (ix2 (row n k) l))
    (e2 : ∀ (k : Fin 512) (l : Fin 512), x2 (ix2 k l) = a2 (ix2 (row n k) l))
    (e3 : ∀ (k : Fin 512) (l : Fin 256), x3 (ix2 k l) = a3 (ix2 (row n k) l))
    (e4 : ∀ (k : Fin 512) (l : Fin 128), x4 (ix2 k l) = a4 (ix2 (row n k) l))
    (e5 : ∀ (k : Fin 512) (l : Fin 128), x5 (ix2 k l) = a5 (ix2 (row n k) l))
    (e6 : ∀ (k : Fin 512) (l : Fin 128), x6 (ix2 k l) = a6 (ix2 (row n k) l))
    (e7 : ∀ (k : Fin 512) (l : Fin 128), x7 (ix2 k l) = a7 (ix2 (row n k) l))
    (e8 : ∀ (k : Fin 512) (l : Fin 1024), x8 (ix2 k l) = b (ix2 (row n k) l)) :
    step x0 x1 x2 x3 x4 x5 x6 x7 x8 (firstTiles a0 a1 a2 a3 a4 a5 a6 a7 b n) = firstTiles a0 a1 a2 a3 a4 a5 a6 a7 b (n + 1) := by
  funext y
  refine (congrArg (firstTiles a0 a1 a2 a3 a4 a5 a6 a7 b n y + ·) (Finset.sum_congr rfl fun k _ => ?_)).trans (upto_succ _ _).symm
  refine congrArg₂ (fun u v : EReal => u * v) ?_ (e8 k (y 1))
  unfold tile
  simp only [e0, e1, e2, e3, e4, e5, e6, e7]

theorem fill_first : (k0_pay4 (F := Ideal)) = firstTiles a0 a1 a2 a3 a4 a5 a6 a7 b 0 := by
  funext y
  obtain ⟨r, l, rfl⟩ : ∃ (r : Fin 3328) (l : Fin 1024), y = ix2 r l := ⟨y 0, y 1, eq_ix2 y⟩
  pointwise [k0_pay4]
  rfl
end
end

variable (c : Dev nD) (i : grid0.Coords) (a1 : Memref sig .tc .vmem S512x1024 .bf16) (h1 : a1.IsWhole)
  (a2 : Memref sig .tc .vmem S512x1024 .bf16) (h2 : a2.IsWhole)
  (a3 : Memref sig .tc .vmem S512x512 .bf16) (h3 : a3.IsWhole)
  (a4 : Memref sig .tc .vmem S512x256 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S512x128 .bf16) (h7 : a7.IsWhole)
  (a8 : Memref sig .tc .vmem S512x128 .bf16) (h8 : a8.IsWhole)
  (a9 : Memref sig .tc .vmem S512x1024 .bf16) (h9 : a9.IsWhole)
  (a10 : Memref sig .tc .vmem S3328x1024 .bf16) (h10 : a10.IsWhole)
  (a11 : Memref sig .tc .vmem S3328x1024 .f32) (h11 : a11.IsWhole)
  (x0 x1 x2 x3 x4 x5 x6 x7 x8 : Vec Ideal S512x1024 .bf16) (x2 : Vec Ideal S512x512 .bf16) (x3 : Vec Ideal S512x256 .bf16) (x4 x5 x6 x7 : Vec Ideal S512x128 .bf16)
  (x8 : Vec Ideal S512x1024 .bf16) (acc : Vec Ideal S3328x1024 .f32)

theorem sout_A (hc0 : cond0_0 i) (hc1 : ¬cond0_1 i) :
    sout0_A_0 c i a1 h1 a2 h2 a3 h3 a4 h4 a5 h5 a6 h6 a7 h7 a8 h8 a9 h9 a10 h10 a11 h11 hc0 hc1 x0 x1 x2 x3 x4 x5 x6 x7 x8 = step x0 x1 x2 x3 x4 x5 x6 x7 x8 (k0_pay4 (F := Ideal)) := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6 x7 x8)]
  unfold kernelRun0_A
  dsimp only
  sl_unfold_words
  simp (disch := decide) only [↓View.readCov_skip, View.readCov_fill, View.readAt_eq_ld, h1.read_unread, h2.read_unread, h3.read_unread, h4.read_unread, h5.read_unread, h6.read_unread, h7.read_unread, h8.read_unread, h9.read_unread]
  exact canon_chunks x0 x1 x2 x3 x4 x5 x6 x7 x8 _ [_]

theorem sout_B (hc0 : ¬cond0_0 i) (hc1 : ¬cond0_1 i) :
    sout0_B_0 c i a1 h1 a2 h2 a3 h3 a4 h4 a5 h5 a6 h6 a7 h7 a8 h8 a9 h9 a10 h10 a11 h11 hc0 hc1 x0 x1 x2 x3 x4 x5 x6 x7 x8 acc = step x0 x1 x2 x3 x4 x5 x6 x7 x8 acc := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 x5 x6 x7 x8 acc)]
  unfold kernelRun0_B
  dsimp only
  sl_unfold_words
  simp only [View.readAt_eq_ld, h1.read_unread, h2.read_unread, h3.read_unread, h4.read_unread, h5.read_unread, h6.read_unread, h7.read_unread, h8.read_unread, h9.read_unread, h11.read_unread]
  exact canon_chunks x0 x1 x2 x3 x4 x5 x6 x7 x8 acc []

theorem out_C (hc0 : ¬cond0_0 i) (hc1 : cond0_1 i) :
    out0_C_9 c i a1 h1 a2 h2 a3 h3 a4 h4 a5 h5 a6 h6 a7 h7 a8 h8 a9 h9 a10 h10 a11 h11 hc0 hc1 x0 x1 x2 x3 x4 x5 x6 x7 x8 acc = k0_pay3 (step x0 x1 x2 x3 x4 x5 x6 x7 x8 acc) := by
  have hz : (![0, 0] : Fin 2 → ℕ) = fun _ => 0 := by decide
  unfold out0_C_9
  rw [View.read_writes_junk_eq_canon]
  unfold kernelRun0_C
  dsimp only
  sl_unfold_words
  simp only [View.readAt_eq_ld, h1.read_unread, h2.read_unread, h3.read_unread, h4.read_unread, h5.read_unread, h6.read_unread, h7.read_unread, h8.read_unread, h9.read_unread, h11.read_unread]
  refine (View.canon_cons_unit_zero hz _ _ _).trans ?_
  rw [View.readCov_eq_canon']
  exact congrArg k0_pay3 ((View.ld_unit_zero hz _ _).trans (canon_chunks x0 x1 x2 x3 x4 x5 x6 x7 x8 acc []))

end Cert.Kernel10Ideal.MixerInGrad
end
-- ==== Proof.Mixer.Grads.In.lean ====
/- The input weights' gradient: the result array is the reference's. -/
module

public import proofs.«01_k».proof.Proof.Mixer.Grads.InBody
public import proofs.«01_k».proof.Proof.Gen.Reference10Ideal.Read
public import Idealize.ShloMosaic.Lib.StableHlo.RunRead

@[expose] public section
noncomputable section
namespace Cert.Kernel10Ideal.MixerInGrad
open Cert.Kernel10Ideal Cert.Kernel10Ideal.Gen Cert.Kernel10Ideal.Value Cert.Tokens Cert.MixerPieces Idealize.ShloMosaic Idealize.ShloMosaic.TcCoe
open Idealize.SL.Sem Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![t.val, 0] :=
  (by decide +kernel : ∀ t : Fin grid0.N, _)
theorem index4 : ∀ t : Fin cfg0.N, win0_4.index t = ![t.val, 0] :=
  (by decide +kernel : ∀ t : Fin grid0.N, _)
theorem index5 : ∀ t : Fin cfg0.N, win0_5.index t = ![t.val, 0] :=
  (by decide +kernel : ∀ t : Fin grid0.N, _)
theorem index6 : ∀ t : Fin cfg0.N, win0_6.index t = ![t.val, 0] :=
  (by decide +kernel : ∀ t : Fin grid0.N, _)
theorem index7 : ∀ t : Fin cfg0.N, win0_7.index t = ![t.val, 0] :=
  (by decide +kernel : ∀ t : Fin grid0.N, _)
theorem index8 : ∀ t : Fin cfg0.N, win0_8.index t = ![t.val, 0] :=
  (by decide +kernel : ∀ t : Fin grid0.N, _)

theorem entry0 : V m c main_v0 = m (c, main_arg1) := by unfold V; after_reads_simp; rfl
theorem entry1 : V m c main_v1 = m (c, main_arg2) := by unfold V; after_reads_simp; rfl
theorem entry2 : V m c main_v2 = m (c, main_arg3) := by unfold V; after_reads_simp; rfl
theorem entry3 : V m c main_v3 = m (c, main_arg4) := by unfold V; after_reads_simp; rfl
theorem entry4 : V m c main_v4 = m (c, main_arg5) := by unfold V; after_reads_simp; rfl
theorem entry5 : V m c main_v5 = m (c, main_arg6) := by unfold V; after_reads_simp; rfl
theorem entry6 : V m c main_v6 = m (c, main_arg7) := by unfold V; after_reads_simp; rfl
theorem entry7 : V m c main_v7 = m (c, main_arg8) := by unfold V; after_reads_simp; rfl
theorem entry8 : V m c main_v8 = m (c, main_arg0) := by unfold V; after_reads_simp; rfl

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 1024) :
    iblk m c 0 t (ix2 k l) = m (c, main_arg1) (ix2 (row t.val k) l) := by
  rw [← entry0 m c, rowOf]; blk_simp [iblk]; congr 1; blk_ext [index0]
theorem blk1 (t : Fin cfg0.N) (k : Fin 512) (l : Fin 1024) :
    iblk m c 1 t (ix2 k l) = m (c, main_arg2) (ix2 (row t.val k) l) := by
  rw [← entry1 m c, rowOf]; blk_simp [iblk]; congr 1; blk_ext [index1]
theorem blk2 (t : Fin cfg0.N) (k : Fin 512) (l : Fin 512) :
    iblk m c 2 t (ix2 k l) = m (c, main_arg3) (ix2 (row t.val k) l) := by
  rw [← entry2 m c, rowOf]; blk_simp [iblk]; congr 1; blk_ext [index2]
theorem blk3 (t : Fin cfg0.N) (k : Fin 512) (l : Fin 256) :
    iblk m c 3 t (ix2 k l) = m (c, main_arg4) (ix2 (row t.val k) l) := by
  rw [← entry3 m c, rowOf]; blk_simp [iblk]; congr 1; blk_ext [index3]
theorem blk4 (t : Fin cfg0.N) (k : Fin 512) (l : Fin 128) :
    iblk m c 4 t (ix2 k l) = m (c, main_arg5) (ix2 (row t.val k) l) := by
  rw [← entry4 m c, rowOf]; blk_simp [iblk]; congr 1; blk_ext [index4]
theorem blk5 (t : Fin cfg0.N) (k : Fin 512) (l : Fin 128) :
    iblk m c 5 t (ix2 k l) = m (c, main_arg6) (ix2 (row t.val k) l) := by
  rw [← entry5 m c, rowOf]; blk_simp [iblk]; congr 1; blk_ext [index5]
theorem blk6 (t : Fin cfg0.N) (k : Fin 512) (l : Fin 128) :
    iblk m c 6 t (ix2 k l) = m (c, main_arg7) (ix2 (row t.val k) l) := by
  rw [← entry6 m c, rowOf]; blk_simp [iblk]; congr 1; blk_ext [index6]
theorem blk7 (t : Fin cfg0.N) (k : Fin 512) (l : Fin 128) :
    iblk m c 7 t (ix2 k l) = m (c, main_arg8) (ix2 (row t.val k) l) := by
  rw [← entry7 m c, rowOf]; blk_simp [iblk]; congr 1; blk_ext [index7]
theorem blk8 (t : Fin cfg0.N) (k : Fin 512) (l : Fin 1024) :
    iblk m c 8 t (ix2 k l) = m (c, main_arg0) (ix2 (row t.val k) l) := by
  rw [← entry8 m c, rowOf]; blk_simp [iblk]; congr 1; blk_ext [index8]

/-- The product over the first `n` tiles of the call's arguments. -/
abbrev upTo (n : ℕ) : Vec Ideal S3328x1024 .f32 :=
  firstTiles (m (c, main_arg1)) (m (c, main_arg2)) (m (c, main_arg3)) (m (c, main_arg4)) (m (c, main_arg5)) (m (c, main_arg6)) (m (c, main_arg7)) (m (c, main_arg8)) (m (c, main_arg0)) n

/-- The accumulator after tile `j`. -/
theorem acc_at (j : ℕ) (h : 0 + j < cfg0.N) (hj : j ≤ 6) :
    (Pipeline.accAt (fun n h => stAt0 m c n h junk0) (stAt0 m c) 0 j h).2
      = upTo m c (j + 1) := by
  refine fold_snd _ _ (upTo m c) 6 (fun h => ?_) (fun n h acc hn hJ e => ?_) j h hj
  · rw [stAt0_A m c ⟨0, h⟩ junk0 (by rfl) (by show ¬0 % 8 = 7; decide)]
    dsimp only
    rw [sout_A]
    refine (congrArg (step _ _ _ _ _ _ _ _ _) (fill_first (m (c, main_arg1)) (m (c, main_arg2)) (m (c, main_arg3)) (m (c, main_arg4)) (m (c, main_arg5)) (m (c, main_arg6)) (m (c, main_arg7)) (m (c, main_arg8)) (m (c, main_arg0)))).trans ?_
    exact step_first _ _ _ _ _ _ _ _ _ _ _ _ _ _ _ _ _ _ 0 (blk0 m c ⟨0, h⟩) (blk1 m c ⟨0, h⟩) (blk2 m c ⟨0, h⟩) (blk3 m c ⟨0, h⟩) (blk4 m c ⟨0, h⟩) (blk5 m c ⟨0, h⟩) (blk6 m c ⟨0, h⟩) (blk7 m c ⟨0, h⟩) (blk8 m c ⟨0, h⟩)
  · rw [stAt0_B m c ⟨n, h⟩ acc (by show ¬n % 8 = 0; omega) (by show ¬n % 8 = 7; omega)]
    dsimp only
    rw [sout_B, e]
    exact step_first _ _ _ _ _ _ _ _ _ _ _ _ _ _ _ _ _ _ n (blk0 m c ⟨n, h⟩) (blk1 m c ⟨n, h⟩) (blk2 m c ⟨n, h⟩) (blk3 m c ⟨n, h⟩) (blk4 m c ⟨n, h⟩) (blk5 m c ⟨n, h⟩) (blk6 m c ⟨n, h⟩) (blk7 m c ⟨n, h⟩) (blk8 m c ⟨n, h⟩)

/-- The result array: the product over all the tokens. -/
theorem arr : G9 m c = k0_pay3 (upTo m c 8) := by
  rw [G9_last, Pipeline.accAt_succ]
  refine (congrArg Prod.fst (stAt0_C m c ⟨7, lt_of_lt_of_eq (by decide) N_0.symm⟩ _ (by show ¬7 % 8 = 0; decide) (by rfl))).trans ?_
  dsimp only
  rw [out_C, acc_at m c 6 _ le_rfl]
  exact congrArg k0_pay3 (step_first _ _ _ _ _ _ _ _ _ _ _ _ _ _ _ _ _ _ 7 (blk0 m c ⟨7, _⟩) (blk1 m c ⟨7, _⟩) (blk2 m c ⟨7, _⟩) (blk3 m c ⟨7, _⟩) (blk4 m c ⟨7, _⟩) (blk5 m c ⟨7, _⟩) (blk6 m c ⟨7, _⟩) (blk7 m c ⟨7, _⟩) (blk8 m c ⟨7, _⟩))

open Cert.Reference10Ideal.Read in
theorem result_eq (h p0 p1 : FVec Ideal S4096x1024 .f32) (p2 : FVec Ideal S4096x512 .f32) (p3 : FVec Ideal S4096x256 .f32)
    (p4 p5 p6 p7 : FVec Ideal S4096x128 .f32) :
    k0_pay3 (firstTiles p0 p1 p2 p3 p4 p5 p6 p7 h 8) = val_main_v6 (F := Ideal) h p0 p1 p2 p3 p4 p5 p6 p7 := by
  funext i
  obtain ⟨r, l, rfl⟩ : ∃ (r : Fin 3328) (l : Fin 1024), i = ix2 r l := ⟨i 0, i 1, eq_ix2 i⟩
  rw [val_main_v6_apply, val_main_v5_apply, val_main_v4_apply, val_main_v3_apply]
  pointwise [k0_pay3]
  refine (upto_all _).trans ?_
  refine Finset.sum_congr rfl fun k _ => ?_
  have el : lidx_main_v3 (idx_main_v4 (idx_main_v5 (ix2 r l))) k = ix2 k r := eq_ix2 _
  have er : ridx_main_v3 (idx_main_v4 (idx_main_v5 (ix2 r l))) k = ix2 k l := eq_ix2 _
  rw [el, er, concat_at]
  rfl

end Cert.Kernel10Ideal.MixerInGrad
end
-- ==== Proof.Mixer.Grads.OutBody.lean ====
/- What one grid point of the output weights' gradient leaves in the accumulator and in the result. -/
module

public import proofs.«01_k».proof.Proof.Gen.Kernel11Ideal.Value
public import proofs.«01_k».proof.Proof.Tokens.Sum
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel11Ideal.MixerOutGrad
open Cert.Kernel11Ideal Cert.Kernel11Ideal.Gen Cert.Tokens Idealize.ShloMosaic Idealize.ShloMosaic.TcCoe Idealize.SL.Sem

section
variable (x0 : Vec Ideal S512x1024 .bf16) (x1 : Vec Ideal S512x1024 .bf16) (acc : Vec Ideal S1024x1024 .f32)

/-- The accumulator with one tile's product added. -/
def step : Vec Ideal S1024x1024 .f32 := fun y => acc y + ∑ k : Fin 512, x0 (ix2 k (y 0)) * x1 (ix2 k (y 1))

/-- A chunk of 512 rows, from row `o`. -/
theorem chunk (o : ℕ) (h) (h') (h'') (y : S512x1024.Idx) :
    (k0_pay2 (View.ld acc (Rect.unit (s := S1024x1024) ![o, 0] S512x1024.size h)) (View.ld x0 (Rect.unit (s := S512x1024) ![0, o] S512x512.size h'))
      (View.ld x1 (Rect.unit (s := S512x1024) ![0, 0] S512x1024.size h'')) y : EReal)
      = step x0 x1 acc ((Rect.unit (s := S1024x1024) ![o, 0] S512x1024.size h).emb y) := by
  obtain ⟨r, l, rfl⟩ : ∃ (r : Fin 512) (l : Fin 1024), y = ix2 r l := ⟨y 0, y 1, eq_ix2 y⟩
  show _ = View.ld (step x0 x1 acc) (Rect.unit (s := S1024x1024) ![o, 0] S512x1024.size h) (ix2 r l)
  pointwise [k0_pay2]
  rfl

/-- The stores of the chunks, the last first. -/
def chunks : List (View.Piece (Elt Ideal) S1024x1024 .f32) :=
  let f (o : ℕ) (h : ∀ a, (![o, 0] : Fin 2 → ℕ) a + S512x1024.size a ≤ S1024x1024.size a)
      (h' : ∀ a, (![0, o] : Fin 2 → ℕ) a + S512x512.size a ≤ S512x1024.size a) : View.Piece (Elt Ideal) S1024x1024 .f32 :=
    ⟨Rect.unit (s := S1024x1024) ![o, 0] S512x1024.size h,
      k0_pay2 (View.ld acc (Rect.unit (s := S1024x1024) ![o, 0] S512x1024.size h)) (View.ld x0 (Rect.unit (s := S512x1024) ![0, o] S512x512.size h'))
        (View.ld x1 (Rect.unit (s := S512x1024) ![0, 0] S512x1024.size (by decide)))⟩
  [f 512 (by decide) (by decide), f 0 (by decide) (by decide)]

theorem chunks_cover (y : S1024x1024.Idx) : ∃ p ∈ chunks x0 x1 acc, y ∈ p.1.set :=
  View.cover_of_tiledBy (chunks x0 x1 acc) ![512, 1024] (by sl_kernel_rfl) y

/-- Whatever was stored before, the chunks leave the accumulator with the tile's product added. -/
theorem canon_chunks (L : List (View.Piece (Elt Ideal) S1024x1024 .f32)) :
    View.canon (chunks x0 x1 acc ++ L) = step x0 x1 acc := by
  funext y
  refine View.canon_append_of_pieces (step x0 x1 acc) L _ ?_ y (chunks_cover x0 x1 acc y)
  unfold chunks
  simp only [List.forall_mem_cons, List.not_mem_nil, false_imp_iff, implies_true, and_true]
  exact ⟨chunk x0 x1 acc 512 _ _ _, chunk x0 x1 acc 0 _ _ _⟩

/-- The entry of the product over the first `n` tiles. -/
def firstTiles (a : FVec Ideal S4096x1024 .f32) (b : FVec Ideal S4096x1024 .f32) (n : ℕ) : Vec Ideal S1024x1024 .f32 :=
  fun y => Tokens.upto (fun k => a (ix2 k (y 0)) * b (ix2 k (y 1))) n

/-- One tile more. -/
theorem step_first (a : FVec Ideal S4096x1024 .f32) (b : FVec Ideal S4096x1024 .f32) (n : ℕ)
    (e0 : ∀ (k : Fin 512) (l : Fin 1024), x0 (ix2 k l) = a (ix2 (row n k) l))
    (e1 : ∀ (k : Fin 512) (l : Fin 1024), x1 (ix2 k l) = b (ix2 (row n k) l)) :
    step x0 x1 (firstTiles a b n) = firstTiles a b (n + 1) := by
  funext y
  refine (congrArg (firstTiles a b n y + ·) (Finset.sum_congr rfl fun k _ => ?_)).trans (upto_succ _ _).symm
  exact congrArg₂ (fun u v : EReal => u * v) (e0 k (y 0)) (e1 k (y 1))

theorem fill_first (a : FVec Ideal S4096x1024 .f32) (b : FVec Ideal S4096x1024 .f32) :
    (k0_pay1 (F := Ideal)) = firstTiles a b 0 := by
  funext y
  obtain ⟨r, l, rfl⟩ : ∃ (r : Fin 1024) (l : Fin 1024), y = ix2 r l := ⟨y 0, y 1, eq_ix2 y⟩
  pointwise [k0_pay1]
  rfl
end

variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S1024x1024 .bf16) (h3 : a3.IsWhole)
  (a4 : Memref sig .tc .vmem S1024x1024 .f32) (h4 : a4.IsWhole)
  (x0 : Vec Ideal S512x1024 .bf16) (x1 : Vec Ideal S512x1024 .bf16) (acc : Vec Ideal S1024x1024 .f32)

theorem sout_A (hc0 : cond0_0 i) (hc1 : ¬cond0_1 i) :
    sout0_A_0 c i a1 h1 a2 h2 a3 h3 a4 h4 hc0 hc1 x0 x1 = step x0 x1 (k0_pay1 (F := Ideal)) := by
  unfold sout0_A_0
  rw [View.read_writes_eq_canon _ _ _ (scover0_A_0 c i a1 h1 a2 h2 a3 h3 a4 h4 hc0 hc1 x0 x1)]
  unfold kernelRun0_A
  dsimp only
  sl_unfold_words
  simp (disch := decide) only [↓View.readCov_skip, View.readCov_fill, View.readAt_eq_ld, h1.read_unread, h2.read_unread]
  exact canon_chunks x0 x1 _ [_]

theorem sout_B (hc0 : ¬cond0_0 i) (hc1 : ¬cond0_1 i) :
    sout0_B_0 c i a1 h1 a2 h2 a3 h3 a4 h4 hc0 hc1 x0 x1 acc = step x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  simp only [View.readAt_eq_ld, h1.read_unread, h2.read_unread, h4.read_unread]
  exact canon_chunks x0 x1 acc []

theorem out_C (hc0 : ¬cond0_0 i) (hc1 : cond0_1 i) :
    out0_C_2 c i a1 h1 a2 h2 a3 h3 a4 h4 hc0 hc1 x0 x1 acc = k0_pay4 (step x0 x1 acc) := by
  have hz : (![0, 0] : Fin 2 → ℕ) = fun _ => 0 := by decide
  unfold out0_C_2
  rw [View.read_writes_junk_eq_canon]
  unfold kernelRun0_C
  dsimp only
  sl_unfold_words
  simp only [View.readAt_eq_ld, h1.read_unread, h2.read_unread, h4.read_unread]
  refine (View.canon_cons_unit_zero hz _ _ _).trans ?_
  rw [View.readCov_eq_canon']
  exact congrArg k0_pay4 ((View.ld_unit_zero hz _ _).trans (canon_chunks x0 x1 acc []))

end Cert.Kernel11Ideal.MixerOutGrad
end
-- ==== Proof.Mixer.Grads.Out.lean ====
/- The output weights' gradient: the result array is the reference's. -/
module

public import proofs.«01_k».proof.Proof.Mixer.Grads.OutBody
public import proofs.«01_k».proof.Proof.Gen.Reference11Ideal.Read
public import Idealize.ShloMosaic.Lib.StableHlo.RunRead

@[expose] public section
noncomputable section
namespace Cert.Kernel11Ideal.MixerOutGrad
open Cert.Kernel11Ideal Cert.Kernel11Ideal.Gen Cert.Kernel11Ideal.Value Cert.Tokens Idealize.ShloMosaic Idealize.ShloMosaic.TcCoe
open Idealize.SL.Sem Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)

theorem entry0 : V m c main_v0 = m (c, main_arg0) := by unfold V; after_reads_simp; rfl
theorem entry1 : V m c main_v1 = m (c, main_arg1) := by unfold V; after_reads_simp; rfl

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 1024) :
    iblk m c 0 t (ix2 k l) = m (c, main_arg0) (ix2 (row t.val k) l) := by
  rw [← entry0 m c, rowOf]; blk_simp [iblk]; congr 1; blk_ext [index0]
theorem blk1 (t : Fin cfg0.N) (k : Fin 512) (l : Fin 1024) :
    iblk m c 1 t (ix2 k l) = m (c, main_arg1) (ix2 (row t.val k) l) := by
  rw [← entry1 m c, rowOf]; blk_simp [iblk]; congr 1; blk_ext [index1]

/-- The accumulator after tile `j`. -/
theorem acc_at (j : ℕ) (h : 0 + j < cfg0.N) (hj : j ≤ 6) :
    (Pipeline.accAt (fun n h => stAt0 m c n h junk0) (stAt0 m c) 0 j h).2
      = firstTiles (m (c, main_arg0)) (m (c, main_arg1)) (j + 1) := by
  refine fold_snd _ _ (firstTiles (m (c, main_arg0)) (m (c, main_arg1))) 6 (fun h => ?_) (fun n h acc hn hJ e => ?_) j h hj
  · rw [stAt0_A m c ⟨0, h⟩ junk0 (by rfl) (by show ¬0 % 8 = 7; decide)]
    dsimp only
    rw [sout_A]
    refine (congrArg (step _ _) (fill_first (m (c, main_arg0)) (m (c, main_arg1)))).trans ?_
    exact step_first _ _ _ _ 0 (blk0 m c ⟨0, h⟩) (blk1 m c ⟨0, h⟩)
  · rw [stAt0_B m c ⟨n, h⟩ acc (by show ¬n % 8 = 0; omega) (by show ¬n % 8 = 7; omega)]
    dsimp only
    rw [sout_B, e]
    exact step_first _ _ _ _ n (blk0 m c ⟨n, h⟩) (blk1 m c ⟨n, h⟩)

/-- The result array: the product over all the tokens. -/
theorem arr : G2 m c = k0_pay4 (firstTiles (m (c, main_arg0)) (m (c, main_arg1)) 8) := by
  rw [G2_last, Pipeline.accAt_succ]
  refine (congrArg Prod.fst (stAt0_C m c ⟨7, lt_of_lt_of_eq (by decide) N_0.symm⟩ _ (by show ¬7 % 8 = 0; decide) (by rfl))).trans ?_
  dsimp only
  rw [out_C, acc_at m c 6 _ le_rfl]
  exact congrArg k0_pay4 (step_first _ _ _ _ 7 (blk0 m c ⟨7, _⟩) (blk1 m c ⟨7, _⟩))

open Cert.Reference11Ideal.Read in
theorem result_eq (o dy : FVec Ideal S4096x1024 .f32) : k0_pay4 (firstTiles o dy 8) = val_main_v4 (F := Ideal) o dy := by
  funext i
  obtain ⟨r, l, rfl⟩ : ∃ (r : Fin 1024) (l : Fin 1024), i = ix2 r l := ⟨i 0, i 1, eq_ix2 i⟩
  rw [val_main_v4_apply, val_main_v3_apply, val_main_v2_apply]
  pointwise [k0_pay4]
  refine (upto_all _).trans ?_
  refine Finset.sum_congr rfl fun k _ => ?_
  have eo : ridx_main_v2 (idx_main_v3 (ix2 r l)) k = ix2 k r := eq_ix2 _
  have ed : lidx_main_v2 (idx_main_v3 (ix2 r l)) k = ix2 k l := eq_ix2 _
  rw [eo, ed]
  exact mul_comm _ _

end Cert.Kernel11Ideal.MixerOutGrad
end
-- ==== Proof.Mixer.Grads.BranchBody.lean ====
/- What one grid point of the first branch's weights' gradient leaves in the accumulator and in the result. -/
module

public import proofs.«01_k».proof.Proof.Gen.Kernel12Ideal.Value
public import proofs.«01_k».proof.Proof.Tokens.Sum
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel12Ideal.MixerBranchGrad
open Cert.Kernel12Ideal Cert.Kernel12Ideal.Gen Cert.Tokens Idealize.ShloMosaic Idealize.ShloMosaic.TcCoe Idealize.SL.Sem

section
variable (x0 : Vec Ideal S512x1024 .bf16) (x1 : Vec Ideal S512x512 .bf16) (acc : Vec Ideal S1024x512 .f32)

/-- The accumulator with one tile's product added. -/
def step : Vec Ideal S1024x512 .f32 := fun y => acc y + ∑ k : Fin 512, x0 (ix2 k (y 0)) * x1 (ix2 k (y 1))

/-- A chunk of 512 rows, from row `o`. -/
theorem chunk (o : ℕ) (h) (h') (h'') (y : S512x512.Idx) :
    (k0_pay2 (View.ld acc (Rect.unit (s := S1024x512) ![o, 0] S512x512.size h)) (View.ld x0 (Rect.unit (s := S512x1024) ![0, o] S512x512.size h'))
      (View.ld x1 (Rect.unit (s := S512x512) ![0, 0] S512x512.size h'')) y : EReal)
      = step x0 x1 acc ((Rect.unit (s := S1024x512) ![o, 0] S512x512.size h).emb y) := by
  obtain ⟨r, l, rfl⟩ : ∃ (r : Fin 512) (l : Fin 512), y = ix2 r l := ⟨y 0, y 1, eq_ix2 y⟩
  show _ = View.ld (step x0 x1 acc) (Rect.unit (s := S1024x512) ![o, 0] S512x512.size h) (ix2 r l)
  pointwise [k0_pay2]
  rfl

/-- The stores of the chunks, the last first. -/
def chunks : List (View.Piece (Elt Ideal) S1024x512 .f32) :=
  let f (o : ℕ) (h : ∀ a, (![o, 0] : Fin 2 → ℕ) a + S512x512.size a ≤ S1024x512.size a)
      (h' : ∀ a, (![0, o] : Fin 2 → ℕ) a + S512x512.size a ≤ S512x1024.size a) : View.Piece (Elt Ideal) S1024x512 .f32 :=
    ⟨Rect.unit (s := S1024x512) ![o, 0] S512x512.size h,
      k0_pay2 (View.ld acc (Rect.unit (s := S1024x512) ![o, 0] S512x512.size h)) (View.ld x0 (Rect.unit (s := S512x1024) ![0, o] S512x512.size h'))
        (View.ld x1 (Rect.unit (s := S512x512) ![0, 0] S512x512.size (by decide)))⟩
  [f 512 (by decide) (by decide), f 0 (by decide) (by decide)]

theorem chunks_cover (y : S1024x512.Idx) : ∃ p ∈ chunks x0 x1 acc, y ∈ p.1.set :=
  View.cover_of_tiledBy (chunks x0 x1 acc) ![512, 512] (by sl_kernel_rfl) y

/-- Whatever was stored before, the chunks leave the accumulator with the tile's product added. -/
theorem canon_chunks (L : List (View.Piece (Elt Ideal) S1024x512 .f32)) :
    View.canon (chunks x0 x1 acc ++ L) = step x0 x1 acc := by
  funext y
  refine View.canon_append_of_pieces (step x0 x1 acc) L _ ?_ y (chunks_cover x0 x1 acc y)
  unfold chunks
  simp only [List.forall_mem_cons, List.not_mem_nil, false_imp_iff, implies_true, and_true]
  exact ⟨chunk x0 x1 acc 512 _ _ _, chunk x0 x1 acc 0 _ _ _⟩

/-- The entry of the product over the first `n` tiles. -/
def firstTiles (a : FVec Ideal S4096x1024 .f32) (b : FVec Ideal S4096x512 .f32) (n : ℕ) : Vec Ideal S1024x512 .f32 :=
  fun y => Tokens.upto (fun k => a (ix2 k (y 0)) * b (ix2 k (y 1))) n

/-- One tile more. -/
theorem step_first (a : FVec Ideal S4096x1024 .f32) (b : FVec Ideal S4096x512 .f32) (n : ℕ)
    (e0 : ∀ (k : Fin 512) (l : Fin 1024), x0 (ix2 k l) = a (ix2 (row n k) l))
    (e1 : ∀ (k : Fin 512) (l : Fin 512), x1 (ix2 k l) = b (ix2 (row n k) l)) :
    step x0 x1 (firstTiles a b n) = firstTiles a b (n + 1) := by
  funext y
  refine (congrArg (firstTiles a b n y + ·) (Finset.sum_congr rfl fun k _ => ?_)).trans (upto_succ _ _).symm
  exact congrArg₂ (fun u v : EReal => u * v) (e0 k (y 0)) (e1 k (y 1))

theorem fill_first (a : FVec Ideal S4096x1024 .f32) (b : FVec Ideal S4096x512 .f32) :
    (k0_pay1 (F := Ideal)) = firstTiles a b 0 := by
  funext y
  obtain ⟨r, l, rfl⟩ : ∃ (r : Fin 1024) (l : Fin 512), y = ix2 r l := ⟨y 0, y 1, eq_ix2 y⟩
  pointwise [k0_pay1]
  rfl
end

variable (c : Dev nD) (i : grid0.Coords) (a1 : Memref sig .tc .vmem S512x1024 .bf16) (h1 : a1.IsWhole)
  (a2 : Memref sig .tc .vmem S512x512 .bf16) (h2 : a2.IsWhole) (a3 : Memref sig .tc .vmem S1024x512 .bf16) (h3 : a3.IsWhole)
  (a4 : Memref sig .tc .vmem S1024x512 .f32) (h4 : a4.IsWhole)
  (x0 : Vec Ideal S512x1024 .bf16) (x1 : Vec Ideal S512x512 .bf16) (acc : Vec Ideal S1024x512 .f32)

theorem sout_A (hc0 : cond0_0 i) (hc1 : ¬cond0_1 i) :
    sout0_A_0 c i a1 h1 a2 h2 a3 h3 a4 h4 hc0 hc1 x0 x1 = step x0 x1 (k0_pay1 (F := Ideal)) := by
  unfold sout0_A_0
  rw [View.read_writes_eq_canon _ _ _ (scover0_A_0 c i a1 h1 a2 h2 a3 h3 a4 h4 hc0 hc1 x0 x1)]
  unfold kernelRun0_A
  dsimp only
  sl_unfold_words
  simp (disch := decide) only [↓View.readCov_skip, View.readCov_fill, View.readAt_eq_ld, h1.read_unread, h2.read_unread]
  exact canon_chunks x0 x1 _ [_]

theorem sout_B (hc0 : ¬cond0_0 i) (hc1 : ¬cond0_1 i) :
    sout0_B_0 c i a1 h1 a2 h2 a3 h3 a4 h4 hc0 hc1 x0 x1 acc = step x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  simp only [View.readAt_eq_ld, h1.read_unread, h2.read_unread, h4.read_unread]
  exact canon_chunks x0 x1 acc []

theorem out_C (hc0 : ¬cond0_0 i) (hc1 : cond0_1 i) :
    out0_C_2 c i a1 h1 a2 h2 a3 h3 a4 h4 hc0 hc1 x0 x1 acc = k0_pay4 (step x0 x1 acc) := by
  have hz : (![0, 0] : Fin 2 → ℕ) = fun _ => 0 := by decide
  unfold out0_C_2
  rw [View.read_writes_junk_eq_canon]
  unfold kernelRun0_C
  dsimp only
  sl_unfold_words
  simp only [View.readAt_eq_ld, h1.read_unread, h2.read_unread, h4.read_unread]
  refine (View.canon_cons_unit_zero hz _ _ _).trans ?_
  rw [View.readCov_eq_canon']
  exact congrArg k0_pay4 ((View.ld_unit_zero hz _ _).trans (canon_chunks x0 x1 acc []))

end Cert.Kernel12Ideal.MixerBranchGrad
end
-- ==== Proof.Mixer.Grads.Branch.lean ====
/- The first branch's weights' gradient: the result array is the reference's. -/
module

public import proofs.«01_k».proof.Proof.Mixer.Grads.BranchBody
public import proofs.«01_k».proof.Proof.Gen.Reference12Ideal.Read
public import Idealize.ShloMosaic.Lib.StableHlo.RunRead

@[expose] public section
noncomputable section
namespace Cert.Kernel12Ideal.MixerBranchGrad
open Cert.Kernel12Ideal Cert.Kernel12Ideal.Gen Cert.Kernel12Ideal.Value Cert.Tokens Idealize.ShloMosaic Idealize.ShloMosaic.TcCoe
open Idealize.SL.Sem Idealize.ShloMosaic.StableHlo

variable (m : (ℓ : Loc nD τ sig) → Buf (Elt Ideal) ℓ) (c : Dev nD)

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)

theorem entry0 : V m c main_v0 = m (c, main_arg1) := by unfold V; after_reads_simp; rfl
theorem entry1 : V m c main_v1 = m (c, main_arg0) := by unfold V; after_reads_simp; rfl

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 1024) :
    iblk m c 0 t (ix2 k l) = m (c, main_arg1) (ix2 (row t.val k) l) := by
  rw [← entry0 m c, rowOf]; blk_simp [iblk]; congr 1; blk_ext [index0]
theorem blk1 (t : Fin cfg0.N) (k : Fin 512) (l : Fin 512) :
    iblk m c 1 t (ix2 k l) = m (c, main_arg0) (ix2 (row t.val k) l) := by
  rw [← entry1 m c, rowOf]; blk_simp [iblk]; congr 1; blk_ext [index1]

/-- The accumulator after tile `j`. -/
theorem acc_at (j : ℕ) (h : 0 + j < cfg0.N) (hj : j ≤ 6) :
    (Pipeline.accAt (fun n h => stAt0 m c n h junk0) (stAt0 m c) 0 j h).2
      = firstTiles (m (c, main_arg1)) (m (c, main_arg0)) (j + 1) := by
  refine fold_snd _ _ (firstTiles (m (c, main_arg1)) (m (c, main_arg0))) 6 (fun h => ?_) (fun n h acc hn hJ e => ?_) j h hj
  · rw [stAt0_A m c ⟨0, h⟩ junk0 (by rfl) (by show ¬0 % 8 = 7; decide)]
    dsimp only
    rw [sout_A]
    refine (congrArg (step _ _) (fill_first (m (c, main_arg1)) (m (c, main_arg0)))).trans ?_
    exact step_first _ _ _ _ 0 (blk0 m c ⟨0, h⟩) (blk1 m c ⟨0, h⟩)
  · rw [stAt0_B m c ⟨n, h⟩ acc (by show ¬n % 8 = 0; omega) (by show ¬n % 8 = 7; omega)]
    dsimp only
    rw [sout_B, e]
    exact step_first _ _ _ _ n (blk0 m c ⟨n, h⟩) (blk1 m c ⟨n, h⟩)

/-- The result array: the product over all the tokens. -/
theorem arr : G2 m c = k0_pay4 (firstTiles (m (c, main_arg1)) (m (c, main_arg0)) 8) := by
  rw [G2_last, Pipeline.accAt_succ]
  refine (congrArg Prod.fst (stAt0_C m c ⟨7, lt_of_lt_of_eq (by decide) N_0.symm⟩ _ (by show ¬7 % 8 = 0; decide) (by rfl))).trans ?_
  dsimp only
  rw [out_C, acc_at m c 6 _ le_rfl]
  exact congrArg k0_pay4 (step_first _ _ _ _ 7 (blk0 m c ⟨7, _⟩) (blk1 m c ⟨7, _⟩))

open Cert.Reference12Ideal.Read in
theorem result_eq (o : FVec Ideal S4096x512 .f32) (dy : FVec Ideal S4096x1024 .f32) :
    k0_pay4 (firstTiles dy o 8) = val_main_v5 (F := Ideal) o dy := by
  funext i
  obtain ⟨r, l, rfl⟩ : ∃ (r : Fin 1024) (l : Fin 512), i = ix2 r l := ⟨i 0, i 1, eq_ix2 i⟩
  rw [val_main_v5_apply, val_main_v4_apply, val_main_v3_apply, val_main_v2_apply]
  pointwise [k0_pay4]
  refine (upto_all _).trans ?_
  refine Finset.sum_congr rfl fun k _ => ?_
  exact congrArg₂ (fun u v : EReal => u * v) (congrArg dy (eq_ix2 (lidx_main_v2 (idx_main_v3 (idx_main_v4 (ix2 r l))) k)).symm)
    (congrArg o (eq_ix2 (ridx_main_v2 (idx_main_v3 (idx_main_v4 (ix2 r l))) k)).symm)

end Cert.Kernel12Ideal.MixerBranchGrad
end
-- ==== Proof.Mixer.Grads.Claims.lean ====
/- The claims about the mixer's products over the tokens: the gradients of its input, output and branch weights. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Mixer.Grads.In
public import proofs.«01_k».proof.Proof.Mixer.Grads.Out
public import proofs.«01_k».proof.Proof.Mixer.Grads.Branch

@[expose] public section
noncomputable section
open Idealize.ShloMosaic Idealize.SL.Sem

namespace Cert.Proof.MixerInGrad

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem preserves : Cert.preserves_Kernel10_Kernel10Ideal := trivial

/-- The kernel's array is the reference's. -/
theorem algebraic : Cert.algebraic_Kernel10Ideal_Reference10Ideal := by
  intro m ρ m' ρ' _ hagree
  refine ⟨_, Cert.Kernel10Ideal.Value.run (F := Ideal) m ρ, ?_⟩
  refine (θ_run Cert.Reference10Ideal.defs _ _).mono (fun _ h c => ?_) (Cert.Reference10Ideal.Value.run (F := Ideal) m' ρ')
  obtain ⟨h0, hargs⟩ := h c
  obtain ⟨a0, a1, a2, a3, a4, a5, a6, a7, a8⟩ := hagree c
  refine ⟨h0.trans ?_, hargs⟩
  rw [Cert.Reference10Ideal.Read.val_main_v6_eq, a0, a1, a2, a3, a4, a5, a6, a7, a8, Cert.Kernel10Ideal.MixerInGrad.arr]
  exact (Cert.Kernel10Ideal.MixerInGrad.result_eq _ _ _ _ _ _ _ _ _).symm

end Cert.Proof.MixerInGrad

namespace Cert.Proof.MixerOutGrad

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

theorem preserves : Cert.preserves_Kernel11_Kernel11Ideal := trivial

/-- The kernel's array is the reference's. -/
theorem algebraic : Cert.algebraic_Kernel11Ideal_Reference11Ideal := by
  intro m ρ m' ρ' _ hagree
  refine ⟨_, Cert.Kernel11Ideal.Value.run (F := Ideal) m ρ, ?_⟩
  refine (θ_run Cert.Reference11Ideal.defs _ _).mono (fun _ h c => ?_) (Cert.Reference11Ideal.Value.run (F := Ideal) m' ρ')
  obtain ⟨h0, hargs⟩ := h c
  obtain ⟨a0, a1⟩ := hagree c
  refine ⟨h0.trans ?_, hargs⟩
  rw [Cert.Reference11Ideal.Read.val_main_v4_eq, a0, a1, Cert.Kernel11Ideal.MixerOutGrad.arr]
  exact (Cert.Kernel11Ideal.MixerOutGrad.result_eq _ _).symm

end Cert.Proof.MixerOutGrad

namespace Cert.Proof.MixerBranchGrad

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem preserves : Cert.preserves_Kernel12_Kernel12Ideal := trivial

/-- The kernel's array is the reference's. -/
theorem algebraic : Cert.algebraic_Kernel12Ideal_Reference12Ideal := by
  intro m ρ m' ρ' _ hagree
  refine ⟨_, Cert.Kernel12Ideal.Value.run (F := Ideal) m ρ, ?_⟩
  refine (θ_run Cert.Reference12Ideal.defs _ _).mono (fun _ h c => ?_) (Cert.Reference12Ideal.Value.run (F := Ideal) m' ρ')
  obtain ⟨h0, hargs⟩ := h c
  obtain ⟨a0, a1⟩ := hagree c
  refine ⟨h0.trans ?_, hargs⟩
  rw [Cert.Reference12Ideal.Read.val_main_v5_eq, a0, a1, Cert.Kernel12Ideal.MixerBranchGrad.arr]
  exact (Cert.Kernel12Ideal.MixerBranchGrad.result_eq _ _).symm

end Cert.Proof.MixerBranchGrad

end
-- ==== Proof.Mixer.In.Body.lean ====
/- What one grid point of the forward call through the norm and the input projection leaves in its two results. -/
module

public import proofs.«01_k».proof.Proof.Gen.Kernel13Ideal.Value
public import proofs.«01_k».proof.Proof.Macaron.Norm
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel13Ideal.MixerIn
open Cert.Kernel13Ideal Cert.Kernel13Ideal.Gen Idealize.ShloMosaic Idealize.ShloMosaic.TcCoe Idealize.SL.Sem Cert.Macaron

section
variable (x : Vec Ideal S512x1024 .f32) (g : Vec Ideal S1x1024 .f32) (w : Vec Ideal S3328x1024 .bf16)

/-- The normalised input. -/
def nn : Vec Ideal S512x1024 .bf16 := fun i => x i * rs (fun k => x (ix2 (i 0) k)) * g (ix2 0 (i 1))
/-- Its product with the weight. -/
def prod : Vec Ideal S512x3328 .f32 := fun i => ∑ k : Fin 1024, nn x g (ix2 (i 0) k) * w (ix2 (i 1) k)

theorem norm_at : k0_pay5 x g = nn x g := by
  funext y
  obtain ⟨r, l, rfl⟩ : ∃ (r : Fin 512) (l : Fin 1024), y = ix2 r l := ⟨y 0, y 1, eq_ix2 y⟩
  pointwise [k0_pay5]
  rfl

theorem zero2 : (![0, 0] : Fin 2 → ℕ) = fun _ => 0 := by decide
theorem whole_tile {e : EltTy} (x : Vec Ideal S512x1024 e) (h) :
    View.ld x (Rect.unit (s := S512x1024) ![0, 0] ![512, 1024] h) = x := View.ld_unit_zero zero2 h x
theorem whole_row (x : Vec Ideal S1x1024 .f32) (h) :
    View.ld x (Rect.unit (s := S1x1024) ![0, 0] ![1, 1024] h) = x := View.ld_unit_zero zero2 h x

/-- 512 columns of the product, from column `c`. -/
theorem piece (c : ℕ) (h) (h') (y : S512x512.Idx) :
    (k0_pay1 (k0_pay5 x g) (View.ld w (Rect.unit (s := S3328x1024) ![c, 0] S512x1024.size h)) y : EReal)
      = prod x g w ((Rect.unit (s := S512x3328) ![0, c] S512x512.size h').emb y) := by
  obtain ⟨r, l, rfl⟩ : ∃ (r : Fin 512) (l : Fin 512), y = ix2 r l := ⟨y 0, y 1, eq_ix2 y⟩
  show _ = View.ld (prod x g w) (Rect.unit (s := S512x3328) ![0, c] S512x512.size h') (ix2 r l)
  rw [norm_at]
  pointwise [k0_pay1]
  rfl

/-- The last 256 columns. -/
theorem piece_last (h) (h') (y : S512x256.Idx) :
    (k0_pay4 (k0_pay5 x g) (View.ld w (Rect.unit (s := S3328x1024) ![3072, 0] S256x1024.size h)) y : EReal)
      = prod x g w ((Rect.unit (s := S512x3328) ![0, 3072] S512x256.size h').emb y) := by
  obtain ⟨r, l, rfl⟩ : ∃ (r : Fin 512) (l : Fin 256), y = ix2 r l := ⟨y 0, y 1, eq_ix2 y⟩
  show _ = View.ld (prod x g w) (Rect.unit (s := S512x3328) ![0, 3072] S512x256.size h') (ix2 r l)
  rw [norm_at]
  pointwise [k0_pay4]
  rfl
end

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S3328x1024 .bf16) (h3 : a3.IsWhole)
  (a4 : Memref sig .tc .vmem S512x1024 .bf16) (h4 : a4.IsWhole) (a5 : Memref sig .tc .vmem S512x3328 .f32) (h5 : a5.IsWhole)
  (x : Vec Ideal S512x1024 .f32) (g : Vec Ideal S1x1024 .f32) (w : Vec Ideal S3328x1024 .bf16)

theorem out_n : out0_A_3 c i a1 h1 a2 h2 a3 h3 a4 h4 a5 h5 x g w = nn x g := by
  unfold out0_A_3
  rw [View.read_writes_junk_eq_canon]
  unfold kernelRun0_A
  dsimp only
  sl_unfold_words
  simp only [View.readAt_eq_ld, h1.read_unread, h2.read_unread, h3.read_unread]
  refine (View.canon_cons_unit_zero zero2 _ _ _).trans ?_
  simp only [whole_tile, whole_row]
  exact norm_at x g

theorem out_p : out0_A_4 c i a1 h1 a2 h2 a3 h3 a4 h4 a5 h5 x g w = prod x g w := by
  unfold out0_A_4
  rw [View.read_writes_junk_eq_canon]
  funext y
  refine View.canon_apply_of_pieces (prod x g w) _ ?_ y (cover0_A_4 c i a1 h1 a2 h2 a3 h3 a4 h4 a5 h5 x g w y)
  unfold kernelRun0_A
  dsimp only
  sl_unfold_words
  simp only [View.readAt_eq_ld, h1.read_unread, h2.read_unread, h3.read_unread, whole_tile, whole_row, List.forall_mem_cons, List.not_mem_nil,
    false_imp_iff, implies_true, and_true]
  exact ⟨piece_last x g w _ _, piece x g w 2560 _ _, piece x g w 2048 _ _, piece x g w 1536 _ _, piece x g w 1024 _ _, piece x g w 512 _ _,
    piece x g w 0 _ _⟩

end Cert.Kernel13Ideal.MixerIn
end
-- ==== Proof.Mixer.In.Array.lean ====
/- The two result arrays of the forward call through the norm and the input projection, from the arguments of the program. -/
module

public import proofs.«01_k».proof.Proof.Mixer.In.Body
public import Idealize.ShloMosaic.Lib.Pipeline.ValueKit
public import Idealize.ShloMosaic.Lib.StableHlo.RunRead

@[expose] public section
noncomputable section
namespace Cert.Kernel13Ideal.MixerIn
open Cert.Kernel13Ideal Cert.Kernel13Ideal.Gen Idealize.ShloMosaic Idealize.ShloMosaic.TcCoe Idealize.SL.Sem Cert.Macaron
open Idealize.ShloMosaic.StableHlo

/-! ## The whole arrays -/

section
variable (x : FVec Ideal S4096x1024 .f32) (g : FVec Ideal S1024 .f32) (w : FVec Ideal S1024x3328 .f32)

/-- The normalised input. -/
def wholeN : FVec Ideal S4096x1024 .bf16 := fun i => x i * rs (fun k => x (ix2 (i 0) k)) * g (ix1 (i 1))
/-- Its product with the weight. -/
def wholeP : FVec Ideal S4096x3328 .f32 := fun i =>
  ∑ k : Fin 1024, wholeN x g (ix2 (i 0) k) * w (ix2 k (i 1))
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_x : V m c main_arg0 = m (c, main_arg0) := by unfold V; after_reads_simp
theorem entry_g (k : Fin 1024) : V m c main_v0 (ix2 0 k) = m (c, main_arg1) (ix1 k) := by
  unfold V; after_reads_simp; pointwise []
theorem entry_w (k : Fin 3328) (l : Fin 1024) : V m c main_v2 (ix2 k l) = m (c, main_arg2) (ix2 l k) := by
  unfold V; after_reads_simp; pointwise []

theorem blk0 (t : Fin cfg0.N) (r : Fin 512) (k : Fin 1024) : iblk m c 0 t (ix2 r k) = m (c, main_arg0) (ix2 (row t r) k) := by
  rw [← entry_x m c]; blk_simp [iblk]; congr 1; blk_ext [index0, row]
theorem blk1 (t : Fin cfg0.N) (k : Fin 1024) : iblk m c 1 t (ix2 0 k) = m (c, main_arg1) (ix1 k) := by
  rw [← entry_g m c]; blk_simp [iblk]; congr 1; blk_ext [index1]
theorem blk2 (t : Fin cfg0.N) (k : Fin 3328) (l : Fin 1024) : iblk m c 2 t (ix2 k l) = m (c, main_arg2) (ix2 l k) := by
  rw [← entry_w m c]; blk_simp [iblk]; congr 1; blk_ext [index2]

/-- Where a row of a tile lies in the array. -/
theorem place3 (t : Fin cfg0.N) (r : Fin 512) (l : Fin 1024) : ((cfg0.win 3).blk t).view.emb (ix2 r l) = ix2 (row t r) l := by
  funext a; apply Fin.ext
  match a with
  | ⟨0, _⟩ => blk_simp [index3, row]
  | ⟨1, _⟩ => blk_simp [index3, row]
theorem place4 (t : Fin cfg0.N) (r : Fin 512) (l : Fin 3328) : ((cfg0.win 4).blk t).view.emb (ix2 r l) = ix2 (row t r) l := by
  funext a; apply Fin.ext
  match a with
  | ⟨0, _⟩ => blk_simp [index4, row]
  | ⟨1, _⟩ => blk_simp [index4, row]

/-! ## A tile's part of them -/

section
variable (t : Fin cfg0.N) (x : FVec Ideal S4096x1024 .f32) (g : FVec Ideal S1024 .f32) (w : FVec Ideal S1024x3328 .f32)
  (x0 : Vec Ideal S512x1024 .f32) (x1 : Vec Ideal S1x1024 .f32) (x2 : Vec Ideal S3328x1024 .bf16)
  (e0 : ∀ r k, (x0 (ix2 r k) : EReal) = x (ix2 (row t r) k)) (e1 : ∀ k, (x1 (ix2 0 k) : EReal) = g (ix1 k))
  (e2 : ∀ k l, (x2 (ix2 k l) : EReal) = w (ix2 l k))
include e0 e1

theorem n_row (r : Fin 512) (l : Fin 1024) : nn x0 x1 (ix2 r l) = wholeN x g (ix2 (row t r) l) := by
  show (x0 (ix2 r l) * rs (fun k => x0 (ix2 r k)) * x1 (ix2 0 l) : EReal) = _
  simp only [e0, e1]
  rfl
include e2
theorem p_row (r : Fin 512) (l : Fin 3328) : prod x0 x1 x2 (ix2 r l) = wholeP x g w (ix2 (row t r) l) := by
  show (∑ k : Fin 1024, nn x0 x1 (ix2 r k) * x2 (ix2 l k) : EReal) = _
  simp only [n_row t x g x0 x1 e0 e1, e2]
  rfl
end

/-- The first result array. -/
theorem arr3 : (dats m 0 c).arrAt 3 cfg0.N = wholeN (m (c, main_arg0)) (m (c, main_arg1)) := by
  refine (dats m 0 c).arrAt_eq_of_covers 3 _ (by decide +kernel) fun t hf y => ?_
  obtain ⟨r, l, rfl⟩ : ∃ (r : Fin 512) (l : Fin 1024), y = ix2 r l := ⟨y 0, y 1, eq_ix2 y⟩
  rw [place3]
  blk_simp
  rw [after0_3]
  unfold outsAt0
  dsimp only
  rw [out_n]
  exact n_row t _ _ _ _ (blk0 m c t) (blk1 m c t) r l

/-- The second result array. -/
theorem arr4 : (dats m 0 c).arrAt 4 cfg0.N = wholeP (m (c, main_arg0)) (m (c, main_arg1)) (m (c, main_arg2)) := by
  refine (dats m 0 c).arrAt_eq_of_covers 4 _ (by decide +kernel) fun t hf y => ?_
  obtain ⟨r, l, rfl⟩ : ∃ (r : Fin 512) (l : Fin 3328), y = ix2 r l := ⟨y 0, y 1, eq_ix2 y⟩
  rw [place4]
  blk_simp
  rw [after0_4]
  unfold outsAt0
  dsimp only
  rw [out_p]
  exact p_row t _ _ _ _ _ _ (blk0 m c t) (blk1 m c t) (blk2 m c t) r l

end Cert.Kernel13Ideal.MixerIn
end
-- ==== Proof.Mixer.In.Equation.lean ====
/- The two arrays of the forward call through the norm and the input projection are the reference's. -/
module

public import proofs.«01_k».proof.Proof.Mixer.In.Array
public import proofs.«01_k».proof.Proof.Gen.Reference13Ideal.Read

@[expose] public section
noncomputable section
namespace Cert.Kernel13Ideal.MixerIn
open Idealize.ShloMosaic Cert.Macaron Cert.Reference13Ideal.Read
open Cert.ReferenceIdeal.MlaBwd (one_word zero_word div_real)

section
variable (x : FVec Ideal Cert.Reference13Ideal.S4096x1024 .f32) (g : FVec Ideal Cert.Reference13Ideal.S1024 .f32)
  (w : FVec Ideal Cert.Reference13Ideal.S1024x3328 .f32)

theorem ref_rs (r : Fin 4096) (u : Fin 1) : val_main_v7 (F := Ideal) x (ix2 r u) = rs (fun k => x (ix2 r k)) := by
  rw [val_main_v7_apply, val_main_v6_apply, val_main_v4_apply, val_main_v5_apply, val_main_cst_1_apply, val_main_v3_apply, val_main_cst_0_apply,
    val_main_v2_apply, val_main_v1_apply, val_main_cst_apply]
  refine congrArg (fun u => Ideal.rsqrt (Ideal.div u width + small)) ?_
  refine (congrArg₂ (fun u v : EReal => u + v) zero_word (Finset.sum_congr rfl fun k _ => ?_)).trans (zero_add _)
  rw [val_main_v0_apply, show idx_main_v1 (idx_main_v2 (ix2 r u)) k = ix2 r k from eq_ix2 _]
  rfl

theorem norm_row (r : Fin 4096) (l : Fin 1024) : wholeN x g (ix2 r l) = val_main_v12 (F := Ideal) x g (ix2 r l) := by
  rw [val_main_v12_apply, val_main_v9_apply, val_main_v8_apply, show idx_main_v8 (ix2 r l) = ix2 r 0 from eq_ix2 _, ref_rs,
    val_main_v11_apply, val_main_v10_apply, show idx_main_v10 (idx_main_v11 (ix2 r l)) = ix1 l from eq_ix1 _]
  rfl

theorem norm_eq : wholeN x g = val_main_v13 (F := Ideal) x g := by
  funext i
  obtain ⟨r, l, rfl⟩ : ∃ (r : Fin 4096) (l : Fin 1024), i = ix2 r l := ⟨i 0, i 1, eq_ix2 i⟩
  exact norm_row x g r l

theorem prod_eq : wholeP x g w = val_main_v14 (F := Ideal) x g w := by
  funext i
  obtain ⟨r, l, rfl⟩ : ∃ (r : Fin 4096) (l : Fin 3328), i = ix2 r l := ⟨i 0, i 1, eq_ix2 i⟩
  rw [val_main_v14_apply]
  refine Finset.sum_congr rfl fun k _ => ?_
  rw [show lidx_main_v14 (ix2 r l) k = ix2 r k from eq_ix2 _, show ridx_main_v14 (ix2 r l) k = ix2 k l from eq_ix2 _, ← norm_row]
  rfl
end

end Cert.Kernel13Ideal.MixerIn
end
-- ==== Proof.Mixer.In.Claims.lean ====
/- The claims about the forward call through the norm and the input projection. -/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Mixer.In.Equation

@[expose] public section
noncomputable section
namespace Cert.Proof.MixerIn
open Idealize.ShloMosaic Idealize.SL.Sem

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

theorem preserves : Cert.preserves_Kernel13_Kernel13Ideal := trivial

/-- The kernel's two arrays are the reference's. -/
theorem algebraic : Cert.algebraic_Kernel13Ideal_Reference13Ideal := by
  intro m ρ m' ρ' _ hagree
  refine ⟨_, _, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨h0, h1, hargs⟩ := h c
  obtain ⟨a0, a1, a2⟩ := hagree c
  refine ⟨h0.trans ?_, h1.trans ?_, hargs⟩
  · rw [Cert.Reference13Ideal.Read.val_main_v13_eq, a0, a1, Cert.Kernel13Ideal.MixerIn.arr3]
    exact (Cert.Kernel13Ideal.MixerIn.norm_eq _ _).symm
  · rw [Cert.Reference13Ideal.Read.val_main_v14_eq, a0, a1, a2, Cert.Kernel13Ideal.MixerIn.arr4]
    exact (Cert.Kernel13Ideal.MixerIn.prod_eq _ _ _).symm

end Cert.Proof.MixerIn
end
-- ==== Proof.Mixer.Gates.Body.lean ====
/- What one grid point of the forward call through the two branches' products and their gates leaves in its three results. -/
module

public import proofs.«01_k».proof.Proof.Gen.Kernel14Ideal.Value
public import proofs.«01_k».proof.Proof.FfnUp.Equation
public import Idealize.ShloMosaic.Lib.Pipeline.ReadBack
public import Idealize.ShloMosaic.Lib.Pointwise
public import Idealize.ShloMosaic.Lib.ValueIdx
public import Idealize.ShloMosaic.Lib.Tactic

@[expose] public section
noncomputable section
namespace Cert.Kernel14Ideal.MixerGates
open Cert.Kernel14Ideal Cert.Kernel14Ideal.Gen Idealize.ShloMosaic Idealize.ShloMosaic.TcCoe Idealize.SL.Sem
open Cert.Kernel6Ideal.FfnUp (sg sg_eq)

section
variable (oa : Vec Ideal S512x512 .bf16) (ob : Vec Ideal S512x1024 .bf16) (ga gb : Vec Ideal S512x1024 .f32)
  (wa : Vec Ideal S1024x512 .bf16) (wb : Vec Ideal S1024x1024 .bf16)

/-- The first branch's product. -/
def ya : Vec Ideal S512x1024 .bf16 := fun i => ∑ k : Fin 512, oa (ix2 (i 0) k) * wa (ix2 (i 1) k)
/-- The second branch's product. -/
def yb : Vec Ideal S512x1024 .bf16 := fun i => ∑ k : Fin 1024, ob (ix2 (i 0) k) * wb (ix2 (i 1) k)
/-- Their gated sum. -/
def merged : Vec Ideal S512x1024 .bf16 := fun i => sg (ga i) * ya oa wa i + sg (gb i) * yb ob wb i

theorem zero2 : (![0, 0] : Fin 2 → ℕ) = fun _ => 0 := by decide
theorem whole_a {e : EltTy} (x : Vec Ideal S512x512 e) (h) :
    View.ld x (Rect.unit (s := S512x512) ![0, 0] ![512, 512] h) = x := View.ld_unit_zero zero2 h x
theorem whole_b {e : EltTy} (x : Vec Ideal S512x1024 e) (h) :
    View.ld x (Rect.unit (s := S512x1024) ![0, 0] ![512, 1024] h) = x := View.ld_unit_zero zero2 h x

/-- 512 columns of each, from column `c`. -/
theorem pieceA (c : ℕ) (h) (h') (y : S512x512.Idx) :
    (k0_pay11 (k0_pay1 oa) (View.ld wa (Rect.unit (s := S1024x512) ![c, 0] S512x512.size h)) y : EReal)
      = ya oa wa ((Rect.unit (s := S512x1024) ![0, c] S512x512.size h').emb y) := by
  obtain ⟨r, l, rfl⟩ : ∃ (r : Fin 512) (l : Fin 512), y = ix2 r l := ⟨y 0, y 1, eq_ix2 y⟩
  show _ = View.ld (ya oa wa) (Rect.unit (s := S512x1024) ![0, c] S512x512.size h') (ix2 r l)
  pointwise [k0_pay11, k0_pay8, k0_pay1]
  rfl
theorem pieceB (c : ℕ) (h) (h') (y : S512x512.Idx) :
    (k0_pay12 (k0_pay2 ob) (View.ld wb (Rect.unit (s := S1024x1024) ![c, 0] S512x1024.size h)) y : EReal)
      = yb ob wb ((Rect.unit (s := S512x1024) ![0, c] S512x512.size h').emb y) := by
  obtain ⟨r, l, rfl⟩ : ∃ (r : Fin 512) (l : Fin 512), y = ix2 r l := ⟨y 0, y 1, eq_ix2 y⟩
  show _ = View.ld (yb ob wb) (Rect.unit (s := S512x1024) ![0, c] S512x512.size h') (ix2 r l)
  pointwise [k0_pay12, k0_pay9, k0_pay2]
  rfl
theorem pieceM (c : ℕ) (h) (h'') (h') (y : S512x512.Idx) :
    (k0_pay10 (k0_pay1 oa) (k0_pay2 ob) (View.ld wa (Rect.unit (s := S1024x512) ![c, 0] S512x512.size h))
      (View.ld wb (Rect.unit (s := S1024x1024) ![c, 0] S512x1024.size h'')) (View.ld ga (Rect.unit (s := S512x1024) ![0, c] S512x512.size h'))
      (View.ld gb (Rect.unit (s := S512x1024) ![0, c] S512x512.size h')) y : EReal)
      = merged oa ob ga gb wa wb ((Rect.unit (s := S512x1024) ![0, c] S512x512.size h').emb y) := by
  obtain ⟨r, l, rfl⟩ : ∃ (r : Fin 512) (l : Fin 512), y = ix2 r l := ⟨y 0, y 1, eq_ix2 y⟩
  show _ = View.ld (merged oa ob ga gb wa wb) (Rect.unit (s := S512x1024) ![0, c] S512x512.size h') (ix2 r l)
  pointwise [k0_pay10, k0_pay8, k0_pay9, k0_pay1, k0_pay2]
  rfl
end

variable (c : Dev nD) (i : grid0.Coords) (a1 : Memref sig .tc .vmem S512x512 .bf16) (h1 : a1.IsWhole)
  (a2 : Memref sig .tc .vmem S512x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S1024x512 .bf16) (h5 : a5.IsWhole)
  (a6 : Memref sig .tc .vmem S1024x1024 .bf16) (h6 : a6.IsWhole) (a7 : Memref sig .tc .vmem S512x1024 .bf16) (h7 : a7.IsWhole)
  (a8 : Memref sig .tc .vmem S512x1024 .bf16) (h8 : a8.IsWhole) (a9 : Memref sig .tc .vmem S512x1024 .bf16) (h9 : a9.IsWhole)
  (oa : Vec Ideal S512x512 .bf16) (ob : Vec Ideal S512x1024 .bf16) (ga gb : Vec Ideal S512x1024 .f32)
  (wa : Vec Ideal S1024x512 .bf16) (wb : Vec Ideal S1024x1024 .bf16)

theorem out_m : out0_A_6 c i a1 h1 a2 h2 a3 h3 a4 h4 a5 h5 a6 h6 a7 h7 a8 h8 a9 h9 oa ob ga gb wa wb = merged oa ob ga gb wa wb := by
  unfold out0_A_6
  rw [View.read_writes_junk_eq_canon]
  funext y
  refine View.canon_apply_of_pieces (merged oa ob ga gb wa wb) _ ?_ y
    (cover0_A_6 c i a1 h1 a2 h2 a3 h3 a4 h4 a5 h5 a6 h6 a7 h7 a8 h8 a9 h9 oa ob ga gb wa wb y)
  unfold kernelRun0_A
  dsimp only
  sl_unfold_words
  simp only [View.readAt_eq_ld, h1.read_unread, h2.read_unread, h3.read_unread, h4.read_unread, h5.read_unread, h6.read_unread, whole_a, whole_b,
    List.forall_mem_cons, List.not_mem_nil, false_imp_iff, implies_true, and_true]
  exact ⟨pieceM oa ob ga gb wa wb 512 _ _ _, pieceM oa ob ga gb wa wb 0 _ _ _⟩

theorem out_a : out0_A_7 c i a1 h1 a2 h2 a3 h3 a4 h4 a5 h5 a6 h6 a7 h7 a8 h8 a9 h9 oa ob ga gb wa wb = ya oa wa := by
  unfold out0_A_7
  rw [View.read_writes_junk_eq_canon]
  funext y
  refine View.canon_apply_of_pieces (ya oa wa) _ ?_ y
    (cover0_A_7 c i a1 h1 a2 h2 a3 h3 a4 h4 a5 h5 a6 h6 a7 h7 a8 h8 a9 h9 oa ob ga gb wa wb y)
  unfold kernelRun0_A
  dsimp only
  sl_unfold_words
  simp only [View.readAt_eq_ld, h1.read_unread, h2.read_unread, h3.read_unread, h4.read_unread, h5.read_unread, h6.read_unread, whole_a, whole_b,
    List.forall_mem_cons, List.not_mem_nil, false_imp_iff, implies_true, and_true]
  exact ⟨pieceA oa wa 512 _ _, pieceA oa wa 0 _ _⟩

theorem out_b : out0_A_8 c i a1 h1 a2 h2 a3 h3 a4 h4 a5 h5 a6 h6 a7 h7 a8 h8 a9 h9 oa ob ga gb wa wb = yb ob wb := by
  unfold out0_A_8
  rw [View.read_writes_junk_eq_canon]
  funext y
  refine View.canon_apply_of_pieces (yb ob wb) _ ?_ y
    (cover0_A_8 c i a1 h1 a2 h2 a3 h3 a4 h4 a5 h5 a6 h6 a7 h7 a8 h8 a9 h9 oa ob ga gb wa wb y)
  unfold kernelRun0_A
  dsimp only
  sl_unfold_words
  simp only [View.readAt_eq_ld, h1.read_unread, h2.read_unread, h3.read_unread, h4.read_unread, h5.read_unread, h6.read_unread, whole_a, whole_b,
    List.forall_mem_cons, List.not_mem_nil, false_imp_iff, implies_true, and_true]
  exact ⟨pieceB ob wb 512 _ _, pieceB ob wb 0 _ _⟩

end Cert.Kernel14Ideal.MixerGates
end
-- ==== Proof.Mixer.Gates.Array.lean ====
/- The three result arrays of the forward call through the two branches' products and their gates, from the arguments of the program. -/
module

public import proofs.«01_k».proof.Proof.Mixer.Gates.Body
public import Idealize.ShloMosaic.Lib.Pipeline.ValueKit
public import Idealize.ShloMosaic.Lib.StableHlo.RunRead

@[expose] public section
noncomputable section
namespace Cert.Kernel14Ideal.MixerGates
open Cert.Kernel14Ideal Cert.Kernel14Ideal.Gen Idealize.ShloMosaic Idealize.ShloMosaic.TcCoe Idealize.SL.Sem
open Idealize.ShloMosaic.StableHlo
open Cert.Kernel6Ideal.FfnUp (sg sg_eq)

/-! ## The whole arrays -/

section
variable (oa : FVec Ideal S4096x512 .f32) (ob : FVec Ideal S4096x1024 .f32) (p : FVec Ideal S4096x3328 .f32)
  (wa : FVec Ideal S512x1024 .f32) (wb : FVec Ideal S1024x1024 .f32)

/-- The first branch's product. -/
def wholeA : FVec Ideal S4096x1024 .bf16 := fun i => ∑ k : Fin 512, oa (ix2 (i 0) k) * wa (ix2 k (i 1))
/-- The second branch's product. -/
def wholeB : FVec Ideal S4096x1024 .bf16 := fun i => ∑ k : Fin 1024, ob (ix2 (i 0) k) * wb (ix2 k (i 1))
/-- The first gate's column `l`. -/
def colA (l : Fin 1024) : Fin 3328 := ⟨l.val, by omega⟩
/-- The second gate's column `l`. -/
def colB (l : Fin 1024) : Fin 3328 := ⟨1024 + l.val, by omega⟩
/-- Their gated sum. -/
def wholeM : FVec Ideal S4096x1024 .bf16 := fun i =>
  sg (p (ix2 (i 0) (colA (i 1)))) * wholeA oa wa i + sg (p (ix2 (i 0) (colB (i 1)))) * wholeB ob wb i
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 1] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_oa : V m c main_v0 = m (c, main_arg0) := by unfold V; after_reads_simp; rfl
theorem entry_ob : V m c main_v1 = m (c, main_arg1) := by unfold V; after_reads_simp; rfl
theorem entry_p : V m c main_arg2 = m (c, main_arg2) := by unfold V; after_reads_simp
theorem entry_wa (k : Fin 1024) (l : Fin 512) : V m c main_v3 (ix2 k l) = m (c, main_arg3) (ix2 l k) := by
  unfold V; after_reads_simp; pointwise []
theorem entry_wb (k : Fin 1024) (l : Fin 1024) : V m c main_v5 (ix2 k l) = m (c, main_arg4) (ix2 l k) := by
  unfold V; after_reads_simp; pointwise []

theorem blk0 (t : Fin cfg0.N) (r : Fin 512) (k : Fin 512) : iblk m c 0 t (ix2 r k) = m (c, main_arg0) (ix2 (row t r) k) := by
  rw [← entry_oa m c]; blk_simp [iblk]; congr 1; blk_ext [index0, row]
theorem blk1 (t : Fin cfg0.N) (r : Fin 512) (k : Fin 1024) : iblk m c 1 t (ix2 r k) = m (c, main_arg1) (ix2 (row t r) k) := by
  rw [← entry_ob m c]; blk_simp [iblk]; congr 1; blk_ext [index1, row]
theorem blk2 (t : Fin cfg0.N) (r : Fin 512) (k : Fin 1024) : X0_2 m c t (ix2 r k) = m (c, main_arg2) (ix2 (row t r) (colA k)) := by
  rw [← entry_p m c]; unfold X0_2 Pipeline.Window.fill; rw [dif_pos (moved0_2 t _)]; blk_simp [iblk]; congr 1; blk_ext [index2, row, colA]
theorem blk3 (t : Fin cfg0.N) (r : Fin 512) (k : Fin 1024) : X0_3 m c t (ix2 r k) = m (c, main_arg2) (ix2 (row t r) (colB k)) := by
  rw [← entry_p m c]; unfold X0_3 Pipeline.Window.fill; rw [dif_pos (moved0_3 t _)]; blk_simp [iblk]; congr 1; blk_ext [index3, row, colB]
theorem blk4 (t : Fin cfg0.N) (k : Fin 1024) (l : Fin 512) : iblk m c 4 t (ix2 k l) = m (c, main_arg3) (ix2 l k) := by
  rw [← entry_wa m c]; blk_simp [iblk]; congr 1; blk_ext [index4]
theorem blk5 (t : Fin cfg0.N) (k : Fin 1024) (l : Fin 1024) : iblk m c 5 t (ix2 k l) = m (c, main_arg4) (ix2 l k) := by
  rw [← entry_wb m c]; blk_simp [iblk]; congr 1; blk_ext [index5]

/-- Where a row of a tile lies in the array. -/
theorem place6 (t : Fin cfg0.N) (r : Fin 512) (l : Fin 1024) : ((cfg0.win 6).blk t).view.emb (ix2 r l) = ix2 (row t r) l := by
  funext a; apply Fin.ext
  match a with
  | ⟨0, _⟩ => blk_simp [index6, row]
  | ⟨1, _⟩ => blk_simp [index6, row]
theorem place7 (t : Fin cfg0.N) (r : Fin 512) (l : Fin 1024) : ((cfg0.win 7).blk t).view.emb (ix2 r l) = ix2 (row t r) l := by
  funext a; apply Fin.ext
  match a with
  | ⟨0, _⟩ => blk_simp [index7, row]
  | ⟨1, _⟩ => blk_simp [index7, row]
theorem place8 (t : Fin cfg0.N) (r : Fin 512) (l : Fin 1024) : ((cfg0.win 8).blk t).view.emb (ix2 r l) = ix2 (row t r) l := by
  funext a; apply Fin.ext
  match a with
  | ⟨0, _⟩ => blk_simp [index8, row]
  | ⟨1, _⟩ => blk_simp [index8, row]

/-! ## A tile's part of them -/

section
variable (t : Fin cfg0.N) (oa : FVec Ideal S4096x512 .f32) (ob : FVec Ideal S4096x1024 .f32) (p : FVec Ideal S4096x3328 .f32)
  (wa : FVec Ideal S512x1024 .f32) (wb : FVec Ideal S1024x1024 .f32)
  (x0 : Vec Ideal S512x512 .bf16) (x1 : Vec Ideal S512x1024 .bf16) (x2 x3 : Vec Ideal S512x1024 .f32)
  (x4 : Vec Ideal S1024x512 .bf16) (x5 : Vec Ideal S1024x1024 .bf16)

theorem a_row (e0 : ∀ r k, (x0 (ix2 r k) : EReal) = oa (ix2 (row t r) k)) (e4 : ∀ k l, (x4 (ix2 k l) : EReal) = wa (ix2 l k))
    (r : Fin 512) (l : Fin 1024) : ya x0 x4 (ix2 r l) = wholeA oa wa (ix2 (row t r) l) := by
  show (∑ k : Fin 512, x0 (ix2 r k) * x4 (ix2 l k) : EReal) = _
  simp only [e0, e4]
  rfl
theorem b_row (e1 : ∀ r k, (x1 (ix2 r k) : EReal) = ob (ix2 (row t r) k)) (e5 : ∀ k l, (x5 (ix2 k l) : EReal) = wb (ix2 l k))
    (r : Fin 512) (l : Fin 1024) : yb x1 x5 (ix2 r l) = wholeB ob wb (ix2 (row t r) l) := by
  show (∑ k : Fin 1024, x1 (ix2 r k) * x5 (ix2 l k) : EReal) = _
  simp only [e1, e5]
  rfl
theorem m_row (e0 : ∀ r k, (x0 (ix2 r k) : EReal) = oa (ix2 (row t r) k)) (e1 : ∀ r k, (x1 (ix2 r k) : EReal) = ob (ix2 (row t r) k))
    (e2 : ∀ r k, (x2 (ix2 r k) : EReal) = p (ix2 (row t r) (colA k))) (e3 : ∀ r k, (x3 (ix2 r k) : EReal) = p (ix2 (row t r) (colB k)))
    (e4 : ∀ k l, (x4 (ix2 k l) : EReal) = wa (ix2 l k)) (e5 : ∀ k l, (x5 (ix2 k l) : EReal) = wb (ix2 l k))
    (r : Fin 512) (l : Fin 1024) : merged x0 x1 x2 x3 x4 x5 (ix2 r l) = wholeM oa ob p wa wb (ix2 (row t r) l) := by
  show (sg (x2 (ix2 r l)) * ya x0 x4 (ix2 r l) + sg (x3 (ix2 r l)) * yb x1 x5 (ix2 r l) : EReal) = _
  rw [e2, e3, a_row t oa wa x0 x4 e0 e4, b_row t ob wb x1 x5 e1 e5]
  rfl
end

/-- The first result array. -/
theorem arr6 : (dats m 0 c).arrAt 6 cfg0.N = wholeM (m (c, main_arg0)) (m (c, main_arg1)) (m (c, main_arg2)) (m (c, main_arg3))
    (m (c, main_arg4)) := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  rw [place6]
  blk_simp
  rw [after0_6]
  unfold outsAt0
  dsimp only
  rw [out_m]
  exact m_row t _ _ _ _ _ _ _ _ _ _ _ (blk0 m c t) (blk1 m c t) (blk2 m c t) (blk3 m c t) (blk4 m c t) (blk5 m c t) r l

/-- The second result array. -/
theorem arr7 : (dats m 0 c).arrAt 7 cfg0.N = wholeA (m (c, main_arg0)) (m (c, main_arg3)) := by
  refine (dats m 0 c).arrAt_eq_of_covers 7 _ (by decide +kernel) fun t hf y => ?_
  obtain ⟨r, l, rfl⟩ : ∃ (r : Fin 512) (l : Fin 1024), y = ix2 r l := ⟨y 0, y 1, eq_ix2 y⟩
  rw [place7]
  blk_simp
  rw [after0_7]
  unfold outsAt0
  dsimp only
  rw [out_a]
  exact a_row t _ _ _ _ (blk0 m c t) (blk4 m c t) r l

/-- The third result array. -/
theorem arr8 : (dats m 0 c).arrAt 8 cfg0.N = wholeB (m (c, main_arg1)) (m (c, main_arg4)) := by
  refine (dats m 0 c).arrAt_eq_of_covers 8 _ (by decide +kernel) fun t hf y => ?_
  obtain ⟨r, l, rfl⟩ : ∃ (r : Fin 512) (l : Fin 1024), y = ix2 r l := ⟨y 0, y 1, eq_ix2 y⟩
  rw [place8]
  blk_simp
  rw [after0_8]
  unfold outsAt0
  dsimp only
  rw [out_b]
  exact b_row t _ _ _ _ (blk1 m c t) (blk5 m c t) r l

end Cert.Kernel14Ideal.MixerGates
end
-- ==== Proof.Mixer.Gates.Equation.lean ====
/- The three arrays of the forward call through the two branches' products and their gates are the reference's. -/
module

public import proofs.«01_k».proof.Proof.Mixer.Gates.Array
public import proofs.«01_k».proof.Proof.Gen.Reference14Ideal.Read

@[expose] public section
noncomputable section
namespace Cert.Kernel14Ideal.MixerGates
open Idealize.ShloMosaic Cert.Reference14Ideal.Read
open Cert.ReferenceIdeal.MlaBwd (one_word zero_word div_real)
open Cert.Kernel6Ideal.FfnUp (sg sg_eq)

variable (oa : FVec Ideal Cert.Reference14Ideal.S4096x512 .f32) (ob : FVec Ideal Cert.Reference14Ideal.S4096x1024 .f32)
  (p : FVec Ideal Cert.Reference14Ideal.S4096x3328 .f32) (wa : FVec Ideal Cert.Reference14Ideal.S512x1024 .f32)
  (wb : FVec Ideal Cert.Reference14Ideal.S1024x1024 .f32)

theorem first_row (r : Fin 4096) (l : Fin 1024) : wholeA oa wa (ix2 r l) = val_main_v0 (F := Ideal) oa wa (ix2 r l) := by
  rw [val_main_v0_apply]
  refine Finset.sum_congr rfl fun k _ => ?_
  rw [show lidx_main_v0 (ix2 r l) k = ix2 r k from eq_ix2 _, show ridx_main_v0 (ix2 r l) k = ix2 k l from eq_ix2 _]
  rfl
theorem second_row (r : Fin 4096) (l : Fin 1024) : wholeB ob wb (ix2 r l) = val_main_v1 (F := Ideal) ob wb (ix2 r l) := by
  rw [val_main_v1_apply]
  refine Finset.sum_congr rfl fun k _ => ?_
  rw [show lidx_main_v1 (ix2 r l) k = ix2 r k from eq_ix2 _, show ridx_main_v1 (ix2 r l) k = ix2 k l from eq_ix2 _]
  rfl

theorem first_eq : wholeA oa wa = val_main_v20 (F := Ideal) oa wa := by
  funext i
  obtain ⟨r, l, rfl⟩ : ∃ (r : Fin 4096) (l : Fin 1024), i = ix2 r l := ⟨i 0, i 1, eq_ix2 i⟩
  exact first_row oa wa r l
theorem second_eq : wholeB ob wb = val_main_v21 (F := Ideal) ob wb := by
  funext i
  obtain ⟨r, l, rfl⟩ : ∃ (r : Fin 4096) (l : Fin 1024), i = ix2 r l := ⟨i 0, i 1, eq_ix2 i⟩
  exact second_row ob wb r l

theorem gate_a (r : Fin 4096) (l : Fin 1024) : val_main_v8 (F := Ideal) p (ix2 r l) = sg (p (ix2 r (colA l))) := by
  have e : idx_main_v2 (ix2 r l) = ix2 r (colA l) := by
    funext a
    match a with
    | ⟨0, _⟩ => rfl
    | ⟨1, _⟩ => rfl
  rw [val_main_v8_apply, val_main_v7_apply, val_main_cst_0_apply, val_main_v6_apply, val_main_v5_apply, val_main_cst_apply, val_main_v4_apply,
    val_main_v3_apply, val_main_v2_apply, e, one_word]
  exact (sg_eq _).symm
theorem gate_b (r : Fin 4096) (l : Fin 1024) : val_main_v16 (F := Ideal) p (ix2 r l) = sg (p (ix2 r (colB l))) := by
  have e : idx_main_v10 (ix2 r l) = ix2 r (colB l) := by
    funext a
    match a with
    | ⟨0, _⟩ => rfl
    | ⟨1, _⟩ => rfl
  rw [val_main_v16_apply, val_main_v15_apply, val_main_cst_2_apply, val_main_v14_apply, val_main_v13_apply, val_main_cst_1_apply,
    val_main_v12_apply, val_main_v11_apply, val_main_v10_apply, e, one_word]
  exact (sg_eq _).symm

theorem merged_eq : wholeM oa ob p wa wb = val_main_v19 (F := Ideal) oa ob p wa wb := by
  funext i
  obtain ⟨r, l, rfl⟩ : ∃ (r : Fin 4096) (l : Fin 1024), i = ix2 r l := ⟨i 0, i 1, eq_ix2 i⟩
  rw [val_main_v19_apply, val_main_v18_apply, val_main_v9_apply, val_main_v17_apply, gate_a, gate_b, ← first_row, ← second_row]
  rfl

end Cert.Kernel14Ideal.MixerGates
end
-- ==== Proof.Mixer.Gates.Claims.lean ====
/- The claims about the forward call through the two branches' products and their gates. -/
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Mixer.Gates.Equation

@[expose] public section
noncomputable section
namespace Cert.Proof.MixerGates
open Idealize.ShloMosaic Idealize.SL.Sem

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run (F := Ideal) m ρ)

theorem preserves : Cert.preserves_Kernel14_Kernel14Ideal := trivial

/-- The kernel's three arrays are the reference's. -/
theorem algebraic : Cert.algebraic_Kernel14Ideal_Reference14Ideal := by
  intro m ρ m' ρ' _ hagree
  refine ⟨_, _, _, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨h0, h1, h2, hargs⟩ := h c
  obtain ⟨a0, a1, a2, a3, a4⟩ := hagree c
  refine ⟨h0.trans ?_, h1.trans ?_, h2.trans ?_, hargs⟩
  · rw [Cert.Reference14Ideal.Read.val_main_v19_eq, a0, a1, a2, a3, a4, Cert.Kernel14Ideal.MixerGates.arr6]
    exact (Cert.Kernel14Ideal.MixerGates.merged_eq _ _ _ _ _).symm
  · rw [Cert.Reference14Ideal.Read.val_main_v20_eq, a0, a3, Cert.Kernel14Ideal.MixerGates.arr7]
    exact (Cert.Kernel14Ideal.MixerGates.first_eq _ _).symm
  · rw [Cert.Reference14Ideal.Read.val_main_v21_eq, a1, a4, Cert.Kernel14Ideal.MixerGates.arr8]
    exact (Cert.Kernel14Ideal.MixerGates.second_eq _ _).symm

end Cert.Proof.MixerGates
end
-- ==== Proof.Mixer.Out.Array.lean ====
/- The output projection's forward call: its result array is the reference's. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise
public import Idealize.ShloMosaic.Lib.ValueIdx
public import Idealize.ShloMosaic.Lib.StableHlo.RunRead

@[expose] public section
noncomputable section
namespace Cert.Kernel15Ideal.MixerOut
open Cert.Kernel15Ideal Cert.Kernel15Ideal.Gen Idealize.ShloMosaic Idealize.ShloMosaic.TcCoe Idealize.SL.Sem
open Idealize.ShloMosaic.StableHlo

section
variable (h : Vec Ideal S512x1024 .bf16) (w : Vec Ideal S1024x1024 .bf16) (x : Vec Ideal S512x1024 .f32)

/-- A tile of the result. -/
def tile : Vec Ideal S512x1024 .f32 := fun i => x i + ∑ k : Fin 1024, h (ix2 (i 0) k) * w (ix2 k (i 1))

/-- Half of the columns of it. -/
theorem piece0 (q) (q') (y : S512x512.Idx) :
    (k0_pay1 (View.ld w (Rect.unit (s := S1024x1024) ![0, 0] S1024x512.size q)) (View.ld h r0_1)
      (View.ld x (Rect.unit (s := S512x1024) ![0, 0] S512x512.size q')) y : EReal)
      = View.ld (tile h w x) (Rect.unit (s := S512x1024) ![0, 0] S512x512.size q') y := by
  obtain ⟨r, l, rfl⟩ : ∃ (r : Fin 512) (l : Fin 512), y = ix2 r l := ⟨y 0, y 1, eq_ix2 y⟩
  pointwise [k0_pay1]
  rfl
theorem piece1 (q) (q') (y : S512x512.Idx) :
    (k0_pay2 (View.ld w (Rect.unit (s := S1024x1024) ![0, 512] S1024x512.size q)) (View.ld h r0_1)
      (View.ld x (Rect.unit (s := S512x1024) ![0, 512] S512x512.size q')) y : EReal)
      = View.ld (tile h w x) (Rect.unit (s := S512x1024) ![0, 512] S512x512.size q') y := by
  obtain ⟨r, l, rfl⟩ : ∃ (r : Fin 512) (l : Fin 512), y = ix2 r l := ⟨y 0, y 1, eq_ix2 y⟩
  pointwise [k0_pay2]
  rfl

theorem out_tile : out0_3 h w x = tile h w x := by
  funext y
  refine View.canon_apply_of_pieces (tile h w x) _ ?_ y (cover0_3 _ _ y)
  simp only [List.forall_mem_cons, List.not_mem_nil, false_imp_iff, implies_true, and_true]
  exact ⟨piece1 h w x _ _, piece0 h w x _ _⟩
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- Row `r` of tile `t`. -/
def row (t : Fin cfg0.N) (r : Fin 512) : Fin 4096 :=
  ⟨t.val * 512 + r.val, by have : t.val < 8 := t.isLt; omega⟩

theorem entry_h : V m c main_v0 = m (c, main_arg1) := by unfold V; after_reads_simp; rfl
theorem entry_w : V m c main_v1 = m (c, main_arg2) := by unfold V; after_reads_simp; rfl
theorem entry_x : V m c main_arg0 = m (c, main_arg0) := by unfold V; after_reads_simp

theorem blk0 (t : Fin cfg0.N) (r : Fin 512) (k : Fin 1024) : iblk m c 0 t (ix2 r k) = V m c main_v0 (ix2 (row t r) k) := by
  blk_simp [iblk]; congr 1; blk_ext [index0, row]
theorem blk1 (t : Fin cfg0.N) : iblk m c 1 t = V m c main_v1 := by
  funext y; blk_simp [iblk]; congr 1; blk_ext [index1]
theorem blk2 (t : Fin cfg0.N) (r : Fin 512) (l : Fin 1024) : iblk m c 2 t (ix2 r l) = V m c main_arg0 (ix2 (row t r) l) := by
  blk_simp [iblk]; congr 1; blk_ext [index2, row]

/-- Where a row of a tile lies in the array. -/
theorem place3 (t : Fin cfg0.N) (r : Fin 512) (l : Fin 1024) :
    ((cfg0.win 3).blk t).view.emb (ix2 r l) = ix2 (row t r) l := by
  funext a; apply Fin.ext
  match a with
  | ⟨0, _⟩ => blk_simp [index3, row]
  | ⟨1, _⟩ => blk_simp [index3, row]

/-- The result, from the arguments. -/
def whole (x : FVec Ideal S4096x1024 .f32) (h : FVec Ideal S4096x1024 .f32) (w : FVec Ideal S1024x1024 .f32) :
    FVec Ideal S4096x1024 .f32 := fun i => x i + ∑ k : Fin 1024, h (ix2 (i 0) k) * w (ix2 k (i 1))

theorem tile_at (h : Vec Ideal S512x1024 .bf16) (w : Vec Ideal S1024x1024 .bf16) (x : Vec Ideal S512x1024 .f32) (r : Fin 512) (l : Fin 1024) :
    tile h w x (ix2 r l) = x (ix2 r l) + (∑ k : Fin 1024, h (ix2 r k) * w (ix2 k l)) := rfl

/-- The result array. -/
theorem arr : (dats m 0 c).arrAt 3 cfg0.N = whole (m (c, main_arg0)) (m (c, main_arg1)) (m (c, main_arg2)) := by
  refine (dats m 0 c).arrAt_eq_of_covers 3 _ (by decide +kernel) fun t hf y => ?_
  obtain ⟨r, l, rfl⟩ : ∃ (r : Fin 512) (l : Fin 1024), y = ix2 r l := ⟨y 0, y 1, eq_ix2 y⟩
  rw [place3]
  blk_simp
  rw [after0_3, out_tile]
  refine (tile_at _ _ _ r l).trans ?_
  simp only [blk0, blk1, blk2, entry_h, entry_w, entry_x]
  rfl

open Cert.Reference15Ideal.Read in
theorem result_eq (x : FVec Ideal S4096x1024 .f32) (h : FVec Ideal S4096x1024 .f32) (w : FVec Ideal S1024x1024 .f32) :
    whole x h w = val_main_v1 (F := Ideal) x h w := by
  funext i
  obtain ⟨r, l, rfl⟩ : ∃ (r : Fin 4096) (l : Fin 1024), i = ix2 r l := ⟨i 0, i 1, eq_ix2 i⟩
  rw [val_main_v1_apply, val_main_v0_apply]
  refine congrArg (fun u : EReal => x (ix2 r l) + u) ?_
  refine Finset.sum_congr rfl fun k _ => ?_
  rw [show lidx_main_v0 (ix2 r l) k = ix2 r k from eq_ix2 _, show ridx_main_v0 (ix2 r l) k = ix2 k l from eq_ix2 _]
  rfl
end Cert.Kernel15Ideal.MixerOut
end
-- ==== Proof.Mixer.Out.Claims.lean ====
/- The claims about the output projection's forward call. -/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Mixer.Out.Array

@[expose] public section
noncomputable section
namespace Cert.Proof.MixerOut
open Idealize.ShloMosaic Idealize.SL.Sem

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem preserves : Cert.preserves_Kernel15_Kernel15Ideal := trivial

/-- The kernel's array is the reference's. -/
theorem algebraic : Cert.algebraic_Kernel15Ideal_Reference15Ideal := by
  intro m ρ m' ρ' _ hagree
  refine ⟨_, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨h0, hargs⟩ := h c
  obtain ⟨a0, a1, a2⟩ := hagree c
  refine ⟨h0.trans ?_, hargs⟩
  rw [Cert.Reference15Ideal.Read.val_main_v1_eq, a0, a1, a2, Cert.Kernel15Ideal.MixerOut.arr]
  exact (Cert.Kernel15Ideal.MixerOut.result_eq _ _ _).symm

end Cert.Proof.MixerOut
end
-- ==== Proof.MlaFwd.Scores.lean ====
/- The causal softmax of one head, as the forward pass takes it over the extended reals: scores above the diagonal are
   −∞, a row's maximum is a fold, and the exponentials are powers of 2. -/
module

public import proofs.«01_k».proof.Proof.Gen.Kernel16Ideal.Value
public import proofs.«01_k».proof.Proof.MlaBwd.Head
public import proofs.«01_k».proof.Proof.MlaBwd.RefProbs

@[expose] public section
noncomputable section
namespace Cert.Kernel16Ideal.MlaFwd
open Cert.Kernel16Ideal Cert.Kernel16Ideal.Gen Idealize.ShloMosaic Idealize.SL.Sem
open Cert.KernelIdeal.MlaBwd (score)

/-- One head's block of 2048 rows. -/
abbrev Blk : Type := Vec Ideal S2048x128 .bf16

/-- The score scale over the log of 2. -/
def sc2 : EReal := Named.named (F := Ideal) (φ := .f32) κ "scale_log2e" 0x3E16C740#32

theorem mask_val : Named.named (F := Ideal) (φ := .f32) κ "mask" 0xF149F2CA#32 = (⊥ : EReal) :=
  IdealRules.named_const.ideal_named_scalar _ _ _ _ rfl

theorem sc2_val : sc2 = (((3424635 / 33554432) * (Real.log 2)⁻¹ : ℝ) : EReal) :=
  IdealRules.named_const.ideal_named_scalar _ _ _ _ rfl

theorem sc2_pos : 0 < sc2 := by
  rw [sc2_val]
  exact_mod_cast mul_pos (by norm_num) (inv_pos.mpr (Real.log_pos one_lt_two))

/-- The masked score of query `r` and key `j`. -/
def ms (q k : Blk) (r j : Fin 2048) : EReal := if j ≤ r then score q k r j else ⊥

/-- The largest score of a row. -/
def mx (q k : Blk) (r : Fin 2048) : EReal := (Finset.univ : Finset (Fin 2048)).fold max ⊥ (ms q k r)

/-- The exponential of a score, against the largest of its row. -/
def ex (q k : Blk) (r j : Fin 2048) : EReal := Ideal.exp2 ((ms q k r j - mx q k r) * sc2)

/-- The sum of a row's exponentials. -/
def ln (q k : Blk) (r : Fin 2048) : EReal := ∑ j, ex q k r j

/-- The sum of the values, each times its exponential. -/
def acc (q k v : Blk) (r : Fin 2048) (d : Fin 128) : EReal := ∑ j, ex q k r j * v (ix2 j d)

/-- The output. -/
def go (q k v : Blk) : Vec Ideal S2048x128 .bf16 := fun i =>
  acc q k v (i 0) (i 1) * Ideal.div 1 (ln q k (i 0))

/-- The base-2 log-sums of the rows. -/
def gl (q k : Blk) : Vec Ideal S1x2048x1 .f32 := fun i =>
  mx q k (i 1) * sc2 + Ideal.div (Ideal.log (ln q k (i 1))) (Ideal.log (Ideal.ofBits .f32 0x40000000#32))

theorem ms_above (q k : Blk) {r j : Fin 2048} (h : r < j) : ms q k r j = ⊥ := if_neg (not_le.mpr h)

/-- Above the diagonal the exponential is 0. -/
theorem ex_above (q k : Blk) {r j : Fin 2048} (h : r < j) : ex q k r j = 0 := by
  rw [ex, ms_above q k h, sub_eq_add_neg, EReal.bot_add, EReal.bot_mul_of_pos sc2_pos, Ideal.exp2_bot]

/-- A maximum over 2048 terms that are −∞ from `a + 256` on: the 256 from `a`, and the ones before. -/
theorem max_two (a : ℕ) (ha : a + 256 ≤ 2048) (f : Fin 2048 → EReal)
    (hz : ∀ j : Fin 2048, a + 256 ≤ j.val → f j = ⊥) :
    (Finset.univ : Finset (Fin 2048)).fold max ⊥ f
      = max ((Finset.univ : Finset (Fin 256)).fold max ⊥ fun x : Fin 256 => f ⟨a + x, by omega⟩)
          ((Finset.univ : Finset (Fin a)).fold max ⊥ fun x : Fin a => f ⟨x, by omega⟩) := by
  refine le_antisymm ?_ (max_le ?_ ?_)
  · refine Finset.fold_max_le _ |>.mpr ⟨bot_le, fun j _ => ?_⟩
    by_cases h1 : j.val < a
    · exact le_max_of_le_right (Finset.le_fold_max _ |>.mpr (Or.inr ⟨⟨j, h1⟩, Finset.mem_univ _, le_rfl⟩))
    by_cases h2 : j.val < a + 256
    · refine le_max_of_le_left (Finset.le_fold_max _ |>.mpr (Or.inr ⟨⟨j - a, by omega⟩, Finset.mem_univ _, ?_⟩))
      exact le_of_eq (congrArg f (Fin.ext (by show j.val = a + (j.val - a); omega)))
    · rw [hz j (by omega)]; exact bot_le
  · exact Finset.fold_max_le _ |>.mpr ⟨bot_le, fun x _ => Finset.le_fold_max _ |>.mpr (Or.inr ⟨_, Finset.mem_univ _, le_rfl⟩)⟩
  · exact Finset.fold_max_le _ |>.mpr ⟨bot_le, fun x _ => Finset.le_fold_max _ |>.mpr (Or.inr ⟨_, Finset.mem_univ _, le_rfl⟩)⟩

/-- A row's maximum, from its part of the tile on the diagonal and the keys before. -/
theorem mx_two (q k : Blk) (a : ℕ) (ha : a + 256 ≤ 2048) (r : Fin 256) :
    mx q k ⟨a + r, by omega⟩ = max ((Finset.univ : Finset (Fin 256)).fold max ⊥ fun x : Fin 256 => ms q k ⟨a + r, by omega⟩ ⟨a + x, by omega⟩)
      ((Finset.univ : Finset (Fin a)).fold max ⊥ fun x : Fin a => ms q k ⟨a + r, by omega⟩ ⟨x, by omega⟩) :=
  max_two a ha _ fun _ hj => ms_above q k (Fin.mk_lt_of_lt_val (by omega))

/-- A row's sum likewise. -/
theorem ln_two (q k : Blk) (a : ℕ) (ha : a + 256 ≤ 2048) (r : Fin 256) :
    ln q k ⟨a + r, by omega⟩ = ∑ x : Fin 256, ex q k ⟨a + r, by omega⟩ ⟨a + x, by omega⟩
      + ∑ x : Fin a, ex q k ⟨a + r, by omega⟩ ⟨x, by omega⟩ :=
  KernelIdeal.MlaBwd.sum_two a ha _ fun _ hj => ex_above q k (Fin.mk_lt_of_lt_val (by omega))

/-- And the sum of the values. -/
theorem acc_two (q k v : Blk) (a : ℕ) (ha : a + 256 ≤ 2048) (r : Fin 256) (d : Fin 128) :
    acc q k v ⟨a + r, by omega⟩ d = ∑ x : Fin 256, ex q k ⟨a + r, by omega⟩ ⟨a + x, by omega⟩ * v (ix2 ⟨a + x, by omega⟩ d)
      + ∑ x : Fin a, ex q k ⟨a + r, by omega⟩ ⟨x, by omega⟩ * v (ix2 ⟨x, by omega⟩ d) :=
  KernelIdeal.MlaBwd.sum_two a ha _ fun _ hj => by rw [ex_above q k (Fin.mk_lt_of_lt_val (by omega)), zero_mul]

/-- The first 256 rows have only the tile on the diagonal. -/
theorem mx_low (q k : Blk) (r : Fin 256) :
    mx q k ⟨r, by omega⟩ = (Finset.univ : Finset (Fin 256)).fold max ⊥ fun x : Fin 256 => ms q k ⟨r, by omega⟩ ⟨x, by omega⟩ := by
  have h := max_two 0 (by omega) (ms q k ⟨r, by omega⟩) fun _ hj => ms_above q k (Fin.mk_lt_of_lt_val (by omega))
  rw [mx, h]
  refine (max_eq_left (Finset.fold_max_le _ |>.mpr ⟨bot_le, fun x => x.elim0⟩)).trans ?_
  simp only [zero_add]

theorem ln_low (q k : Blk) (r : Fin 256) :
    ln q k ⟨r, by omega⟩ = ∑ x : Fin 256, ex q k ⟨r, by omega⟩ ⟨x, by omega⟩ :=
  KernelIdeal.MlaBwd.sum_low (n := 256) (by omega) _ fun _ hj => ex_above q k (Fin.mk_lt_of_lt_val (by omega))

theorem acc_low (q k v : Blk) (r : Fin 256) (d : Fin 128) :
    acc q k v ⟨r, by omega⟩ d = ∑ x : Fin 256, ex q k ⟨r, by omega⟩ ⟨x, by omega⟩ * v (ix2 ⟨x, by omega⟩ d) :=
  KernelIdeal.MlaBwd.sum_low (n := 256) (by omega) _ fun _ hj => by rw [ex_above q k (Fin.mk_lt_of_lt_val (by omega)), zero_mul]

/-- A score of a tile that the diagonal crosses, its rows and keys counted from the same place. -/
theorem ms_of_diag (q k : Blk) (r l : Fin 256) (r' l' : Fin 2048) (h : l' ≤ r' ↔ l ≤ r) :
    (Scalar.select (IntOp.cmpi CmpIPredicate.sge (BitVec.ofNat 32 (r : ℕ)) (BitVec.ofNat 32 (l : ℕ)))
        (∑ x : Fin 128, q (ix2 r' x) * k (ix2 l' x)) (Named.named (F := Ideal) (φ := .f32) κ "mask" 0xF149F2CA#32) : EReal)
      = ms q k r' l' := by
  rw [WordCmp.cmpi_sge_ofNat (by omega) (by omega), mask_val, ms, if_congr h rfl rfl]
  by_cases h : l ≤ r
  · rw [if_pos h, decide_eq_true (show (l : ℕ) ≤ r from h)]; rfl
  · rw [if_neg h, decide_eq_false (show ¬ (l : ℕ) ≤ r from h)]; rfl

/-- A score of a key before the tile. -/
theorem ms_of_rest (q k : Blk) (r j : Fin 2048) (h : j ≤ r) : ∑ x : Fin 128, q (ix2 r x) * k (ix2 j x) = ms q k r j :=
  (if_pos h).symm

end Cert.Kernel16Ideal.MlaFwd
-- ==== Proof.MlaFwd.Tiles.lean ====
/- Each of the eight row groups computes its scores on two pieces, the tile on the diagonal and the keys before it; then
   its rows' maxima, the exponentials of both pieces, and the rows' sums. -/
module

public import proofs.«01_k».proof.Proof.MlaFwd.Scores

@[expose] public section
noncomputable section
namespace Cert.Kernel16Ideal.MlaFwd
open Cert.Kernel16Ideal Cert.Kernel16Ideal.Gen Idealize.ShloMosaic Idealize.SL.Sem
open Cert.ReferenceIdeal.MlaBwd (bot_word)

variable (q k v : Blk) (r l : Fin 256)

/-! ### Rows 0 to 255 -/

theorem diag_0 : (k0_pay104 q k v : FVec Ideal _ _) (ix2 r l) = ms q k ⟨r, by omega⟩ ⟨l, by omega⟩ := by
  unfold k0_pay104
  pointwise [k0_pay10]
  exact ms_of_diag q k r l _ _ (by simp)

theorem max_0 : (k0_pay119 q k v : FVec Ideal _ _) (ix2 r 0) = mx q k ⟨r, by omega⟩ := by
  unfold k0_pay119
  pointwise [k0_pay25]
  simp only [diag_0, bot_word]
  exact (mx_low q k r).symm

theorem exp_diag_0 : (k0_pay129 q k v : FVec Ideal _ _) (ix2 r l) = ex q k ⟨r, by omega⟩ ⟨l, by omega⟩ := by
  unfold k0_pay129
  pointwise [k0_pay35]
  simp only [diag_0, max_0]
  rfl

theorem sum_0 : (k0_pay144 q k v : FVec Ideal _ _) (ix2 r 0) = ln q k ⟨r, by omega⟩ := by
  unfold k0_pay144
  pointwise [k0_pay54]
  simp only [exp_diag_0]
  exact (ln_low q k r).symm

/-! ### Rows 256 to 511 -/

theorem diag_1 : (k0_pay105 q k v : FVec Ideal _ _) (ix2 r l) = ms q k ⟨256 + r, by omega⟩ ⟨256 + l, by omega⟩ := by
  unfold k0_pay105
  pointwise [k0_pay11, k0_pay3]
  exact ms_of_diag q k r l _ _ (by simp)

theorem rest_1 (j : Fin 256) : (k0_pay112 q k v : FVec Ideal _ _) (ix2 r j) = ms q k ⟨256 + r, by omega⟩ ⟨j, by omega⟩ := by
  unfold k0_pay112
  pointwise [k0_pay18, k0_pay3]
  exact ms_of_rest q k _ _ (Fin.mk_le_mk.mpr (by omega))

theorem max_1 : (k0_pay122 q k v : FVec Ideal _ _) (ix2 r 0) = mx q k ⟨256 + r, by omega⟩ := by
  unfold k0_pay122 k0_pay120
  pointwise [k0_pay28, k0_pay26]
  simp only [diag_1, rest_1, bot_word]
  exact (mx_two q k 256 (by omega) r).symm

theorem exp_diag_1 : (k0_pay130 q k v : FVec Ideal _ _) (ix2 r l) = ex q k ⟨256 + r, by omega⟩ ⟨256 + l, by omega⟩ := by
  have h := max_1 q k v r
  unfold k0_pay122 at h
  unfold k0_pay130
  pointwise [k0_pay36]
  simp only [diag_1, h]
  rfl

theorem exp_rest_1 (j : Fin 256) : (k0_pay137 q k v : FVec Ideal _ _) (ix2 r j) = ex q k ⟨256 + r, by omega⟩ ⟨j, by omega⟩ := by
  unfold k0_pay137
  pointwise [k0_pay45]
  simp only [rest_1, max_1]
  rfl

theorem sum_1 : (k0_pay145 q k v : FVec Ideal _ _) (ix2 r 0) = ln q k ⟨256 + r, by omega⟩ := by
  unfold k0_pay145
  pointwise [k0_pay57]
  simp only [exp_diag_1, exp_rest_1]
  exact (ln_two q k 256 (by omega) r).symm

/-! ### Rows 512 to 767 -/

theorem diag_2 : (k0_pay106 q k v : FVec Ideal _ _) (ix2 r l) = ms q k ⟨512 + r, by omega⟩ ⟨512 + l, by omega⟩ := by
  unfold k0_pay106 k0_pay98
  pointwise [k0_pay12, k0_pay4]
  exact ms_of_diag q k r l _ _ (by simp)

theorem rest_2 (j : Fin 512) : (k0_pay113 q k v : FVec Ideal _ _) (ix2 r j) = ms q k ⟨512 + r, by omega⟩ ⟨j, by omega⟩ := by
  unfold k0_pay113 k0_pay98
  pointwise [k0_pay19, k0_pay4]
  exact ms_of_rest q k _ _ (Fin.mk_le_mk.mpr (by omega))

theorem max_2 : (k0_pay123 q k v : FVec Ideal _ _) (ix2 r 0) = mx q k ⟨512 + r, by omega⟩ := by
  unfold k0_pay123 k0_pay121
  pointwise [k0_pay29, k0_pay27]
  simp only [diag_2, rest_2, bot_word]
  exact (mx_two q k 512 (by omega) r).symm

theorem exp_diag_2 : (k0_pay131 q k v : FVec Ideal _ _) (ix2 r l) = ex q k ⟨512 + r, by omega⟩ ⟨512 + l, by omega⟩ := by
  have h := max_2 q k v r
  unfold k0_pay123 at h
  unfold k0_pay131
  pointwise [k0_pay39, k0_pay37, k0_pay38]
  simp only [diag_2, h]
  rfl

theorem exp_rest_2 (j : Fin 512) : (k0_pay138 q k v : FVec Ideal _ _) (ix2 r j) = ex q k ⟨512 + r, by omega⟩ ⟨j, by omega⟩ := by
  unfold k0_pay138
  pointwise [k0_pay46]
  simp only [rest_2, max_2]
  rfl

theorem sum_2 : (k0_pay146 q k v : FVec Ideal _ _) (ix2 r 0) = ln q k ⟨512 + r, by omega⟩ := by
  unfold k0_pay146
  pointwise [k0_pay58]
  simp only [exp_diag_2, exp_rest_2]
  exact (ln_two q k 512 (by omega) r).symm

/-! ### Rows 768 to 1023 -/

theorem diag_3 : (k0_pay107 q k v : FVec Ideal _ _) (ix2 r l) = ms q k ⟨768 + r, by omega⟩ ⟨768 + l, by omega⟩ := by
  unfold k0_pay107 k0_pay99
  pointwise [k0_pay13, k0_pay5]
  exact ms_of_diag q k r l _ _ (by simp)

theorem rest_3 (j : Fin 768) : (k0_pay114 q k v : FVec Ideal _ _) (ix2 r j) = ms q k ⟨768 + r, by omega⟩ ⟨j, by omega⟩ := by
  unfold k0_pay114 k0_pay99
  pointwise [k0_pay20, k0_pay5]
  exact ms_of_rest q k _ _ (Fin.mk_le_mk.mpr (by omega))

theorem max_3 : (k0_pay124 q k v : FVec Ideal _ _) (ix2 r 0) = mx q k ⟨768 + r, by omega⟩ := by
  unfold k0_pay124
  pointwise [k0_pay30]
  simp only [diag_3, rest_3, bot_word]
  exact (mx_two q k 768 (by omega) r).symm

theorem exp_diag_3 : (k0_pay132 q k v : FVec Ideal _ _) (ix2 r l) = ex q k ⟨768 + r, by omega⟩ ⟨768 + l, by omega⟩ := by
  unfold k0_pay132
  pointwise [k0_pay40]
  simp only [diag_3, max_3]
  rfl

theorem exp_rest_3 (j : Fin 768) : (k0_pay139 q k v : FVec Ideal _ _) (ix2 r j) = ex q k ⟨768 + r, by omega⟩ ⟨j, by omega⟩ := by
  unfold k0_pay139
  pointwise [k0_pay47]
  simp only [rest_3, max_3]
  rfl

theorem sum_3 : (k0_pay147 q k v : FVec Ideal _ _) (ix2 r 0) = ln q k ⟨768 + r, by omega⟩ := by
  unfold k0_pay147
  pointwise [k0_pay59]
  simp only [exp_diag_3, exp_rest_3]
  exact (ln_two q k 768 (by omega) r).symm

/-! ### Rows 1024 to 1279 -/

theorem diag_4 : (k0_pay108 q k v : FVec Ideal _ _) (ix2 r l) = ms q k ⟨1024 + r, by omega⟩ ⟨1024 + l, by omega⟩ := by
  unfold k0_pay108 k0_pay100
  pointwise [k0_pay14, k0_pay6]
  exact ms_of_diag q k r l _ _ (by simp)

theorem rest_4 (j : Fin 1024) : (k0_pay115 q k v : FVec Ideal _ _) (ix2 r j) = ms q k ⟨1024 + r, by omega⟩ ⟨j, by omega⟩ := by
  unfold k0_pay115 k0_pay100
  pointwise [k0_pay21, k0_pay6]
  exact ms_of_rest q k _ _ (Fin.mk_le_mk.mpr (by omega))

theorem max_4 : (k0_pay125 q k v : FVec Ideal _ _) (ix2 r 0) = mx q k ⟨1024 + r, by omega⟩ := by
  unfold k0_pay125
  pointwise [k0_pay31]
  simp only [diag_4, rest_4, bot_word]
  exact (mx_two q k 1024 (by omega) r).symm

theorem exp_diag_4 : (k0_pay133 q k v : FVec Ideal _ _) (ix2 r l) = ex q k ⟨1024 + r, by omega⟩ ⟨1024 + l, by omega⟩ := by
  unfold k0_pay133
  pointwise [k0_pay41]
  simp only [diag_4, max_4]
  rfl

theorem exp_rest_4 (j : Fin 1024) : (k0_pay140 q k v : FVec Ideal _ _) (ix2 r j) = ex q k ⟨1024 + r, by omega⟩ ⟨j, by omega⟩ := by
  unfold k0_pay140
  pointwise [k0_pay48]
  simp only [rest_4, max_4]
  rfl

theorem sum_4 : (k0_pay148 q k v : FVec Ideal _ _) (ix2 r 0) = ln q k ⟨1024 + r, by omega⟩ := by
  unfold k0_pay148
  pointwise [k0_pay60]
  simp only [exp_diag_4, exp_rest_4]
  exact (ln_two q k 1024 (by omega) r).symm

/-! ### Rows 1280 to 1535 -/

theorem diag_5 : (k0_pay109 q k v : FVec Ideal _ _) (ix2 r l) = ms q k ⟨1280 + r, by omega⟩ ⟨1280 + l, by omega⟩ := by
  unfold k0_pay109 k0_pay101
  pointwise [k0_pay15, k0_pay7]
  exact ms_of_diag q k r l _ _ (by simp)

theorem rest_5 (j : Fin 1280) : (k0_pay116 q k v : FVec Ideal _ _) (ix2 r j) = ms q k ⟨1280 + r, by omega⟩ ⟨j, by omega⟩ := by
  unfold k0_pay116 k0_pay101
  pointwise [k0_pay22, k0_pay7]
  exact ms_of_rest q k _ _ (Fin.mk_le_mk.mpr (by omega))

theorem max_5 : (k0_pay126 q k v : FVec Ideal _ _) (ix2 r 0) = mx q k ⟨1280 + r, by omega⟩ := by
  unfold k0_pay126
  pointwise [k0_pay32]
  simp only [diag_5, rest_5, bot_word]
  exact (mx_two q k 1280 (by omega) r).symm

theorem exp_diag_5 : (k0_pay134 q k v : FVec Ideal _ _) (ix2 r l) = ex q k ⟨1280 + r, by omega⟩ ⟨1280 + l, by omega⟩ := by
  unfold k0_pay134
  pointwise [k0_pay42]
  simp only [diag_5, max_5]
  rfl

theorem exp_rest_5 (j : Fin 1280) : (k0_pay51 (k0_pay141 q k v) (k0_pay142 q k v) : FVec Ideal _ _) (ix2 r j) = ex q k ⟨1280 + r, by omega⟩ ⟨j, by omega⟩ := by
  unfold k0_pay141 k0_pay142
  pointwise [k0_pay51, k0_pay49, k0_pay50]
  simp only [rest_5, max_5]
  rfl

theorem sum_5 : (k0_pay149 q k v : FVec Ideal _ _) (ix2 r 0) = ln q k ⟨1280 + r, by omega⟩ := by
  unfold k0_pay149
  pointwise [k0_pay61]
  simp only [exp_diag_5, exp_rest_5]
  exact (ln_two q k 1280 (by omega) r).symm

/-! ### Rows 1536 to 1791 -/

theorem diag_6 : (k0_pay110 q k v : FVec Ideal _ _) (ix2 r l) = ms q k ⟨1536 + r, by omega⟩ ⟨1536 + l, by omega⟩ := by
  unfold k0_pay110 k0_pay102
  pointwise [k0_pay16, k0_pay8]
  exact ms_of_diag q k r l _ _ (by simp)

theorem rest_6 (j : Fin 1536) : (k0_pay117 q k v : FVec Ideal _ _) (ix2 r j) = ms q k ⟨1536 + r, by omega⟩ ⟨j, by omega⟩ := by
  unfold k0_pay117 k0_pay102
  pointwise [k0_pay23, k0_pay8]
  exact ms_of_rest q k _ _ (Fin.mk_le_mk.mpr (by omega))

theorem max_6 : (k0_pay127 q k v : FVec Ideal _ _) (ix2 r 0) = mx q k ⟨1536 + r, by omega⟩ := by
  unfold k0_pay127
  pointwise [k0_pay33]
  simp only [diag_6, rest_6, bot_word]
  exact (mx_two q k 1536 (by omega) r).symm

theorem exp_diag_6 : (k0_pay135 q k v : FVec Ideal _ _) (ix2 r l) = ex q k ⟨1536 + r, by omega⟩ ⟨1536 + l, by omega⟩ := by
  unfold k0_pay135
  pointwise [k0_pay43]
  simp only [diag_6, max_6]
  rfl

theorem exp_rest_6 (j : Fin 1536) : (k0_pay52 (k0_pay117 q k v) (k0_pay127 q k v) : FVec Ideal _ _) (ix2 r j) = ex q k ⟨1536 + r, by omega⟩ ⟨j, by omega⟩ := by
  pointwise [k0_pay52]
  simp only [rest_6, max_6]
  rfl

theorem sum_6 : (k0_pay150 q k v : FVec Ideal _ _) (ix2 r 0) = ln q k ⟨1536 + r, by omega⟩ := by
  unfold k0_pay150
  pointwise [k0_pay63, k0_pay55, k0_pay62]
  simp only [exp_diag_6, exp_rest_6]
  exact (ln_two q k 1536 (by omega) r).symm

/-! ### Rows 1792 to 2047 -/

theorem diag_7 : (k0_pay111 q k v : FVec Ideal _ _) (ix2 r l) = ms q k ⟨1792 + r, by omega⟩ ⟨1792 + l, by omega⟩ := by
  unfold k0_pay111 k0_pay103
  pointwise [k0_pay17, k0_pay9]
  exact ms_of_diag q k r l _ _ (by simp)

theorem rest_7 (j : Fin 1792) : (k0_pay118 q k v : FVec Ideal _ _) (ix2 r j) = ms q k ⟨1792 + r, by omega⟩ ⟨j, by omega⟩ := by
  unfold k0_pay118 k0_pay103
  pointwise [k0_pay24, k0_pay9]
  exact ms_of_rest q k _ _ (Fin.mk_le_mk.mpr (by omega))

theorem max_7 : (k0_pay128 q k v : FVec Ideal _ _) (ix2 r 0) = mx q k ⟨1792 + r, by omega⟩ := by
  unfold k0_pay128
  pointwise [k0_pay34]
  simp only [diag_7, rest_7, bot_word]
  exact (mx_two q k 1792 (by omega) r).symm

theorem exp_diag_7 : (k0_pay136 q k v : FVec Ideal _ _) (ix2 r l) = ex q k ⟨1792 + r, by omega⟩ ⟨1792 + l, by omega⟩ := by
  unfold k0_pay136
  pointwise [k0_pay44]
  simp only [diag_7, max_7]
  rfl

theorem exp_rest_7 (j : Fin 1792) : (k0_pay143 q k v : FVec Ideal _ _) (ix2 r j) = ex q k ⟨1792 + r, by omega⟩ ⟨j, by omega⟩ := by
  unfold k0_pay143
  pointwise [k0_pay53]
  simp only [rest_7, max_7]
  rfl

theorem sum_7 : (k0_pay151 q k v : FVec Ideal _ _) (ix2 r 0) = ln q k ⟨1792 + r, by omega⟩ := by
  unfold k0_pay151
  pointwise [k0_pay64, k0_pay56]
  simp only [exp_diag_7, exp_rest_7]
  exact (ln_two q k 1792 (by omega) r).symm

end Cert.Kernel16Ideal.MlaFwd
-- ==== Proof.MlaFwd.Pieces.lean ====
/- The eight pieces of the output and of the log-sums that the body writes, each on its rows, and the blocks they make. -/
module

public import proofs.«01_k».proof.Proof.MlaFwd.Tiles

@[expose] public section
noncomputable section
namespace Cert.Kernel16Ideal.MlaFwd
open Cert.Kernel16Ideal Cert.Kernel16Ideal.Gen Idealize.ShloMosaic Idealize.SL.Sem

variable (q k v : Blk)

theorem out_0 : (k0_pay82 (k0_pay144 q k v) (k0_pay65 (k0_pay129 q k v) (View.ld v r0_0)) (k0_pay81 (F := Ideal)) : FVec Ideal _ _)
    = View.ld (go q k v) r0_0 := by
  funext y
  obtain ⟨r, d, rfl⟩ : ∃ (r : Fin 256) (d : Fin 128), y = ix2 r d := ⟨y 0, y 1, eq_ix2 y⟩
  pointwise [k0_pay82, k0_pay65, k0_pay81]
  simp only [exp_diag_0, sum_0]
  unfold go
  show _ = acc q k v ⟨r, by omega⟩ d * Ideal.div 1 (ln q k ⟨r, by omega⟩)
  rw [acc_low]

theorem out_1 : (k0_pay84 (k0_pay145 q k v) (k0_pay74 (k0_pay137 q k v) (k0_pay66 (k0_pay130 q k v) (View.ld v r0_1)) (View.ld v r0_0)) : FVec Ideal _ _)
    = View.ld (go q k v) r0_1 := by
  funext y
  obtain ⟨r, d, rfl⟩ : ∃ (r : Fin 256) (d : Fin 128), y = ix2 r d := ⟨y 0, y 1, eq_ix2 y⟩
  pointwise [k0_pay84, k0_pay74, k0_pay66]
  simp only [exp_diag_1, exp_rest_1, sum_1]
  unfold go
  show _ = acc q k v ⟨256 + r, by omega⟩ d * Ideal.div 1 (ln q k ⟨256 + r, by omega⟩)
  rw [acc_two q k v 256 (by omega)]

theorem out_2 : (k0_pay86 (k0_pay146 q k v) (k0_pay75 (k0_pay138 q k v) (k0_pay67 (k0_pay131 q k v) (View.ld v r0_2)) (View.ld v r0_8)) : FVec Ideal _ _)
    = View.ld (go q k v) r0_2 := by
  funext y
  obtain ⟨r, d, rfl⟩ : ∃ (r : Fin 256) (d : Fin 128), y = ix2 r d := ⟨y 0, y 1, eq_ix2 y⟩
  pointwise [k0_pay86, k0_pay75, k0_pay67]
  simp only [exp_diag_2, exp_rest_2, sum_2]
  unfold go
  show _ = acc q k v ⟨512 + r, by omega⟩ d * Ideal.div 1 (ln q k ⟨512 + r, by omega⟩)
  rw [acc_two q k v 512 (by omega)]

theorem out_3 : (k0_pay88 (k0_pay147 q k v) (k0_pay76 (k0_pay139 q k v) (k0_pay68 (k0_pay132 q k v) (View.ld v r0_3)) (View.ld v r0_9)) : FVec Ideal _ _)
    = View.ld (go q k v) r0_3 := by
  funext y
  obtain ⟨r, d, rfl⟩ : ∃ (r : Fin 256) (d : Fin 128), y = ix2 r d := ⟨y 0, y 1, eq_ix2 y⟩
  pointwise [k0_pay88, k0_pay76, k0_pay68]
  simp only [exp_diag_3, exp_rest_3, sum_3]
  unfold go
  show _ = acc q k v ⟨768 + r, by omega⟩ d * Ideal.div 1 (ln q k ⟨768 + r, by omega⟩)
  rw [acc_two q k v 768 (by omega)]

theorem out_4 : (k0_pay90 (k0_pay148 q k v) (k0_pay77 (k0_pay140 q k v) (k0_pay69 (k0_pay133 q k v) (View.ld v r0_4)) (View.ld v r0_10)) : FVec Ideal _ _)
    = View.ld (go q k v) r0_4 := by
  funext y
  obtain ⟨r, d, rfl⟩ : ∃ (r : Fin 256) (d : Fin 128), y = ix2 r d := ⟨y 0, y 1, eq_ix2 y⟩
  pointwise [k0_pay90, k0_pay77, k0_pay69]
  simp only [exp_diag_4, exp_rest_4, sum_4]
  unfold go
  show _ = acc q k v ⟨1024 + r, by omega⟩ d * Ideal.div 1 (ln q k ⟨1024 + r, by omega⟩)
  rw [acc_two q k v 1024 (by omega)]

theorem out_5 : (k0_pay94 (k0_pay149 q k v) (k0_pay78 (k0_pay51 (k0_pay141 q k v) (k0_pay142 q k v)) (k0_pay70 (k0_pay134 q k v) (View.ld v r0_5)) (View.ld v r0_11)) : FVec Ideal _ _)
    = View.ld (go q k v) r0_5 := by
  funext y
  obtain ⟨r, d, rfl⟩ : ∃ (r : Fin 256) (d : Fin 128), y = ix2 r d := ⟨y 0, y 1, eq_ix2 y⟩
  pointwise [k0_pay94, k0_pay78, k0_pay70]
  simp only [exp_diag_5, exp_rest_5, sum_5]
  unfold go
  show _ = acc q k v ⟨1280 + r, by omega⟩ d * Ideal.div 1 (ln q k ⟨1280 + r, by omega⟩)
  rw [acc_two q k v 1280 (by omega)]

theorem out_6 : (k0_pay96 (k0_pay150 q k v) (k0_pay79 (k0_pay52 (k0_pay117 q k v) (k0_pay127 q k v)) (k0_pay71 (k0_pay135 q k v) (View.ld v r0_6)) (View.ld v r0_12)) : FVec Ideal _ _)
    = View.ld (go q k v) r0_6 := by
  funext y
  obtain ⟨r, d, rfl⟩ : ∃ (r : Fin 256) (d : Fin 128), y = ix2 r d := ⟨y 0, y 1, eq_ix2 y⟩
  pointwise [k0_pay96, k0_pay79, k0_pay71]
  simp only [exp_diag_6, exp_rest_6, sum_6]
  unfold go
  show _ = acc q k v ⟨1536 + r, by omega⟩ d * Ideal.div 1 (ln q k ⟨1536 + r, by omega⟩)
  rw [acc_two q k v 1536 (by omega)]

theorem out_7 : (k0_pay1 (k0_pay151 q k v) (k0_pay80 (k0_pay143 q k v) (k0_pay72 (k0_pay136 q k v)) (k0_pay73 (View.ld v r0_7)) (View.ld v r0_13)) : FVec Ideal _ _)
    = View.ld (go q k v) r0_7 := by
  funext y
  obtain ⟨r, d, rfl⟩ : ∃ (r : Fin 256) (d : Fin 128), y = ix2 r d := ⟨y 0, y 1, eq_ix2 y⟩
  pointwise [k0_pay1, k0_pay80, k0_pay72, k0_pay73]
  simp only [exp_diag_7, exp_rest_7, sum_7]
  unfold go
  show _ = acc q k v ⟨1792 + r, by omega⟩ d * Ideal.div 1 (ln q k ⟨1792 + r, by omega⟩)
  rw [acc_two q k v 1792 (by omega)]

theorem log_0 : (k0_pay83 (k0_pay119 q k v) (k0_pay144 q k v) : FVec Ideal _ _) = View.ld (gl q k) r0_14 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay83]
  simp only [max_0, sum_0]
  rfl

theorem log_1 : (k0_pay85 (k0_pay122 q k v) (k0_pay145 q k v) : FVec Ideal _ _) = View.ld (gl q k) r0_15 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay85]
  simp only [max_1, sum_1]
  rfl

theorem log_2 : (k0_pay87 (k0_pay123 q k v) (k0_pay146 q k v) : FVec Ideal _ _) = View.ld (gl q k) r0_16 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay87]
  simp only [max_2, sum_2]
  rfl

theorem log_3 : (k0_pay89 (k0_pay124 q k v) (k0_pay147 q k v) : FVec Ideal _ _) = View.ld (gl q k) r0_17 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay89]
  simp only [max_3, sum_3]
  rfl

theorem log_4 : (k0_pay93 (k0_pay91 (k0_pay125 q k v)) (k0_pay92 (k0_pay148 q k v)) : FVec Ideal _ _) = View.ld (gl q k) r0_18 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay93, k0_pay91, k0_pay92]
  simp only [max_4, sum_4]
  rfl

theorem log_5 : (k0_pay95 (k0_pay126 q k v) (k0_pay149 q k v) : FVec Ideal _ _) = View.ld (gl q k) r0_19 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay95]
  simp only [max_5, sum_5]
  rfl

theorem log_6 : (k0_pay97 (k0_pay127 q k v) (k0_pay150 q k v) : FVec Ideal _ _) = View.ld (gl q k) r0_20 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay97]
  simp only [max_6, sum_6]
  rfl

theorem log_7 : (k0_pay2 (k0_pay128 q k v) (k0_pay151 q k v) : FVec Ideal _ _) = View.ld (gl q k) r0_21 := by
  funext y
  obtain ⟨e, r, d, rfl⟩ : ∃ (e : Fin 1) (r : Fin 256) (d : Fin 1), y = ix3 e r d := ⟨y 0, y 1, y 2, eq_ix3 y⟩
  obtain rfl : d = 0 := Subsingleton.elim _ _
  pointwise [k0_pay2]
  simp only [max_7, sum_7]
  rfl

/-- The output's block. -/
theorem out3_eq : out0_3 q k v = go q k v := by
  funext y
  refine View.canon_apply_of_pieces (go q k v) _ ?_ y (cover0_3 _ _ _ _ _ _ _ _ y)
  simp only [List.forall_mem_cons, List.not_mem_nil, false_imp_iff, implies_true, and_true]
  exact ⟨congrFun (out_7 q k v), congrFun (out_6 q k v), congrFun (out_5 q k v), congrFun (out_4 q k v), congrFun (out_3 q k v), congrFun (out_2 q k v), congrFun (out_1 q k v), congrFun (out_0 q k v)⟩

/-- The log-sums' column. -/
theorem out4_eq : out0_4 q k v = gl q k := by
  funext y
  refine View.canon_apply_of_pieces (gl q k) _ ?_ y (cover0_4 _ _ _ _ _ _ _ _ y)
  simp only [List.forall_mem_cons, List.not_mem_nil, false_imp_iff, implies_true, and_true]
  exact ⟨congrFun (log_7 q k v), congrFun (log_6 q k v), congrFun (log_5 q k v), congrFun (log_4 q k v), congrFun (log_3 q k v), congrFun (log_2 q k v), congrFun (log_1 q k v), congrFun (log_0 q k v)⟩

end Cert.Kernel16Ideal.MlaFwd
-- ==== Proof.MlaFwd.Array.lean ====
/- The two result arrays of the call, as functions of its three argument arrays; and those, from the arguments of the
   program. A grid point takes one batch entry and one head. -/
module

public import proofs.«01_k».proof.Proof.MlaFwd.Pieces
public import proofs.«01_k».proof.Proof.MlaBwd.Host
public import Idealize.ShloMosaic.Lib.Pipeline.ValueKit

@[expose] public section
noncomputable section
namespace Cert.Kernel16Ideal.MlaFwd
open Cert.Kernel16Ideal Cert.Kernel16Ideal.Gen Idealize.ShloMosaic Idealize.ShloMosaic.TcCoe Idealize.SL.Sem Idealize.ShloMosaic.StableHlo
open Cert.KernelIdeal.MlaBwd (head batchOf headOf within wide96 wide64)

/-- The batch entry of an index of the log-sums. -/
def colBatch (i : S16x2048x1.Idx) : Fin 2 := ⟨(i 0).val / 8, by have : (i 0).val < 16 := (i 0).isLt; omega⟩
/-- The head of an index of the log-sums. -/
def colHead (i : S16x2048x1.Idx) : Fin 8 := ⟨(i 0).val % 8, Nat.mod_lt _ (by decide)⟩
/-- The row of an index of the log-sums, within its column. -/
def colRow (i : S16x2048x1.Idx) : S1x2048x1.Idx := ix3 0 (i 1) 0

variable (m : (ℓ : Loc nD τ sig) → Buf (Elt Ideal) ℓ) (c : Dev nD)

/-- The batch entry of a grid point. -/
def bt (t : Fin cfg0.N) : Fin 2 := ⟨(grid0.coords t 0).val, (grid0.coords t 0).isLt⟩
/-- The head of a grid point. -/
def ht (t : Fin cfg0.N) : Fin 8 := ⟨(grid0.coords t 1).val, (grid0.coords t 1).isLt⟩

theorem index0 : ∀ t : Fin cfg0.N, win0_0.index t = ![(grid0.coords t 0).val, (grid0.coords t 1).val] :=
  (by decide +kernel : ∀ t : Fin grid0.N, _)
theorem index1 : ∀ t : Fin cfg0.N, win0_1.index t = ![(grid0.coords t 0).val, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![(grid0.coords t 0).val, (grid0.coords t 1).val] :=
  (by decide +kernel : ∀ t : Fin grid0.N, _)
theorem index4 : ∀ t : Fin cfg0.N, win0_4.index t = ![8 * (grid0.coords t 0).val + (grid0.coords t 1).val, 0, 0] :=
  (by decide +kernel : ∀ t : Fin grid0.N, _)

theorem blk0 (t : Fin cfg0.N) : iblk m c 0 t = head (V m c main_v2) (bt t) (ht t) := by
  funext y; blk_simp [iblk]; unfold head; congr 1; blk_ext [index0, bt, ht]
theorem blk1 (t : Fin cfg0.N) : iblk m c 1 t = head (V m c main_v5) (bt t) (ht t) := by
  funext y; blk_simp [iblk]; unfold head; congr 1; blk_ext [index1, bt, ht]
theorem blk2 (t : Fin cfg0.N) : iblk m c 2 t = head (V m c main_v8) (bt t) (ht t) := by
  funext y; blk_simp [iblk]; unfold head; congr 1; blk_ext [index2, bt, ht]

/-- Where the rows and lanes of a grid point's block lie. -/
theorem place (i : S4096x1024.Idx) (t : Fin cfg0.N) (y : S2048x128.Idx)
    (h0 : (i 0).val = (bt t).val * 2048 + (y 0).val) (h1 : (i 1).val = (ht t).val * 128 + (y 1).val) :
    batchOf i = bt t ∧ headOf i = ht t ∧ within i = y := by
  have y0 : (y 0).val < 2048 := (y 0).isLt
  have y1 : (y 1).val < 128 := (y 1).isLt
  refine ⟨Fin.ext ?_, Fin.ext ?_, funext fun a => Fin.ext ?_⟩
  · show (i 0).val / 2048 = _
    omega
  · show (i 1).val / 128 = _
    omega
  · match a with
    | ⟨0, _⟩ => show (i 0).val % 2048 = (y 0).val; omega
    | ⟨1, _⟩ => show (i 1).val % 128 = (y 1).val; omega

/-- Where the rows of a grid point's column lie. -/
theorem placeCol (i : S16x2048x1.Idx) (t : Fin cfg0.N) (y : S1x2048x1.Idx)
    (h0 : (i 0).val = 8 * (bt t).val + (ht t).val) (h1 : (i 1).val = (y 1).val) :
    colBatch i = bt t ∧ colHead i = ht t ∧ colRow i = y := by
  have t1 : (ht t).val < 8 := (ht t).isLt
  refine ⟨Fin.ext ?_, Fin.ext ?_, funext fun a => ?_⟩
  · show (i 0).val / 8 = _
    omega
  · show (i 0).val % 8 = _
    omega
  · match a with
    | ⟨0, _⟩ => exact (Subsingleton.elim (α := Fin 1) _ _)
    | ⟨1, _⟩ => exact Fin.ext h1
    | ⟨2, _⟩ => exact (Subsingleton.elim (α := Fin 1) _ _)

/-- The output, of all batch entries and heads. -/
theorem arr3 : (dats m 0 c).arrAt 3 cfg0.N = fun i =>
    go (head (V m c main_v2) (batchOf i) (headOf i)) (head (V m c main_v5) (batchOf i) (headOf i))
      (head (V m c main_v8) (batchOf i) (headOf i)) (within i) := by
  refine (dats m 0 c).arrAt_eq_of_covers 3 _ (by decide +kernel) fun t hf y => ?_
  obtain ⟨hb, hh, hw⟩ := place (((cfg0.win 3).blk t).view.emb y) t y (by blk_simp [index3, bt]) (by blk_simp [index3, ht])
  rw [hb, hh, hw]
  blk_simp
  rw [after0_3, out3_eq, blk0, blk1, blk2]

/-- The log-sums, of all batch entries and heads. -/
theorem arr4 : (dats m 0 c).arrAt 4 cfg0.N = fun i =>
    gl (head (V m c main_v2) (colBatch i) (colHead i)) (head (V m c main_v5) (colBatch i) (colHead i)) (colRow i) := by
  refine (dats m 0 c).arrAt_eq_of_covers 4 _ (by decide +kernel) fun t hf y => ?_
  obtain ⟨hb, hh, hw⟩ := placeCol (((cfg0.win 4).blk t).view.emb y) t y (by blk_simp [index4, bt, ht]) (by blk_simp [index4])
  rw [hb, hh, hw]
  blk_simp
  rw [after0_4, out4_eq, blk0, blk1]

theorem entry_q : V m c main_v2 = wide96 (m (c, main_arg0)) := by
  unfold V; after_reads_simp; rfl
theorem entry_k : V m c main_v5 = wide96 (m (c, main_arg1)) := by
  unfold V; after_reads_simp; rfl
theorem entry_v : V m c main_v8 = wide64 (m (c, main_arg2)) := by
  unfold V; after_reads_simp; rfl

end Cert.Kernel16Ideal.MlaFwd
-- ==== Proof.MlaFwd.Head.lean ====
/- One head's block results, over the real numbers: the probabilities and the log-sums do not depend on the number that each
   row's exponentials are taken against. -/
module

public import proofs.«01_k».proof.Proof.MlaFwd.Scores

@[expose] public section
noncomputable section
namespace Cert.MlaBwd

variable (Q K : Fin 2048 → Fin 96 → ℝ) (M N : Fin 2048 → ℝ)

theorem E_shift (r j : Fin 2048) : E Q K N r j = E Q K M r j * Real.exp (M r - N r) := by
  unfold E
  split
  · rw [← Real.exp_add]; congr 1; ring
  · rw [zero_mul]

theorem L_shift (r : Fin 2048) : L Q K N r = L Q K M r * Real.exp (M r - N r) := by
  unfold L
  rw [Finset.sum_mul]
  exact Finset.sum_congr rfl fun j _ => E_shift Q K M N r j

theorem P_shift (r j : Fin 2048) : P Q K N r j = P Q K M r j := by
  unfold P
  rw [E_shift Q K M N, L_shift Q K M N, mul_div_mul_right _ _ (Real.exp_pos _).ne']

theorem log_shift (r : Fin 2048) : N r + Real.log (L Q K N r) = M r + Real.log (L Q K M r) := by
  rw [L_shift Q K M N, Real.log_mul (L_pos Q K M r).ne' (Real.exp_pos _).ne', Real.log_exp]
  ring

end Cert.MlaBwd

namespace Cert.Kernel16Ideal.MlaFwd
open Cert.Kernel16Ideal Cert.Kernel16Ideal.Gen Idealize.ShloMosaic Idealize.SL.Sem Cert.MlaBwd
open Cert.KernelIdeal.MlaBwd (Padded score score_real)
open Cert.ReferenceIdeal.MlaBwd (div_real)

variable {q k v : Blk} {Q K : Fin 2048 → Fin 96 → ℝ}

theorem ms_real (hq : Padded 96 q Q) (hk : Padded 96 k K) (r j : Fin 2048) :
    ms q k r j = if j ≤ r then ((∑ x, Q r x * K j x : ℝ) : EReal) else ⊥ := by
  rw [ms, score_real (by decide) hq hk]

/-- A row's maximum, as a real number. -/
def top (q k : Blk) (r : Fin 2048) : ℝ := (mx q k r).toReal

theorem mx_real (hq : Padded 96 q Q) (hk : Padded 96 k K) (r : Fin 2048) : mx q k r = ((top q k r : ℝ) : EReal) := by
  refine (EReal.coe_toReal ?_ ?_).symm
  · refine ne_of_lt (Finset.fold_max_lt _ |>.mpr ⟨bot_lt_top, fun j _ => ?_⟩)
    rw [ms_real hq hk]; split
    · exact EReal.coe_lt_top _
    · exact bot_lt_top
  · refine (ne_of_lt ?_).symm
    refine lt_of_lt_of_le (EReal.bot_lt_coe (∑ x, Q r x * K r x)) (Finset.le_fold_max _ |>.mpr (Or.inr ⟨r, Finset.mem_univ _, ?_⟩))
    rw [ms_real hq hk, if_pos le_rfl]

/-- The number a row's exponentials are taken against: its largest scaled score. -/
def big (q k : Blk) (r : Fin 2048) : ℝ := top q k r * scale

theorem ex_real (hq : Padded 96 q Q) (hk : Padded 96 k K) (r j : Fin 2048) :
    ex q k r j = ((E Q K (big q k) r j : ℝ) : EReal) := by
  by_cases h : j ≤ r
  · have h2 : Real.log 2 ≠ 0 := (Real.log_pos one_lt_two).ne'
    rw [ex, ms_real hq hk, if_pos h, mx_real hq hk, sc2_val, ← EReal.coe_sub, ← EReal.coe_mul, Ideal.exp2_coe, E, if_pos h]
    refine congrArg _ ((Real.rpow_def_of_pos two_pos _).trans (congrArg _ ?_))
    unfold S big scale
    field_simp
  · rw [ex_above q k (not_le.mp h), E, if_neg h]; rfl

theorem ln_real (hq : Padded 96 q Q) (hk : Padded 96 k K) (r : Fin 2048) :
    ln q k r = ((L Q K (big q k) r : ℝ) : EReal) := by
  unfold ln L
  rw [coe_sum]
  exact Finset.sum_congr rfl fun j _ => ex_real hq hk r j

/-- A sum times a real number that is not negative, term by term. -/
theorem sum_mul_coe {ι : Type*} (s : Finset ι) (f : ι → EReal) (x : ℝ) (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih, EReal.right_distrib_of_nonneg_of_ne_top (EReal.coe_nonneg.mpr hx) (EReal.coe_ne_top x)]

/-- The output, with the probabilities against any other number of each row: of any values, real or infinite. -/
theorem go_real (hq : Padded 96 q Q) (hk : Padded 96 k K) (M : Fin 2048 → ℝ) (r : Fin 2048) (d : Fin 128) :
    go q k v (ix2 r d) = ∑ j, v (ix2 j d) * ((P Q K M r j : ℝ) : EReal) := by
  show acc q k v r d * Ideal.div 1 (ln q k r) = _
  have hl := L_pos Q K (big q k) r
  rw [acc, ln_real hq hk, ← EReal.coe_one, div_real _ _ hl.ne', sum_mul_coe _ _ _ (one_div_pos.mpr hl).le]
  refine Finset.sum_congr rfl fun j _ => ?_
  rw [ex_real hq hk, mul_right_comm, ← EReal.coe_mul, mul_comm, ← P_shift Q K M (big q k), P, mul_one_div]

/-- The log-sums likewise. -/
theorem gl_real (hq : Padded 96 q Q) (hk : Padded 96 k K) (M : Fin 2048 → ℝ) (r : Fin 2048) :
    gl q k (ix3 0 r 0) = (((M r + Real.log (L Q K M r)) / Real.log 2 : ℝ) : EReal) := by
  have two : Ideal.ofBits .f32 0x40000000#32 = ((2 : ℝ) : EReal) := by
    simp [Ideal.ofBits, Ideal.ieee]
    norm_num
    rw [← EReal.coe_mul]
    norm_num
  show mx q k r * sc2 + Ideal.div (Ideal.log (ln q k r)) (Ideal.log (Ideal.ofBits .f32 0x40000000#32)) = _
  rw [two, ln_real hq hk, mx_real hq hk, sc2_val, Ideal.log_coe, Ideal.log_coe, if_neg (not_le.mpr (L_pos Q K _ r)),
    if_neg (by norm_num), div_real _ _ (Real.log_pos one_lt_two).ne', ← EReal.coe_mul, ← EReal.coe_add, log_shift Q K (big q k) M]
  congr 1
  unfold big scale
  ring

end Cert.Kernel16Ideal.MlaFwd
-- ==== Proof.MlaFwd.Equation.lean ====
/- The call's two arrays are the reference's, when every entry of the queries and keys is a real number. -/
module

public import proofs.«01_k».proof.Proof.MlaFwd.Array
public import proofs.«01_k».proof.Proof.MlaFwd.Head
public import proofs.«01_k».proof.Proof.MlaBwd.Equation
public import proofs.«01_k».proof.Proof.Gen.Reference16Ideal.Read

@[expose] public section
noncomputable section
namespace Cert.Kernel16Ideal.MlaFwd
open Cert.Kernel16Ideal Cert.Kernel16Ideal.Gen Idealize.ShloMosaic Idealize.ShloMosaic.TcCoe Idealize.SL.Sem Cert.MlaBwd
open Cert.KernelIdeal.MlaBwd (head headCol wide64 outs logSum2 heads_ext head_wide64 padded96 logSum_real Finite)
open Cert.ReferenceIdeal.MlaBwd (rmax)

/-- The log-sums are determined by their columns. -/
theorem col_apply (l : Vec Ideal S16x2048x1 .f32) (i : S16x2048x1.Idx) :
    l i = headCol l (colBatch i) (colHead i) (colRow i) := by
  unfold headCol
  refine congrArg l (funext fun x => ?_)
  match x with
  | ⟨0, _⟩ => exact Fin.ext (by show (i 0).val = 8 * ((i 0).val / 8) + (i 0).val % 8; omega)
  | ⟨1, _⟩ => rfl
  | ⟨2, _⟩ => exact Subsingleton.elim (α := Fin 1) _ _

/-- The reference's output, of any values. -/
theorem ref_out {q k : KernelIdeal.MlaBwd.Args96} (v : KernelIdeal.MlaBwd.Args64) {b : Fin 2} {h : Fin 8} {Q K : Fin 2048 → Fin 96 → ℝ}
    (hq : ∀ r d, q (ix4 b r h d) = ((Q r d : ℝ) : EReal)) (hk : ∀ r d, k (ix4 b r h d) = ((K r d : ℝ) : EReal))
    (r : Fin 2048) (d : Fin 64) :
    outs q k v (ix4 b r h d) = ∑ j, v (ix4 b j h d) * ((P Q K (rmax q k b h) r j : ℝ) : EReal) := by
  unfold outs
  rw [ReferenceIdeal.Read.val_main_v39_apply, ReferenceIdeal.Read.val_main_v38_apply]
  refine Finset.sum_congr rfl fun j _ => ?_
  rw [ReferenceIdeal.MlaBwd.eq_ix4 (ReferenceIdeal.Read.lidx_main_v38 (ReferenceIdeal.Read.idx_main_v39 (ix4 b r h d)) j) b j h d rfl rfl rfl rfl,
    ReferenceIdeal.MlaBwd.eq_ix4 (ReferenceIdeal.Read.ridx_main_v38 (ReferenceIdeal.Read.idx_main_v39 (ix4 b r h d)) j) b h r j rfl rfl rfl rfl,
    ReferenceIdeal.MlaBwd.p_real r j hq hk]

variable (m : (ℓ : Loc nD τ sig) → Buf (Elt Ideal) ℓ) (c : Dev nD)

theorem out_eq (fq : Finite (m (c, main_arg0))) (fk : Finite (m (c, main_arg1))) :
    (dats m 0 c).arrAt 3 cfg0.N = Reference16Ideal.Read.val_main_v44 (F := Ideal) (m (c, main_arg0)) (m (c, main_arg1)) (m (c, main_arg2)) := by
  rw [arr3, entry_q, entry_k, entry_v]
  generalize m (c, main_arg0) = q at *
  generalize m (c, main_arg1) = k at *
  generalize m (c, main_arg2) = v at *
  funext x
  have e : Reference16Ideal.Read.val_main_v44 (F := Ideal) q k v = wide64 (outs q k v) := rfl
  rw [e]
  refine heads_ext _ (fun b h => go _ _ _) x fun b h r d => ?_
  have hq := fun r d => (fq (ix4 b r h d)).symm
  have hk := fun r d => (fk (ix4 b r h d)).symm
  rw [go_real (padded96 q hq) (padded96 k hk) (rmax q k b h), head_wide64]
  simp only [head_wide64]
  split
  · exact (ref_out v hq hk r _).symm
  · exact Finset.sum_eq_zero fun _ _ => zero_mul _

theorem log_eq (fq : Finite (m (c, main_arg0))) (fk : Finite (m (c, main_arg1))) :
    (dats m 0 c).arrAt 4 cfg0.N = Reference16Ideal.Read.val_main_v48 (F := Ideal) (m (c, main_arg0)) (m (c, main_arg1)) := by
  rw [arr4, entry_q, entry_k]
  generalize m (c, main_arg0) = q at *
  generalize m (c, main_arg1) = k at *
  funext x
  have e : Reference16Ideal.Read.val_main_v48 (F := Ideal) q k = logSum2 q k := rfl
  rw [e, col_apply (logSum2 q k)]
  generalize colBatch x = b
  generalize colHead x = h
  have hq := fun r d => (fq (ix4 b r h d)).symm
  have hk := fun r d => (fk (ix4 b r h d)).symm
  exact (gl_real (padded96 q hq) (padded96 k hk) (rmax q k b h) (x 1)).trans (logSum_real hq hk (x 1)).symm

end Cert.Kernel16Ideal.MlaFwd
-- ==== Proof.MlaFwd.Claims.lean ====
/- The claims about the latent attention's forward call. -/
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Pre_finite16
public import proofs.«01_k».proof.Proof.MlaBwd.Claims
public import proofs.«01_k».proof.Proof.MlaFwd.Equation

@[expose] public section
noncomputable section
namespace Cert.Proof.MlaFwd
open Idealize.ShloMosaic Idealize.SL.Sem Cert.Proof.MlaBwd

theorem frame_p : Cert.quiescent_Kernel16 := fun m ρ _ => Cert.Kernel16.Gen.frame m ρ
theorem frame_pi : Cert.quiescent_Kernel16Ideal := fun m ρ _ => Cert.Kernel16Ideal.Gen.frame m ρ
theorem frame_pi_finite : Cert.quiescent_Kernel16Ideal_pre_finite16 := fun m ρ _ => Cert.Kernel16Ideal.Gen.frame m ρ
theorem frame_ri : Cert.quiescent_Reference16Ideal := fun m ρ _ =>
  (θ_run Cert.Reference16Ideal.defs _ _).mono (fun r h => ⟨fun c => (h c).2.2,
      Idealize.ShloMosaic.sem_eq_zero_of_no_sems (by decide) r.2⟩)
    (Cert.Reference16Ideal.Value.run (F := Ideal) m ρ)
theorem frame_ri_finite : Cert.quiescent_Reference16Ideal_pre_finite16 := fun m ρ _ => frame_ri m ρ trivial

theorem preserves : Cert.preserves_Kernel16_Kernel16Ideal :=
  ⟨IdealRules.named_const.statement Cert.Kernel16Ideal.κ "mask" .f32 0xF149F2CA#32 ⊥ rfl,
    IdealRules.named_const.statement Cert.Kernel16Ideal.κ "scale_log2e" .f32 0x3E16C740#32
      (((3424635 / 33554432) * (Real.log 2)⁻¹ : ℝ) : EReal) rfl⟩

/-- With queries and keys of real numbers the kernel's two arrays are the reference's. -/
theorem algebraic : Cert.algebraic_Kernel16Ideal_Reference16Ideal_pre_finite16 := by
  intro m ρ m' ρ' hpre hagree
  refine ⟨_, _, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨h0, h1, hargs⟩ := h c
  obtain ⟨a0, a1, a2⟩ := hagree c
  obtain ⟨p0, p1⟩ := hpre c
  have f0 := finite_of_test _ _ p0
  have f1 := finite_of_test _ _ p1
  refine ⟨h0.trans ?_, h1.trans ?_, hargs⟩
  · rw [Cert.Reference16Ideal.Read.val_main_v44_eq, a0, a1, a2]
    exact (Cert.Kernel16Ideal.MlaFwd.out_eq m c f0 f1).symm
  · rw [Cert.Reference16Ideal.Read.val_main_v48_eq, a0, a1]
    exact (Cert.Kernel16Ideal.MlaFwd.log_eq m c f0 f1).symm

end Cert.Proof.MlaFwd
-- ==== Proof.Optim.Rule.lean ====
/- The optimiser's rule for one entry of a weight. -/
module

public import Idealize.ShloMosaic.PureOps.Ideal

@[expose] public section
noncomputable section
namespace Cert.Optim
open Idealize.ShloMosaic

/-- The new first moment, from the gradient and the old one. -/
def newM (g m : EReal) : EReal := Ideal.ofBits .f32 0x3F666666#32 * m + Ideal.ofBits .f32 0x3DCCCCCD#32 * g

/-- The new second moment, from the gradient and the old one. -/
def newV (g v : EReal) : EReal := Ideal.ofBits .f32 0x3F7FBE77#32 * v + Ideal.ofBits .f32 0x3A83126F#32 * (g * g)

/-- The step of the weight, from the weight and the new moments. -/
def step (w m v : EReal) : EReal :=
  Ideal.ofBits .f32 0xBA83126F#32 * (Ideal.div (Ideal.div m (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

end Cert.Optim
end
-- ==== Proof.Optim.Big.Array.lean ====
/- The optimiser's call on a large weight: its result arrays are the reference's. -/
module

public import proofs.«01_k».proof.Proof.Optim.Rule
public import proofs.«01_k».proof.Proof.Gen.Kernel17Ideal.Value
public import proofs.«01_k».proof.Proof.Gen.Reference17Ideal.Read
public import Idealize.ShloMosaic.Lib.Pipeline.ValueKit
public import Idealize.ShloMosaic.Lib.Pointwise
public import Idealize.ShloMosaic.Lib.ValueIdx
public import Idealize.ShloMosaic.Lib.StableHlo.RunRead

@[expose] public section
noncomputable section
namespace Cert.Kernel17Ideal.OptimBig
open Cert.Kernel17Ideal Cert.Kernel17Ideal.Gen Idealize.ShloMosaic Idealize.ShloMosaic.TcCoe Idealize.SL.Sem
open Idealize.ShloMosaic.StableHlo Cert.Optim

section
variable (w g m v : Vec Ideal S1x352x1024 .f32)

/-! A tile of each result. -/
def tileM : Vec Ideal S1x352x1024 .f32 := fun i => newM (g i) (m i)
def tileV : Vec Ideal S1x352x1024 .f32 := fun i => newV (g i) (v i)
def tileD : Vec Ideal S1x352x1024 .f32 := fun i => step (w i) (newM (g i) (m i)) (newV (g i) (v i))

theorem pieceM (y : S1x352x1024.Idx) :
    (k0_pay2 (k0_pay5 (View.ld g r0_0) (View.ld m r0_0)) y : EReal) = View.ld (tileM g m) r0_0 y := by
  obtain ⟨e, r, l, rfl⟩ : ∃ (e : Fin 1) (r : Fin 352) (l : Fin 1024), y = ix3 e r l := ⟨y 0, y 1, y 2, eq_ix3 y⟩
  pointwise [k0_pay2, k0_pay5, k0_pay4]
  rfl

theorem pieceV (y : S1x352x1024.Idx) :
    (k0_pay3 (k0_pay6 (View.ld g r0_0) (View.ld v r0_0)) y : EReal) = View.ld (tileV g v) r0_0 y := by
  obtain ⟨e, r, l, rfl⟩ : ∃ (e : Fin 1) (r : Fin 352) (l : Fin 1024), y = ix3 e r l := ⟨y 0, y 1, y 2, eq_ix3 y⟩
  pointwise [k0_pay3, k0_pay6, k0_pay4]
  rfl

theorem pieceD (y : S1x352x1024.Idx) :
    (k0_pay1 (k0_pay7 (View.ld w r0_0) (View.ld g r0_0) (View.ld m r0_0) (View.ld v r0_0)) y : EReal)
      = View.ld (tileD w g m v) r0_0 y := by
  obtain ⟨e, r, l, rfl⟩ : ∃ (e : Fin 1) (r : Fin 352) (l : Fin 1024), y = ix3 e r l := ⟨y 0, y 1, y 2, eq_ix3 y⟩
  pointwise [k0_pay1, k0_pay7, k0_pay5, k0_pay6, k0_pay4]
  rfl

theorem out_d : out0_4 w g m v = tileD w g m v := by
  funext y
  refine View.canon_apply_of_pieces (tileD w g m v) _ ?_ y (cover0_4 _ y)
  simp only [List.forall_mem_cons, List.not_mem_nil, false_imp_iff, implies_true, and_true]
  exact pieceD w g m v

theorem out_m : out0_5 w g m v = tileM g m := by
  funext y
  refine View.canon_apply_of_pieces (tileM g m) _ ?_ y (cover0_5 _ y)
  simp only [List.forall_mem_cons, List.not_mem_nil, false_imp_iff, implies_true, and_true]
  exact pieceM g m

theorem out_v : out0_6 w g m v = tileV g v := by
  funext y
  refine View.canon_apply_of_pieces (tileV g v) _ ?_ y (cover0_6 _ y)
  simp only [List.forall_mem_cons, List.not_mem_nil, false_imp_iff, implies_true, and_true]
  exact pieceV g v
end

variable (m : (ℓ : Loc nD τ sig) → Buf (Elt Ideal) ℓ) (c : Dev nD)

theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

/-- The layer of tile `t`. -/
def layer (t : Fin cfg0.N) : Fin 2 := ⟨t.val, t.isLt⟩

theorem entry0 : V m c main_arg0 = m (c, main_arg0) := by unfold V; after_reads_simp
theorem entry1 : V m c main_arg1 = m (c, main_arg1) := by unfold V; after_reads_simp
theorem entry2 : V m c main_arg2 = m (c, main_arg2) := by unfold V; after_reads_simp
theorem entry3 : V m c main_arg3 = m (c, main_arg3) := by unfold V; after_reads_simp

theorem blk0 (t : Fin cfg0.N) (e : Fin 1) (r : Fin 352) (l : Fin 1024) :
    iblk m c 0 t (ix3 e r l) = V m c main_arg0 (ix3 (layer t) r l) := by
  blk_simp [iblk]; congr 1; blk_ext [index0, layer]
theorem blk1 (t : Fin cfg0.N) (e : Fin 1) (r : Fin 352) (l : Fin 1024) :
    iblk m c 1 t (ix3 e r l) = V m c main_arg1 (ix3 (layer t) r l) := by
  blk_simp [iblk]; congr 1; blk_ext [index1, layer]
theorem blk2 (t : Fin cfg0.N) (e : Fin 1) (r : Fin 352) (l : Fin 1024) :
    iblk m c 2 t (ix3 e r l) = V m c main_arg2 (ix3 (layer t) r l) := by
  blk_simp [iblk]; congr 1; blk_ext [index2, layer]
theorem blk3 (t : Fin cfg0.N) (e : Fin 1) (r : Fin 352) (l : Fin 1024) :
    iblk m c 3 t (ix3 e r l) = V m c main_arg3 (ix3 (layer t) r l) := by
  blk_simp [iblk]; congr 1; blk_ext [index3, layer]

/-! Where an entry of a tile lies in the array. -/
theorem place4 (t : Fin cfg0.N) (e : Fin 1) (r : Fin 352) (l : Fin 1024) :
    ((cfg0.win 4).blk t).view.emb (ix3 e r l) = ix3 (layer t) r l := by
  funext a; apply Fin.ext
  match a with
  | ⟨0, _⟩ => blk_simp [index4, layer]
  | ⟨1, _⟩ => blk_simp [index4]
  | ⟨2, _⟩ => blk_simp [index4]
theorem place5 (t : Fin cfg0.N) (e : Fin 1) (r : Fin 352) (l : Fin 1024) :
    ((cfg0.win 5).blk t).view.emb (ix3 e r l) = ix3 (layer t) r l := by
  funext a; apply Fin.ext
  match a with
  | ⟨0, _⟩ => blk_simp [index5, layer]
  | ⟨1, _⟩ => blk_simp [index5]
  | ⟨2, _⟩ => blk_simp [index5]
theorem place6 (t : Fin cfg0.N) (e : Fin 1) (r : Fin 352) (l : Fin 1024) :
    ((cfg0.win 6).blk t).view.emb (ix3 e r l) = ix3 (layer t) r l := by
  funext a; apply Fin.ext
  match a with
  | ⟨0, _⟩ => blk_simp [index6, layer]
  | ⟨1, _⟩ => blk_simp [index6]
  | ⟨2, _⟩ => blk_simp [index6]

/-! The results, from the arguments. -/
def wholeM (g m : FVec Ideal S2x352x1024 .f32) : FVec Ideal S2x352x1024 .f32 := fun i => newM (g i) (m i)
def wholeV (g v : FVec Ideal S2x352x1024 .f32) : FVec Ideal S2x352x1024 .f32 := fun i => newV (g i) (v i)
def wholeD (w g m v : FVec Ideal S2x352x1024 .f32) : FVec Ideal S2x352x1024 .f32 :=
  fun i => step (w i) (newM (g i) (m i)) (newV (g i) (v i))

/-- The steps. -/
theorem arr4 : (dats m 0 c).arrAt 4 cfg0.N
    = wholeD (m (c, main_arg0)) (m (c, main_arg1)) (m (c, main_arg2)) (m (c, main_arg3)) := by
  refine (dats m 0 c).arrAt_eq_of_covers 4 _ (by decide +kernel) fun t hf y => ?_
  obtain ⟨e, r, l, rfl⟩ : ∃ (e : Fin 1) (r : Fin 352) (l : Fin 1024), y = ix3 e r l := ⟨y 0, y 1, y 2, eq_ix3 y⟩
  rw [place4]
  blk_simp
  rw [after0_4, out_d]
  simp only [tileD, wholeD, blk0, blk1, blk2, blk3, entry0, entry1, entry2, entry3]

/-- The new first moments. -/
theorem arr5 : (dats m 0 c).arrAt 5 cfg0.N = wholeM (m (c, main_arg1)) (m (c, main_arg2)) := by
  refine (dats m 0 c).arrAt_eq_of_covers 5 _ (by decide +kernel) fun t hf y => ?_
  obtain ⟨e, r, l, rfl⟩ : ∃ (e : Fin 1) (r : Fin 352) (l : Fin 1024), y = ix3 e r l := ⟨y 0, y 1, y 2, eq_ix3 y⟩
  rw [place5]
  blk_simp
  rw [after0_5, out_m]
  simp only [tileM, wholeM, blk1, blk2, entry1, entry2]

/-- The new second moments. -/
theorem arr6 : (dats m 0 c).arrAt 6 cfg0.N = wholeV (m (c, main_arg1)) (m (c, main_arg3)) := by
  refine (dats m 0 c).arrAt_eq_of_covers 6 _ (by decide +kernel) fun t hf y => ?_
  obtain ⟨e, r, l, rfl⟩ : ∃ (e : Fin 1) (r : Fin 352) (l : Fin 1024), y = ix3 e r l := ⟨y 0, y 1, y 2, eq_ix3 y⟩
  rw [place6]
  blk_simp
  rw [after0_6, out_v]
  simp only [tileV, wholeV, blk1, blk3, entry1, entry3]

open Cert.Reference17Ideal.Read

theorem m_eq (g m : FVec Ideal S2x352x1024 .f32) : wholeM g m = val_main_v4 (F := Ideal) g m := by
  funext i
  rw [val_main_v4_apply, val_main_v1_apply, val_main_v3_apply, val_main_v0_apply, val_main_v2_apply,
    val_main_cst_apply, val_main_cst_0_apply]
  rfl

theorem v_eq (g v : FVec Ideal S2x352x1024 .f32) : wholeV g v = val_main_v10 (F := Ideal) g v := by
  funext i
  rw [val_main_v10_apply, val_main_v6_apply, val_main_v9_apply, val_main_v5_apply, val_main_v8_apply, val_main_v7_apply,
    val_main_cst_1_apply, val_main_cst_2_apply]
  rfl

theorem d_eq (w g m v : FVec Ideal S2x352x1024 .f32) : wholeD w g m v = val_main_v23 (F := Ideal) w g m v := by
  funext i
  rw [val_main_v23_apply, val_main_v22_apply, val_main_cst_7_apply, val_main_v21_apply, val_main_v20_apply,
    val_main_v19_apply, val_main_cst_6_apply, val_main_v18_apply, val_main_v17_apply, val_main_v16_apply,
    val_main_cst_5_apply, val_main_v15_apply, val_main_v14_apply, val_main_v13_apply, val_main_cst_4_apply,
    val_main_v12_apply, val_main_v11_apply, val_main_cst_3_apply, ← m_eq, ← v_eq]
  rfl
end Cert.Kernel17Ideal.OptimBig
end
-- ==== Proof.Optim.Big.Claims.lean ====
/- The claims about the optimiser's call on the large weights. -/
module

public import proofs.«01_k».proof.Defs
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Optim.Big.Array

@[expose] public section
noncomputable section
namespace Cert.Proof.OptimBig
open Idealize.ShloMosaic Idealize.SL.Sem

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2.2,
      Idealize.ShloMosaic.sem_eq_zero_of_no_sems (by decide) r.2⟩)
    (Cert.Reference17Ideal.Value.run (F := Ideal) m ρ)

theorem preserves : Cert.preserves_Kernel17_Kernel17Ideal := trivial

/-- The kernel's three arrays are the reference's. -/
theorem algebraic : Cert.algebraic_Kernel17Ideal_Reference17Ideal := by
  intro m ρ m' ρ' _ hagree
  refine ⟨_, _, _, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.Reference17Ideal.Read.val_main_v23_eq, a0, a1, a2, a3, Cert.Kernel17Ideal.OptimBig.arr4]
    exact (Cert.Kernel17Ideal.OptimBig.d_eq _ _ _ _).symm
  · rw [Cert.Reference17Ideal.Read.val_main_v4_eq, a1, a2, Cert.Kernel17Ideal.OptimBig.arr5]
    exact (Cert.Kernel17Ideal.OptimBig.m_eq _ _).symm
  · rw [Cert.Reference17Ideal.Read.val_main_v10_eq, a1, a3, Cert.Kernel17Ideal.OptimBig.arr6]
    exact (Cert.Kernel17Ideal.OptimBig.v_eq _ _).symm

end Cert.Proof.OptimBig
end
-- ==== Proof.Loss.Body.lean ====
/- What one grid point of the loss's call leaves in its results and in the accumulator of the squares. -/
module

public import proofs.«01_k».proof.Proof.Gen.Kernel18Ideal.Value
public import Idealize.ShloMosaic.Lib.Pipeline.ValueKit
public import Idealize.ShloMosaic.Lib.Pointwise
public import Idealize.ShloMosaic.Lib.ValueIdx

@[expose] public section
noncomputable section
namespace Cert.Kernel18Ideal.Loss
open Cert.Kernel18Ideal Cert.Kernel18Ideal.Gen Idealize.ShloMosaic Idealize.ShloMosaic.TcCoe Idealize.SL.Sem

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S512x1024 .bf16) (h4 : a4.IsWhole) (a5 : Memref sig .tc .vmem S1x1 .f32) (h5 : a5.IsWhole)
  (a6 : Memref sig .tc .vmem S1x1024 .f32) (h6 : a6.IsWhole)
  (x0 x1 : Vec Ideal S512x1024 .f32) (acc : Vec Ideal S1x1024 .f32)

theorem zero2 : (![0, 0] : Fin 2 → ℕ) = fun _ => 0 := by decide

theorem whole_tile (x : Vec Ideal S512x1024 .f32) (h) :
    View.ld x (Rect.unit (s := S512x1024) ![0, 0] ![512, 1024] h) = x := View.ld_unit_zero zero2 h x
theorem whole_acc (x : Vec Ideal S1x1024 .f32) (h) :
    View.ld x (Rect.unit (s := S1x1024) ![0, 0] ![1, 1024] h) = x := View.ld_unit_zero zero2 h x

/-! The first point. -/
theorem out_A2 (hc0 : cond0_0 i) (hc1 : ¬cond0_1 i) :
    out0_A_2 c i a1 h1 a2 h2 a3 h3 a4 h4 a5 h5 a6 h6 hc0 hc1 x0 x1 = k0_pay2 x0 x1 := by
  unfold out0_A_2
  rw [View.read_writes_junk_eq_canon]
  unfold kernelRun0_A
  dsimp only
  sl_unfold_words
  simp only [View.readAt_eq_ld, h1.read_unread, h2.read_unread]
  refine (View.canon_cons_unit_zero zero2 _ _ _).trans ?_
  simp only [whole_tile]

theorem out_A3 (hc0 : cond0_0 i) (hc1 : ¬cond0_1 i) :
    out0_A_3 c i a1 h1 a2 h2 a3 h3 a4 h4 a5 h5 a6 h6 hc0 hc1 x0 x1 = k0_pay3 x0 x1 := by
  unfold out0_A_3
  rw [View.read_writes_junk_eq_canon]
  unfold kernelRun0_A
  dsimp only
  sl_unfold_words
  simp only [View.readAt_eq_ld, h1.read_unread, h2.read_unread]
  refine (View.canon_cons_unit_zero zero2 _ _ _).trans ?_
  simp only [whole_tile]

theorem sout_A (hc0 : cond0_0 i) (hc1 : ¬cond0_1 i) :
    sout0_A_0 c i a1 h1 a2 h2 a3 h3 a4 h4 a5 h5 a6 h6 hc0 hc1 x0 x1 = k0_pay5 x0 x1 (k0_pay4 (F := Ideal)) := by
  unfold sout0_A_0
  rw [View.read_writes_junk_eq_canon]
  unfold kernelRun0_A
  dsimp only
  sl_unfold_words
  simp only [View.readAt_eq_ld, h1.read_unread, h2.read_unread]
  refine (View.canon_cons_unit_zero zero2 _ _ _).trans ?_
  simp only [whole_tile]
  exact congrArg (k0_pay5 x0 x1) (View.readCov_unit_zero a6.view zero2 _ _)

/-! A point between. -/
theorem out_B2 (hc0 : ¬cond0_0 i) (hc1 : ¬cond0_1 i) :
    out0_B_2 c i a1 h1 a2 h2 a3 h3 a4 h4 a5 h5 a6 h6 hc0 hc1 x0 x1 acc = k0_pay2 x0 x1 := by
  unfold out0_B_2
  rw [View.read_writes_junk_eq_canon]
  unfold kernelRun0_B
  dsimp only
  sl_unfold_words
  simp only [View.readAt_eq_ld, h1.read_unread, h2.read_unread]
  refine (View.canon_cons_unit_zero zero2 _ _ _).trans ?_
  simp only [whole_tile]

theorem out_B3 (hc0 : ¬cond0_0 i) (hc1 : ¬cond0_1 i) :
    out0_B_3 c i a1 h1 a2 h2 a3 h3 a4 h4 a5 h5 a6 h6 hc0 hc1 x0 x1 acc = k0_pay3 x0 x1 := by
  unfold out0_B_3
  rw [View.read_writes_junk_eq_canon]
  unfold kernelRun0_B
  dsimp only
  sl_unfold_words
  simp only [View.readAt_eq_ld, h1.read_unread, h2.read_unread]
  refine (View.canon_cons_unit_zero zero2 _ _ _).trans ?_
  simp only [whole_tile]

theorem sout_B (hc0 : ¬cond0_0 i) (hc1 : ¬cond0_1 i) :
    sout0_B_0 c i a1 h1 a2 h2 a3 h3 a4 h4 a5 h5 a6 h6 hc0 hc1 x0 x1 acc = k0_pay5 x0 x1 acc := by
  unfold sout0_B_0
  rw [View.read_writes_junk_eq_canon]
  unfold kernelRun0_B
  dsimp only
  sl_unfold_words
  simp only [View.readAt_eq_ld, h1.read_unread, h2.read_unread, h6.read_unread]
  refine (View.canon_cons_unit_zero zero2 _ _ _).trans ?_
  simp only [whole_tile, whole_acc]

/-! The last point. -/
theorem out_C2 (hc0 : ¬cond0_0 i) (hc1 : cond0_1 i) :
    out0_C_2 c i a1 h1 a2 h2 a3 h3 a4 h4 a5 h5 a6 h6 hc0 hc1 x0 x1 acc = k0_pay2 x0 x1 := by
  unfold out0_C_2
  rw [View.read_writes_junk_eq_canon]
  unfold kernelRun0_C
  dsimp only
  sl_unfold_words
  simp only [View.readAt_eq_ld, h1.read_unread, h2.read_unread]
  refine (View.canon_cons_unit_zero zero2 _ _ _).trans ?_
  simp only [whole_tile]

theorem out_C3 (hc0 : ¬cond0_0 i) (hc1 : cond0_1 i) :
    out0_C_3 c i a1 h1 a2 h2 a3 h3 a4 h4 a5 h5 a6 h6 hc0 hc1 x0 x1 acc = k0_pay3 x0 x1 := by
  unfold out0_C_3
  rw [View.read_writes_junk_eq_canon]
  unfold kernelRun0_C
  dsimp only
  sl_unfold_words
  simp only [View.readAt_eq_ld, h1.read_unread, h2.read_unread]
  refine (View.canon_cons_unit_zero zero2 _ _ _).trans ?_
  simp only [whole_tile]

theorem out_C4 (hc0 : ¬cond0_0 i) (hc1 : cond0_1 i) :
    out0_C_4 c i a1 h1 a2 h2 a3 h3 a4 h4 a5 h5 a6 h6 hc0 hc1 x0 x1 acc = k0_pay6 (k0_pay5 x0 x1 acc) := by
  unfold out0_C_4
  rw [View.read_writes_junk_eq_canon]
  unfold kernelRun0_C
  dsimp only
  sl_unfold_words
  simp only [View.readAt_eq_ld, h1.read_unread, h2.read_unread, h6.read_unread]
  refine (View.canon_cons_unit_zero zero2 _ _ _).trans ?_
  simp only [whole_tile, whole_acc]
  exact congrArg k0_pay6 (View.readCov_unit_zero a6.view zero2 _ _)

end Cert.Kernel18Ideal.Loss
end
-- ==== Proof.Loss.Array.lean ====
/- The loss's call: its result arrays, from the arguments. -/
module

public import proofs.«01_k».proof.Proof.Loss.Body
public import proofs.«01_k».proof.Proof.Tokens.Sum
public import Idealize.ShloMosaic.Lib.StableHlo.RunRead

@[expose] public section
noncomputable section
namespace Cert.Kernel18Ideal.Loss
open Cert.Kernel18Ideal Cert.Kernel18Ideal.Gen Cert.Tokens Idealize.ShloMosaic Idealize.ShloMosaic.TcCoe Idealize.SL.Sem
open Idealize.ShloMosaic.StableHlo

section
variable (y t : FVec Ideal S4096x1024 .f32)

/-- A squared difference. -/
def sq (k : Fin 4096) (l : Fin 1024) : EReal := (y (ix2 k l) - t (ix2 k l)) * (y (ix2 k l) - t (ix2 k l))

/-- The gradient. -/
def grad : FVec Ideal S4096x1024 .f32 := fun i => (y i - t i) * Ideal.ofBits .f32 0x3A800000#32
def gradH : FVec Ideal S4096x1024 .bf16 := fun i => (y i - t i) * Ideal.ofBits .f32 0x3A800000#32

/-- The columns' squares summed over the first `n` tiles. -/
def squares (n : ℕ) : Vec Ideal S1x1024 .f32 := fun i => upto (fun k => sq y t k (i 1)) n

/-- The loss. -/
def value : Vec Ideal S1x1 .f32 := fun _ => (∑ l : Fin 1024, upto (fun k => sq y t k l) 8) * Ideal.ofBits .f32 0x3A000000#32
end

section
variable (n : ℕ) (y t : FVec Ideal S4096x1024 .f32) (x0 x1 : Vec Ideal S512x1024 .f32)
  (e0 : ∀ (k : Fin 512) (l : Fin 1024), x0 (ix2 k l) = y (ix2 (row n k) l))
  (e1 : ∀ (k : Fin 512) (l : Fin 1024), x1 (ix2 k l) = t (ix2 (row n k) l))

theorem add_at (acc : Vec Ideal S1x1024 .f32) (r : Fin 1) (l : Fin 1024) : (k0_pay5 x0 x1 acc (ix2 r l) : EReal)
    = acc (ix2 r l) + ∑ k : Fin 512, (x0 (ix2 k l) - x1 (ix2 k l)) * (x0 (ix2 k l) - x1 (ix2 k l)) := by
  pointwise [k0_pay5, k0_pay1]

theorem first : (k0_pay4 (F := Ideal)) = squares y t 0 := by
  funext i
  obtain ⟨r, l, rfl⟩ : ∃ (r : Fin 1) (l : Fin 1024), i = ix2 r l := ⟨i 0, i 1, eq_ix2 i⟩
  pointwise [k0_pay4]
  rfl

include e0 e1
theorem more : k0_pay5 x0 x1 (squares y t n) = squares y t (n + 1) := by
  funext i
  obtain ⟨r, l, rfl⟩ : ∃ (r : Fin 1) (l : Fin 1024), i = ix2 r l := ⟨i 0, i 1, eq_ix2 i⟩
  refine (add_at _ _ _ r l).trans ((upto_succ _ _).trans ?_).symm
  refine congrArg (_ + ·) (Finset.sum_congr rfl fun k _ => ?_)
  simp only [e0, e1]
  rfl

theorem grad_row (r : Fin 512) (l : Fin 1024) : k0_pay2 x0 x1 (ix2 r l) = grad y t (ix2 (row n r) l) := by
  unfold grad
  rw [← e0, ← e1]
  pointwise [k0_pay2, k0_pay1]

theorem gradH_row (r : Fin 512) (l : Fin 1024) : k0_pay3 x0 x1 (ix2 r l) = gradH y t (ix2 (row n r) l) := by
  unfold gradH
  rw [← e0, ← e1]
  pointwise [k0_pay3, k0_pay2, k0_pay1]
end

theorem last (y t : FVec Ideal S4096x1024 .f32) : k0_pay6 (squares y t 8) = value y t := by
  funext i
  obtain ⟨r, l, rfl⟩ : ∃ (r : Fin 1) (l : Fin 1), i = ix2 r l := ⟨i 0, i 1, eq_ix2 i⟩
  pointwise [k0_pay6]
  rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)

theorem entry0 : V m c main_arg0 = m (c, main_arg0) := by unfold V; after_reads_simp
theorem entry1 : V m c main_arg1 = m (c, main_arg1) := by unfold V; after_reads_simp

theorem rowOf (t : Fin cfg0.N) (k : Fin 512) : row t.val k = ⟨t.val * 512 + k.val, by have : t.val < 8 := t.isLt; omega⟩ :=
  Fin.ext (row_val _ t.isLt k)

theorem blk0 (t : Fin cfg0.N) (k : Fin 512) (l : Fin 1024) :
    iblk m c 0 t (ix2 k l) = m (c, main_arg0) (ix2 (row t.val k) l) := by
  rw [← entry0 m c, rowOf]; blk_simp [iblk]; congr 1; blk_ext [index0]
theorem blk1 (t : Fin cfg0.N) (k : Fin 512) (l : Fin 1024) :
    iblk m c 1 t (ix2 k l) = m (c, main_arg1) (ix2 (row t.val k) l) := by
  rw [← entry1 m c, rowOf]; blk_simp [iblk]; congr 1; blk_ext [index1]

theorem place2 (t : Fin cfg0.N) (r : Fin 512) (l : Fin 1024) :
    ((cfg0.win 2).blk t).view.emb (ix2 r l) = ix2 (row t.val r) l := by
  rw [rowOf]
  funext a; apply Fin.ext
  match a with
  | ⟨0, _⟩ => blk_simp [index2]
  | ⟨1, _⟩ => blk_simp [index2]
theorem place3 (t : Fin cfg0.N) (r : Fin 512) (l : Fin 1024) :
    ((cfg0.win 3).blk t).view.emb (ix2 r l) = ix2 (row t.val r) l := by
  rw [rowOf]
  funext a; apply Fin.ext
  match a with
  | ⟨0, _⟩ => blk_simp [index3]
  | ⟨1, _⟩ => blk_simp [index3]
theorem place4 (t : Fin cfg0.N) (y : S1x1.Idx) : ((cfg0.win 4).blk t).view.emb y = y := by
  funext a; apply Fin.ext
  match a with
  | ⟨0, _⟩ => blk_simp [index4]
  | ⟨1, _⟩ => blk_simp [index4]

/-- What a point leaves in the gradient's block. -/
theorem outs2 (t : Fin cfg0.N) : (outsAt0 m c t.val t.isLt).1 = k0_pay2 (iblk m c 0 t) (iblk m c 1 t) := by
  have h8 : t.val < 8 := t.isLt
  by_cases h0 : t.val % 8 = 0
  · rw [outsAt0_A m c t h0 (by omega)]; dsimp only; rw [out_A2]
  · by_cases h1 : t.val % 8 = 7
    · rw [outsAt0_C m c t h0 h1]; dsimp only; rw [out_C2]
    · rw [outsAt0_B m c t h0 h1]; dsimp only; rw [out_B2]

theorem outs3 (t : Fin cfg0.N) : (outsAt0 m c t.val t.isLt).2.1 = k0_pay3 (iblk m c 0 t) (iblk m c 1 t) := by
  have h8 : t.val < 8 := t.isLt
  by_cases h0 : t.val % 8 = 0
  · rw [outsAt0_A m c t h0 (by omega)]; dsimp only; rw [out_A3]
  · by_cases h1 : t.val % 8 = 7
    · rw [outsAt0_C m c t h0 h1]; dsimp only; rw [out_C3]
    · rw [outsAt0_B m c t h0 h1]; dsimp only; rw [out_B3]

/-- The accumulator after tile `n`, before the last. -/
theorem squares_at : ∀ (n : ℕ) (h : n < cfg0.N), n < 7 → (outsAt0 m c n h).2.2.2
    = squares (m (c, main_arg0)) (m (c, main_arg1)) (n + 1) := by
  intro n
  induction n with
  | zero =>
    intro h _
    rw [outsAt0_A m c ⟨0, h⟩ (by rfl) (by show ¬0 % 8 = 7; decide)]
    dsimp only
    rw [sout_A]
    refine (congrArg (k0_pay5 _ _) (first (m (c, main_arg0)) (m (c, main_arg1)))).trans ?_
    exact more 0 _ _ _ _ (blk0 m c ⟨0, h⟩) (blk1 m c ⟨0, h⟩)
  | succ n ih =>
    intro h h7
    rw [outsAt0_B m c ⟨n + 1, h⟩ (by show ¬(n + 1) % 8 = 0; omega) (by show ¬(n + 1) % 8 = 7; omega)]
    dsimp only
    rw [sout_B]
    refine (congrArg (k0_pay5 _ _) (ih _ (by omega))).trans ?_
    exact more (n + 1) _ _ _ _ (blk0 m c ⟨n + 1, h⟩) (blk1 m c ⟨n + 1, h⟩)

theorem value_at (n : ℕ) (h : n < cfg0.N) (hn : n = 7) :
    (outsAt0 m c n h).2.2.1 = value (m (c, main_arg0)) (m (c, main_arg1)) := by
  subst hn
  rw [outsAt0_C m c ⟨7, h⟩ (by show ¬7 % 8 = 0; decide) (by rfl)]
  dsimp only
  rw [out_C4]
  refine (congrArg (fun z => k0_pay6 (k0_pay5 _ _ z)) (squares_at m c 6 _ (by decide))).trans ?_
  exact (congrArg k0_pay6 (more 7 _ _ _ _ (blk0 m c ⟨7, h⟩) (blk1 m c ⟨7, h⟩))).trans (last _ _)

/-- The gradient's array. -/
theorem arr2 : (dats m 0 c).arrAt 2 cfg0.N = grad (m (c, main_arg0)) (m (c, main_arg1)) := by
  refine (dats m 0 c).arrAt_eq_of_covers 2 _ (by decide +kernel) fun t hf y => ?_
  obtain ⟨r, l, rfl⟩ : ∃ (r : Fin 512) (l : Fin 1024), y = ix2 r l := ⟨y 0, y 1, eq_ix2 y⟩
  rw [place2]
  blk_simp
  rw [after0_2, outs2]
  exact grad_row t.val _ _ _ _ (blk0 m c t) (blk1 m c t) r l

/-- The gradient's array of bfloat16 numbers. -/
theorem arr3 : (dats m 0 c).arrAt 3 cfg0.N = gradH (m (c, main_arg0)) (m (c, main_arg1)) := by
  refine (dats m 0 c).arrAt_eq_of_covers 3 _ (by decide +kernel) fun t hf y => ?_
  obtain ⟨r, l, rfl⟩ : ∃ (r : Fin 512) (l : Fin 1024), y = ix2 r l := ⟨y 0, y 1, eq_ix2 y⟩
  rw [place3]
  blk_simp
  rw [after0_3, outs3]
  exact gradH_row t.val _ _ _ _ (blk0 m c t) (blk1 m c t) r l

/-- The loss's array. -/
theorem arr4 : (dats m 0 c).arrAt 4 cfg0.N = value (m (c, main_arg0)) (m (c, main_arg1)) := by
  refine (dats m 0 c).arrAt_eq_of_covers 4 _ (by decide +kernel) fun t hf y => ?_
  have ht : t.val = 7 := (by decide +kernel : ∀ t : Fin grid0.N, (cfg0.win 4).flush t = true → t.val = 7) t hf
  rw [place4]
  blk_simp
  rw [after0_4]
  exact congrFun (value_at m c _ _ ht) y

end Cert.Kernel18Ideal.Loss
end
-- ==== Proof.Loss.Equation.lean ====
/- The loss and its gradient are the reference's. -/
module

public import proofs.«01_k».proof.Proof.Loss.Array
public import proofs.«01_k».proof.Proof.Macaron.Norm
public import proofs.«01_k».proof.Proof.Gen.Reference18Ideal.Read

@[expose] public section
noncomputable section
namespace Cert.Kernel18Ideal.Loss
open Cert.Kernel18Ideal Cert.Kernel18Ideal.Gen Cert.Tokens Cert.Macaron Idealize.ShloMosaic Idealize.ShloMosaic.TcCoe
open Cert.Reference18Ideal.Read

theorem r1024_eq : Ideal.ofBits .f32 0x3A800000#32 = ((1 / 1024 : ℝ) : EReal) := by
  simp [Ideal.ofBits, Ideal.ieee]
  norm_num
  try rw [← EReal.coe_mul]
  try norm_num

theorem r2048_eq : Ideal.ofBits .f32 0x3A000000#32 = ((1 / 2048 : ℝ) : EReal) := by
  simp [Ideal.ofBits, Ideal.ieee]
  norm_num
  try rw [← EReal.coe_mul]
  try norm_num

theorem two_eq : Ideal.ofBits .f32 0x40000000#32 = ((2 : ℝ) : EReal) := by
  simp [Ideal.ofBits, Ideal.ieee]
  norm_num
  try rw [← EReal.coe_mul]
  try norm_num

/-- A positive real factor goes into a sum. -/
theorem sum_factor {ι : Type*} (s : Finset ι) (f : ι → EReal) (a : ℝ) (ha : 0 ≤ a) :
    (∑ i ∈ s, f i) * (a : EReal) = ∑ i ∈ s, f i * (a : EReal) := by
  classical
  have h0 : (0 : EReal) ≤ (a : EReal) := by exact_mod_cast ha
  induction s using Finset.induction_on with
  | empty => simp
  | insert i s hi ih =>
    rw [Finset.sum_insert hi, Finset.sum_insert hi, mul_comm, EReal.left_distrib_of_nonneg_of_ne_top h0 (EReal.coe_ne_top _),
      mul_comm (a : EReal) (f i), mul_comm (a : EReal), ih]

variable (y t : FVec Ideal S4096x1024 .f32)

theorem grad_eq : grad y t = val_main_v14 (F := Ideal) y t := by
  funext i
  rw [val_main_v14_apply, val_main_v13_apply, val_main_v12_apply, val_main_v10_apply, val_main_v9_apply, val_main_cst_4_apply,
    val_main_cst_5_apply, val_main_v11_apply, val_main_cst_6_apply, val_main_v3_apply, val_main_v2_apply, val_main_cst_apply,
    val_main_v0_apply]
  show (y i - t i) * Ideal.ofBits .f32 0x3A800000#32
    = Ideal.div (half * Ideal.ofBits .f32 0x3F800000#32) width * (Ideal.ofBits .f32 0x40000000#32 * (y i - t i))
  rw [Ideal.ofBits_one_f32, mul_one, half_eq, width_eq, Ideal.div_coe (by norm_num), two_eq, r1024_eq, ← EReal.coe_mul, ← mul_assoc,
    ← EReal.coe_mul, mul_comm]
  norm_num

theorem gradH_eq : gradH y t = val_main_v15 (F := Ideal) y t := by
  funext i
  rw [val_main_v15_apply, ← grad_eq]
  rfl

/-- An index of a vector of 4096 numbers is a row. -/
def rows : Fin 4096 ≃ Cert.Reference18Ideal.S4096.Idx where
  toFun k := ix1 k
  invFun j := j 0
  left_inv _ := rfl
  right_inv j := (eq_ix1 j).symm

theorem value_eq : value y t = val_main_v16 (F := Ideal) y t := by
  funext i
  unfold val_main_v16 shapeCast
  rw [val_main_v8_apply, val_main_cst_3_apply, val_main_v7_apply, val_main_cst_2_apply]
  have row_eq : ∀ k : Fin 4096, val_main_v6 (F := Ideal) y t (ix1 k) = (∑ l : Fin 1024, sq y t k l) * ((1 / 1024 : ℝ) : EReal) := by
    intro k
    rw [val_main_v6_apply, val_main_v4_apply, val_main_cst_0_apply, val_main_v5_apply, val_main_cst_1_apply]
    show Ideal.div (Ideal.ofBits .f32 0x00000000#32 + _) width = _
    rw [Ideal.ofBits_zero_f32, zero_add, width_eq, Ideal.div_coe (by norm_num)]
    refine congrArg (· * _) (Finset.sum_congr rfl fun l _ => ?_)
    rw [val_main_v1_apply, val_main_v0_apply, show idx_main_v4 (ix1 k) l = ix2 k l from eq_ix2 _]
    rfl
  show (∑ l : Fin 1024, upto (fun k => sq y t k l) 8) * Ideal.ofBits .f32 0x3A000000#32
    = half * (Ideal.ofBits .f32 0x00000000#32 + ∑ j : Cert.Reference18Ideal.S4096.Idx, val_main_v6 (F := Ideal) y t j)
  rw [Ideal.ofBits_zero_f32, zero_add, ← Equiv.sum_comp rows]
  have e : ∑ k : Fin 4096, val_main_v6 (F := Ideal) y t (rows k) = (∑ k : Fin 4096, ∑ l : Fin 1024, sq y t k l) * ((1 / 1024 : ℝ) : EReal) := by
    rw [sum_factor _ _ _ (by norm_num)]
    exact Finset.sum_congr rfl fun k _ => row_eq k
  rw [e, mul_comm half, mul_assoc, half_eq, ← EReal.coe_mul, r2048_eq, Finset.sum_comm]
  simp only [upto_all]
  norm_num

end Cert.Kernel18Ideal.Loss
end
-- ==== Proof.Loss.Claims.lean ====
/- The claims about the loss's call. -/
module

public import proofs.«01_k».proof.Defs
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Loss.Equation

@[expose] public section
noncomputable section
namespace Cert.Proof.Loss
open Idealize.ShloMosaic Idealize.SL.Sem

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2,
      Idealize.ShloMosaic.sem_eq_zero_of_no_sems (by decide) r.2⟩)
    (Cert.Reference18Ideal.Value.run (F := Ideal) m ρ)

theorem preserves : Cert.preserves_Kernel18_Kernel18Ideal := trivial

/-- The kernel's three arrays are the reference's. -/
theorem algebraic : Cert.algebraic_Kernel18Ideal_Reference18Ideal := by
  intro m ρ m' ρ' _ hagree
  refine ⟨_, _, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨h0, h1, h2, hargs⟩ := h c
  obtain ⟨a0, a1⟩ := hagree c
  refine ⟨h0.trans ?_, h1.trans ?_, h2.trans ?_, hargs⟩
  · rw [Cert.Reference18Ideal.Read.val_main_v14_eq, a0, a1, Cert.Kernel18Ideal.Loss.arr2]
    exact (Cert.Kernel18Ideal.Loss.grad_eq _ _).symm
  · rw [Cert.Reference18Ideal.Read.val_main_v15_eq, a0, a1, Cert.Kernel18Ideal.Loss.arr3]
    exact (Cert.Kernel18Ideal.Loss.gradH_eq _ _).symm
  · rw [Cert.Reference18Ideal.Read.val_main_v16_eq, a0, a1, Cert.Kernel18Ideal.Loss.arr4]
    exact (Cert.Kernel18Ideal.Loss.value_eq _ _).symm

end Cert.Proof.Loss
end
-- ==== Proof.Optim.Small.Array.lean ====
/- The optimiser's call on the small weights: its result arrays are the reference's. -/
module

public import proofs.«01_k».proof.Proof.Optim.Rule
public import proofs.«01_k».proof.Proof.Gen.Kernel19Ideal.Value
public import proofs.«01_k».proof.Proof.Gen.Reference19Ideal.Read
public import Idealize.ShloMosaic.Lib.Pipeline.ValueKit
public import Idealize.ShloMosaic.Lib.Pointwise
public import Idealize.ShloMosaic.Lib.ValueIdx
public import Idealize.ShloMosaic.Lib.StableHlo.RunRead

@[expose] public section
noncomputable section
namespace Cert.Kernel19Ideal.OptimSmall
open Cert.Kernel19Ideal Cert.Kernel19Ideal.Gen Idealize.ShloMosaic Idealize.ShloMosaic.TcCoe Idealize.SL.Sem
open Idealize.ShloMosaic.StableHlo Cert.Optim

/-- Row `r` of device `d`'s part. -/
def row (d : Fin 8) (r : Fin 8) : Fin 64 := ⟨d.val * 8 + r.val, by omega⟩

theorem idx8 (y : S8x1024.Idx) : r0_8.idx y = y := by
  funext a; apply Fin.ext
  match a with
  | ⟨0, _⟩ => exact (Nat.zero_add _).trans (Nat.one_mul _)
  | ⟨1, _⟩ => exact (Nat.zero_add _).trans (Nat.one_mul _)

section
variable (p : Vec Ideal S64x1024 .f32) (w m v : Vec Ideal S8x1024 .f32)

/-! The results, from the arguments. -/

/-- The gradient: the sum over the devices. -/
def total : Vec Ideal S8x1024 .f32 := fun i => ∑ d : Fin 8, p (ix2 (row d (i 0)) (i 1))
def newMs : Vec Ideal S8x1024 .f32 := fun i => newM (total p i) (m i)
def newVs : Vec Ideal S8x1024 .f32 := fun i => newV (total p i) (v i)
def steps : Vec Ideal S8x1024 .f32 := fun i => step (w i) (newM (total p i) (m i)) (newV (total p i) (v i))

theorem pieceG (y : S8x1024.Idx) : (k0_pay2 (View.ld p r0_0) (View.ld p r0_1) (View.ld p r0_2) (View.ld p r0_3)
    (View.ld p r0_4) (View.ld p r0_5) (View.ld p r0_6) (View.ld p r0_7) y : EReal) = total p y := by
  obtain ⟨r, l, rfl⟩ : ∃ (r : Fin 8) (l : Fin 1024), y = ix2 r l := ⟨y 0, y 1, eq_ix2 y⟩
  unfold total
  rw [Fin.sum_univ_eight]
  pointwise [k0_pay2]
  simp [row]

theorem pieceM (y : S8x1024.Idx) : (k0_pay3 (View.ld p r0_0) (View.ld p r0_1) (View.ld p r0_2) (View.ld p r0_3)
    (View.ld p r0_4) (View.ld p r0_5) (View.ld p r0_6) (View.ld p r0_7) (View.ld m r0_8) y : EReal) = newMs p m y := by
  have h := pieceG p y
  obtain ⟨r, l, rfl⟩ : ∃ (r : Fin 8) (l : Fin 1024), y = ix2 r l := ⟨y 0, y 1, eq_ix2 y⟩
  unfold newMs
  rw [← h]
  pointwise [k0_pay3]
  rfl

theorem pieceV (y : S8x1024.Idx) : (k0_pay7 p w m v y : EReal) = newVs p v y := by
  have h := pieceG p y
  obtain ⟨r, l, rfl⟩ : ∃ (r : Fin 8) (l : Fin 1024), y = ix2 r l := ⟨y 0, y 1, eq_ix2 y⟩
  unfold newVs k0_pay7
  rw [← h]
  pointwise [k0_pay4]
  rfl

theorem pieceD (y : S8x1024.Idx) : (k0_pay1 (View.ld w r0_8) (k0_pay7 p w m v) (k0_pay5 (View.ld p r0_0) (View.ld p r0_1)
    (View.ld p r0_2) (View.ld p r0_3) (View.ld p r0_4) (View.ld p r0_5) (View.ld p r0_6) (View.ld p r0_7)
    (View.ld m r0_8)) (k0_pay6 (F := Ideal)) y : EReal) = steps p w m v y := by
  have h := pieceM p m y
  have h' := pieceV p w m v y
  obtain ⟨r, l, rfl⟩ : ∃ (r : Fin 8) (l : Fin 1024), y = ix2 r l := ⟨y 0, y 1, eq_ix2 y⟩
  show _ = step (w (ix2 r l)) (newMs p m (ix2 r l)) (newVs p v (ix2 r l))
  rw [← h, ← h']
  pointwise [k0_pay1, k0_pay5, k0_pay6]
  rfl
end

variable (m : (ℓ : Loc nD τ sig) → Buf (Elt Ideal) ℓ) (c : Dev nD)

theorem out_g (p : Vec Ideal S64x1024 .f32) (w m v : Vec Ideal S8x1024 .f32) : out0_4 p w m v = total p := by
  funext y
  refine View.canon_apply_of_pieces (total p) _ ?_ y (cover0_4 _ y)
  simp only [List.forall_mem_cons, List.not_mem_nil, false_imp_iff, implies_true, and_true]
  exact fun y => (pieceG p y).trans (congrArg _ (idx8 y).symm)

theorem out_d (p : Vec Ideal S64x1024 .f32) (w m v : Vec Ideal S8x1024 .f32) : out0_5 p w m v = steps p w m v := by
  funext y
  refine View.canon_apply_of_pieces (steps p w m v) _ ?_ y (cover0_5 _ y)
  simp only [List.forall_mem_cons, List.not_mem_nil, false_imp_iff, implies_true, and_true]
  exact fun y => (pieceD p w m v y).trans (congrArg _ (idx8 y).symm)

theorem out_m (p : Vec Ideal S64x1024 .f32) (w m v : Vec Ideal S8x1024 .f32) : out0_6 p w m v = newMs p m := by
  funext y
  refine View.canon_apply_of_pieces (newMs p m) _ ?_ y (cover0_6 _ y)
  simp only [List.forall_mem_cons, List.not_mem_nil, false_imp_iff, implies_true, and_true]
  exact fun y => (pieceM p m y).trans (congrArg _ (idx8 y).symm)

theorem out_v (p : Vec Ideal S64x1024 .f32) (w m v : Vec Ideal S8x1024 .f32) : out0_7 p w m v = newVs p v := by
  funext y
  refine View.canon_apply_of_pieces (newVs p v) _ ?_ y (cover0_7 _ y)
  simp only [List.forall_mem_cons, List.not_mem_nil, false_imp_iff, implies_true, and_true]
  exact fun y => (pieceV p w m v y).trans (congrArg _ (idx8 y).symm)

theorem entry0 : V m c main_arg0 = m (c, main_arg0) := by unfold V; after_reads_simp
theorem entry1 : V m c main_arg1 = m (c, main_arg1) := by unfold V; after_reads_simp
theorem entry2 : V m c main_arg2 = m (c, main_arg2) := by unfold V; after_reads_simp
theorem entry3 : V m c main_arg3 = m (c, main_arg3) := by unfold V; after_reads_simp

/-! The one block of each array is the array. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem blk0 (t : Fin cfg0.N) : iblk m c 0 t = V m c main_arg0 := by funext y; blk_simp [iblk]; congr 1; blk_ext [index0]
theorem blk1 (t : Fin cfg0.N) : iblk m c 1 t = V m c main_arg1 := by funext y; blk_simp [iblk]; congr 1; blk_ext [index1]
theorem blk2 (t : Fin cfg0.N) : iblk m c 2 t = V m c main_arg2 := by funext y; blk_simp [iblk]; congr 1; blk_ext [index2]
theorem blk3 (t : Fin cfg0.N) : iblk m c 3 t = V m c main_arg3 := by funext y; blk_simp [iblk]; congr 1; blk_ext [index3]
theorem place4 (t : Fin cfg0.N) (y : S8x1024.Idx) : ((cfg0.win 4).blk t).view.emb y = y := by
  funext a; apply Fin.ext
  match a with
  | ⟨0, _⟩ => blk_simp [index4]
  | ⟨1, _⟩ => blk_simp [index4]
theorem place5 (t : Fin cfg0.N) (y : S8x1024.Idx) : ((cfg0.win 5).blk t).view.emb y = y := by
  funext a; apply Fin.ext
  match a with
  | ⟨0, _⟩ => blk_simp [index5]
  | ⟨1, _⟩ => blk_simp [index5]
theorem place6 (t : Fin cfg0.N) (y : S8x1024.Idx) : ((cfg0.win 6).blk t).view.emb y = y := by
  funext a; apply Fin.ext
  match a with
  | ⟨0, _⟩ => blk_simp [index6]
  | ⟨1, _⟩ => blk_simp [index6]
theorem place7 (t : Fin cfg0.N) (y : S8x1024.Idx) : ((cfg0.win 7).blk t).view.emb y = y := by
  funext a; apply Fin.ext
  match a with
  | ⟨0, _⟩ => blk_simp [index7]
  | ⟨1, _⟩ => blk_simp [index7]

/-- The gradients. -/
theorem arr4 : (dats m 0 c).arrAt 4 cfg0.N = total (m (c, main_arg0)) := by
  refine (dats m 0 c).arrAt_eq_of_covers 4 _ (by decide +kernel) fun t hf y => ?_
  rw [place4]
  blk_simp
  rw [after0_4, out_g, blk0, entry0]

/-- The steps. -/
theorem arr5 : (dats m 0 c).arrAt 5 cfg0.N
    = steps (m (c, main_arg0)) (m (c, main_arg1)) (m (c, main_arg2)) (m (c, main_arg3)) := by
  refine (dats m 0 c).arrAt_eq_of_covers 5 _ (by decide +kernel) fun t hf y => ?_
  rw [place5]
  blk_simp
  rw [after0_5, out_d, blk0, blk1, blk2, blk3, entry0, entry1, entry2, entry3]

/-- The new first moments. -/
theorem arr6 : (dats m 0 c).arrAt 6 cfg0.N = newMs (m (c, main_arg0)) (m (c, main_arg2)) := by
  refine (dats m 0 c).arrAt_eq_of_covers 6 _ (by decide +kernel) fun t hf y => ?_
  rw [place6]
  blk_simp
  rw [after0_6, out_m, blk0, blk2, entry0, entry2]

/-- The new second moments. -/
theorem arr7 : (dats m 0 c).arrAt 7 cfg0.N = newVs (m (c, main_arg0)) (m (c, main_arg3)) := by
  refine (dats m 0 c).arrAt_eq_of_covers 7 _ (by decide +kernel) fun t hf y => ?_
  rw [place7]
  blk_simp
  rw [after0_7, out_v, blk0, blk3, entry0, entry3]

open Cert.Reference19Ideal.Read

theorem g_eq (p : FVec Ideal S64x1024 .f32) : total p = val_main_v1 (F := Ideal) p := by
  funext i
  rw [val_main_v1_apply, val_main_cst_apply]
  refine Eq.trans ?_ ((congrArg (· + _) Idealize.ShloMosaic.Ideal.ofBits_zero_f32).trans (zero_add _)).symm
  refine Finset.sum_congr rfl fun d _ => ?_
  rw [val_main_v0_apply]
  congr 1
  funext a; apply Fin.ext
  have h0 : (i 0).val < 8 := (i 0).isLt
  have h1 : (i 1).val < 1024 := (i 1).isLt
  match a with
  | ⟨0, _⟩ => show d.val * 8 + (i 0).val = ((d.val * 8 + (i 0).val) * 1024 + (i 1).val) / 1024; omega
  | ⟨1, _⟩ => show (i 1).val = ((d.val * 8 + (i 0).val) * 1024 + (i 1).val) % 1024; omega

theorem m_eq (p : FVec Ideal S64x1024 .f32) (m : FVec Ideal S8x1024 .f32) : newMs p m = val_main_v6 (F := Ideal) p m := by
  funext i
  rw [val_main_v6_apply, val_main_v3_apply, val_main_v5_apply, val_main_v2_apply, val_main_v4_apply,
    val_main_cst_0_apply, val_main_cst_1_apply, ← g_eq]
  rfl

theorem v_eq (p : FVec Ideal S64x1024 .f32) (v : FVec Ideal S8x1024 .f32) : newVs p v = val_main_v12 (F := Ideal) p v := by
  funext i
  rw [val_main_v12_apply, val_main_v8_apply, val_main_v11_apply, val_main_v7_apply, val_main_v10_apply, val_main_v9_apply,
    val_main_cst_2_apply, val_main_cst_3_apply, ← g_eq]
  rfl

theorem d_eq (p : FVec Ideal S64x1024 .f32) (w m v : FVec Ideal S8x1024 .f32) :
    steps p w m v = val_main_v25 (F := Ideal) p w m v := by
  funext i
  rw [val_main_v25_apply, val_main_v24_apply, val_main_cst_8_apply, val_main_v23_apply, val_main_v22_apply,
    val_main_v21_apply, val_main_cst_7_apply, val_main_v20_apply, val_main_v19_apply, val_main_v18_apply,
    val_main_cst_6_apply, val_main_v17_apply, val_main_v16_apply, val_main_v15_apply, val_main_cst_5_apply,
    val_main_v14_apply, val_main_v13_apply, val_main_cst_4_apply, ← m_eq, ← v_eq]
  rfl

end Cert.Kernel19Ideal.OptimSmall
end
-- ==== Proof.Optim.Small.Claims.lean ====
/- The claims about the optimiser's call on the small weights. -/
module

public import proofs.«01_k».proof.Defs
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Optim.Small.Array

@[expose] public section
noncomputable section
namespace Cert.Proof.OptimSmall
open Idealize.ShloMosaic Idealize.SL.Sem

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run (F := Ideal) m ρ)

theorem preserves : Cert.preserves_Kernel19_Kernel19Ideal := trivial

/-- The kernel's four arrays are the reference's. -/
theorem algebraic : Cert.algebraic_Kernel19Ideal_Reference19Ideal := by
  intro m ρ m' ρ' _ hagree
  refine ⟨_, _, _, _, Cert.Kernel19Ideal.Value.run_blocks (F := Ideal) m ρ, ?_⟩
  refine (θ_run Cert.Reference19Ideal.defs _ _).mono (fun _ h c => ?_) (Cert.Reference19Ideal.Value.run (F := Ideal) m' ρ')
  obtain ⟨h0, h1, h2, h3, hargs⟩ := h c
  obtain ⟨a0, a1, a2, a3⟩ := hagree c
  refine ⟨h0.trans ?_, h1.trans ?_, h2.trans ?_, h3.trans ?_, hargs⟩
  · rw [Cert.Reference19Ideal.Read.val_main_v1_eq, a0, Cert.Kernel19Ideal.OptimSmall.arr4]
    exact (Cert.Kernel19Ideal.OptimSmall.g_eq _).symm
  · rw [Cert.Reference19Ideal.Read.val_main_v25_eq, a0, a1, a2, a3, Cert.Kernel19Ideal.OptimSmall.arr5]
    exact (Cert.Kernel19Ideal.OptimSmall.d_eq _ _ _ _).symm
  · rw [Cert.Reference19Ideal.Read.val_main_v6_eq, a0, a2, Cert.Kernel19Ideal.OptimSmall.arr6]
    exact (Cert.Kernel19Ideal.OptimSmall.m_eq _ _).symm
  · rw [Cert.Reference19Ideal.Read.val_main_v12_eq, a0, a3, Cert.Kernel19Ideal.OptimSmall.arr7]
    exact (Cert.Kernel19Ideal.OptimSmall.v_eq _ _).symm

end Cert.Proof.OptimSmall
end
-- ==== Proof.lean ====
/- The proof of the claims: each program's claims are proved in its own folder. -/
module

public import proofs.«01_k».proof.Defs
public import proofs.«01_k».proof.Proof.MlaBwd.Claims
public import proofs.«01_k».proof.Proof.FfnDown.Claims
public import proofs.«01_k».proof.Proof.FfnDn.Claims
public import proofs.«01_k».proof.Proof.Tokens.Claims
public import proofs.«01_k».proof.Proof.FfnUp.Claims
public import proofs.«01_k».proof.Proof.FfnOut.Claims
public import proofs.«01_k».proof.Proof.Mixer.GatesBwd.Claims
public import proofs.«01_k».proof.Proof.Mixer.InBwd.Claims
public import proofs.«01_k».proof.Proof.Mixer.Grads.Claims
public import proofs.«01_k».proof.Proof.Mixer.In.Claims
public import proofs.«01_k».proof.Proof.Mixer.Gates.Claims
public import proofs.«01_k».proof.Proof.Mixer.Out.Claims
public import proofs.«01_k».proof.Proof.MlaFwd.Claims
public import proofs.«01_k».proof.Proof.Optim.Big.Claims
public import proofs.«01_k».proof.Proof.Loss.Claims
public import proofs.«01_k».proof.Proof.Optim.Small.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite.Gen.facts, Cert.Pre_finite2.Gen.facts, Cert.Pre_finite3.Gen.facts, Cert.Pre_finite9.Gen.facts,
    Cert.Pre_finite16.Gen.facts,
    MlaBwd.frame_p, MlaBwd.frame_pi, MlaBwd.frame_pi_finite, MlaBwd.frame_ri, MlaBwd.frame_ri_finite,
    FfnDown.frame_p, FfnDown.frame_pi, FfnDown.frame_pi_finite, FfnDown.frame_ri, FfnDown.frame_ri_finite,
    FfnDn.frame_p, FfnDn.frame_pi, FfnDn.frame_pi_finite, FfnDn.frame_ri, FfnDn.frame_ri_finite,
    TokensGate.frame_p, TokensGate.frame_pi, TokensGate.frame_ri,
    TokensDown.frame_p, TokensDown.frame_pi, TokensDown.frame_ri,
    FfnUp.frame_p, FfnUp.frame_pi, FfnUp.frame_ri,
    FfnOut.frame_p, FfnOut.frame_pi, FfnOut.frame_ri,
    MixerGatesBwd.frame_p, MixerGatesBwd.frame_pi, MixerGatesBwd.frame_ri,
    MixerInBwd.frame_p, MixerInBwd.frame_pi, MixerInBwd.frame_pi_finite, MixerInBwd.frame_ri, MixerInBwd.frame_ri_finite,
    MixerInGrad.frame_p, MixerInGrad.frame_pi, MixerInGrad.frame_ri,
    MixerOutGrad.frame_p, MixerOutGrad.frame_pi, MixerOutGrad.frame_ri,
    MixerBranchGrad.frame_p, MixerBranchGrad.frame_pi, MixerBranchGrad.frame_ri,
    MixerIn.frame_p, MixerIn.frame_pi, MixerIn.frame_ri,
    MixerGates.frame_p, MixerGates.frame_pi, MixerGates.frame_ri,
    MixerOut.frame_p, MixerOut.frame_pi, MixerOut.frame_ri,
    MlaFwd.frame_p, MlaFwd.frame_pi, MlaFwd.frame_pi_finite, MlaFwd.frame_ri, MlaFwd.frame_ri_finite,
    OptimBig.frame_p, OptimBig.frame_pi, OptimBig.frame_ri,
    Loss.frame_p, Loss.frame_pi, Loss.frame_ri,
    OptimSmall.frame_p, OptimSmall.frame_pi, OptimSmall.frame_ri,
    MlaBwd.preserves, MlaBwd.algebraic, FfnDown.preserves, FfnDown.algebraic, FfnDn.preserves, FfnDn.algebraic,
    TokensGate.preserves, TokensGate.algebraic, TokensDown.preserves, TokensDown.algebraic,
    FfnUp.preserves, FfnUp.algebraic, FfnOut.preserves, FfnOut.algebraic,
    MixerGatesBwd.preserves, MixerGatesBwd.algebraic, MixerInBwd.preserves, MixerInBwd.algebraic,
    MixerInGrad.preserves, MixerInGrad.algebraic, MixerOutGrad.preserves, MixerOutGrad.algebraic,
    MixerBranchGrad.preserves, MixerBranchGrad.algebraic, MixerIn.preserves, MixerIn.algebraic,
    MixerGates.preserves, MixerGates.algebraic, MixerOut.preserves, MixerOut.algebraic,
    MlaFwd.preserves, MlaFwd.algebraic, OptimBig.preserves, OptimBig.algebraic, Loss.preserves, Loss.algebraic,
    OptimSmall.preserves, OptimSmall.algebraic⟩

end Cert.Proof

end
